-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5)
      ∧ r.2.mem ((c.tc : Thread Cert.GateUpRefIdeal.nD Cert.GateUpRefIdeal.τ).loc Cert.GateUpRefIdeal.main_arg6) = m ((c.tc : Thread Cert.GateUpRefIdeal.nD Cert.GateUpRefIdeal.τ).loc Cert.GateUpRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9)
      ∧ r.2.mem ((c.tc : Thread Cert.OutProj.nD Cert.OutProj.τ).loc Cert.OutProj.main_arg10) = m ((c.tc : Thread Cert.OutProj.nD Cert.OutProj.τ).loc Cert.OutProj.main_arg10))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
      ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9)
      ∧ r.2.mem ((c.tc : Thread Cert.OutProjRefIdeal.nD Cert.OutProjRefIdeal.τ).loc Cert.OutProjRefIdeal.main_arg10) = m ((c.tc : Thread Cert.OutProjRefIdeal.nD Cert.OutProjRefIdeal.τ).loc Cert.OutProjRefIdeal.main_arg10))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)
      ∧ m' ((c.tc : Thread Cert.GateUpRefIdeal.nD Cert.GateUpRefIdeal.τ).loc Cert.GateUpRefIdeal.main_arg6) = m ((c.tc : Thread Cert.GateUpIdeal.nD Cert.GateUpIdeal.τ).loc Cert.GateUpIdeal.main_arg6)) →
    ∃ (v0 : (c : Dev Cert.GateUpIdeal.nD) → Buf (Elt Ideal) ((c.tc : Thread Cert.GateUpIdeal.nD Cert.GateUpIdeal.τ).loc Cert.GateUpIdeal.main_v3_0)) (v1 : (c : Dev Cert.GateUpIdeal.nD) → Buf (Elt Ideal) ((c.tc : Thread Cert.GateUpIdeal.nD Cert.GateUpIdeal.τ).loc Cert.GateUpIdeal.main_v3_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v3_0) = v0 c
          ∧ r.2.mem ((c.tc : Thread Cert.GateUpIdeal.nD Cert.GateUpIdeal.τ).loc Cert.GateUpIdeal.main_v3_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
          ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v5_0) = v0 c
          ∧ r.2.mem ((c.tc : Thread Cert.GateUpRefIdeal.nD Cert.GateUpRefIdeal.τ).loc Cert.GateUpRefIdeal.main_v5_1) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5)
          ∧ r.2.mem ((c.tc : Thread Cert.GateUpRefIdeal.nD Cert.GateUpRefIdeal.τ).loc Cert.GateUpRefIdeal.main_arg6) = m' ((c.tc : Thread Cert.GateUpRefIdeal.nD Cert.GateUpRefIdeal.τ).loc Cert.GateUpRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)
      ∧ m' ((c.tc : Thread Cert.OutProjRefIdeal.nD Cert.OutProjRefIdeal.τ).loc Cert.OutProjRefIdeal.main_arg9) = m ((c.tc : Thread Cert.OutProjIdeal.nD Cert.OutProjIdeal.τ).loc Cert.OutProjIdeal.main_arg9)
      ∧ m' ((c.tc : Thread Cert.OutProjRefIdeal.nD Cert.OutProjRefIdeal.τ).loc Cert.OutProjRefIdeal.main_arg10) = m ((c.tc : Thread Cert.OutProjIdeal.nD Cert.OutProjIdeal.τ).loc Cert.OutProjIdeal.main_arg10)) →
    ∃ (v0 : (c : Dev Cert.OutProjIdeal.nD) → Buf (Elt Ideal) ((c.tc : Thread Cert.OutProjIdeal.nD Cert.OutProjIdeal.τ).loc Cert.OutProjIdeal.main_v5_0)) (v1 : (c : Dev Cert.OutProjIdeal.nD) → Buf (Elt Ideal) ((c.tc : Thread Cert.OutProjIdeal.nD Cert.OutProjIdeal.τ).loc Cert.OutProjIdeal.main_v5_1)) (v2 : (c : Dev Cert.OutProjIdeal.nD) → Buf (Elt Ideal) ((c.tc : Thread Cert.OutProjIdeal.nD Cert.OutProjIdeal.τ).loc Cert.OutProjIdeal.main_v5_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v5_0) = v0 c
          ∧ r.2.mem ((c.tc : Thread Cert.OutProjIdeal.nD Cert.OutProjIdeal.τ).loc Cert.OutProjIdeal.main_v5_1) = v1 c
          ∧ r.2.mem ((c.tc : Thread Cert.OutProjIdeal.nD Cert.OutProjIdeal.τ).loc Cert.OutProjIdeal.main_v5_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
          ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v9_0) = v0 c
          ∧ r.2.mem ((c.tc : Thread Cert.OutProjRefIdeal.nD Cert.OutProjRefIdeal.τ).loc Cert.OutProjRefIdeal.main_v9_1) = v1 c
          ∧ r.2.mem ((c.tc : Thread Cert.OutProjRefIdeal.nD Cert.OutProjRefIdeal.τ).loc Cert.OutProjRefIdeal.main_v9_2) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8)
          ∧ r.2.mem ((c.tc : Thread Cert.OutProjRefIdeal.nD Cert.OutProjRefIdeal.τ).loc Cert.OutProjRefIdeal.main_arg9) = m' ((c.tc : Thread Cert.OutProjRefIdeal.nD Cert.OutProjRefIdeal.τ).loc Cert.OutProjRefIdeal.main_arg9)
          ∧ r.2.mem ((c.tc : Thread Cert.OutProjRefIdeal.nD Cert.OutProjRefIdeal.τ).loc Cert.OutProjRefIdeal.main_arg10) = m' ((c.tc : Thread Cert.OutProjRefIdeal.nD Cert.OutProjRefIdeal.τ).loc Cert.OutProjRefIdeal.main_arg10))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v3_1)) (v2 : (c : Dev Cert.InProjIdeal.nD) → Buf (Elt Ideal) ((c.tc : Thread Cert.InProjIdeal.nD Cert.InProjIdeal.τ).loc Cert.InProjIdeal.main_v3_2)) (v3 : (c : Dev Cert.InProjIdeal.nD) → Buf (Elt Ideal) ((c.tc : Thread Cert.InProjIdeal.nD Cert.InProjIdeal.τ).loc Cert.InProjIdeal.main_v3_3)) (v4 : (c : Dev Cert.InProjIdeal.nD) → Buf (Elt Ideal) ((c.tc : Thread Cert.InProjIdeal.nD Cert.InProjIdeal.τ).loc Cert.InProjIdeal.main_v3_4)) (v5 : (c : Dev Cert.InProjIdeal.nD) → Buf (Elt Ideal) ((c.tc : Thread Cert.InProjIdeal.nD Cert.InProjIdeal.τ).loc Cert.InProjIdeal.main_v3_5)) (v6 : (c : Dev Cert.InProjIdeal.nD) → Buf (Elt Ideal) ((c.tc : Thread Cert.InProjIdeal.nD Cert.InProjIdeal.τ).loc Cert.InProjIdeal.main_v3_6)) (v7 : (c : Dev Cert.InProjIdeal.nD) → Buf (Elt Ideal) ((c.tc : Thread Cert.InProjIdeal.nD Cert.InProjIdeal.τ).loc Cert.InProjIdeal.main_v3_7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v3_1) = v1 c
          ∧ r.2.mem ((c.tc : Thread Cert.InProjIdeal.nD Cert.InProjIdeal.τ).loc Cert.InProjIdeal.main_v3_2) = v2 c
          ∧ r.2.mem ((c.tc : Thread Cert.InProjIdeal.nD Cert.InProjIdeal.τ).loc Cert.InProjIdeal.main_v3_3) = v3 c
          ∧ r.2.mem ((c.tc : Thread Cert.InProjIdeal.nD Cert.InProjIdeal.τ).loc Cert.InProjIdeal.main_v3_4) = v4 c
          ∧ r.2.mem ((c.tc : Thread Cert.InProjIdeal.nD Cert.InProjIdeal.τ).loc Cert.InProjIdeal.main_v3_5) = v5 c
          ∧ r.2.mem ((c.tc : Thread Cert.InProjIdeal.nD Cert.InProjIdeal.τ).loc Cert.InProjIdeal.main_v3_6) = v6 c
          ∧ r.2.mem ((c.tc : Thread Cert.InProjIdeal.nD Cert.InProjIdeal.τ).loc Cert.InProjIdeal.main_v3_7) = v7 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v5_0) = v0 c
          ∧ r.2.mem ((c.tc : Thread Cert.InProjRefIdeal.nD Cert.InProjRefIdeal.τ).loc Cert.InProjRefIdeal.main_v5_1) = v1 c
          ∧ r.2.mem ((c.tc : Thread Cert.InProjRefIdeal.nD Cert.InProjRefIdeal.τ).loc Cert.InProjRefIdeal.main_v5_2) = v2 c
          ∧ r.2.mem ((c.tc : Thread Cert.InProjRefIdeal.nD Cert.InProjRefIdeal.τ).loc Cert.InProjRefIdeal.main_v5_3) = v3 c
          ∧ r.2.mem ((c.tc : Thread Cert.InProjRefIdeal.nD Cert.InProjRefIdeal.τ).loc Cert.InProjRefIdeal.main_v5_4) = v4 c
          ∧ r.2.mem ((c.tc : Thread Cert.InProjRefIdeal.nD Cert.InProjRefIdeal.τ).loc Cert.InProjRefIdeal.main_v5_5) = v5 c
          ∧ r.2.mem ((c.tc : Thread Cert.InProjRefIdeal.nD Cert.InProjRefIdeal.τ).loc Cert.InProjRefIdeal.main_v5_6) = v6 c
          ∧ r.2.mem ((c.tc : Thread Cert.InProjRefIdeal.nD Cert.InProjRefIdeal.τ).loc Cert.InProjRefIdeal.main_v5_7) = v7 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8))

def Claim : Prop :=
  ∃ (hDown : Cert.Down.Facts) (hDownIdeal : Cert.DownIdeal.Facts) (hDownRefIdeal : Cert.DownRefIdeal.Facts) (hGateUp : Cert.GateUp.Facts) (hGateUpIdeal : Cert.GateUpIdeal.Facts) (hGateUpRefIdeal : Cert.GateUpRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts),
    quiescent_Down (hDown := hDown)
    ∧ quiescent_DownIdeal (hDownIdeal := hDownIdeal)
    ∧ quiescent_DownRefIdeal (hDownRefIdeal := hDownRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ preserves_Down_DownIdeal
    ∧ algebraic_DownIdeal_DownRefIdeal (hDownIdeal := hDownIdeal) (hDownRefIdeal := hDownRefIdeal)
    ∧ preserves_GateUp_GateUpIdeal
    ∧ algebraic_GateUpIdeal_GateUpRefIdeal (hGateUpIdeal := hGateUpIdeal) (hGateUpRefIdeal := hGateUpRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
-- ==== Down.lean ====
abbrev S4608x5376 : Shape := ⟨2, ![4608, 5376]⟩
abbrev S4608 : Shape := ⟨1, ![4608]⟩
abbrev S5376x5120 : Shape := ⟨2, ![5376, 5120]⟩
abbrev S5120 : Shape := ⟨1, ![5120]⟩
abbrev S4608x5120 : Shape := ⟨2, ![4608, 5120]⟩
abbrev S12 : Shape := ⟨1, ![12]⟩
abbrev S1x5120 : Shape := ⟨2, ![1, 5120]⟩
abbrev S9x4x128 : Shape := ⟨3, ![9, 4, 128]⟩
abbrev S512x5376 : Shape := ⟨2, ![512, 5376]⟩
abbrev S1x4x128 : Shape := ⟨3, ![1, 4, 128]⟩
abbrev S5376x1024 : Shape := ⟨2, ![5376, 1024]⟩
abbrev S1x1024 : Shape := ⟨2, ![1, 1024]⟩
abbrev S512x1024 : Shape := ⟨2, ![512, 1024]⟩
abbrev S4x128 : Shape := ⟨2, ![4, 128]⟩
abbrev S512x1 : Shape := ⟨2, ![512, 1]⟩
abbrev S1 : Shape := ⟨1, ![1]⟩

abbrev nBuf : Space → Nat
  | .hbm => 9
  | .vmem => 12
  | .smem => 1
  | _ => 0

abbrev bufTy : (tb : Table) → Fin (tcTables nBuf tb) → BufTy
  | .hbm, ⟨0, _⟩ => ⟨S4608x5376, .fp8e4m3⟩
  | .hbm, ⟨1, _⟩ => ⟨S4608, .f32⟩
  | .hbm, ⟨2, _⟩ => ⟨S5376x5120, .fp8e4m3⟩
  | .hbm, ⟨3, _⟩ => ⟨S5120, .f32⟩
  | .hbm, ⟨4, _⟩ => ⟨S4608x5120, .f32⟩
  | .hbm, ⟨5, _⟩ => ⟨S12, .f32⟩
  | .hbm, ⟨6, _⟩ => ⟨S1x5120, .f32⟩
  | .hbm, ⟨7, _⟩ => ⟨S9x4x128, .f32⟩
  | .hbm, ⟨8, _⟩ => ⟨S4608x5120, .bf16⟩
  | .local _ .vmem, ⟨0, _⟩ => ⟨S512x5376, .fp8e4m3⟩
  | .local _ .vmem, ⟨1, _⟩ => ⟨S512x5376, .fp8e4m3⟩
  | .local _ .vmem, ⟨2, _⟩ => ⟨S1x4x128, .f32⟩
  | .local _ .vmem, ⟨3, _⟩ => ⟨S1x4x128, .f32⟩
  | .local _ .vmem, ⟨4, _⟩ => ⟨S5376x1024, .fp8e4m3⟩
  | .local _ .vmem, ⟨5, _⟩ => ⟨S5376x1024, .fp8e4m3⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .smem, ⟨0, _⟩ => ⟨S12, .f32⟩
  | _, _ => ⟨S4608x5376, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![5, 9], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x5376 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S5376x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DownRefIdeal.lean ====
abbrev S4608x5376 : Shape := ⟨2, ![4608, 5376]⟩
abbrev S4608 : Shape := ⟨1, ![4608]⟩
abbrev S5376x5120 : Shape := ⟨2, ![5376, 5120]⟩
abbrev S5120 : Shape := ⟨1, ![5120]⟩
abbrev S4608x5120 : Shape := ⟨2, ![4608, 5120]⟩
abbrev S12 : Shape := ⟨1, ![12]⟩
abbrev S4608x1 : Shape := ⟨2, ![4608, 1]⟩
abbrev S1x5120 : Shape := ⟨2, ![1, 5120]⟩
abbrev S1 : Shape := ⟨1, ![1]⟩
abbrev S1x1 : Shape := ⟨2, ![1, 1]⟩

abbrev nBuf : Space → Nat
  | .hbm => 11
  | .vmem => 7
  | .smem => 0
  | _ => 0

abbrev bufTy : (tb : Table) → Fin (tcTables nBuf tb) → BufTy
  | .hbm, ⟨0, _⟩ => ⟨S4608x5376, .fp8e4m3⟩
  | .hbm, ⟨1, _⟩ => ⟨S4608, .f32⟩
  | .hbm, ⟨2, _⟩ => ⟨S5376x5120, .fp8e4m3⟩
  | .hbm, ⟨3, _⟩ => ⟨S5120, .f32⟩
  | .hbm, ⟨4, _⟩ => ⟨S4608x5120, .f32⟩
  | .hbm, ⟨5, _⟩ => ⟨S12, .f32⟩
  | .hbm, ⟨6, _⟩ => ⟨S4608x1, .f32⟩
  | .hbm, ⟨7, _⟩ => ⟨S1x5120, .f32⟩
  | .hbm, ⟨8, _⟩ => ⟨S1, .f32⟩
  | .hbm, ⟨9, _⟩ => ⟨S1x1, .f32⟩
  | .hbm, ⟨10, _⟩ => ⟨S4608x5120, .bf16⟩
  | .local _ .vmem, ⟨0, _⟩ => ⟨S4608x5376, .fp8e4m3⟩
  | .local _ .vmem, ⟨1, _⟩ => ⟨S4608x1, .f32⟩
  | .local _ .vmem, ⟨2, _⟩ => ⟨S5376x5120, .fp8e4m3⟩
  | .local _ .vmem, ⟨3, _⟩ => ⟨S1x5120, .f32⟩
  | .local _ .vmem, ⟨4, _⟩ => ⟨S4608x5120, .f32⟩
  | .local _ .vmem, ⟨5, _⟩ => ⟨S1x1, .f32⟩
  | .local _ .vmem, ⟨6, _⟩ => ⟨S4608x5120, .bf16⟩
  | _, _ => ⟨S4608x5376, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4608x5376 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5376x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4608x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== GateUp.lean ====
abbrev S4608x5120 : Shape := ⟨2, ![4608, 5120]⟩
abbrev S4608 : Shape := ⟨1, ![4608]⟩
abbrev S5120x5376 : Shape := ⟨2, ![5120, 5376]⟩
abbrev S5376 : Shape := ⟨1, ![5376]⟩
abbrev S12 : Shape := ⟨1, ![12]⟩
abbrev S1x5376 : Shape := ⟨2, ![1, 5376]⟩
abbrev S9x4x128 : Shape := ⟨3, ![9, 4, 128]⟩
abbrev S4608x5376 : Shape := ⟨2, ![4608, 5376]⟩
abbrev S512x5120 : Shape := ⟨2, ![512, 5120]⟩
abbrev S1x4x128 : Shape := ⟨3, ![1, 4, 128]⟩
abbrev S5120x768 : Shape := ⟨2, ![5120, 768]⟩
abbrev S1x768 : Shape := ⟨2, ![1, 768]⟩
abbrev S512x5376 : Shape := ⟨2, ![512, 5376]⟩
abbrev S7x512x768 : Shape := ⟨3, ![7, 512, 768]⟩
abbrev S4x128 : Shape := ⟨2, ![4, 128]⟩
abbrev S512x1 : Shape := ⟨2, ![512, 1]⟩
abbrev S512x768 : Shape := ⟨2, ![512, 768]⟩
abbrev S1 : Shape := ⟨1, ![1]⟩
abbrev S1x512x768 : Shape := ⟨3, ![1, 512, 768]⟩
abbrev S1x128x768 : Shape := ⟨3, ![1, 128, 768]⟩
abbrev S128x768 : Shape := ⟨2, ![128, 768]⟩
abbrev S128 : Shape := ⟨1, ![128]⟩
abbrev S128x1 : Shape := ⟨2, ![128, 1]⟩
abbrev S1x128 : Shape := ⟨2, ![1, 128]⟩
abbrev S1x1x128 : Shape := ⟨3, ![1, 1, 128]⟩

abbrev nBuf : Space → Nat
  | .hbm => 12
  | .vmem => 17
  | .smem => 1
  | _ => 0

abbrev bufTy : (tb : Table) → Fin (tcTables nBuf tb) → BufTy
  | .hbm, ⟨0, _⟩ => ⟨S4608x5120, .fp8e4m3⟩
  | .hbm, ⟨1, _⟩ => ⟨S4608, .f32⟩
  | .hbm, ⟨2, _⟩ => ⟨S5120x5376, .fp8e4m3⟩
  | .hbm, ⟨3, _⟩ => ⟨S5376, .f32⟩
  | .hbm, ⟨4, _⟩ => ⟨S5120x5376, .fp8e4m3⟩
  | .hbm, ⟨5, _⟩ => ⟨S5376, .f32⟩
  | .hbm, ⟨6, _⟩ => ⟨S12, .f32⟩
  | .hbm, ⟨7, _⟩ => ⟨S1x5376, .f32⟩
  | .hbm, ⟨8, _⟩ => ⟨S1x5376, .f32⟩
  | .hbm, ⟨9, _⟩ => ⟨S9x4x128, .f32⟩
  | .hbm, ⟨10, _⟩ => ⟨S4608x5376, .fp8e4m3⟩
  | .hbm, ⟨11, _⟩ => ⟨S9x4x128, .f32⟩
  | .local _ .vmem, ⟨0, _⟩ => ⟨S512x5120, .fp8e4m3⟩
  | .local _ .vmem, ⟨1, _⟩ => ⟨S512x5120, .fp8e4m3⟩
  | .local _ .vmem, ⟨2, _⟩ => ⟨S1x4x128, .f32⟩
  | .local _ .vmem, ⟨3, _⟩ => ⟨S1x4x128, .f32⟩
  | .local _ .vmem, ⟨4, _⟩ => ⟨S5120x768, .fp8e4m3⟩
  | .local _ .vmem, ⟨5, _⟩ => ⟨S5120x768, .fp8e4m3⟩
  | .local _ .vmem, ⟨6, _⟩ => ⟨S1x768, .f32⟩
  | .local _ .vmem, ⟨7, _⟩ => ⟨S1x768, .f32⟩
  | .local _ .vmem, ⟨8, _⟩ => ⟨S5120x768, .fp8e4m3⟩
  | .local _ .vmem, ⟨9, _⟩ => ⟨S5120x768, .fp8e4m3⟩
  | .local _ .vmem, ⟨10, _⟩ => ⟨S1x768, .f32⟩
  | .local _ .vmem, ⟨11, _⟩ => ⟨S1x768, .f32⟩
  | .local _ .vmem, ⟨12, _⟩ => ⟨S512x5376, .fp8e4m3⟩
  | .local _ .vmem, ⟨13, _⟩ => ⟨S512x5376, .fp8e4m3⟩
  | .local _ .vmem, ⟨14, _⟩ => ⟨S1x4x128, .f32⟩
  | .local _ .vmem, ⟨15, _⟩ => ⟨S1x4x128, .f32⟩
  | .local _ .vmem, ⟨16, _⟩ => ⟨S7x512x768, .f32⟩
  | .local _ .smem, ⟨0, _⟩ => ⟨S12, .f32⟩
  | _, _ => ⟨S4608x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![9, 7], ![false, false]⟩

def k0_off1 (i : grid0.Coords) : Fin 3 → Nat :=
  let arg1 : BitVec 32 := BitVec.ofNat 32 (i 1).val
  let v27 : Index := Scalar.indexCast arg1
  let c0_15 : Index := 0#32
  let c0_16 : Index := 0#32
  ![v27.toNat, 0, 0]
def k0_cond1 (i : grid0.Coords) : BitVec 1 :=
  let arg1 : BitVec 32 := BitVec.ofNat 32 (i 1).val
  let c6_i32 : BitVec 32 := 6#32
  let v31 : BitVec 1 := Scalar.cmpi .eq arg1 c6_i32
  let v32 : BitVec 32 := Scalar.extui v31
  let c0_i32 : BitVec 32 := 0#32
  let v33 : BitVec 1 := Scalar.cmpi .ne v32 c0_i32
  v33

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S5120x768 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S5120x768 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x5376 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GateUpRefIdeal.lean ====
abbrev S4608x5120 : Shape := ⟨2, ![4608, 5120]⟩
abbrev S4608 : Shape := ⟨1, ![4608]⟩
abbrev S5120x5376 : Shape := ⟨2, ![5120, 5376]⟩
abbrev S5376 : Shape := ⟨1, ![5376]⟩
abbrev S12 : Shape := ⟨1, ![12]⟩
abbrev S4608x1 : Shape := ⟨2, ![4608, 1]⟩
abbrev S1x5376 : Shape := ⟨2, ![1, 5376]⟩
abbrev S1 : Shape := ⟨1, ![1]⟩
abbrev S1x1 : Shape := ⟨2, ![1, 1]⟩
abbrev S4608x5376 : Shape := ⟨2, ![4608, 5376]⟩
abbrev S9x4x128 : Shape := ⟨3, ![9, 4, 128]⟩

abbrev nBuf : Space → Nat
  | .hbm => 14
  | .vmem => 9
  | .smem => 0
  | _ => 0

abbrev bufTy : (tb : Table) → Fin (tcTables nBuf tb) → BufTy
  | .hbm, ⟨0, _⟩ => ⟨S4608x5120, .fp8e4m3⟩
  | .hbm, ⟨1, _⟩ => ⟨S4608, .f32⟩
  | .hbm, ⟨2, _⟩ => ⟨S5120x5376, .fp8e4m3⟩
  | .hbm, ⟨3, _⟩ => ⟨S5376, .f32⟩
  | .hbm, ⟨4, _⟩ => ⟨S5120x5376, .fp8e4m3⟩
  | .hbm, ⟨5, _⟩ => ⟨S5376, .f32⟩
  | .hbm, ⟨6, _⟩ => ⟨S12, .f32⟩
  | .hbm, ⟨7, _⟩ => ⟨S4608x1, .f32⟩
  | .hbm, ⟨8, _⟩ => ⟨S1x5376, .f32⟩
  | .hbm, ⟨9, _⟩ => ⟨S1x5376, .f32⟩
  | .hbm, ⟨10, _⟩ => ⟨S1, .f32⟩
  | .hbm, ⟨11, _⟩ => ⟨S1x1, .f32⟩
  | .hbm, ⟨12, _⟩ => ⟨S4608x5376, .fp8e4m3⟩
  | .hbm, ⟨13, _⟩ => ⟨S9x4x128, .f32⟩
  | .local _ .vmem, ⟨0, _⟩ => ⟨S4608x5120, .fp8e4m3⟩
  | .local _ .vmem, ⟨1, _⟩ => ⟨S4608x1, .f32⟩
  | .local _ .vmem, ⟨2, _⟩ => ⟨S5120x5376, .fp8e4m3⟩
  | .local _ .vmem, ⟨3, _⟩ => ⟨S1x5376, .f32⟩
  | .local _ .vmem, ⟨4, _⟩ => ⟨S5120x5376, .fp8e4m3⟩
  | .local _ .vmem, ⟨5, _⟩ => ⟨S1x5376, .f32⟩
  | .local _ .vmem, ⟨6, _⟩ => ⟨S1x1, .f32⟩
  | .local _ .vmem, ⟨7, _⟩ => ⟨S4608x5376, .fp8e4m3⟩
  | .local _ .vmem, ⟨8, _⟩ => ⟨S9x4x128, .f32⟩
  | _, _ => ⟨S4608x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4608x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x5376 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x5376 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5376 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4608x5376 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S9x4x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== OutProj.lean ====
abbrev S4608x5120 : Shape := ⟨2, ![4608, 5120]⟩
abbrev S4608x640 : Shape := ⟨2, ![4608, 640]⟩
abbrev S4608 : Shape := ⟨1, ![4608]⟩
abbrev S4608x1024 : Shape := ⟨2, ![4608, 1024]⟩
abbrev S640x5120 : Shape := ⟨2, ![640, 5120]⟩
abbrev S5120 : Shape := ⟨1, ![5120]⟩
abbrev S1024x5120 : Shape := ⟨2, ![1024, 5120]⟩
abbrev S12 : Shape := ⟨1, ![12]⟩
abbrev S1x5120 : Shape := ⟨2, ![1, 5120]⟩
abbrev S18x2x128 : Shape := ⟨3, ![18, 2, 128]⟩
abbrev S256x5120 : Shape := ⟨2, ![256, 5120]⟩
abbrev S256x640 : Shape := ⟨2, ![256, 640]⟩
abbrev S1x2x128 : Shape := ⟨3, ![1, 2, 128]⟩
abbrev S256x1024 : Shape := ⟨2, ![256, 1024]⟩
abbrev S2x128 : Shape := ⟨2, ![2, 128]⟩
abbrev S256x1 : Shape := ⟨2, ![256, 1]⟩
abbrev S640x512 : Shape := ⟨2, ![640, 512]⟩
abbrev S256x512 : Shape := ⟨2, ![256, 512]⟩
abbrev S1x512 : Shape := ⟨2, ![1, 512]⟩
abbrev S1 : Shape := ⟨1, ![1]⟩
abbrev S1024x512 : Shape := ⟨2, ![1024, 512]⟩
abbrev S128x5120 : Shape := ⟨2, ![128, 5120]⟩
abbrev S128 : Shape := ⟨1, ![128]⟩
abbrev S128x1 : Shape := ⟨2, ![128, 1]⟩
abbrev S1x128 : Shape := ⟨2, ![1, 128]⟩
abbrev S1x1x128 : Shape := ⟨3, ![1, 1, 128]⟩

abbrev nBuf : Space → Nat
  | .hbm => 19
  | .vmem => 21
  | .smem => 1
  | _ => 0

abbrev bufTy : (tb : Table) → Fin (tcTables nBuf tb) → BufTy
  | .hbm, ⟨0, _⟩ => ⟨S4608x5120, .bf16⟩
  | .hbm, ⟨1, _⟩ => ⟨S4608x640, .fp8e4m3⟩
  | .hbm, ⟨2, _⟩ => ⟨S4608, .f32⟩
  | .hbm, ⟨3, _⟩ => ⟨S4608x1024, .fp8e4m3⟩
  | .hbm, ⟨4, _⟩ => ⟨S4608, .f32⟩
  | .hbm, ⟨5, _⟩ => ⟨S640x5120, .fp8e4m3⟩
  | .hbm, ⟨6, _⟩ => ⟨S5120, .f32⟩
  | .hbm, ⟨7, _⟩ => ⟨S1024x5120, .fp8e4m3⟩
  | .hbm, ⟨8, _⟩ => ⟨S5120, .f32⟩
  | .hbm, ⟨9, _⟩ => ⟨S5120, .f32⟩
  | .hbm, ⟨10, _⟩ => ⟨S12, .f32⟩
  | .hbm, ⟨11, _⟩ => ⟨S1x5120, .f32⟩
  | .hbm, ⟨12, _⟩ => ⟨S1x5120, .f32⟩
  | .hbm, ⟨13, _⟩ => ⟨S1x5120, .f32⟩
  | .hbm, ⟨14, _⟩ => ⟨S18x2x128, .f32⟩
  | .hbm, ⟨15, _⟩ => ⟨S18x2x128, .f32⟩
  | .hbm, ⟨16, _⟩ => ⟨S4608x5120, .f32⟩
  | .hbm, ⟨17, _⟩ => ⟨S4608x5120, .fp8e4m3⟩
  | .hbm, ⟨18, _⟩ => ⟨S18x2x128, .f32⟩
  | .local _ .vmem, ⟨0, _⟩ => ⟨S256x5120, .bf16⟩
  | .local _ .vmem, ⟨1, _⟩ => ⟨S256x5120, .bf16⟩
  | .local _ .vmem, ⟨2, _⟩ => ⟨S256x640, .fp8e4m3⟩
  | .local _ .vmem, ⟨3, _⟩ => ⟨S256x640, .fp8e4m3⟩
  | .local _ .vmem, ⟨4, _⟩ => ⟨S1x2x128, .f32⟩
  | .local _ .vmem, ⟨5, _⟩ => ⟨S1x2x128, .f32⟩
  | .local _ .vmem, ⟨6, _⟩ => ⟨S256x1024, .fp8e4m3⟩
  | .local _ .vmem, ⟨7, _⟩ => ⟨S256x1024, .fp8e4m3⟩
  | .local _ .vmem, ⟨8, _⟩ => ⟨S1x2x128, .f32⟩
  | .local _ .vmem, ⟨9, _⟩ => ⟨S1x2x128, .f32⟩
  | .local _ .vmem, ⟨10, _⟩ => ⟨S640x5120, .fp8e4m3⟩
  | .local _ .vmem, ⟨11, _⟩ => ⟨S1x5120, .f32⟩
  | .local _ .vmem, ⟨12, _⟩ => ⟨S1024x5120, .fp8e4m3⟩
  | .local _ .vmem, ⟨13, _⟩ => ⟨S1x5120, .f32⟩
  | .local _ .vmem, ⟨14, _⟩ => ⟨S1x5120, .f32⟩
  | .local _ .vmem, ⟨15, _⟩ => ⟨S256x5120, .f32⟩
  | .local _ .vmem, ⟨16, _⟩ => ⟨S256x5120, .f32⟩
  | .local _ .vmem, ⟨17, _⟩ => ⟨S256x5120, .fp8e4m3⟩
  | .local _ .vmem, ⟨18, _⟩ => ⟨S256x5120, .fp8e4m3⟩
  | .local _ .vmem, ⟨19, _⟩ => ⟨S1x2x128, .f32⟩
  | .local _ .vmem, ⟨20, _⟩ => ⟨S1x2x128, .f32⟩
  | .local _ .smem, ⟨0, _⟩ => ⟨S12, .f32⟩
  | _, _ => ⟨S4608x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![18], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S640x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x5120 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x5120 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x5120 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== OutProjRefIdeal.lean ====
abbrev S4608x5120 : Shape := ⟨2, ![4608, 5120]⟩
abbrev S4608x640 : Shape := ⟨2, ![4608, 640]⟩
abbrev S4608 : Shape := ⟨1, ![4608]⟩
abbrev S4608x1024 : Shape := ⟨2, ![4608, 1024]⟩
abbrev S640x5120 : Shape := ⟨2, ![640, 5120]⟩
abbrev S5120 : Shape := ⟨1, ![5120]⟩
abbrev S1024x5120 : Shape := ⟨2, ![1024, 5120]⟩
abbrev S12 : Shape := ⟨1, ![12]⟩
abbrev S4608x1 : Shape := ⟨2, ![4608, 1]⟩
abbrev S1x5120 : Shape := ⟨2, ![1, 5120]⟩
abbrev S1 : Shape := ⟨1, ![1]⟩
abbrev S1x1 : Shape := ⟨2, ![1, 1]⟩
abbrev S18x2x128 : Shape := ⟨3, ![18, 2, 128]⟩

abbrev nBuf : Space → Nat
  | .hbm => 23
  | .vmem => 15
  | .smem => 0
  | _ => 0

abbrev bufTy : (tb : Table) → Fin (tcTables nBuf tb) → BufTy
  | .hbm, ⟨0, _⟩ => ⟨S4608x5120, .bf16⟩
  | .hbm, ⟨1, _⟩ => ⟨S4608x640, .fp8e4m3⟩
  | .hbm, ⟨2, _⟩ => ⟨S4608, .f32⟩
  | .hbm, ⟨3, _⟩ => ⟨S4608x1024, .fp8e4m3⟩
  | .hbm, ⟨4, _⟩ => ⟨S4608, .f32⟩
  | .hbm, ⟨5, _⟩ => ⟨S640x5120, .fp8e4m3⟩
  | .hbm, ⟨6, _⟩ => ⟨S5120, .f32⟩
  | .hbm, ⟨7, _⟩ => ⟨S1024x5120, .fp8e4m3⟩
  | .hbm, ⟨8, _⟩ => ⟨S5120, .f32⟩
  | .hbm, ⟨9, _⟩ => ⟨S5120, .f32⟩
  | .hbm, ⟨10, _⟩ => ⟨S12, .f32⟩
  | .hbm, ⟨11, _⟩ => ⟨S4608x1, .f32⟩
  | .hbm, ⟨12, _⟩ => ⟨S4608x1, .f32⟩
  | .hbm, ⟨13, _⟩ => ⟨S1x5120, .f32⟩
  | .hbm, ⟨14, _⟩ => ⟨S1x5120, .f32⟩
  | .hbm, ⟨15, _⟩ => ⟨S1x5120, .f32⟩
  | .hbm, ⟨16, _⟩ => ⟨S1, .f32⟩
  | .hbm, ⟨17, _⟩ => ⟨S1x1, .f32⟩
  | .hbm, ⟨18, _⟩ => ⟨S1, .f32⟩
  | .hbm, ⟨19, _⟩ => ⟨S1x1, .f32⟩
  | .hbm, ⟨20, _⟩ => ⟨S4608x5120, .f32⟩
  | .hbm, ⟨21, _⟩ => ⟨S4608x5120, .fp8e4m3⟩
  | .hbm, ⟨22, _⟩ => ⟨S18x2x128, .f32⟩
  | .local _ .vmem, ⟨0, _⟩ => ⟨S4608x5120, .bf16⟩
  | .local _ .vmem, ⟨1, _⟩ => ⟨S4608x640, .fp8e4m3⟩
  | .local _ .vmem, ⟨2, _⟩ => ⟨S4608x1, .f32⟩
  | .local _ .vmem, ⟨3, _⟩ => ⟨S4608x1024, .fp8e4m3⟩
  | .local _ .vmem, ⟨4, _⟩ => ⟨S4608x1, .f32⟩
  | .local _ .vmem, ⟨5, _⟩ => ⟨S640x5120, .fp8e4m3⟩
  | .local _ .vmem, ⟨6, _⟩ => ⟨S1x5120, .f32⟩
  | .local _ .vmem, ⟨7, _⟩ => ⟨S1024x5120, .fp8e4m3⟩
  | .local _ .vmem, ⟨8, _⟩ => ⟨S1x5120, .f32⟩
  | .local _ .vmem, ⟨9, _⟩ => ⟨S1x5120, .f32⟩
  | .local _ .vmem, ⟨10, _⟩ => ⟨S1x1, .f32⟩
  | .local _ .vmem, ⟨11, _⟩ => ⟨S1x1, .f32⟩
  | .local _ .vmem, ⟨12, _⟩ => ⟨S4608x5120, .f32⟩
  | .local _ .vmem, ⟨13, _⟩ => ⟨S4608x5120, .fp8e4m3⟩
  | .local _ .vmem, ⟨14, _⟩ => ⟨S18x2x128, .f32⟩
  | _, _ => ⟨S4608x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S4608x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x640 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S640x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x5120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4608x5120 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4608x5120 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S18x2x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== InProj.lean ====
abbrev S4608x5120 : Shape := ⟨2, ![4608, 5120]⟩
abbrev S5120 : Shape := ⟨1, ![5120]⟩
abbrev S5120x3464 : Shape := ⟨2, ![5120, 3464]⟩
abbrev S3464 : Shape := ⟨1, ![3464]⟩
abbrev S4608x64 : Shape := ⟨2, ![4608, 64]⟩
abbrev S12 : Shape := ⟨1, ![12]⟩
abbrev S1 : Shape := ⟨1, ![1]⟩
abbrev S2 : Shape := ⟨1, ![2]⟩
abbrev S1x5120 : Shape := ⟨2, ![1, 5120]⟩
abbrev S1x3464 : Shape := ⟨2, ![1, 3464]⟩
abbrev S18x2x128 : Shape := ⟨3, ![18, 2, 128]⟩
abbrev S5x4608x128 : Shape := ⟨3, ![5, 4608, 128]⟩
abbrev S4608x128 : Shape := ⟨2, ![4608, 128]⟩
abbrev S4608x1024 : Shape := ⟨2, ![4608, 1024]⟩
abbrev S4608x1536 : Shape := ⟨2, ![4608, 1536]⟩
abbrev S256x5120 : Shape := ⟨2, ![256, 5120]⟩
abbrev S256x64 : Shape := ⟨2, ![256, 64]⟩
abbrev S1x2x128 : Shape := ⟨3, ![1, 2, 128]⟩
abbrev S5x256x128 : Shape := ⟨3, ![5, 256, 128]⟩
abbrev S256x128 : Shape := ⟨2, ![256, 128]⟩
abbrev S256x1024 : Shape := ⟨2, ![256, 1024]⟩
abbrev S256x1536 : Shape := ⟨2, ![256, 1536]⟩
abbrev S128x5120 : Shape := ⟨2, ![128, 5120]⟩
abbrev S128 : Shape := ⟨1, ![128]⟩
abbrev S128x1 : Shape := ⟨2, ![128, 1]⟩
abbrev S1x128 : Shape := ⟨2, ![1, 128]⟩
abbrev S1x1x128 : Shape := ⟨3, ![1, 1, 128]⟩
abbrev S2x128 : Shape := ⟨2, ![2, 128]⟩
abbrev S256x1 : Shape := ⟨2, ![256, 1]⟩
abbrev S5120x512 : Shape := ⟨2, ![5120, 512]⟩
abbrev S256x512 : Shape := ⟨2, ![256, 512]⟩
abbrev S1x512 : Shape := ⟨2, ![1, 512]⟩
abbrev S1x256x128 : Shape := ⟨3, ![1, 256, 128]⟩
abbrev S5120x392 : Shape := ⟨2, ![5120, 392]⟩
abbrev S256x392 : Shape := ⟨2, ![256, 392]⟩
abbrev S1x392 : Shape := ⟨2, ![1, 392]⟩
abbrev S256x8 : Shape := ⟨2, ![256, 8]⟩

abbrev nBuf : Space → Nat
  | .hbm => 20
  | .vmem => 25
  | .smem => 2
  | _ => 0

abbrev bufTy : (tb : Table) → Fin (tcTables nBuf tb) → BufTy
  | .hbm, ⟨0, _⟩ => ⟨S4608x5120, .bf16⟩
  | .hbm, ⟨1, _⟩ => ⟨S5120, .f32⟩
  | .hbm, ⟨2, _⟩ => ⟨S5120x3464, .fp8e4m3⟩
  | .hbm, ⟨3, _⟩ => ⟨S3464, .f32⟩
  | .hbm, ⟨4, _⟩ => ⟨S4608x64, .f32⟩
  | .hbm, ⟨5, _⟩ => ⟨S4608x64, .f32⟩
  | .hbm, ⟨6, _⟩ => ⟨S12, .f32⟩
  | .hbm, ⟨7, _⟩ => ⟨S1, .f32⟩
  | .hbm, ⟨8, _⟩ => ⟨S1, .f32⟩
  | .hbm, ⟨9, _⟩ => ⟨S2, .f32⟩
  | .hbm, ⟨10, _⟩ => ⟨S1x5120, .f32⟩
  | .hbm, ⟨11, _⟩ => ⟨S1x3464, .f32⟩
  | .hbm, ⟨12, _⟩ => ⟨S4608x5120, .fp8e4m3⟩
  | .hbm, ⟨13, _⟩ => ⟨S18x2x128, .f32⟩
  | .hbm, ⟨14, _⟩ => ⟨S5x4608x128, .bf16⟩
  | .hbm, ⟨15, _⟩ => ⟨S4608x128, .fp8e4m3⟩
  | .hbm, ⟨16, _⟩ => ⟨S4608x128, .fp8e4m3⟩
  | .hbm, ⟨17, _⟩ => ⟨S4608x1024, .f32⟩
  | .hbm, ⟨18, _⟩ => ⟨S4608x1536, .f32⟩
  | .hbm, ⟨19, _⟩ => ⟨S4608x128, .f32⟩
  | .local _ .vmem, ⟨0, _⟩ => ⟨S256x5120, .bf16⟩
  | .local _ .vmem, ⟨1, _⟩ => ⟨S256x5120, .bf16⟩
  | .local _ .vmem, ⟨2, _⟩ => ⟨S1x5120, .f32⟩
  | .local _ .vmem, ⟨3, _⟩ => ⟨S5120x3464, .fp8e4m3⟩
  | .local _ .vmem, ⟨4, _⟩ => ⟨S1x3464, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x5120, .fp8e4m3⟩
  | .local _ .vmem, ⟨10, _⟩ => ⟨S256x5120, .fp8e4m3⟩
  | .local _ .vmem, ⟨11, _⟩ => ⟨S1x2x128, .f32⟩
  | .local _ .vmem, ⟨12, _⟩ => ⟨S1x2x128, .f32⟩
  | .local _ .vmem, ⟨13, _⟩ => ⟨S5x256x128, .bf16⟩
  | .local _ .vmem, ⟨14, _⟩ => ⟨S5x256x128, .bf16⟩
  | .local _ .vmem, ⟨15, _⟩ => ⟨S256x128, .fp8e4m3⟩
  | .local _ .vmem, ⟨16, _⟩ => ⟨S256x128, .fp8e4m3⟩
  | .local _ .vmem, ⟨17, _⟩ => ⟨S256x128, .fp8e4m3⟩
  | .local _ .vmem, ⟨18, _⟩ => ⟨S256x128, .fp8e4m3⟩
  | .local _ .vmem, ⟨19, _⟩ => ⟨S256x1024, .f32⟩
  | .local _ .vmem, ⟨20, _⟩ => ⟨S256x1024, .f32⟩
  | .local _ .vmem, ⟨21, _⟩ => ⟨S256x1536, .f32⟩
  | .local _ .vmem, ⟨22, _⟩ => ⟨S256x1536, .f32⟩
  | .local _ .vmem, ⟨23, _⟩ => ⟨S256x128, .f32⟩
  | .local _ .vmem, ⟨24, _⟩ => ⟨S256x128, .f32⟩
  | .local _ .smem, ⟨0, _⟩ => ⟨S12, .f32⟩
  | .local _ .smem, ⟨1, _⟩ => ⟨S2, .f32⟩
  | _, _ => ⟨S4608x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v3_5 : Ref sig .tc := ⟨.hbm, 17, rfl⟩
abbrev main_v3_6 : Ref sig .tc := ⟨.hbm, 18, rfl⟩
abbrev main_v3_7 : Ref sig .tc := ⟨.hbm, 19, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![18], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5120x3464 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3464 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5120 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== InProjRefIdeal.lean ====
abbrev S4608x5120 : Shape := ⟨2, ![4608, 5120]⟩
abbrev S5120 : Shape := ⟨1, ![5120]⟩
abbrev S5120x3464 : Shape := ⟨2, ![5120, 3464]⟩
abbrev S3464 : Shape := ⟨1, ![3464]⟩
abbrev S4608x64 : Shape := ⟨2, ![4608, 64]⟩
abbrev S12 : Shape := ⟨1, ![12]⟩
abbrev S1 : Shape := ⟨1, ![1]⟩
abbrev S1x5120 : Shape := ⟨2, ![1, 5120]⟩
abbrev S1x3464 : Shape := ⟨2, ![1, 3464]⟩
abbrev S1x12 : Shape := ⟨2, ![1, 12]⟩
abbrev S1x1 : Shape := ⟨2, ![1, 1]⟩
abbrev S18x2x128 : Shape := ⟨3, ![18, 2, 128]⟩
abbrev S5x4608x128 : Shape := ⟨3, ![5, 4608, 128]⟩
abbrev S4608x128 : Shape := ⟨2, ![4608, 128]⟩
abbrev S4608x1024 : Shape := ⟨2, ![4608, 1024]⟩
abbrev S4608x1536 : Shape := ⟨2, ![4608, 1536]⟩
abbrev S4608 : Shape := ⟨1, ![4608]⟩
abbrev S4608x1 : Shape := ⟨2, ![4608, 1]⟩
abbrev S4608x3464 : Shape := ⟨2, ![4608, 3464]⟩
abbrev S1x4608x128 : Shape := ⟨3, ![1, 4608, 128]⟩
abbrev S4608x256 : Shape := ⟨2, ![4608, 256]⟩
abbrev S4608x8 : Shape := ⟨2, ![4608, 8]⟩
abbrev S4608x120 : Shape := ⟨2, ![4608, 120]⟩

abbrev nBuf : Space → Nat
  | .hbm => 22
  | .vmem => 17
  | .smem => 0
  | _ => 0

abbrev bufTy : (tb : Table) → Fin (tcTables nBuf tb) → BufTy
  | .hbm, ⟨0, _⟩ => ⟨S4608x5120, .bf16⟩
  | .hbm, ⟨1, _⟩ => ⟨S5120, .f32⟩
  | .hbm, ⟨2, _⟩ => ⟨S5120x3464, .fp8e4m3⟩
  | .hbm, ⟨3, _⟩ => ⟨S3464, .f32⟩
  | .hbm, ⟨4, _⟩ => ⟨S4608x64, .f32⟩
  | .hbm, ⟨5, _⟩ => ⟨S4608x64, .f32⟩
  | .hbm, ⟨6, _⟩ => ⟨S12, .f32⟩
  | .hbm, ⟨7, _⟩ => ⟨S1, .f32⟩
  | .hbm, ⟨8, _⟩ => ⟨S1, .f32⟩
  | .hbm, ⟨9, _⟩ => ⟨S1x5120, .f32⟩
  | .hbm, ⟨10, _⟩ => ⟨S1x3464, .f32⟩
  | .hbm, ⟨11, _⟩ => ⟨S1x12, .f32⟩
  | .hbm, ⟨12, _⟩ => ⟨S1x1, .f32⟩
  | .hbm, ⟨13, _⟩ => ⟨S1x1, .f32⟩
  | .hbm, ⟨14, _⟩ => ⟨S4608x5120, .fp8e4m3⟩
  | .hbm, ⟨15, _⟩ => ⟨S18x2x128, .f32⟩
  | .hbm, ⟨16, _⟩ => ⟨S5x4608x128, .bf16⟩
  | .hbm, ⟨17, _⟩ => ⟨S4608x128, .fp8e4m3⟩
  | .hbm, ⟨18, _⟩ => ⟨S4608x128, .fp8e4m3⟩
  | .hbm, ⟨19, _⟩ => ⟨S4608x1024, .f32⟩
  | .hbm, ⟨20, _⟩ => ⟨S4608x1536, .f32⟩
  | .hbm, ⟨21, _⟩ => ⟨S4608x128, .f32⟩
  | .local _ .vmem, ⟨0, _⟩ => ⟨S4608x5120, .bf16⟩
  | .local _ .vmem, ⟨1, _⟩ => ⟨S1x5120, .f32⟩
  | .local _ .vmem, ⟨2, _⟩ => ⟨S5120x3464, .fp8e4m3⟩
  | .local _ .vmem, ⟨3, _⟩ => ⟨S1x3464, .f32⟩
  | .local _ .vmem, ⟨4, _⟩ => ⟨S4608x64, .f32⟩
  | .local _ .vmem, ⟨5, _⟩ => ⟨S4608x64, .f32⟩
  | .local _ .vmem, ⟨6, _⟩ => ⟨S1x12, .f32⟩
  | .local _ .vmem, ⟨7, _⟩ => ⟨S1x1, .f32⟩
  | .local _ .vmem, ⟨8, _⟩ => ⟨S1x1, .f32⟩
  | .local _ .vmem, ⟨9, _⟩ => ⟨S4608x5120, .fp8e4m3⟩
  | .local _ .vmem, ⟨10, _⟩ => ⟨S18x2x128, .f32⟩
  | .local _ .vmem, ⟨11, _⟩ => ⟨S5x4608x128, .bf16⟩
  | .local _ .vmem, ⟨12, _⟩ => ⟨S4608x128, .fp8e4m3⟩
  | .local _ .vmem, ⟨13, _⟩ => ⟨S4608x128, .fp8e4m3⟩
  | .local _ .vmem, ⟨14, _⟩ => ⟨S4608x1024, .f32⟩
  | .local _ .vmem, ⟨15, _⟩ => ⟨S4608x1536, .f32⟩
  | .local _ .vmem, ⟨16, _⟩ => ⟨S4608x128, .f32⟩
  | _, _ => ⟨S4608x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_v5_6 : Ref sig .tc := ⟨.hbm, 20, rfl⟩
abbrev main_v5_7 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S4608x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x3464 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3464 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4608x5120 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S18x2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S5x4608x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4608x128 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4608x128 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4608x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4608x1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4608x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.DownKernel.lean ====
/-
  The residual down projection's kernel, read as values over the reals: the array its 45 grid points leave is the
  plain formula of `Cert.Proof.DownSpec`, index by index.
-/
module

public import proofs.«01_k».proof.Proof.Gen.DownIdeal.Value
public import Idealize.ShloMosaic.Lib.Pointwise

@[expose] public section

noncomputable section

namespace Cert.Proof.DownSpec

open Idealize.ShloMosaic

/-- The layer's output over the reals: row `i`, column `j` holds the residual `hm i j` plus the product of row `i` of the
    activation codes with column `j` of the down weights, times the row's scale, the column's scale and multiplier 6. -/
def down (codes : Vec Ideal ⟨2, ![4608, 5376]⟩ .fp8e4m3) (s : Vec Ideal ⟨1, ![4608]⟩ .f32)
    (w : Vec Ideal ⟨2, ![5376, 5120]⟩ .fp8e4m3) (ws : Vec Ideal ⟨1, ![5120]⟩ .f32)
    (hm : Vec Ideal ⟨2, ![4608, 5120]⟩ .f32) (mu : Vec Ideal ⟨1, ![12]⟩ .f32) : Vec Ideal ⟨2, ![4608, 5120]⟩ .bf16 := fun i =>
  hm i + (∑ k : Fin 5376, codes (ix2 (i 0) k) * w (ix2 k (i 1))) * s (ix1 (i 0)) * ws (ix1 (i 1)) * mu (ix1 6)

end Cert.Proof.DownSpec

namespace Cert.DownIdeal.Res

open Cert.DownIdeal Cert.DownIdeal.Gen Cert.Proof.DownSpec
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- What the body leaves in the output's block at point `t`: the payload of its one store, at the point's input blocks. -/
theorem out_pay (c : Dev nD) (t : Fin cfg0.N) :
    outsAt0 m c t = k0_pay1 (F := Ideal) (iblk m c 2 t) (iblk m c 1 t) (iblk m c 3 t) (iblk m c 5 t) (iblk m c 4 t)
      ((iblk m c 0 t : Vec Ideal S12 .f32) (ix1 6)) := by
  unfold outsAt0 out0_A_6
  rw [View.read_writes_eq_canon]
  swap
  · exact fun y => cover0_A_6 c _ _ _ _ _ _ _ _ _ _ _ _ _ _ _ _ _ _ _ _ _ y
  unfold kernelRun0_A
  dsimp only
  sl_unfold_words
  rw [View.canon_unit_zero (S := S512x1024) hz]
  simp only [View.readAt_eq_ld, (hs0_0 t).read_unread, (hs0_1 t).read_unread, (hs0_2 t).read_unread, (hs0_3 t).read_unread,
    (hs0_4 t).read_unread, (hs0_5 t).read_unread, View.ld_unit_zero (S := S512x5376) hz, View.ld_unit_zero (S := S5376x1024) hz,
    View.ld_unit_zero (S := S512x1024) hz, View.ld_unit_zero (S := S1x1024) hz, View.ld_unit_zero (S := S1x4x128) hz3]
  congr 1
  show (iblk m c 0 t : Vec Ideal S12 .f32) _ = _
  congr 1
  funext b
  match b with
  | ⟨0, _⟩ => rfl

/-- The payload at an index. -/
theorem pay_apply (v0 : Vec Ideal S1x4x128 .f32) (v3 : Vec Ideal S512x5376 .fp8e4m3) (v4 : Vec Ideal S5376x1024 .fp8e4m3)
    (v6 : Vec Ideal S512x1024 .f32) (v9 : Vec Ideal S1x1024 .f32) (v13 : Elt Ideal .f32) (j : S512x1024.Idx) :
    k0_pay1 (F := Ideal) v0 v3 v4 v6 v9 v13 j
      = v6 j + (∑ k : Fin 5376, v3 (ix2 (j 0) k) * v4 (ix2 k (j 1)))
          * v0 (ix3 0 ⟨(j 0).val / 128, by have := (j 0).isLt; change (j 0).val < 512 at this; omega⟩ ⟨(j 0).val % 128, Nat.mod_lt _ (by decide)⟩)
          * v9 (ix2 0 (j 1)) * v13 := by
  pointwise [k0_pay1]

/-- The block index of every window at point `t`: the points run over the row blocks first. -/
theorem idx_facts : ∀ t : Fin cfg0.N, win0_0.index t 0 = 0
    ∧ win0_1.index t 0 = t.val % 9 ∧ win0_1.index t 1 = 0
    ∧ win0_2.index t 0 = t.val % 9 ∧ win0_2.index t 1 = 0 ∧ win0_2.index t 2 = 0
    ∧ win0_3.index t 0 = 0 ∧ win0_3.index t 1 = t.val / 9
    ∧ win0_4.index t 0 = 0 ∧ win0_4.index t 1 = t.val / 9
    ∧ win0_5.index t 0 = t.val % 9 ∧ win0_5.index t 1 = t.val / 9
    ∧ win0_6.index t 0 = t.val % 9 ∧ win0_6.index t 1 = t.val / 9 :=
  (by decide +kernel : ∀ t : Fin grid0.N, win0_0.index t 0 = 0
    ∧ win0_1.index t 0 = t.val % 9 ∧ win0_1.index t 1 = 0
    ∧ win0_2.index t 0 = t.val % 9 ∧ win0_2.index t 1 = 0 ∧ win0_2.index t 2 = 0
    ∧ win0_3.index t 0 = 0 ∧ win0_3.index t 1 = t.val / 9
    ∧ win0_4.index t 0 = 0 ∧ win0_4.index t 1 = t.val / 9
    ∧ win0_5.index t 0 = t.val % 9 ∧ win0_5.index t 1 = t.val / 9
    ∧ win0_6.index t 0 = t.val % 9 ∧ win0_6.index t 1 = t.val / 9)

theorem tlt (t : Fin cfg0.N) : t.val < 45 := by have := t.isLt; have : cfg0.N = 45 := N_0; omega

/-- Row `r` of row block `t % 9`, as a row of the whole array; column `l` of column block `t / 9`. -/
def row (t : Fin cfg0.N) (r : Fin 512) : Fin 4608 := ⟨t.val % 9 * 512 + r.val, by have := r.isLt; omega⟩
def colm (t : Fin cfg0.N) (l : Fin 1024) : Fin 5120 := ⟨t.val / 9 * 1024 + l.val, by have := l.isLt; have := tlt t; omega⟩

theorem blk0 (c : Dev nD) (t : Fin cfg0.N) (a : Fin 12) :
    (iblk m c 0 t : Vec Ideal S12 .f32) (ix1 a) = (m (c.tc.loc main_arg5) : Vec Ideal S12 .f32) (ix1 a) := by
  unfold iblk
  rw [View.read_apply]
  entry_read
  show m (c.tc.loc main_arg5) _ = _
  congr 1
  funext b
  apply Fin.ext
  match b with
  | ⟨0, _⟩ => show win0_0.index t 0 * 12 + 1 * a.val = a.val; rw [(idx_facts t).1]; omega

/-- Window 1's block is 512 rows of the codes, -/
theorem blk1 (c : Dev nD) (t : Fin cfg0.N) : (iblk m c 1 t : Vec Ideal S512x5376 .fp8e4m3)
    = fun j => (m (c.tc.loc main_arg0) : Vec Ideal S4608x5376 .fp8e4m3) (ix2 (row t (j 0)) (j 1)) := by
  obtain ⟨-, h0, h1, -⟩ := idx_facts t
  funext j
  unfold iblk
  rw [View.read_apply]
  entry_read
  show m (c.tc.loc main_arg0) _ = _
  congr 1
  funext b
  apply Fin.ext
  match b with
  | ⟨0, _⟩ => show win0_1.index t 0 * 512 + 1 * (j 0).val = t.val % 9 * 512 + (j 0).val; rw [h0]; omega
  | ⟨1, _⟩ => show win0_1.index t 1 * 5376 + 1 * (j 1).val = (j 1).val; rw [h1]; omega

/-- A vector laid out in row blocks of 4 by 128, read at an index. -/
theorem cast_blocks (x : Vec Ideal S4608 .f32) (a : Fin 9) (b : Fin 4) (d : Fin 128) :
    shapeCast S9x4x128 x shapeCasts_S4608_S9x4x128 (ix3 a b d)
      = x (ix1 ⟨a.val * 512 + b.val * 128 + d.val, by have := a.isLt; have := b.isLt; have := d.isLt; omega⟩) := by
  pointwise

/-- Window 2's block is the scales of those rows, -/
theorem blk2 (c : Dev nD) (t : Fin cfg0.N) : (iblk m c 2 t : Vec Ideal S1x4x128 .f32)
    = fun j => (m (c.tc.loc main_arg1) : Vec Ideal S4608 .f32) (ix1 (row t ⟨(j 1).val * 128 + (j 2).val, by
        have h1 : (j 1).val < 4 := (j 1).isLt; have h2 : (j 2).val < 128 := (j 2).isLt; omega⟩)) := by
  obtain ⟨-, -, -, h0, h1, h2, -⟩ := idx_facts t
  funext j
  have hj : (j 0).val < 1 := (j 0).isLt
  unfold iblk
  rw [View.read_apply]
  entry_read
  have e : (((View.whole main_v1).slice ((win0 2).rect t)).emb j : S9x4x128.Idx)
      = ix3 ⟨t.val % 9, Nat.mod_lt _ (by decide)⟩ (j 1) (j 2) := by
    funext b
    apply Fin.ext
    match b with
    | ⟨0, _⟩ => show win0_2.index t 0 * 1 + 1 * (j 0).val = t.val % 9; rw [h0]; omega
    | ⟨1, _⟩ => show win0_2.index t 1 * 4 + 1 * (j 1).val = (j 1).val; rw [h1]; omega
    | ⟨2, _⟩ => show win0_2.index t 2 * 128 + 1 * (j 2).val = (j 2).val; rw [h2]; omega
  show (shapeCast S9x4x128 (m (c.tc.loc main_arg1)) shapeCasts_S4608_S9x4x128) _ = _
  rw [e]
  refine (cast_blocks _ _ _ _).trans ?_
  congr 2
  apply Fin.ext
  show t.val % 9 * 512 + (j 1).val * 128 + (j 2).val = t.val % 9 * 512 + ((j 1).val * 128 + (j 2).val)
  omega

/-- Window 3's block is 1024 columns of the weights, -/
theorem blk3 (c : Dev nD) (t : Fin cfg0.N) : (iblk m c 3 t : Vec Ideal S5376x1024 .fp8e4m3)
    = fun j => (m (c.tc.loc main_arg2) : Vec Ideal S5376x5120 .fp8e4m3) (ix2 (j 0) (colm t (j 1))) := by
  obtain ⟨-, -, -, -, -, -, h0, h1, -⟩ := idx_facts t
  funext j
  unfold iblk
  rw [View.read_apply]
  entry_read
  show m (c.tc.loc main_arg2) _ = _
  congr 1
  funext b
  apply Fin.ext
  match b with
  | ⟨0, _⟩ => show win0_3.index t 0 * 5376 + 1 * (j 0).val = (j 0).val; rw [h0]; omega
  | ⟨1, _⟩ => show win0_3.index t 1 * 1024 + 1 * (j 1).val = t.val / 9 * 1024 + (j 1).val; rw [h1]; omega

/-- A vector laid out as one row, read at an index. -/
theorem cast_row (x : Vec Ideal S5120 .f32) (l : Fin 5120) :
    shapeCast S1x5120 x shapeCasts_S5120_S1x5120 (ix2 0 l) = x (ix1 l) := by
  pointwise

/-- Window 4's block is the scales of those columns, -/
theorem blk4 (c : Dev nD) (t : Fin cfg0.N) : (iblk m c 4 t : Vec Ideal S1x1024 .f32)
    = fun j => (m (c.tc.loc main_arg3) : Vec Ideal S5120 .f32) (ix1 (colm t (j 1))) := by
  obtain ⟨-, -, -, -, -, -, -, -, h0, h1, -⟩ := idx_facts t
  funext j
  have hj : (j 0).val < 1 := (j 0).isLt
  unfold iblk
  rw [View.read_apply]
  entry_read
  have e : (((View.whole main_v0).slice ((win0 4).rect t)).emb j : S1x5120.Idx) = ix2 0 (colm t (j 1)) := by
    funext b
    apply Fin.ext
    match b with
    | ⟨0, _⟩ => show win0_4.index t 0 * 1 + 1 * (j 0).val = 0; rw [h0]; omega
    | ⟨1, _⟩ => show win0_4.index t 1 * 1024 + 1 * (j 1).val = t.val / 9 * 1024 + (j 1).val; rw [h1]; omega
  show (shapeCast S1x5120 (m (c.tc.loc main_arg3)) shapeCasts_S5120_S1x5120) _ = _
  rw [e]
  exact cast_row _ _

/-- and window 5's block is the residual there. -/
theorem blk5 (c : Dev nD) (t : Fin cfg0.N) : (iblk m c 5 t : Vec Ideal S512x1024 .f32)
    = fun j => (m (c.tc.loc main_arg4) : Vec Ideal S4608x5120 .f32) (ix2 (row t (j 0)) (colm t (j 1))) := by
  obtain ⟨-, -, -, -, -, -, -, -, -, -, h0, h1, -⟩ := idx_facts t
  funext j
  unfold iblk
  rw [View.read_apply]
  entry_read
  show m (c.tc.loc main_arg4) _ = _
  congr 1
  funext b
  apply Fin.ext
  match b with
  | ⟨0, _⟩ => show win0_5.index t 0 * 512 + 1 * (j 0).val = t.val % 9 * 512 + (j 0).val; rw [h0]; omega
  | ⟨1, _⟩ => show win0_5.index t 1 * 1024 + 1 * (j 1).val = t.val / 9 * 1024 + (j 1).val; rw [h1]; omega

/-- The array the kernel leaves, as the plain formula of the arguments. -/
abbrev result (c : Dev nD) : Buf (Elt Ideal) ((c : Thread nD τ).loc main_v2) :=
  down (m (c.tc.loc main_arg0)) (m (c.tc.loc main_arg1)) (m (c.tc.loc main_arg2)) (m (c.tc.loc main_arg3)) (m (c.tc.loc main_arg4))
    (m (c.tc.loc main_arg5))

/-- The payload of point `t`, read at an index of the block, is that formula at the index of the array. -/
theorem pay_eq (c : Dev nD) (t : Fin cfg0.N) (j : S512x1024.Idx) :
    k0_pay1 (F := Ideal) (iblk m c 2 t) (iblk m c 1 t) (iblk m c 3 t) (iblk m c 5 t) (iblk m c 4 t)
      ((iblk m c 0 t : Vec Ideal S12 .f32) (ix1 6)) j = result m c (ix2 (row t (j 0)) (colm t (j 1))) := by
  rw [blk0, blk1, blk2, blk3, blk4, blk5, pay_apply]
  have e : (⟨(j 0).val / 128 * 128 + (j 0).val % 128, by have : (j 0).val < 512 := (j 0).isLt; omega⟩ : Fin 512) = j 0 :=
    Fin.ext (Nat.div_add_mod' _ _)
  show _ + _ * (m (c.tc.loc main_arg1) : Vec Ideal S4608 .f32) (ix1 (row t ⟨(j 0).val / 128 * 128 + (j 0).val % 128, _⟩)) * _ * _ = _
  rw [e]
  rfl

/-- What point `t` writes back is block `t` of it. -/
theorem flushed_eq (c : Dev nD) (t : Fin cfg0.N) (_ : (cfg0.win 6).flush t = true) :
    (dats m 0 c).flushed 6 t = ((cfg0.win 6).blk t).view.read (Elt Ideal) (result m c) := by
  obtain ⟨-, -, -, -, -, -, -, -, -, -, -, -, h0, h1⟩ := idx_facts t
  rw [Value.flushed6, out_pay]
  funext j
  rw [View.read_apply]
  refine (pay_eq m c t j).trans (congrArg (result m c) (Eq.symm ?_))
  funext b
  apply Fin.ext
  match b with
  | ⟨0, _⟩ => show win0_6.index t 0 * 512 + 1 * (j 0).val = t.val % 9 * 512 + (j 0).val; rw [h0]; omega
  | ⟨1, _⟩ => show win0_6.index t 1 * 1024 + 1 * (j 1).val = t.val / 9 * 1024 + (j 1).val; rw [h1]; omega

/-- Every index lies in one of the 45 blocks. -/
theorem cover (i : S4608x5120.Idx) : ∃ t : Fin cfg0.N, (cfg0.win 6).flush t = true ∧ i ∈ ((cfg0.win 6).blk t).view.set := by
  have h0 : (i 0 : Nat) < 4608 := (i 0).isLt
  have h1 : (i 1 : Nat) < 5120 := (i 1).isLt
  have hN : cfg0.N = 45 := N_0
  obtain ⟨t, ht⟩ : ∃ t : Fin cfg0.N, t.val = (i 1 : Nat) / 1024 * 9 + (i 0 : Nat) / 512 := ⟨⟨_, by omega⟩, rfl⟩
  refine ⟨t, flush0_6 t, ?_⟩
  obtain ⟨-, -, -, -, -, -, -, -, -, -, -, -, e0, e1⟩ := idx_facts t
  show i ∈ ((View.whole main_v2).slice (win0_6.rect t)).set
  rw [View.set_slice_whole, Rect.mem_set_unit]
  intro a
  match a with
  | ⟨0, _⟩ => show win0_6.index t 0 * 512 ≤ (i 0 : Nat) ∧ (i 0 : Nat) < win0_6.index t 0 * 512 + 512; rw [e0]; omega
  | ⟨1, _⟩ => show win0_6.index t 1 * 1024 ≤ (i 1 : Nat) ∧ (i 1 : Nat) < win0_6.index t 1 * 1024 + 1024; rw [e1]; omega

/-- So the kernel's result array ends holding the formula everywhere. -/
theorem final (c : Dev nD) : (dats m 0 c).arrAt 6 cfg0.N = result m c :=
  (dats m 0 c).arrAt_eq_of_cover 6 (result m c) (flushed_eq m c) cover

end Cert.DownIdeal.Res

end
-- ==== Proof.DownReference.lean ====
/-
  The residual down projection's reference, read as values over the reals: the one whole-array product it computes is the
  plain formula of `Cert.Proof.DownSpec`.
-/
module

public import proofs.«01_k».proof.Proof.Gen.DownRefIdeal.Value
public import proofs.«01_k».proof.Proof.DownKernel
public import Idealize.ShloMosaic.Lib.Pointwise

@[expose] public section

noncomputable section

namespace Cert.DownRefIdeal.Res

open Cert.DownRefIdeal Cert.DownRefIdeal.Gen Cert.Proof.DownSpec
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

theorem hz : (![0, 0] : Fin 2 → Nat) = fun _ => 0 := funext fun a => by fin_cases a <;> rfl

/-- The payload of the body's one store, at an index. -/
theorem pay_apply (v0 : Vec Ideal S4608x5120 .f32) (v1 : Vec Ideal S4608x5376 .fp8e4m3) (v2 : Vec Ideal S4608x1 .f32)
    (v4 : Vec Ideal S5376x5120 .fp8e4m3) (v5 : Vec Ideal S1x5120 .f32) (v12 : Vec Ideal S1x1 .f32) (j : S4608x5120.Idx) :
    k0_pay1 (F := Ideal) v0 v1 v2 v4 v5 v12 j
      = v0 j + (∑ k : Fin 5376, v1 (ix2 (j 0) k) * v4 (ix2 k (j 1))) * v2 (ix2 (j 0) 0) * v5 (ix2 0 (j 1)) * v12 (ix2 0 0) := by
  pointwise [k0_pay1]

/-- What the body leaves in its whole-array output is that payload. -/
theorem out_pay (x0 : Vec Ideal S4608x5376 .fp8e4m3) (x1 : Vec Ideal S4608x1 .f32) (x2 : Vec Ideal S5376x5120 .fp8e4m3)
    (x3 : Vec Ideal S1x5120 .f32) (x4 : Vec Ideal S4608x5120 .f32) (x5 : Vec Ideal S1x1 .f32) :
    out0_6 x0 x1 x2 x3 x4 x5 = k0_pay1 x4 x0 x1 x2 x3 x5 := by
  unfold out0_6
  rw [View.canon_unit_zero (S := S4608x5120) hz]
  simp only [View.ld_unit_zero (S := S4608x5376) hz, View.ld_unit_zero (S := S5376x5120) hz, View.ld_unit_zero (S := S4608x5120) hz,
    View.ld_unit_zero (S := S4608x1) hz, View.ld_unit_zero (S := S1x5120) hz, View.ld_unit_zero (S := S1x1) hz]

/-- Every window of the one point is its whole array. -/
theorem idx_facts : ∀ (t : Fin cfg0.N) (a : Fin 2), win0_0.index t a = 0 ∧ win0_1.index t a = 0 ∧ win0_2.index t a = 0
    ∧ win0_3.index t a = 0 ∧ win0_4.index t a = 0 ∧ win0_5.index t a = 0 ∧ win0_6.index t a = 0 :=
  (by decide +kernel : ∀ (t : Fin grid0.N) (a : Fin 2), win0_0.index t a = 0 ∧ win0_1.index t a = 0 ∧ win0_2.index t a = 0
    ∧ win0_3.index t a = 0 ∧ win0_4.index t a = 0 ∧ win0_5.index t a = 0 ∧ win0_6.index t a = 0)

theorem blk0 (c : Dev nD) (t : Fin cfg0.N) : iblk m c 0 t = (m (c.tc.loc main_arg0) : Vec Ideal S4608x5376 .fp8e4m3) := by
  unfold iblk
  entry_read
  have hz' : (fun a => win0_0.index t a * main_arg0.ty.shape.size a) = fun _ => 0 := funext fun a => by rw [(idx_facts t a).1]; simp
  exact Memref.read_access_unit_zero (Elt Ideal) main_arg0 hz' (fun a => by rw [congrFun hz' a]; simp) _

theorem blk1 (c : Dev nD) (t : Fin cfg0.N) :
    iblk m c 1 t = shapeCast S4608x1 (m (c.tc.loc main_arg1) : Vec Ideal S4608 .f32) shapeCasts_S4608_S4608x1 := by
  unfold iblk
  entry_read
  have hz' : (fun a => win0_1.index t a * main_v0.ty.shape.size a) = fun _ => 0 := funext fun a => by rw [(idx_facts t a).2.1]; simp
  exact Memref.read_access_unit_zero (Elt Ideal) main_v0 hz' (fun a => by rw [congrFun hz' a]; simp) _

theorem blk2 (c : Dev nD) (t : Fin cfg0.N) : iblk m c 2 t = (m (c.tc.loc main_arg2) : Vec Ideal S5376x5120 .fp8e4m3) := by
  unfold iblk
  entry_read
  have hz' : (fun a => win0_2.index t a * main_arg2.ty.shape.size a) = fun _ => 0 := funext fun a => by rw [(idx_facts t a).2.2.1]; simp
  exact Memref.read_access_unit_zero (Elt Ideal) main_arg2 hz' (fun a => by rw [congrFun hz' a]; simp) _

theorem blk3 (c : Dev nD) (t : Fin cfg0.N) :
    iblk m c 3 t = shapeCast S1x5120 (m (c.tc.loc main_arg3) : Vec Ideal S5120 .f32) shapeCasts_S5120_S1x5120 := by
  unfold iblk
  entry_read
  have hz' : (fun a => win0_3.index t a * main_v1.ty.shape.size a) = fun _ => 0 := funext fun a => by rw [(idx_facts t a).2.2.2.1]; simp
  exact Memref.read_access_unit_zero (Elt Ideal) main_v1 hz' (fun a => by rw [congrFun hz' a]; simp) _

theorem blk4 (c : Dev nD) (t : Fin cfg0.N) : iblk m c 4 t = (m (c.tc.loc main_arg4) : Vec Ideal S4608x5120 .f32) := by
  unfold iblk
  entry_read
  have hz' : (fun a => win0_4.index t a * main_arg4.ty.shape.size a) = fun _ => 0 := funext fun a => by rw [(idx_facts t a).2.2.2.2.1]; simp
  exact Memref.read_access_unit_zero (Elt Ideal) main_arg4 hz' (fun a => by rw [congrFun hz' a]; simp) _

theorem blk5 (c : Dev nD) (t : Fin cfg0.N) :
    iblk m c 5 t = shapeCast S1x1 (extractStridedSlice S1 ![6] (m (c.tc.loc main_arg5) : Vec Ideal S12 .f32) slices_S12_S1_6) shapeCasts_S1_S1x1 := by
  unfold iblk
  entry_read
  have hz' : (fun a => win0_5.index t a * main_v3.ty.shape.size a) = fun _ => 0 := funext fun a => by rw [(idx_facts t a).2.2.2.2.2.1]; simp
  exact Memref.read_access_unit_zero (Elt Ideal) main_v3 hz' (fun a => by rw [congrFun hz' a]; simp) _

/-- The array the reference leaves, as the plain formula of the arguments. -/
abbrev result (c : Dev nD) : Buf (Elt Ideal) ((c : Thread nD τ).loc main_v4) :=
  down (m (c.tc.loc main_arg0)) (m (c.tc.loc main_arg1)) (m (c.tc.loc main_arg2)) (m (c.tc.loc main_arg3)) (m (c.tc.loc main_arg4))
    (m (c.tc.loc main_arg5))

/-- The reshapes of the scales and of multiplier 6, read at an index. -/
theorem cast_col (x : Vec Ideal S4608 .f32) : shapeCast S4608x1 x shapeCasts_S4608_S4608x1 = fun j => x (ix1 (j 0)) := by
  funext j
  pointwise
theorem cast_row (x : Vec Ideal S5120 .f32) : shapeCast S1x5120 x shapeCasts_S5120_S1x5120 = fun j => x (ix1 (j 1)) := by
  funext j
  pointwise
theorem cast_one (x : Vec Ideal S12 .f32) :
    shapeCast S1x1 (extractStridedSlice S1 ![6] x slices_S12_S1_6) shapeCasts_S1_S1x1 = fun _ => x (ix1 6) := by
  funext j
  pointwise

/-- The payload at the arguments is the formula. -/
theorem pay_eq (c : Dev nD) (t : Fin cfg0.N) :
    out0_6 (iblk m c 0 t) (iblk m c 1 t) (iblk m c 2 t) (iblk m c 3 t) (iblk m c 4 t) (iblk m c 5 t) = result m c := by
  rw [out_pay, blk0, blk1, blk2, blk3, blk4, blk5, cast_col, cast_row, cast_one]
  funext j
  rw [pay_apply]
  rfl

theorem flushed_eq (c : Dev nD) (t : Fin cfg0.N) (_ : (cfg0.win 6).flush t = true) :
    (dats m 0 c).flushed 6 t = ((cfg0.win 6).blk t).view.read (Elt Ideal) (result m c) := by
  rw [Value.flushed6, pay_eq]
  have hz' : (fun a => win0_6.index t a * main_v4.ty.shape.size a) = fun _ => 0 := funext fun a => by rw [(idx_facts t a).2.2.2.2.2.2]; simp
  exact (Memref.read_access_unit_zero (Elt Ideal) main_v4 hz' (fun a => by rw [congrFun hz' a]; simp) (result m c)).symm

theorem cover (i : S4608x5120.Idx) : ∃ t : Fin cfg0.N, (cfg0.win 6).flush t = true ∧ i ∈ ((cfg0.win 6).blk t).view.set := by
  have h0 : (i 0 : Nat) < 4608 := (i 0).isLt
  have h1 : (i 1 : Nat) < 5120 := (i 1).isLt
  have hN : cfg0.N = 1 := N_0
  have t : Fin cfg0.N := ⟨0, by omega⟩
  refine ⟨t, flush0_6 t, ?_⟩
  show i ∈ ((View.whole main_v4).slice (win0_6.rect t)).set
  rw [View.set_slice_whole, Rect.mem_set_unit]
  intro a
  have e := (idx_facts t a).2.2.2.2.2.2
  match a with
  | ⟨0, _⟩ => show win0_6.index t 0 * 4608 ≤ (i 0 : Nat) ∧ (i 0 : Nat) < win0_6.index t 0 * 4608 + 4608; rw [show win0_6.index t 0 = 0 from e]; omega
  | ⟨1, _⟩ => show win0_6.index t 1 * 5120 ≤ (i 1 : Nat) ∧ (i 1 : Nat) < win0_6.index t 1 * 5120 + 5120; rw [show win0_6.index t 1 = 0 from e]; omega

/-- So the reference's result array ends holding the formula. -/
theorem final (c : Dev nD) : (dats m 0 c).arrAt 6 cfg0.N = result m c :=
  (dats m 0 c).arrAt_eq_of_cover 6 (result m c) (flushed_eq m c) cover

end Cert.DownRefIdeal.Res

end
-- ==== Proof.DownClaims.lean ====
/-
  The claims of the residual down projection.
-/
module

public import proofs.«01_k».proof.Defs
public import proofs.«01_k».proof.Proof.Gen.Down.Frame
public import proofs.«01_k».proof.Proof.DownKernel
public import proofs.«01_k».proof.Proof.DownReference

@[expose] public section

noncomputable section

namespace Cert.Proof.DownClaims

open Idealize.ShloMosaic Idealize.ShloMosaic.TcCoe Idealize.SL Idealize.SL.Sem

/-- The kernel terminates, leaves every semaphore at zero and its arguments as they were; so do its idealization and the
    reference's. -/
theorem frame_p : Cert.quiescent_Down := fun m ρ _ => Cert.Down.Gen.frame m ρ
theorem frame_pi : Cert.quiescent_DownIdeal := fun m ρ _ => Cert.DownIdeal.Gen.frame m ρ
theorem frame_ri : Cert.quiescent_DownRefIdeal := fun m ρ _ => Cert.DownRefIdeal.Gen.frame m ρ

/-- The idealization rewrote nothing. -/
theorem preserves : Cert.preserves_Down_DownIdeal := trivial

/-- Over the reals the kernel and the reference end with the same result, the formula `down` of the arguments. -/
theorem algebraic : Cert.algebraic_DownIdeal_DownRefIdeal := by
  intro m ρ m' ρ' _ hag
  refine ⟨fun c => Cert.DownIdeal.Res.result m c,
    (θ_run Cert.DownIdeal.defs _ _).mono (fun _ h c => ⟨(h c).1.trans (Cert.DownIdeal.Res.final m c), (h c).2⟩)
      (Cert.DownIdeal.Value.run_blocks m ρ),
    (θ_run Cert.DownRefIdeal.defs _ _).mono (fun _ h c => ⟨(h c).1.trans ((Cert.DownRefIdeal.Res.final m' c).trans ?_), (h c).2⟩)
      (Cert.DownRefIdeal.Value.run_blocks m' ρ')⟩
  obtain ⟨h0, h1, h2, h3, h4, h5⟩ := hag c
  unfold Cert.DownRefIdeal.Res.result
  rw [h0, h1, h2, h3, h4, h5]

end Cert.Proof.DownClaims

end
-- ==== Proof.GateUpBitsRuns.lean ====
/-
  The gate and up projections' kernel: its body run once per case of its conditional, with the scratch buffer named, as the program
  is before idealization.
-/
module

public import proofs.«01_k».proof.Proof.Gen.GateUp.Frame
public import proofs.«01_k».proof.Proof.Gen.GateUp.Skeleton

@[expose] public section

set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 6 (mod 7) — by arithmetic of the point. -/
theorem hcond0_0 : ∀ t : Fin cfg0.N, cond0_0 (grid0.coords t) ↔ t.val % 7 = 6 :=
  (fun t => by
    have ht : t.val < 63 := Nat.lt_of_lt_of_eq t.isLt N_0
    have e0 : (grid0.coords t 0).val = t.val / 7 % 9 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val % 7 = 6)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S12 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x5120 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5120x768 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5120x768 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x768 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x5376 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S7x512x768 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The kernel body at a grid point that is not the last of its row block: from the inputs at `x0 … x6` and the scratch at
    `xs`, it ends with the inputs as they were, the two outputs at anything and the scratch at `xs` overwritten by the pieces
    `LS`, which the run finds. -/
noncomputable def kernelRun0_A (c : Dev nD) (i : grid0.Coords) (arg2 : Memref sig .tc .smem S12 .f32) (harg2 : arg2.IsWhole) (arg3 : Memref sig .tc .vmem S512x5120 .fp8e4m3) (harg3 : arg3.IsWhole) (arg4 : Memref sig .tc .vmem S1x4x128 .f32) (harg4 : arg4.IsWhole) (arg5 : Memref sig .tc .vmem S5120x768 .fp8e4m3) (harg5 : arg5.IsWhole) (arg6 : Memref sig .tc .vmem S1x768 .f32) (harg6 : arg6.IsWhole) (arg7 : Memref sig .tc .vmem S5120x768 .fp8e4m3) (harg7 : arg7.IsWhole) (arg8 : Memref sig .tc .vmem S1x768 .f32) (harg8 : arg8.IsWhole) (arg9 : Memref sig .tc .vmem S512x5376 .fp8e4m3) (harg9 : arg9.IsWhole) (arg10 : Memref sig .tc .vmem S1x4x128 .f32) (harg10 : arg10.IsWhole) (arg11 : Memref sig .tc .vmem S7x512x768 .f32) (harg11 : arg11.IsWhole) (hc0 : ¬cond0_0 i)
    (x0 : Vec F S12 .f32) (x1 : Vec F S512x5120 .fp8e4m3) (x2 : Vec F S1x4x128 .f32) (x3 : Vec F S5120x768 .fp8e4m3) (x4 : Vec F S1x768 .f32) (x5 : Vec F S5120x768 .fp8e4m3) (x6 : Vec F S1x768 .f32) (xs : Vec F S7x512x768 .f32) :
    { LS : List (View.Piece (Elt F) S7x512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (arg11.view.loc (c : Thread nD τ) ↦[arg11.view.set]{fullShare} arg11.view.writes (Elt F) (harg11.unread xs) LS)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨?_, fun E K => ?run⟩
  case run =>
    simp only [cc0_gate_up_eq_skeleton]; unfold cc0_gate_up_skel
    simp only [k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    iexact HS0

set_option maxHeartbeats 1000000 in
/-- The kernel body at the last grid point of a row block: as above, and the two outputs hold the pieces `L7` and `L8`. -/
noncomputable def kernelRun0_B (c : Dev nD) (i : grid0.Coords) (arg2 : Memref sig .tc .smem S12 .f32) (harg2 : arg2.IsWhole) (arg3 : Memref sig .tc .vmem S512x5120 .fp8e4m3) (harg3 : arg3.IsWhole) (arg4 : Memref sig .tc .vmem S1x4x128 .f32) (harg4 : arg4.IsWhole) (arg5 : Memref sig .tc .vmem S5120x768 .fp8e4m3) (harg5 : arg5.IsWhole) (arg6 : Memref sig .tc .vmem S1x768 .f32) (harg6 : arg6.IsWhole) (arg7 : Memref sig .tc .vmem S5120x768 .fp8e4m3) (harg7 : arg7.IsWhole) (arg8 : Memref sig .tc .vmem S1x768 .f32) (harg8 : arg8.IsWhole) (arg9 : Memref sig .tc .vmem S512x5376 .fp8e4m3) (harg9 : arg9.IsWhole) (arg10 : Memref sig .tc .vmem S1x4x128 .f32) (harg10 : arg10.IsWhole) (arg11 : Memref sig .tc .vmem S7x512x768 .f32) (harg11 : arg11.IsWhole) (hc0 : cond0_0 i)
    (x0 : Vec F S12 .f32) (x1 : Vec F S512x5120 .fp8e4m3) (x2 : Vec F S1x4x128 .f32) (x3 : Vec F S5120x768 .fp8e4m3) (x4 : Vec F S1x768 .f32) (x5 : Vec F S5120x768 .fp8e4m3) (x6 : Vec F S1x768 .f32) (xs : Vec F S7x512x768 .f32) :
    Σ' (L7 : List (View.Piece (Elt F) S512x5376 .fp8e4m3)), Σ' (L8 : List (View.Piece (Elt F) S1x4x128 .f32)), { LS : List (View.Piece (Elt F) S7x512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (arg11.view.loc (c : Thread nD τ) ↦[arg11.view.set]{fullShare} arg11.view.writes (Elt F) (harg11.unread xs) LS)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_gate_up_eq_skeleton]; unfold cc0_gate_up_skel
    simp only [k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexact HS0

end Cert.GateUp.Gen

end
-- ==== Proof.GateUpBitsFrame.lean ====
/-
  The gate and up projections' kernel at any values of its floats: the pipeline's run, with nothing said of what the scratch buffer and the
  two outputs hold. It terminates, leaves every semaphore at zero and its arguments as they were.
-/
module

public import proofs.«01_k».proof.Proof.GateUpBitsRuns
public import proofs.«01_k».proof.Proof.Gen.GateUp.Launch
public import proofs.«01_k».proof.Proof.Gen.GateUp.Points
public import Idealize.ShloMosaic.Lib.Claim
public import Idealize.ShloMosaic.Lib.Pipeline.DatRel
public import Idealize.ShloMosaic.Lib.Pipeline.ArrRel

@[expose] public section

set_option maxRecDepth 16384

noncomputable section

namespace Cert.GateUp.Res

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays end unchanged, from a run to the pipeline's final state under relational proof data. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 1 rfl).trans ((hA c 1).trans (V_main_arg0 m c)),
      ((h c).2 main_arg1 (Pipeline.mem_restRefs_of main_arg1 (by decide) (by decide))).trans (V_main_arg1 m c),
      (Pipeline.RDat.FramePost.arr_in h c 3 rfl).trans ((hA c 3).trans (V_main_arg2 m c)),
      ((h c).2 main_arg3 (Pipeline.mem_restRefs_of main_arg3 (by decide) (by decide))).trans (V_main_arg3 m c),
      (Pipeline.RDat.FramePost.arr_in h c 5 rfl).trans ((hA c 5).trans (V_main_arg4 m c)),
      ((h c).2 main_arg5 (Pipeline.mem_restRefs_of main_arg5 (by decide) (by decide))).trans (V_main_arg5 m c),
      (Pipeline.RDat.FramePost.arr_in h c 0 rfl).trans ((hA c 0).trans (V_main_arg6 m c))⟩) h

/-! ## The pipeline's proof data -/

/-- The two output windows, of which nothing is stated. -/
def marked : Fin 9 → Bool := fun w => w.val == 7 || w.val == 8

/-- What a point leaves in an output window: anything. -/
def leaves0 (w : Fin cfg0.W) (t : Fin cfg0.N) : ((cfg0.win w).block.Idx → Elt F (cfg0.win w).elt) → Prop := fun _ => True

/-- The proof data of the pipeline on core `c`: each input at its block, the scratch buffer owned. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ n := iprop(∃ xs, owns (c : Thread nD τ) scM0_0 fullShare xs ∗ (∃ r, prngReg c r))
  q _ := fullShare
  owed _ := 0

theorem A_eq (c : Dev nD) (w : Fin cfg0.W) : (dats m c).A w = V m c (Pipeline.arrRef spec0 w) := by
  dsimp only [dats]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = iblk m c 4 t := by dsimp only [dats]
theorem after0_5 (c : Dev nD) (t : Fin cfg0.N) : (dats m c).after 5 t = iblk m c 5 t := by dsimp only [dats]
theorem after0_6 (c : Dev nD) (t : Fin cfg0.N) : (dats m c).after 6 t = iblk m c 6 t := by dsimp only [dats]

theorem before0_0 (c : Dev nD) (t : Fin cfg0.N) (d) : (dats m c).before 0 t d = iblk m c 0 t :=
  before0_0_of m (dats m c) (A_eq m c 0) (after0_0 m c) t d
theorem before0_1 (c : Dev nD) (t : Fin cfg0.N) (d) : (dats m c).before 1 t d = iblk m c 1 t :=
  before0_1_of m (dats m c) (A_eq m c 1) (after0_1 m c) t d
theorem before0_2 (c : Dev nD) (t : Fin cfg0.N) (d) : (dats m c).before 2 t d = iblk m c 2 t :=
  before0_2_of m (dats m c) (A_eq m c 2) (after0_2 m c) t d
theorem before0_3 (c : Dev nD) (t : Fin cfg0.N) (d) : (dats m c).before 3 t d = iblk m c 3 t :=
  before0_3_of m (dats m c) (A_eq m c 3) (after0_3 m c) t d
theorem before0_4 (c : Dev nD) (t : Fin cfg0.N) (d) : (dats m c).before 4 t d = iblk m c 4 t :=
  before0_4_of m (dats m c) (A_eq m c 4) (after0_4 m c) t d
theorem before0_5 (c : Dev nD) (t : Fin cfg0.N) (d) : (dats m c).before 5 t d = iblk m c 5 t :=
  before0_5_of m (dats m c) (A_eq m c 5) (after0_5 m c) t d
theorem before0_6 (c : Dev nD) (t : Fin cfg0.N) (d) : (dats m c).before 6 t d = iblk m c 6 t :=
  before0_6_of m (dats m c) (A_eq m c 6) (after0_6 m c) t d

/-! ## The body's obligation -/

/-- What the body is called with at point `t`, -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d))
    ∗ (∃ d, owns (c : Thread nD τ) (ms0_5 t) fullShare ((dats m c).before 5 t d))
    ∗ (∃ d, owns (c : Thread nD τ) (ms0_6 t) fullShare ((dats m c).before 6 t d))
    ∗ (∃ Y, ⌜((dats m c).toRRel marked (leaves0)).Finds 7 t Y⌝ ∗ owns (c : Thread nD τ) (ms0_7 t) fullShare Y)
    ∗ (∃ Y, ⌜((dats m c).toRRel marked (leaves0)).Finds 8 t Y⌝ ∗ owns (c : Thread nD τ) (ms0_8 t) fullShare Y))

/-- and what it returns. -/
def bodyPost (c : Dev nD) (t : Fin cfg0.N) : sProp 𝕄 :=
  iprop((dats m c).Φ t.succ ∗ (dats m c).owesAt () t.succ
    ∗ owns (c : Thread nD τ) (ms0_0 t) fullShare ((dats m c).after 0 t)
    ∗ owns (c : Thread nD τ) (ms0_1 t) fullShare ((dats m c).after 1 t)
    ∗ owns (c : Thread nD τ) (ms0_2 t) fullShare ((dats m c).after 2 t)
    ∗ owns (c : Thread nD τ) (ms0_3 t) fullShare ((dats m c).after 3 t)
    ∗ owns (c : Thread nD τ) (ms0_4 t) fullShare ((dats m c).after 4 t)
    ∗ owns (c : Thread nD τ) (ms0_5 t) fullShare ((dats m c).after 5 t)
    ∗ owns (c : Thread nD τ) (ms0_6 t) fullShare ((dats m c).after 6 t)
    ∗ (∃ X : Vec F S512x5376 .fp8e4m3, ⌜True⌝ ∗ owns (c : Thread nD τ) (ms0_7 t) fullShare X)
    ∗ (∃ X : Vec F S1x4x128 .f32, ⌜True⌝ ∗ owns (c : Thread nD τ) (ms0_8 t) fullShare X))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6,
    after0_0, after0_1, after0_2, after0_3, after0_4, after0_5, after0_6]
  rw [show (dats m c).owesAt () t.succ = (dats m c).owesAt () t.castSucc from rfl,
    show (dats m c).Φ t.succ = iprop(∃ xs, owns (c : Thread nD τ) scM0_0 fullShare xs ∗ (∃ r, prngReg c r)) from rfl,
    show (dats m c).Φ t.castSucc = iprop(∃ xs, owns (c : Thread nD τ) scM0_0 fullShare xs ∗ (∃ r, prngReg c r)) from rfl]
  by_cases h0 : t.val % 7 = 6
  · skip
    iintro ⟨⟨%xs, HS0, Hg⟩, Ho, ⟨%d0, H0⟩, ⟨%d1, H1⟩, ⟨%d2, H2⟩, ⟨%d3, H3⟩, ⟨%d4, H4⟩, ⟨%d5, H5⟩, ⟨%d6, H6⟩, ⟨%d7, -, H7⟩, ⟨%d8, -, H8⟩⟩
    iapply ((kernelRun0_B (F := F) c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) xs).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    iintro ⟨H0, H1, H2, H3, H4, H5, H6, ⟨%f7, H7⟩, ⟨%f8, H8⟩, HS0⟩
    isplitl [HS0 Hg]
    · iexists _
      isplitl [HS0]
      · unfold owns
        iexists _
        isplitr
        swap
        · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _
      isplitr
      swap
      · unfold owns
        iexists _
        isplitr
        swap
        · iexact H7
        ipureintro; rfl
      ipureintro
      trivial
    iexists _
    isplitr
    swap
    · unfold owns
      iexists _
      isplitr
      swap
      · iexact H8
      ipureintro; rfl
    ipureintro
    trivial
  · skip
    iintro ⟨⟨%xs, HS0, Hg⟩, Ho, ⟨%d0, H0⟩, ⟨%d1, H1⟩, ⟨%d2, H2⟩, ⟨%d3, H3⟩, ⟨%d4, H4⟩, ⟨%d5, H5⟩, ⟨%d6, H6⟩, ⟨%d7, -, H7⟩, ⟨%d8, -, H8⟩⟩
    iapply ((kernelRun0_A (F := F) c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) xs).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    iintro ⟨H0, H1, H2, H3, H4, H5, H6, H7, H8, HS0⟩
    isplitl [HS0 Hg]
    · iexists _
      isplitl [HS0]
      · unfold owns
        iexists _
        isplitr
        swap
        · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · icases H7 with ⟨%X, H7⟩
      iexists X
      isplitr
      · ipureintro; trivial
      iexact H7
    icases H8 with ⟨%X, H8⟩
    iexists X
    isplitr
    · ipureintro; trivial
    iexact H8

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) :
    BodyObligationRel (dats m c) (defs₀ (F := F)) Variants.none () Set.univ marked (leaves0) := fun t => by
  rw [bigSep_W0, bigSep_W0, defs₀_row]
  exact triple_restated (sound_body m c t) rfl .rfl fun _ => .rfl

/-! ## The run -/

/-- The proof data with the outputs held to what the last points leave. -/
abbrev rdats (c : Dev nD) : RDat τ (Elt F) Unit ℕ (UR sig nD τ) ℕ cfg0 c := (dats m c).toRRel marked (leaves0)

theorem hin (c : Dev nD) : (Pipeline.ΦA spec0 c : sProp 𝕄) ⊢ (rdats m c).Φ 0 := by
  rw [show (rdats m c).Φ 0 = iprop(∃ xs, owns (c : Thread nD τ) scM0_0 fullShare xs ∗ (∃ r, prngReg c r)) from rfl, PhiA0_eq]
  iintro ⟨⟨%xs, HS⟩, Hg⟩
  iexists xs
  isplitl [HS]; · iexact HS
  iexact Hg

theorem hout (c : Dev nD) : (rdats m c).Φ (Fin.last cfg0.N) ⊢ (Pipeline.ΦA spec0 c : sProp 𝕄) := by
  rw [show (rdats m c).Φ (Fin.last cfg0.N) = iprop(∃ xs, owns (c : Thread nD τ) scM0_0 fullShare xs ∗ (∃ r, prngReg c r)) from rfl, PhiA0_eq]
  iintro ⟨%xs, HS, Hg⟩
  isplitl [HS]; · iexists xs; iexact HS
  iexact Hg

set_option backward.isDefEq.respectTransparency.types false in
/-- Every execution terminates with the arrays as the proof data state them and every semaphore counter at zero. -/
theorem run_quiescent : θ_run defs (onTc (τ := τ) (main (F := F))) (s₀ m ρ)
    (fun r => (Pipeline.RDat.FramePost (cfgs 0) (fun c => rdats m c) (V m)) r ∧ r.2.sem = fun _ => 0) :=
  Pipeline.RDat.θ_run_frame_track (Q' := _) cfgs (0 : Fin 1) launch0 defs₀ Variants.none (fun c => rdats m c) m ρ main
    (hbody := fun c => (body_obligation m c).toRRel) (hshare := fun c => (dats m c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => rdats m c) (V m)) :=
  (θ_run defs _ _).mono (fun _ h => h.1) (run_quiescent m ρ)

/-- The kernel terminates, leaves every semaphore at zero and its arguments as they were. -/
theorem frame_quiescent : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  θ_run_and (frame_of_rel m ρ _ (A_eq m) (run_main m ρ))
    ((θ_run defs _ _).mono (fun _ h => h.2) (run_quiescent m ρ))

end Cert.GateUp.Res

end
-- ==== Proof.GateUpRuns.lean ====
/-
  The gate and up projections' kernel: its body run once per case of its conditional, with the scratch buffer named.
-/
module

public import proofs.«01_k».proof.Proof.Gen.GateUpIdeal.Frame
public import proofs.«01_k».proof.Proof.Gen.GateUpIdeal.Skeleton

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 6 (mod 7) — by arithmetic of the point. -/
theorem hcond0_0 : ∀ t : Fin cfg0.N, cond0_0 (grid0.coords t) ↔ t.val % 7 = 6 :=
  (fun t => by
    have ht : t.val < 63 := Nat.lt_of_lt_of_eq t.isLt N_0
    have e0 : (grid0.coords t 0).val = t.val / 7 % 9 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val % 7 = 6)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S12 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x5120 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5120x768 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5120x768 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x768 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x5376 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S7x512x768 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The kernel body at a grid point that is not the last of its row block: from the inputs at `x0 … x6` and the scratch at
    `xs`, it ends with the inputs as they were, the two outputs at anything and the scratch at `xs` overwritten by the pieces
    `LS`, which the run finds. -/
noncomputable def kernelRun0_A (c : Dev nD) (i : grid0.Coords) (arg2 : Memref sig .tc .smem S12 .f32) (harg2 : arg2.IsWhole) (arg3 : Memref sig .tc .vmem S512x5120 .fp8e4m3) (harg3 : arg3.IsWhole) (arg4 : Memref sig .tc .vmem S1x4x128 .f32) (harg4 : arg4.IsWhole) (arg5 : Memref sig .tc .vmem S5120x768 .fp8e4m3) (harg5 : arg5.IsWhole) (arg6 : Memref sig .tc .vmem S1x768 .f32) (harg6 : arg6.IsWhole) (arg7 : Memref sig .tc .vmem S5120x768 .fp8e4m3) (harg7 : arg7.IsWhole) (arg8 : Memref sig .tc .vmem S1x768 .f32) (harg8 : arg8.IsWhole) (arg9 : Memref sig .tc .vmem S512x5376 .fp8e4m3) (harg9 : arg9.IsWhole) (arg10 : Memref sig .tc .vmem S1x4x128 .f32) (harg10 : arg10.IsWhole) (arg11 : Memref sig .tc .vmem S7x512x768 .f32) (harg11 : arg11.IsWhole) (hc0 : ¬cond0_0 i)
    (x0 : Vec F S12 .f32) (x1 : Vec F S512x5120 .fp8e4m3) (x2 : Vec F S1x4x128 .f32) (x3 : Vec F S5120x768 .fp8e4m3) (x4 : Vec F S1x768 .f32) (x5 : Vec F S5120x768 .fp8e4m3) (x6 : Vec F S1x768 .f32) (xs : Vec F S7x512x768 .f32) :
    { LS : List (View.Piece (Elt F) S7x512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (arg11.view.loc (c : Thread nD τ) ↦[arg11.view.set]{fullShare} arg11.view.writes (Elt F) (harg11.unread xs) LS)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨?_, fun E K => ?run⟩
  case run =>
    simp only [cc0_gate_up_eq_skeleton]; unfold cc0_gate_up_skel
    simp only [k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    iexact HS0

set_option maxHeartbeats 1000000 in
/-- The kernel body at the last grid point of a row block: as above, and the two outputs hold the pieces `L7` and `L8`. -/
noncomputable def kernelRun0_B (c : Dev nD) (i : grid0.Coords) (arg2 : Memref sig .tc .smem S12 .f32) (harg2 : arg2.IsWhole) (arg3 : Memref sig .tc .vmem S512x5120 .fp8e4m3) (harg3 : arg3.IsWhole) (arg4 : Memref sig .tc .vmem S1x4x128 .f32) (harg4 : arg4.IsWhole) (arg5 : Memref sig .tc .vmem S5120x768 .fp8e4m3) (harg5 : arg5.IsWhole) (arg6 : Memref sig .tc .vmem S1x768 .f32) (harg6 : arg6.IsWhole) (arg7 : Memref sig .tc .vmem S5120x768 .fp8e4m3) (harg7 : arg7.IsWhole) (arg8 : Memref sig .tc .vmem S1x768 .f32) (harg8 : arg8.IsWhole) (arg9 : Memref sig .tc .vmem S512x5376 .fp8e4m3) (harg9 : arg9.IsWhole) (arg10 : Memref sig .tc .vmem S1x4x128 .f32) (harg10 : arg10.IsWhole) (arg11 : Memref sig .tc .vmem S7x512x768 .f32) (harg11 : arg11.IsWhole) (hc0 : cond0_0 i)
    (x0 : Vec F S12 .f32) (x1 : Vec F S512x5120 .fp8e4m3) (x2 : Vec F S1x4x128 .f32) (x3 : Vec F S5120x768 .fp8e4m3) (x4 : Vec F S1x768 .f32) (x5 : Vec F S5120x768 .fp8e4m3) (x6 : Vec F S1x768 .f32) (xs : Vec F S7x512x768 .f32) :
    Σ' (L7 : List (View.Piece (Elt F) S512x5376 .fp8e4m3)), Σ' (L8 : List (View.Piece (Elt F) S1x4x128 .f32)), { LS : List (View.Piece (Elt F) S7x512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (arg11.view.loc (c : Thread nD τ) ↦[arg11.view.set]{fullShare} arg11.view.writes (Elt F) (harg11.unread xs) LS)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_gate_up_eq_skeleton]; unfold cc0_gate_up_skel
    simp only [k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexact HS0

end Cert.GateUpIdeal.Gen

end
-- ==== Proof.GateUpSpec.lean ====
/-
  The quantised gate and up projections over the reals, index by index, and the row maximum taken in seven parts.
-/
module

public import Idealize.ShloMosaic.Lib.Pointwise

@[expose] public section

noncomputable section

namespace Cert.Proof.GateUpSpec

open Idealize.ShloMosaic

/-- The bit pattern of minus infinity, the start of a running maximum, as a value. -/
def low : EReal := Ideal.ofBits .f32 4286578688#32
/-- The bit pattern of 448, the largest code, as a value; -/
def top : EReal := Ideal.ofBits .f32 1138753536#32
/-- and that of -448. -/
def bot : EReal := Ideal.ofBits .f32 3286237184#32

/-- The scale of a group whose largest magnitude is `a`: `a / 448`, or one where `a` is zero. -/
def scaleOf (a : EReal) : EReal := if a = 0 then 1 else Ideal.div a top
/-- The code of a value `v` under the scale `s`: `v / s` brought into `[-448, 448]`. -/
def codeOf (v s : EReal) : EReal := min top (max bot (Ideal.div v s))

/-- The largest magnitude of the values `f`. -/
def rowMax {n : ℕ} (f : Fin n → EReal) : EReal := Finset.fold max low (fun x => FloatOps.absf (F := Ideal) (φ := .f32) (f x)) Finset.univ

/-- A running maximum over `A * B` values is the maximum of the `A` running maxima over `B` values each. -/
theorem le_fold_parts {A B : ℕ} (f : Fin A → Fin B → EReal) (g : Fin (A * B) → EReal) (hB : 0 < B)
    (h : ∀ k x, g ⟨k.val * B + x.val, by
      have := k.isLt; have := x.isLt
      calc k.val * B + x.val < k.val * B + B := by omega
        _ = (k.val + 1) * B := by ring
        _ ≤ A * B := Nat.mul_le_mul_right _ k.isLt⟩ = f k x) (c : EReal) :
    Finset.fold max low g Finset.univ ≤ c ↔ low ≤ c ∧ ∀ k, Finset.fold max low (f k) Finset.univ ≤ c := by
  simp only [Finset.fold_max_le, Finset.mem_univ, true_implies]
  constructor
  · rintro ⟨h0, h1⟩
    exact ⟨h0, fun k => ⟨h0, fun x => by rw [← h]; exact h1 _⟩⟩
  · rintro ⟨h0, h1⟩
    refine ⟨h0, fun y => ?_⟩
    have hy := y.isLt
    have hq : y.val / B < A := Nat.div_lt_of_lt_mul (lt_of_lt_of_eq hy (Nat.mul_comm A B))
    have e := h ⟨y.val / B, hq⟩ ⟨y.val % B, Nat.mod_lt _ hB⟩
    have ey : (⟨y.val / B * B + y.val % B, by rw [Nat.div_add_mod']; exact hy⟩ : Fin (A * B)) = y := Fin.ext (Nat.div_add_mod' _ _)
    rw [ey] at e
    rw [e]
    exact (h1 _).2 _

/-- The largest magnitude of a row of 5376 values is the largest of those of its seven parts of 768. -/
theorem rowMax_parts (f : Fin 7 → Fin 768 → EReal) (g : Fin 5376 → EReal)
    (h : ∀ (k : Fin 7) (x : Fin 768), g ⟨k.val * 768 + x.val, by have := k.isLt; have := x.isLt; omega⟩ = f k x) :
    max (max (max (max (max (max (rowMax (f 0)) (rowMax (f 1))) (rowMax (f 2))) (rowMax (f 3))) (rowMax (f 4))) (rowMax (f 5))) (rowMax (f 6))
      = rowMax g := by
  refine eq_of_forall_ge_iff fun c => ?_
  have := le_fold_parts (A := 7) (B := 768) (fun k x => FloatOps.absf (F := Ideal) (φ := .f32) (f k x))
    (fun y => FloatOps.absf (F := Ideal) (φ := .f32) (g y)) (by decide)
    (fun k x => congrArg _ (h k x)) c
  unfold rowMax
  rw [show Finset.fold max low (fun x => FloatOps.absf (F := Ideal) (φ := .f32) (g x)) Finset.univ ≤ c ↔ _ from this]
  simp only [max_le_iff]
  constructor
  · rintro ⟨⟨⟨⟨⟨⟨h0, h1⟩, h2⟩, h3⟩, h4⟩, h5⟩, h6⟩
    refine ⟨((Finset.fold_max_le _).mp h0).1, fun k => ?_⟩
    match k with
    | 0 => exact h0
    | 1 => exact h1
    | 2 => exact h2
    | 3 => exact h3
    | 4 => exact h4
    | 5 => exact h5
    | 6 => exact h6
  · rintro ⟨-, h⟩
    exact ⟨⟨⟨⟨⟨⟨h 0, h 1⟩, h 2⟩, h 3⟩, h 4⟩, h 5⟩, h 6⟩

/-- The activation over the reals at row `r`, column `j`: `g * logistic g * u`, with `g` the gate projection of the row's
    codes times the row's scale, the column's scale and multiplier 5, and `u` the up projection likewise, without multiplier. -/
def act (codes : Vec Ideal ⟨2, ![4608, 5120]⟩ .fp8e4m3) (s : Vec Ideal ⟨1, ![4608]⟩ .f32)
    (wg : Vec Ideal ⟨2, ![5120, 5376]⟩ .fp8e4m3) (wgs : Vec Ideal ⟨1, ![5376]⟩ .f32)
    (wu : Vec Ideal ⟨2, ![5120, 5376]⟩ .fp8e4m3) (wus : Vec Ideal ⟨1, ![5376]⟩ .f32)
    (mu : Vec Ideal ⟨1, ![12]⟩ .f32) (r : Fin 4608) (j : Fin 5376) : EReal :=
  (∑ k : Fin 5120, codes (ix2 r k) * wg (ix2 k j)) * s (ix1 r) * wgs (ix1 j) * mu (ix1 5)
    * Ideal.logistic ((∑ k : Fin 5120, codes (ix2 r k) * wg (ix2 k j)) * s (ix1 r) * wgs (ix1 j) * mu (ix1 5))
    * ((∑ k : Fin 5120, codes (ix2 r k) * wu (ix2 k j)) * s (ix1 r) * wus (ix1 j))

/-- The scale of each row of the activation, the rows laid out in blocks of 4 by 128, -/
def actScales (a : Fin 4608 → Fin 5376 → EReal) : Vec Ideal ⟨3, ![9, 4, 128]⟩ .f32 := fun i =>
  scaleOf (rowMax (a ⟨512 * (i 0).val + 128 * (i 1).val + (i 2).val, by
    have h0 : (i 0).val < 9 := (i 0).isLt; have h1 : (i 1).val < 4 := (i 1).isLt; have h2 : (i 2).val < 128 := (i 2).isLt; omega⟩))
/-- and its codes. -/
def actCodes (a : Fin 4608 → Fin 5376 → EReal) : Vec Ideal ⟨2, ![4608, 5376]⟩ .fp8e4m3 := fun i =>
  codeOf (a (i 0) (i 1)) (scaleOf (rowMax (a (i 0))))

end Cert.Proof.GateUpSpec

end
-- ==== Proof.GateUpPieces.lean ====
/-
  The gate and up projections' kernel over the reals: what one grid point leaves in the scratch buffer, and what the last
  point of a row block leaves in the two outputs, as functions of the blocks read and of the scratch buffer's contents.
-/
module

public import proofs.«01_k».proof.Proof.GateUpRuns
public import proofs.«01_k».proof.Proof.GateUpSpec
public import Idealize.ShloMosaic.Lib.WritesUnit
public import Idealize.ShloMosaic.Lib.Pointwise

@[expose] public section

noncomputable section

namespace Cert.GateUpIdeal.Res

open Cert.GateUpIdeal Cert.GateUpIdeal.Gen Cert.Proof.GateUpSpec
open Idealize.ShloMosaic Idealize.ShloMosaic.TcCoe Idealize.ShloMosaic.Tactic
open Idealize.SL Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-- A point's block of the activation, from the blocks it reads. -/
def block (x0 : Vec Ideal S12 .f32) (x1 : Vec Ideal S512x5120 .fp8e4m3) (x2 : Vec Ideal S1x4x128 .f32) (x3 : Vec Ideal S5120x768 .fp8e4m3)
    (x4 : Vec Ideal S1x768 .f32) (x5 : Vec Ideal S5120x768 .fp8e4m3) (x6 : Vec Ideal S1x768 .f32) : Vec Ideal S1x512x768 .f32 :=
  k0_pay82 (F := Ideal) x2 x1 x3 x4 (x0 (ix1 5)) x1 x5 x6

/-- Row `p` of the scratch contents `X`, its seven slices side by side. -/
def rowOf (X : Vec Ideal S7x512x768 .f32) (p : Fin 512) : Fin 5376 → EReal := fun j =>
  X (ix3 ⟨j.val / 768, by have := j.isLt; omega⟩ p ⟨j.val % 768, Nat.mod_lt _ (by decide)⟩)

/-- The codes of the scratch contents, row by row, -/
def codes7 (X : Vec Ideal S7x512x768 .f32) : Vec Ideal S512x5376 .fp8e4m3 := fun y =>
  codeOf (rowOf X (y 0) (y 1)) (scaleOf (rowMax (rowOf X (y 0))))
/-- and the scale of each row. -/
def scale8 (X : Vec Ideal S7x512x768 .f32) : Vec Ideal S1x4x128 .f32 := fun y =>
  scaleOf (rowMax (rowOf X ⟨128 * (y 1).val + (y 2).val, by
    have h1 : (y 1).val < 4 := (y 1).isLt; have h2 : (y 2).val < 128 := (y 2).isLt; omega⟩))

/-- The scales of 128 rows from the rows' seven parts, as the body computes them, -/
def stripScale (v : Fin 7 → Vec Ideal S1x128x768 .f32) : FVec Ideal S128x1 .f32 :=
  k0_pay39 (F := Ideal) (k0_pay32 (v 0)) (k0_pay33 (v 1)) (k0_pay34 (v 2)) (k0_pay35 (v 3)) (k0_pay36 (v 4)) (k0_pay37 (v 5)) (k0_pay38 (v 6))
/-- and the codes of one part. -/
def stripCode (v : Fin 7 → Vec Ideal S1x128x768 .f32) (k : Fin 7) : FVec Ideal S128x768 .fp8e4m3 :=
  k0_pay21 (F := Ideal) (k0_pay1 (v k)) (stripScale v)

theorem part_apply (v : Vec Ideal S1x128x768 .f32) (j : S128x768.Idx) : k0_pay1 (F := Ideal) v j = v (ix3 0 (j 0) (j 1)) := by
  pointwise [k0_pay1]

theorem stripScale_apply (v : Fin 7 → Vec Ideal S1x128x768 .f32) (j : S128x1.Idx) :
    stripScale v j = scaleOf (max (max (max (max (max (max (rowMax fun x => v 0 (ix3 0 (j 0) x)) (rowMax fun x => v 1 (ix3 0 (j 0) x)))
      (rowMax fun x => v 2 (ix3 0 (j 0) x))) (rowMax fun x => v 3 (ix3 0 (j 0) x))) (rowMax fun x => v 4 (ix3 0 (j 0) x)))
      (rowMax fun x => v 5 (ix3 0 (j 0) x))) (rowMax fun x => v 6 (ix3 0 (j 0) x))) := by
  unfold stripScale scaleOf rowMax low top
  pointwise [k0_pay39, k0_pay32, k0_pay33, k0_pay34, k0_pay35, k0_pay36, k0_pay37, k0_pay38, k0_pay25, k0_pay26, k0_pay27, k0_pay28,
    k0_pay29, k0_pay30, k0_pay31]

theorem stripCode_apply (v : Fin 7 → Vec Ideal S1x128x768 .f32) (k : Fin 7) (j : S128x768.Idx) :
    stripCode v k j = codeOf (v k (ix3 0 (j 0) (j 1))) (stripScale v (ix2 (j 0) 0)) := by
  unfold stripCode codeOf bot top
  generalize stripScale v = w
  pointwise [k0_pay21, k0_pay1]

theorem inb_part (r : Fin 4) (k : Fin 7) : ∀ a, (![k.val, 128 * r.val, 0] : Fin 3 → Nat) a + S1x128x768.size a ≤ S7x512x768.size a := by
  have := r.isLt
  have := k.isLt
  intro a
  match a with
  | ⟨0, _⟩ => show k.val + 1 ≤ 7; omega
  | ⟨1, _⟩ => show 128 * r.val + 128 ≤ 512; omega
  | ⟨2, _⟩ => show 0 + 768 ≤ 768; omega

/-- The seven parts of row strip `r` of the scratch contents, as the body loads them. -/
def parts (X : Vec Ideal S7x512x768 .f32) (r : Fin 4) : Fin 7 → Vec Ideal S1x128x768 .f32 := fun k =>
  View.ld X (Rect.unit (s := S7x512x768) ![k.val, 128 * r.val, 0] S1x128x768.size (inb_part r k))

theorem parts_apply (X : Vec Ideal S7x512x768 .f32) (r : Fin 4) (k : Fin 7) (p : Fin 128) (x : Fin 768) :
    parts X r k (ix3 0 p x) = X (ix3 k ⟨128 * r.val + p.val, by have := r.isLt; have := p.isLt; omega⟩ x) := by
  unfold parts
  show X _ = X _
  congr 1
  funext a
  apply Fin.ext
  match a with
  | ⟨0, _⟩ => show k.val + 1 * 0 = k.val; omega
  | ⟨1, _⟩ => show 128 * r.val + 1 * p.val = 128 * r.val + p.val; omega
  | ⟨2, _⟩ => show 0 + 1 * x.val = x.val; omega

theorem strip_scale (X : Vec Ideal S7x512x768 .f32) (r : Fin 4) (p : Fin 128) :
    stripScale (parts X r) (ix2 p 0)
      = scaleOf (rowMax (rowOf X ⟨128 * r.val + p.val, by have := r.isLt; have := p.isLt; omega⟩)) := by
  refine (stripScale_apply _ _).trans (congrArg scaleOf (rowMax_parts (fun k x => parts X r k (ix3 0 p x)) _ fun k x => ?_))
  rw [parts_apply]
  unfold rowOf
  have hx : x.val < 768 := x.isLt
  congr 2
  · apply Fin.ext; show (k.val * 768 + x.val) / 768 = k.val; omega
  · apply Fin.ext; show (k.val * 768 + x.val) % 768 = x.val; omega

theorem inb_code (r : Fin 4) (k : Fin 7) : ∀ a, (![128 * r.val, 768 * k.val] : Fin 2 → Nat) a + S128x768.size a ≤ S512x5376.size a := by
  have := r.isLt
  have := k.isLt
  intro a
  match a with
  | ⟨0, _⟩ => show 128 * r.val + 128 ≤ 512; omega
  | ⟨1, _⟩ => show 768 * k.val + 768 ≤ 5376; omega

/-- The codes of part `k` of strip `r` are `codes7` at that place. -/
theorem code_piece (X : Vec Ideal S7x512x768 .f32) (r : Fin 4) (k : Fin 7) (x : S128x768.Idx) :
    stripCode (parts X r) k x = codes7 X ((Rect.unit (s := S512x5376) ![128 * r.val, 768 * k.val] S128x768.size (inb_code r k)).emb x) := by
  have hx0 : (x 0).val < 128 := (x 0).isLt
  have hx1 : (x 1).val < 768 := (x 1).isLt
  have hr := r.isLt
  have hk := k.isLt
  have e : (Rect.unit (s := S512x5376) ![128 * r.val, 768 * k.val] S128x768.size (inb_code r k)).emb x
      = (ix2 ⟨128 * r.val + (x 0).val, by omega⟩ ⟨k.val * 768 + (x 1).val, by omega⟩ : S512x5376.Idx) := by
    funext a
    apply Fin.ext
    match a with
    | ⟨0, _⟩ => show 128 * r.val + 1 * (x 0).val = 128 * r.val + (x 0).val; omega
    | ⟨1, _⟩ => show 768 * k.val + 1 * (x 1).val = k.val * 768 + (x 1).val; omega
  rw [e]
  refine (stripCode_apply _ _ _).trans ((congrArg₂ codeOf (parts_apply X r k (x 0) (x 1)) (strip_scale X r (x 0))).trans ?_)
  unfold codes7
  show codeOf _ _ = codeOf (rowOf X ⟨128 * r.val + (x 0).val, _⟩ ⟨k.val * 768 + (x 1).val, _⟩) (scaleOf (rowMax (rowOf X ⟨128 * r.val + (x 0).val, _⟩)))
  congr 1
  unfold rowOf
  congr 2
  · apply Fin.ext; show k.val = (k.val * 768 + (x 1).val) / 768; omega
  · apply Fin.ext; show (x 1).val = (k.val * 768 + (x 1).val) % 768; omega

theorem inb_scale (r : Fin 4) : ∀ a, (![0, r.val, 0] : Fin 3 → Nat) a + S1x1x128.size a ≤ S1x4x128.size a := by
  have := r.isLt
  intro a
  match a with
  | ⟨0, _⟩ => show 0 + 1 ≤ 1; omega
  | ⟨1, _⟩ => show r.val + 1 ≤ 4; omega
  | ⟨2, _⟩ => show 0 + 128 ≤ 128; omega

theorem scale_cast (w : FVec Ideal S128x1 .f32) (x : S1x1x128.Idx) : k0_pay24 (F := Ideal) w x = w (ix2 (x 2) 0) := by
  pointwise [k0_pay24]

/-- The scales of strip `r` are `scale8` at that place. -/
theorem scale_piece (X : Vec Ideal S7x512x768 .f32) (r : Fin 4) (x : S1x1x128.Idx) :
    k0_pay24 (F := Ideal) (stripScale (parts X r)) x
      = scale8 X ((Rect.unit (s := S1x4x128) ![0, r.val, 0] S1x1x128.size (inb_scale r)).emb x) := by
  have hx1 : (x 1).val < 1 := (x 1).isLt
  have hx2 : (x 2).val < 128 := (x 2).isLt
  refine (scale_cast _ _).trans ((strip_scale X r (x 2)).trans ?_)
  unfold scale8
  congr 3
  apply Fin.ext
  show 128 * r.val + (x 2).val = 128 * (r.val + 1 * (x 1).val) + (0 + 1 * (x 2).val)
  omega

set_option maxHeartbeats 1000000 in
/-- What a point leaves in the scratch buffer: the slice of its grid column is its block of the activation, the others
    are as before. -/
theorem scratch_A (c : Dev nD) (i : grid0.Coords) (a2 : Memref sig .tc .smem S12 .f32) (h2 : a2.IsWhole) (a3 : Memref sig .tc .vmem S512x5120 .fp8e4m3) (h3 : a3.IsWhole) (a4 : Memref sig .tc .vmem S1x4x128 .f32) (h4 : a4.IsWhole) (a5 : Memref sig .tc .vmem S5120x768 .fp8e4m3) (h5 : a5.IsWhole) (a6 : Memref sig .tc .vmem S1x768 .f32) (h6 : a6.IsWhole) (a7 : Memref sig .tc .vmem S5120x768 .fp8e4m3) (h7 : a7.IsWhole) (a8 : Memref sig .tc .vmem S1x768 .f32) (h8 : a8.IsWhole) (a9 : Memref sig .tc .vmem S512x5376 .fp8e4m3) (h9 : a9.IsWhole) (a10 : Memref sig .tc .vmem S1x4x128 .f32) (h10 : a10.IsWhole) (a11 : Memref sig .tc .vmem S7x512x768 .f32) (h11 : a11.IsWhole) (hc : ¬cond0_0 i)
    (x0 : Vec Ideal S12 .f32) (x1 : Vec Ideal S512x5120 .fp8e4m3) (x2 : Vec Ideal S1x4x128 .f32) (x3 : Vec Ideal S5120x768 .fp8e4m3) (x4 : Vec Ideal S1x768 .f32) (x5 : Vec Ideal S5120x768 .fp8e4m3) (x6 : Vec Ideal S1x768 .f32) (xs : Vec Ideal S7x512x768 .f32) (y : S7x512x768.Idx) :
    a11.view.read (Elt Ideal) (a11.view.writes (Elt Ideal) (h11.unread xs) (kernelRun0_A (F := Ideal) c i a2 h2 a3 h3 a4 h4 a5 h5 a6 h6 a7 h7 a8 h8 a9 h9 a10 h10 a11 h11 hc x0 x1 x2 x3 x4 x5 x6 xs).1) y
      = if (y 0).val = (i 1).val then block x0 x1 x2 x3 x4 x5 x6 (ix3 0 (y 1) (y 2)) else xs y := by
  unfold kernelRun0_A
  dsimp only
  sl_unfold_words
  refine (View.read_writes_cons_unit (s := S7x512x768) (off' := ![(i 1).val, 0, 0]) a11.view _ _ _ [] y ?_).trans ?_
  · funext a
    match a with
    | ⟨0, _⟩ =>
      have hi : (i 1).val < 7 := (i 1).isLt
      show (BitVec.ofNat 32 (i 1).val).toNat = (i 1).val
      rw [BitVec.toNat_ofNat]
      omega
    | ⟨1, _⟩ => rfl
    | ⟨2, _⟩ => rfl
  have hy0 : (y 0).val < 7 := (y 0).isLt
  have hy1 : (y 1).val < 512 := (y 1).isLt
  have hy2 : (y 2).val < 768 := (y 2).isLt
  by_cases hy : (y 0).val = (i 1).val
  · rw [if_pos hy, dif_pos (fun a => by
      match a with
      | ⟨0, _⟩ => show (i 1).val ≤ (y 0).val ∧ (y 0).val < (i 1).val + 1; omega
      | ⟨1, _⟩ => show 0 ≤ (y 1).val ∧ (y 1).val < 0 + 512; omega
      | ⟨2, _⟩ => show 0 ≤ (y 2).val ∧ (y 2).val < 0 + 768; omega)]
    simp only [View.readAt_eq_ld, h2.read_unread, h3.read_unread, h4.read_unread, h5.read_unread, h6.read_unread,
      h7.read_unread, h8.read_unread, View.ld_unit_zero (S := S1x4x128) hz3, View.ld_unit_zero (S := S512x5120) hz,
      View.ld_unit_zero (S := S5120x768) hz, View.ld_unit_zero (S := S1x768) hz]
    unfold block
    congr 1
    · congr 1
      show x0 _ = x0 _
      congr 1
      funext b
      match b with
      | ⟨0, _⟩ => rfl
    · funext a
      apply Fin.ext
      match a with
      | ⟨0, _⟩ => show (y 0).val - (i 1).val = 0; omega
      | ⟨1, _⟩ => show (y 1).val - 0 = (y 1).val; omega
      | ⟨2, _⟩ => show (y 2).val - 0 = (y 2).val; omega
  · rw [if_neg hy, dif_neg (fun h => hy (by
      have h0 := h (⟨0, (by decide : 0 < 3)⟩ : Fin 3)
      change (i 1).val ≤ (y 0).val ∧ (y 0).val < (i 1).val + 1 at h0
      omega)), View.writes_nil, h11.read_unread]

set_option maxHeartbeats 1000000 in
/-- What a point leaves in the scratch buffer: the slice of its grid column is its block of the activation, the others
    are as before. -/
theorem scratch_B (c : Dev nD) (i : grid0.Coords) (a2 : Memref sig .tc .smem S12 .f32) (h2 : a2.IsWhole) (a3 : Memref sig .tc .vmem S512x5120 .fp8e4m3) (h3 : a3.IsWhole) (a4 : Memref sig .tc .vmem S1x4x128 .f32) (h4 : a4.IsWhole) (a5 : Memref sig .tc .vmem S5120x768 .fp8e4m3) (h5 : a5.IsWhole) (a6 : Memref sig .tc .vmem S1x768 .f32) (h6 : a6.IsWhole) (a7 : Memref sig .tc .vmem S5120x768 .fp8e4m3) (h7 : a7.IsWhole) (a8 : Memref sig .tc .vmem S1x768 .f32) (h8 : a8.IsWhole) (a9 : Memref sig .tc .vmem S512x5376 .fp8e4m3) (h9 : a9.IsWhole) (a10 : Memref sig .tc .vmem S1x4x128 .f32) (h10 : a10.IsWhole) (a11 : Memref sig .tc .vmem S7x512x768 .f32) (h11 : a11.IsWhole) (hc : cond0_0 i)
    (x0 : Vec Ideal S12 .f32) (x1 : Vec Ideal S512x5120 .fp8e4m3) (x2 : Vec Ideal S1x4x128 .f32) (x3 : Vec Ideal S5120x768 .fp8e4m3) (x4 : Vec Ideal S1x768 .f32) (x5 : Vec Ideal S5120x768 .fp8e4m3) (x6 : Vec Ideal S1x768 .f32) (xs : Vec Ideal S7x512x768 .f32) (y : S7x512x768.Idx) :
    a11.view.read (Elt Ideal) (a11.view.writes (Elt Ideal) (h11.unread xs) (kernelRun0_B (F := Ideal) c i a2 h2 a3 h3 a4 h4 a5 h5 a6 h6 a7 h7 a8 h8 a9 h9 a10 h10 a11 h11 hc x0 x1 x2 x3 x4 x5 x6 xs).2.2.1) y
      = if (y 0).val = (i 1).val then block x0 x1 x2 x3 x4 x5 x6 (ix3 0 (y 1) (y 2)) else xs y := by
  unfold kernelRun0_B
  dsimp only
  sl_unfold_words
  refine (View.read_writes_cons_unit (s := S7x512x768) (off' := ![(i 1).val, 0, 0]) a11.view _ _ _ [] y ?_).trans ?_
  · funext a
    match a with
    | ⟨0, _⟩ =>
      have hi : (i 1).val < 7 := (i 1).isLt
      show (BitVec.ofNat 32 (i 1).val).toNat = (i 1).val
      rw [BitVec.toNat_ofNat]
      omega
    | ⟨1, _⟩ => rfl
    | ⟨2, _⟩ => rfl
  have hy0 : (y 0).val < 7 := (y 0).isLt
  have hy1 : (y 1).val < 512 := (y 1).isLt
  have hy2 : (y 2).val < 768 := (y 2).isLt
  by_cases hy : (y 0).val = (i 1).val
  · rw [if_pos hy, dif_pos (fun a => by
      match a with
      | ⟨0, _⟩ => show (i 1).val ≤ (y 0).val ∧ (y 0).val < (i 1).val + 1; omega
      | ⟨1, _⟩ => show 0 ≤ (y 1).val ∧ (y 1).val < 0 + 512; omega
      | ⟨2, _⟩ => show 0 ≤ (y 2).val ∧ (y 2).val < 0 + 768; omega)]
    simp only [View.readAt_eq_ld, h2.read_unread, h3.read_unread, h4.read_unread, h5.read_unread, h6.read_unread,
      h7.read_unread, h8.read_unread, View.ld_unit_zero (S := S1x4x128) hz3, View.ld_unit_zero (S := S512x5120) hz,
      View.ld_unit_zero (S := S5120x768) hz, View.ld_unit_zero (S := S1x768) hz]
    unfold block
    congr 1
    · congr 1
      show x0 _ = x0 _
      congr 1
      funext b
      match b with
      | ⟨0, _⟩ => rfl
    · funext a
      apply Fin.ext
      match a with
      | ⟨0, _⟩ => show (y 0).val - (i 1).val = 0; omega
      | ⟨1, _⟩ => show (y 1).val - 0 = (y 1).val; omega
      | ⟨2, _⟩ => show (y 2).val - 0 = (y 2).val; omega
  · rw [if_neg hy, dif_neg (fun h => hy (by
      have h0 := h (⟨0, (by decide : 0 < 3)⟩ : Fin 3)
      change (i 1).val ≤ (y 0).val ∧ (y 0).val < (i 1).val + 1 at h0
      omega)), View.writes_nil, h11.read_unread]

set_option maxHeartbeats 4000000 in
/-- What the last point of a row block leaves in the first output: computed from what the scratch buffer then holds. -/
theorem out_a9 (c : Dev nD) (i : grid0.Coords) (a2 : Memref sig .tc .smem S12 .f32) (h2 : a2.IsWhole) (a3 : Memref sig .tc .vmem S512x5120 .fp8e4m3) (h3 : a3.IsWhole) (a4 : Memref sig .tc .vmem S1x4x128 .f32) (h4 : a4.IsWhole) (a5 : Memref sig .tc .vmem S5120x768 .fp8e4m3) (h5 : a5.IsWhole) (a6 : Memref sig .tc .vmem S1x768 .f32) (h6 : a6.IsWhole) (a7 : Memref sig .tc .vmem S5120x768 .fp8e4m3) (h7 : a7.IsWhole) (a8 : Memref sig .tc .vmem S1x768 .f32) (h8 : a8.IsWhole) (a9 : Memref sig .tc .vmem S512x5376 .fp8e4m3) (h9 : a9.IsWhole) (a10 : Memref sig .tc .vmem S1x4x128 .f32) (h10 : a10.IsWhole) (a11 : Memref sig .tc .vmem S7x512x768 .f32) (h11 : a11.IsWhole) (hc : cond0_0 i)
    (x0 : Vec Ideal S12 .f32) (x1 : Vec Ideal S512x5120 .fp8e4m3) (x2 : Vec Ideal S1x4x128 .f32) (x3 : Vec Ideal S5120x768 .fp8e4m3) (x4 : Vec Ideal S1x768 .f32) (x5 : Vec Ideal S5120x768 .fp8e4m3) (x6 : Vec Ideal S1x768 .f32) (xs : Vec Ideal S7x512x768 .f32) (f : a9.view.ty.Contents (Elt Ideal)) :
    a9.view.read (Elt Ideal) (a9.view.writes (Elt Ideal) f (kernelRun0_B (F := Ideal) c i a2 h2 a3 h3 a4 h4 a5 h5 a6 h6 a7 h7 a8 h8 a9 h9 a10 h10 a11 h11 hc x0 x1 x2 x3 x4 x5 x6 xs).1)
      = codes7 (a11.view.read (Elt Ideal) (a11.view.writes (Elt Ideal) (h11.unread xs) (kernelRun0_B (F := Ideal) c i a2 h2 a3 h3 a4 h4 a5 h5 a6 h6 a7 h7 a8 h8 a9 h9 a10 h10 a11 h11 hc x0 x1 x2 x3 x4 x5 x6 xs).2.2.1)) := by
  obtain ⟨X, hX⟩ : ∃ X, X = a11.view.read (Elt Ideal) (a11.view.writes (Elt Ideal) (h11.unread xs) (kernelRun0_B (F := Ideal) c i a2 h2 a3 h3 a4 h4 a5 h5 a6 h6 a7 h7 a8 h8 a9 h9 a10 h10 a11 h11 hc x0 x1 x2 x3 x4 x5 x6 xs).2.2.1) := ⟨_, rfl⟩
  rw [← hX]
  revert hX
  unfold kernelRun0_B
  dsimp only
  sl_unfold_words
  intro hX
  simp only [View.readAt_eq_ld a11.view, ← hX]
  clear hX
  funext y
  refine View.read_writes_apply_of_pieces a9.view f (codes7 X) _ ?_ y ?_
  · simp only [List.forall_mem_cons]
    exact ⟨fun x => code_piece X ⟨3, by decide⟩ ⟨6, by decide⟩ x, fun x => code_piece X ⟨3, by decide⟩ ⟨5, by decide⟩ x, fun x => code_piece X ⟨3, by decide⟩ ⟨4, by decide⟩ x, fun x => code_piece X ⟨3, by decide⟩ ⟨3, by decide⟩ x, fun x => code_piece X ⟨3, by decide⟩ ⟨2, by decide⟩ x, fun x => code_piece X ⟨3, by decide⟩ ⟨1, by decide⟩ x, fun x => code_piece X ⟨3, by decide⟩ ⟨0, by decide⟩ x, fun x => code_piece X ⟨2, by decide⟩ ⟨6, by decide⟩ x, fun x => code_piece X ⟨2, by decide⟩ ⟨5, by decide⟩ x, fun x => code_piece X ⟨2, by decide⟩ ⟨4, by decide⟩ x, fun x => code_piece X ⟨2, by decide⟩ ⟨3, by decide⟩ x, fun x => code_piece X ⟨2, by decide⟩ ⟨2, by decide⟩ x, fun x => code_piece X ⟨2, by decide⟩ ⟨1, by decide⟩ x, fun x => code_piece X ⟨2, by decide⟩ ⟨0, by decide⟩ x, fun x => code_piece X ⟨1, by decide⟩ ⟨6, by decide⟩ x, fun x => code_piece X ⟨1, by decide⟩ ⟨5, by decide⟩ x, fun x => code_piece X ⟨1, by decide⟩ ⟨4, by decide⟩ x, fun x => code_piece X ⟨1, by decide⟩ ⟨3, by decide⟩ x, fun x => code_piece X ⟨1, by decide⟩ ⟨2, by decide⟩ x, fun x => code_piece X ⟨1, by decide⟩ ⟨1, by decide⟩ x, fun x => code_piece X ⟨1, by decide⟩ ⟨0, by decide⟩ x, fun x => code_piece X ⟨0, by decide⟩ ⟨6, by decide⟩ x, fun x => code_piece X ⟨0, by decide⟩ ⟨5, by decide⟩ x, fun x => code_piece X ⟨0, by decide⟩ ⟨4, by decide⟩ x, fun x => code_piece X ⟨0, by decide⟩ ⟨3, by decide⟩ x, fun x => code_piece X ⟨0, by decide⟩ ⟨2, by decide⟩ x, fun x => code_piece X ⟨0, by decide⟩ ⟨1, by decide⟩ x, fun x => code_piece X ⟨0, by decide⟩ ⟨0, by decide⟩ x, fun _ h => absurd h List.not_mem_nil⟩
  · exact View.cover_of_tiledL (s := S512x5376) _ S128x768.size (by sl_kernel_rfl) y

set_option maxHeartbeats 4000000 in
/-- What the last point of a row block leaves in the second output: computed from what the scratch buffer then holds. -/
theorem out_a10 (c : Dev nD) (i : grid0.Coords) (a2 : Memref sig .tc .smem S12 .f32) (h2 : a2.IsWhole) (a3 : Memref sig .tc .vmem S512x5120 .fp8e4m3) (h3 : a3.IsWhole) (a4 : Memref sig .tc .vmem S1x4x128 .f32) (h4 : a4.IsWhole) (a5 : Memref sig .tc .vmem S5120x768 .fp8e4m3) (h5 : a5.IsWhole) (a6 : Memref sig .tc .vmem S1x768 .f32) (h6 : a6.IsWhole) (a7 : Memref sig .tc .vmem S5120x768 .fp8e4m3) (h7 : a7.IsWhole) (a8 : Memref sig .tc .vmem S1x768 .f32) (h8 : a8.IsWhole) (a9 : Memref sig .tc .vmem S512x5376 .fp8e4m3) (h9 : a9.IsWhole) (a10 : Memref sig .tc .vmem S1x4x128 .f32) (h10 : a10.IsWhole) (a11 : Memref sig .tc .vmem S7x512x768 .f32) (h11 : a11.IsWhole) (hc : cond0_0 i)
    (x0 : Vec Ideal S12 .f32) (x1 : Vec Ideal S512x5120 .fp8e4m3) (x2 : Vec Ideal S1x4x128 .f32) (x3 : Vec Ideal S5120x768 .fp8e4m3) (x4 : Vec Ideal S1x768 .f32) (x5 : Vec Ideal S5120x768 .fp8e4m3) (x6 : Vec Ideal S1x768 .f32) (xs : Vec Ideal S7x512x768 .f32) (f : a10.view.ty.Contents (Elt Ideal)) :
    a10.view.read (Elt Ideal) (a10.view.writes (Elt Ideal) f (kernelRun0_B (F := Ideal) c i a2 h2 a3 h3 a4 h4 a5 h5 a6 h6 a7 h7 a8 h8 a9 h9 a10 h10 a11 h11 hc x0 x1 x2 x3 x4 x5 x6 xs).2.1)
      = scale8 (a11.view.read (Elt Ideal) (a11.view.writes (Elt Ideal) (h11.unread xs) (kernelRun0_B (F := Ideal) c i a2 h2 a3 h3 a4 h4 a5 h5 a6 h6 a7 h7 a8 h8 a9 h9 a10 h10 a11 h11 hc x0 x1 x2 x3 x4 x5 x6 xs).2.2.1)) := by
  obtain ⟨X, hX⟩ : ∃ X, X = a11.view.read (Elt Ideal) (a11.view.writes (Elt Ideal) (h11.unread xs) (kernelRun0_B (F := Ideal) c i a2 h2 a3 h3 a4 h4 a5 h5 a6 h6 a7 h7 a8 h8 a9 h9 a10 h10 a11 h11 hc x0 x1 x2 x3 x4 x5 x6 xs).2.2.1) := ⟨_, rfl⟩
  rw [← hX]
  revert hX
  unfold kernelRun0_B
  dsimp only
  sl_unfold_words
  intro hX
  simp only [View.readAt_eq_ld a11.view, ← hX]
  clear hX
  funext y
  refine View.read_writes_apply_of_pieces a10.view f (scale8 X) _ ?_ y ?_
  · simp only [List.forall_mem_cons]
    exact ⟨fun x => scale_piece X ⟨3, by decide⟩ x, fun x => scale_piece X ⟨2, by decide⟩ x, fun x => scale_piece X ⟨1, by decide⟩ x, fun x => scale_piece X ⟨0, by decide⟩ x, fun _ h => absurd h List.not_mem_nil⟩
  · exact View.cover_of_tiledL (s := S1x4x128) _ S1x1x128.size (by sl_kernel_rfl) y

end Cert.GateUpIdeal.Res

end
-- ==== Proof.GateUpFrame.lean ====
/-
  The gate and up projections' kernel over the reals: the pipeline's run. What the scratch buffer holds point by point is
  tracked, and the two outputs are held to what the last point of each row block leaves in them.
-/
module

public import proofs.«01_k».proof.Proof.GateUpPieces
public import proofs.«01_k».proof.Proof.Gen.GateUpIdeal.Launch
public import proofs.«01_k».proof.Proof.Gen.GateUpIdeal.Points
public import Idealize.ShloMosaic.Lib.Claim
public import Idealize.ShloMosaic.Lib.Pipeline.DatRel
public import Idealize.ShloMosaic.Lib.Pipeline.ArrRel

@[expose] public section

set_option maxRecDepth 16384

noncomputable section

namespace Cert.GateUpIdeal.Res

open Cert.GateUpIdeal Cert.GateUpIdeal.Gen Cert.Proof.GateUpSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

local notation "𝕄" => MT nD τ sig Unit (Elt Ideal) ℕ (UR sig nD τ) ℕ

variable (m : (ℓ : Loc nD τ sig) → Buf (Elt Ideal) ℓ) (ρ : Dev nD → PrngReg)

/-- The argument arrays end unchanged, from a run to the pipeline's final state under relational proof data. -/
theorem frame_of_rel (rdat : (c : Dev nD) → Pipeline.RDat τ (Elt Ideal) Unit ℕ (UR sig nD τ) ℕ (cfgs 0) c)
    (hA : ∀ c w, (rdat c).A w = V m c (Pipeline.arrRef spec0 w))
    (h : θ_run defs (onTc (τ := τ) (main (F := Ideal))) (s₀ m ρ) (Pipeline.RDat.FramePost (cfgs 0) rdat (V m))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 1 rfl).trans ((hA c 1).trans (V_main_arg0 m c)),
      ((h c).2 main_arg1 (Pipeline.mem_restRefs_of main_arg1 (by decide) (by decide))).trans (V_main_arg1 m c),
      (Pipeline.RDat.FramePost.arr_in h c 3 rfl).trans ((hA c 3).trans (V_main_arg2 m c)),
      ((h c).2 main_arg3 (Pipeline.mem_restRefs_of main_arg3 (by decide) (by decide))).trans (V_main_arg3 m c),
      (Pipeline.RDat.FramePost.arr_in h c 5 rfl).trans ((hA c 5).trans (V_main_arg4 m c)),
      ((h c).2 main_arg5 (Pipeline.mem_restRefs_of main_arg5 (by decide) (by decide))).trans (V_main_arg5 m c),
      (Pipeline.RDat.FramePost.arr_in h c 0 rfl).trans ((hA c 0).trans (V_main_arg6 m c))⟩) h

theorem tlt (t : Fin cfg0.N) : t.val < 63 := lt_of_lt_of_eq t.isLt (show cfg0.N = 63 from N_0)

/-- The block of the activation that grid point `u` computes. -/
def pointAct (c : Dev nD) (u : Fin cfg0.N) : Vec Ideal S1x512x768 .f32 := block (iblk m c 0 u) (iblk m c 1 u) (iblk m c 2 u) (iblk m c 3 u) (iblk m c 4 u) (iblk m c 5 u) (iblk m c 6 u)

/-- The scratch contents `xs` hold, before point `n`, the blocks of the points of the current row block before `n`. -/
def Tracks (c : Dev nD) (n : ℕ) (xs : Vec Ideal S7x512x768 .f32) : Prop :=
  ∀ (u : Fin cfg0.N), u.val < n → u.val / 7 = n / 7 → ∀ y : S7x512x768.Idx, (y 0).val = u.val % 7 →
    xs y = pointAct m c u (ix3 0 (y 1) (y 2))

/-- The scratch contents when the row block of point `t` is complete. -/
def full (c : Dev nD) (t : Fin cfg0.N) : Vec Ideal S7x512x768 .f32 := fun y =>
  pointAct m c ⟨t.val / 7 * 7 + (y 0).val, by
    have h0 : (y 0).val < 7 := (y 0).isLt
    have := tlt t
    have : cfg0.N = 63 := N_0
    omega⟩ (ix3 0 (y 1) (y 2))

/-- The grid column of a point. -/
theorem coord1 (t : Fin cfg0.N) : (grid0.coords t 1).val = t.val % 7 := by
  have e1 : (grid0.coords t 1).val = t.val / 1 % 7 := Pipeline.Grid.coords_val t 1 (by decide) rfl
  rw [e1, Nat.div_one]

/-- A point that is not the last of its row block keeps the track, -/
theorem tracks_A (c : Dev nD) (t : Fin cfg0.N) (h0 : ¬ t.val % 7 = 6) (xs : Vec Ideal S7x512x768 .f32) (hxs : Tracks m c t.val xs)
    (X : Vec Ideal S7x512x768 .f32)
    (hX : ∀ y, X y = if (y 0).val = (grid0.coords t 1).val then block (iblk m c 0 t) (iblk m c 1 t) (iblk m c 2 t) (iblk m c 3 t) (iblk m c 4 t) (iblk m c 5 t) (iblk m c 6 t) (ix3 0 (y 1) (y 2)) else xs y) :
    Tracks m c (t.val + 1) X := by
  intro u hu hd y hy
  rw [hX y, coord1]
  by_cases hut : u = t
  · subst hut
    rw [if_pos hy]
    rfl
  · have hlt : u.val < t.val := by
      have : u.val ≠ t.val := fun e => hut (Fin.ext e)
      omega
    rw [if_neg (by omega)]
    exact hxs u hlt (by omega) y hy

/-- so does the last one, trivially; -/
theorem tracks_B (c : Dev nD) (t : Fin cfg0.N) (h0 : t.val % 7 = 6) (xs : Vec Ideal S7x512x768 .f32) (hxs : Tracks m c t.val xs)
    (X : Vec Ideal S7x512x768 .f32)
    (hX : ∀ y, X y = if (y 0).val = (grid0.coords t 1).val then block (iblk m c 0 t) (iblk m c 1 t) (iblk m c 2 t) (iblk m c 3 t) (iblk m c 4 t) (iblk m c 5 t) (iblk m c 6 t) (ix3 0 (y 1) (y 2)) else xs y) :
    Tracks m c (t.val + 1) X := by
  intro u hu hd y hy
  omega

/-- and at the last one the row block is complete. -/
theorem full_eq (c : Dev nD) (t : Fin cfg0.N) (h0 : t.val % 7 = 6) (xs : Vec Ideal S7x512x768 .f32) (hxs : Tracks m c t.val xs)
    (X : Vec Ideal S7x512x768 .f32)
    (hX : ∀ y, X y = if (y 0).val = (grid0.coords t 1).val then block (iblk m c 0 t) (iblk m c 1 t) (iblk m c 2 t) (iblk m c 3 t) (iblk m c 4 t) (iblk m c 5 t) (iblk m c 6 t) (ix3 0 (y 1) (y 2)) else xs y)
    (y : S7x512x768.Idx) : X y = full m c t y := by
  have hy0 : (y 0).val < 7 := (y 0).isLt
  have ht := tlt t
  have hN : cfg0.N = 63 := N_0
  rw [hX y, coord1]
  unfold full
  by_cases hy : (y 0).val = t.val % 7
  · rw [if_pos hy]
    have e : (⟨t.val / 7 * 7 + (y 0).val, by omega⟩ : Fin cfg0.N) = t := Fin.ext (by show t.val / 7 * 7 + (y 0).val = t.val; omega)
    rw [e]
    rfl
  · rw [if_neg hy]
    exact hxs ⟨t.val / 7 * 7 + (y 0).val, by omega⟩ (by show t.val / 7 * 7 + (y 0).val < t.val; omega)
      (by show (t.val / 7 * 7 + (y 0).val) / 7 = t.val / 7; omega) y (by show (y 0).val = (t.val / 7 * 7 + (y 0).val) % 7; omega)

/-! ## The pipeline's proof data -/

/-- The two output windows, of which only what the last point of a row block leaves is stated. -/
def marked : Fin 9 → Bool := fun w => w.val == 7 || w.val == 8

/-- What a point leaves in an output window: at the last point of a row block the codes and the scales of the row block. -/
def leaves0 (c : Dev nD) (w : Fin cfg0.W) (t : Fin cfg0.N) : ((cfg0.win w).block.Idx → Elt Ideal (cfg0.win w).elt) → Prop :=
  match w with
  | ⟨7, _⟩ => fun X => t.val % 7 = 6 → (X : Vec Ideal S512x5376 .fp8e4m3) = codes7 (full m c t)
  | ⟨8, _⟩ => fun X => t.val % 7 = 6 → (X : Vec Ideal S1x4x128 .f32) = scale8 (full m c t)
  | _ => fun _ => True

/-- The proof data of the pipeline on core `c`: each input at its block, the scratch buffer tracked. -/
def dats (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ n := iprop(∃ xs, ⌜Tracks m c n.val xs⌝ ∗ owns (c : Thread nD τ) scM0_0 fullShare xs ∗ (∃ r, prngReg c r))
  q _ := fullShare
  owed _ := 0

theorem A_eq (c : Dev nD) (w : Fin cfg0.W) : (dats m c).A w = V m c (Pipeline.arrRef spec0 w) := by
  dsimp only [dats]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = iblk m c 4 t := by dsimp only [dats]
theorem after0_5 (c : Dev nD) (t : Fin cfg0.N) : (dats m c).after 5 t = iblk m c 5 t := by dsimp only [dats]
theorem after0_6 (c : Dev nD) (t : Fin cfg0.N) : (dats m c).after 6 t = iblk m c 6 t := by dsimp only [dats]

theorem before0_0 (c : Dev nD) (t : Fin cfg0.N) (d) : (dats m c).before 0 t d = iblk m c 0 t :=
  before0_0_of m (dats m c) (A_eq m c 0) (after0_0 m c) t d
theorem before0_1 (c : Dev nD) (t : Fin cfg0.N) (d) : (dats m c).before 1 t d = iblk m c 1 t :=
  before0_1_of m (dats m c) (A_eq m c 1) (after0_1 m c) t d
theorem before0_2 (c : Dev nD) (t : Fin cfg0.N) (d) : (dats m c).before 2 t d = iblk m c 2 t :=
  before0_2_of m (dats m c) (A_eq m c 2) (after0_2 m c) t d
theorem before0_3 (c : Dev nD) (t : Fin cfg0.N) (d) : (dats m c).before 3 t d = iblk m c 3 t :=
  before0_3_of m (dats m c) (A_eq m c 3) (after0_3 m c) t d
theorem before0_4 (c : Dev nD) (t : Fin cfg0.N) (d) : (dats m c).before 4 t d = iblk m c 4 t :=
  before0_4_of m (dats m c) (A_eq m c 4) (after0_4 m c) t d
theorem before0_5 (c : Dev nD) (t : Fin cfg0.N) (d) : (dats m c).before 5 t d = iblk m c 5 t :=
  before0_5_of m (dats m c) (A_eq m c 5) (after0_5 m c) t d
theorem before0_6 (c : Dev nD) (t : Fin cfg0.N) (d) : (dats m c).before 6 t d = iblk m c 6 t :=
  before0_6_of m (dats m c) (A_eq m c 6) (after0_6 m c) t d

/-! ## The body's obligation -/

/-- What the body is called with at point `t`, -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d))
    ∗ (∃ d, owns (c : Thread nD τ) (ms0_5 t) fullShare ((dats m c).before 5 t d))
    ∗ (∃ d, owns (c : Thread nD τ) (ms0_6 t) fullShare ((dats m c).before 6 t d))
    ∗ (∃ Y, ⌜((dats m c).toRRel marked (leaves0 m c)).Finds 7 t Y⌝ ∗ owns (c : Thread nD τ) (ms0_7 t) fullShare Y)
    ∗ (∃ Y, ⌜((dats m c).toRRel marked (leaves0 m c)).Finds 8 t Y⌝ ∗ owns (c : Thread nD τ) (ms0_8 t) fullShare Y))

/-- and what it returns. -/
def bodyPost (c : Dev nD) (t : Fin cfg0.N) : sProp 𝕄 :=
  iprop((dats m c).Φ t.succ ∗ (dats m c).owesAt () t.succ
    ∗ owns (c : Thread nD τ) (ms0_0 t) fullShare ((dats m c).after 0 t)
    ∗ owns (c : Thread nD τ) (ms0_1 t) fullShare ((dats m c).after 1 t)
    ∗ owns (c : Thread nD τ) (ms0_2 t) fullShare ((dats m c).after 2 t)
    ∗ owns (c : Thread nD τ) (ms0_3 t) fullShare ((dats m c).after 3 t)
    ∗ owns (c : Thread nD τ) (ms0_4 t) fullShare ((dats m c).after 4 t)
    ∗ owns (c : Thread nD τ) (ms0_5 t) fullShare ((dats m c).after 5 t)
    ∗ owns (c : Thread nD τ) (ms0_6 t) fullShare ((dats m c).after 6 t)
    ∗ (∃ X : Vec Ideal S512x5376 .fp8e4m3, ⌜t.val % 7 = 6 → X = codes7 (full m c t)⌝ ∗ owns (c : Thread nD τ) (ms0_7 t) fullShare X)
    ∗ (∃ X : Vec Ideal S1x4x128 .f32, ⌜t.val % 7 = 6 → X = scale8 (full m c t)⌝ ∗ owns (c : Thread nD τ) (ms0_8 t) fullShare X))

set_option maxHeartbeats 1600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6,
    after0_0, after0_1, after0_2, after0_3, after0_4, after0_5, after0_6]
  rw [show (dats m c).owesAt () t.succ = (dats m c).owesAt () t.castSucc from rfl,
    show (dats m c).Φ t.succ = iprop(∃ xs, ⌜Tracks m c (t.val + 1) xs⌝ ∗ owns (c : Thread nD τ) scM0_0 fullShare xs ∗ (∃ r, prngReg c r)) from rfl,
    show (dats m c).Φ t.castSucc = iprop(∃ xs, ⌜Tracks m c t.val xs⌝ ∗ owns (c : Thread nD τ) scM0_0 fullShare xs ∗ (∃ r, prngReg c r)) from rfl]
  by_cases h0 : t.val % 7 = 6
  · skip
    iintro ⟨⟨%xs, %hxs, HS0, Hg⟩, Ho, ⟨%d0, H0⟩, ⟨%d1, H1⟩, ⟨%d2, H2⟩, ⟨%d3, H3⟩, ⟨%d4, H4⟩, ⟨%d5, H5⟩, ⟨%d6, H6⟩, ⟨%d7, -, H7⟩, ⟨%d8, -, H8⟩⟩
    iapply ((kernelRun0_B (F := Ideal) c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) xs).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    iintro ⟨H0, H1, H2, H3, H4, H5, H6, ⟨%f7, H7⟩, ⟨%f8, H8⟩, HS0⟩
    isplitl [HS0 Hg]
    · iexists _
      isplitr
      swap
      · isplitl [HS0]
        · unfold owns
          iexists _
          isplitr
          swap
          · iexact HS0
          ipureintro; rfl
        iexact Hg
      ipureintro
      exact tracks_B m c t h0 xs hxs _ fun y => scratch_B c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) xs y
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _
      isplitr
      swap
      · unfold owns
        iexists _
        isplitr
        swap
        · iexact H7
        ipureintro; rfl
      ipureintro
      exact fun _ => (out_a9 c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) xs f7).trans (congrArg codes7 (funext fun y =>
        full_eq m c t h0 xs hxs _ (fun y => scratch_B c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) xs y) y))
    iexists _
    isplitr
    swap
    · unfold owns
      iexists _
      isplitr
      swap
      · iexact H8
      ipureintro; rfl
    ipureintro
    exact fun _ => (out_a10 c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) xs f8).trans (congrArg scale8 (funext fun y =>
      full_eq m c t h0 xs hxs _ (fun y => scratch_B c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) xs y) y))
  · skip
    iintro ⟨⟨%xs, %hxs, HS0, Hg⟩, Ho, ⟨%d0, H0⟩, ⟨%d1, H1⟩, ⟨%d2, H2⟩, ⟨%d3, H3⟩, ⟨%d4, H4⟩, ⟨%d5, H5⟩, ⟨%d6, H6⟩, ⟨%d7, -, H7⟩, ⟨%d8, -, H8⟩⟩
    iapply ((kernelRun0_A (F := Ideal) c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) xs).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    iintro ⟨H0, H1, H2, H3, H4, H5, H6, H7, H8, HS0⟩
    isplitl [HS0 Hg]
    · iexists _
      isplitr
      swap
      · isplitl [HS0]
        · unfold owns
          iexists _
          isplitr
          swap
          · iexact HS0
          ipureintro; rfl
        iexact Hg
      ipureintro
      exact tracks_A m c t h0 xs hxs _ fun y => scratch_A c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) xs y
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · icases H7 with ⟨%X, H7⟩
      iexists X
      isplitr
      · ipureintro; exact fun h => absurd h h0
      iexact H7
    icases H8 with ⟨%X, H8⟩
    iexists X
    isplitr
    · ipureintro; exact fun h => absurd h h0
    iexact H8

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The body's obligation, at every point. -/
theorem body_obligation (c : Dev nD) :
    BodyObligationRel (dats m c) (defs₀ (F := Ideal)) Variants.none () Set.univ marked (leaves0 m c) := fun t => by
  rw [bigSep_W0, bigSep_W0, defs₀_row]
  exact triple_restated (sound_body m c t) rfl .rfl fun _ => .rfl

/-! ## The run -/

/-- The proof data with the outputs held to what the last points leave. -/
abbrev rdats (c : Dev nD) : RDat τ (Elt Ideal) Unit ℕ (UR sig nD τ) ℕ cfg0 c := (dats m c).toRRel marked (leaves0 m c)

theorem hin (c : Dev nD) : (Pipeline.ΦA spec0 c : sProp 𝕄) ⊢ (rdats m c).Φ 0 := by
  rw [show (rdats m c).Φ 0 = iprop(∃ xs, ⌜Tracks m c 0 xs⌝ ∗ owns (c : Thread nD τ) scM0_0 fullShare xs ∗ (∃ r, prngReg c r)) from rfl, PhiA0_eq]
  iintro ⟨⟨%xs, HS⟩, Hg⟩
  iexists xs
  isplitr
  · ipureintro; exact fun u hu => absurd hu (Nat.not_lt_zero _)
  isplitl [HS]; · iexact HS
  iexact Hg

theorem hout (c : Dev nD) : (rdats m c).Φ (Fin.last cfg0.N) ⊢ (Pipeline.ΦA spec0 c : sProp 𝕄) := by
  rw [show (rdats m c).Φ (Fin.last cfg0.N) = iprop(∃ xs, ⌜Tracks m c cfg0.N xs⌝ ∗ owns (c : Thread nD τ) scM0_0 fullShare xs ∗ (∃ r, prngReg c r)) from rfl, PhiA0_eq]
  iintro ⟨%xs, -, HS, Hg⟩
  isplitl [HS]; · iexists xs; iexact HS
  iexact Hg

set_option backward.isDefEq.respectTransparency.types false in
/-- Every execution terminates with the arrays as the proof data state them and every semaphore counter at zero. -/
theorem run_quiescent : θ_run defs (onTc (τ := τ) (main (F := Ideal))) (s₀ m ρ)
    (fun r => (Pipeline.RDat.FramePost (cfgs 0) (fun c => rdats m c) (V m)) r ∧ r.2.sem = fun _ => 0) :=
  Pipeline.RDat.θ_run_frame_track (Q' := _) cfgs (0 : Fin 1) launch0 defs₀ Variants.none (fun c => rdats m c) m ρ main
    (hbody := fun c => (body_obligation m c).toRRel) (hshare := fun c => (dats m c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.RDat.FramePost (cfgs 0) (fun c => rdats m c) (V m)) :=
  (θ_run defs _ _).mono (fun _ h => h.1) (run_quiescent m ρ)

end Cert.GateUpIdeal.Res

end
-- ==== Proof.GateUpKernel.lean ====
/-
  The gate and up projections' kernel over the reals: the two arrays its 63 grid points leave are the plain formulas of
  `Cert.Proof.GateUpSpec`, index by index.
-/
module

public import proofs.«01_k».proof.Proof.GateUpFrame

@[expose] public section

noncomputable section

namespace Cert.GateUpIdeal.Res

open Cert.GateUpIdeal Cert.GateUpIdeal.Gen Cert.Proof.GateUpSpec
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- A point's block of the activation, read at an index. -/
theorem block_apply (x0 : Vec Ideal S12 .f32) (x1 : Vec Ideal S512x5120 .fp8e4m3) (x2 : Vec Ideal S1x4x128 .f32) (x3 : Vec Ideal S5120x768 .fp8e4m3)
    (x4 : Vec Ideal S1x768 .f32) (x5 : Vec Ideal S5120x768 .fp8e4m3) (x6 : Vec Ideal S1x768 .f32) (p : Fin 512) (q : Fin 768) :
    block x0 x1 x2 x3 x4 x5 x6 (ix3 0 p q)
      = (∑ k : Fin 5120, x1 (ix2 p k) * x3 (ix2 k q)) * x2 (ix3 0 ⟨p.val / 128, by have := p.isLt; omega⟩ ⟨p.val % 128, Nat.mod_lt _ (by decide)⟩) * x4 (ix2 0 q) * x0 (ix1 5)
        * Ideal.logistic ((∑ k : Fin 5120, x1 (ix2 p k) * x3 (ix2 k q)) * x2 (ix3 0 ⟨p.val / 128, by have := p.isLt; omega⟩ ⟨p.val % 128, Nat.mod_lt _ (by decide)⟩) * x4 (ix2 0 q) * x0 (ix1 5))
        * ((∑ k : Fin 5120, x1 (ix2 p k) * x5 (ix2 k q)) * x2 (ix3 0 ⟨p.val / 128, by have := p.isLt; omega⟩ ⟨p.val % 128, Nat.mod_lt _ (by decide)⟩) * x6 (ix2 0 q)) := by
  unfold block
  generalize x0 (ix1 5) = mu
  pointwise [k0_pay82]

/-- The block index of every window at point `t`: the points run over the column blocks first. -/
theorem idx_facts : ∀ t : Fin cfg0.N, win0_0.index t 0 = 0
    ∧ win0_1.index t 0 = t.val / 7 ∧ win0_1.index t 1 = 0
    ∧ win0_2.index t 0 = t.val / 7 ∧ win0_2.index t 1 = 0 ∧ win0_2.index t 2 = 0
    ∧ win0_3.index t 0 = 0 ∧ win0_3.index t 1 = t.val % 7
    ∧ win0_4.index t 0 = 0 ∧ win0_4.index t 1 = t.val % 7
    ∧ win0_5.index t 0 = 0 ∧ win0_5.index t 1 = t.val % 7
    ∧ win0_6.index t 0 = 0 ∧ win0_6.index t 1 = t.val % 7
    ∧ win0_7.index t 0 = t.val / 7 ∧ win0_7.index t 1 = 0
    ∧ win0_8.index t 0 = t.val / 7 ∧ win0_8.index t 1 = 0 ∧ win0_8.index t 2 = 0 :=
  (by decide +kernel : ∀ t : Fin grid0.N, win0_0.index t 0 = 0
    ∧ win0_1.index t 0 = t.val / 7 ∧ win0_1.index t 1 = 0
    ∧ win0_2.index t 0 = t.val / 7 ∧ win0_2.index t 1 = 0 ∧ win0_2.index t 2 = 0
    ∧ win0_3.index t 0 = 0 ∧ win0_3.index t 1 = t.val % 7
    ∧ win0_4.index t 0 = 0 ∧ win0_4.index t 1 = t.val % 7
    ∧ win0_5.index t 0 = 0 ∧ win0_5.index t 1 = t.val % 7
    ∧ win0_6.index t 0 = 0 ∧ win0_6.index t 1 = t.val % 7
    ∧ win0_7.index t 0 = t.val / 7 ∧ win0_7.index t 1 = 0
    ∧ win0_8.index t 0 = t.val / 7 ∧ win0_8.index t 1 = 0 ∧ win0_8.index t 2 = 0)

/-- Row `r` of row block `t / 7`, as a row of the whole array; that row block; column `l` of column block `t % 7`. -/
def row (t : Fin cfg0.N) (r : Fin 512) : Fin 4608 := ⟨t.val / 7 * 512 + r.val, by have := r.isLt; have := tlt t; omega⟩
def rowBlock (t : Fin cfg0.N) : Fin 9 := ⟨t.val / 7, by have := tlt t; omega⟩
def colm (t : Fin cfg0.N) (l : Fin 768) : Fin 5376 := ⟨t.val % 7 * 768 + l.val, by have := l.isLt; omega⟩

theorem blk0 (c : Dev nD) (t : Fin cfg0.N) (a : Fin 12) :
    (iblk m c 0 t : Vec Ideal S12 .f32) (ix1 a) = (m (c.tc.loc main_arg6) : Vec Ideal S12 .f32) (ix1 a) := by
  unfold iblk
  rw [View.read_apply]
  entry_read
  show m (c.tc.loc main_arg6) _ = _
  congr 1
  funext b
  apply Fin.ext
  match b with
  | ⟨0, _⟩ => show win0_0.index t 0 * 12 + 1 * a.val = a.val; rw [(idx_facts t).1]; omega

/-- Window 1's block is 512 rows of the codes, -/
theorem blk1 (c : Dev nD) (t : Fin cfg0.N) : (iblk m c 1 t : Vec Ideal S512x5120 .fp8e4m3)
    = fun j => (m (c.tc.loc main_arg0) : Vec Ideal S4608x5120 .fp8e4m3) (ix2 (row t (j 0)) (j 1)) := by
  obtain ⟨-, h0, h1, -⟩ := idx_facts t
  funext j
  unfold iblk
  rw [View.read_apply]
  entry_read
  show m (c.tc.loc main_arg0) _ = _
  congr 1
  funext b
  apply Fin.ext
  match b with
  | ⟨0, _⟩ => show win0_1.index t 0 * 512 + 1 * (j 0).val = t.val / 7 * 512 + (j 0).val; rw [h0]; omega
  | ⟨1, _⟩ => show win0_1.index t 1 * 5120 + 1 * (j 1).val = (j 1).val; rw [h1]; omega

/-- A vector laid out in row blocks of 4 by 128, read at an index. -/
theorem cast_blocks (x : Vec Ideal S4608 .f32) (a : Fin 9) (b : Fin 4) (d : Fin 128) :
    shapeCast S9x4x128 x shapeCasts_S4608_S9x4x128 (ix3 a b d)
      = x (ix1 ⟨a.val * 512 + b.val * 128 + d.val, by have := a.isLt; have := b.isLt; have := d.isLt; omega⟩) := by
  pointwise

/-- Window 2's block is the scales of those rows, -/
theorem blk2 (c : Dev nD) (t : Fin cfg0.N) : (iblk m c 2 t : Vec Ideal S1x4x128 .f32)
    = fun j => (m (c.tc.loc main_arg1) : Vec Ideal S4608 .f32) (ix1 (row t ⟨(j 1).val * 128 + (j 2).val, by
        have h1 : (j 1).val < 4 := (j 1).isLt; have h2 : (j 2).val < 128 := (j 2).isLt; omega⟩)) := by
  obtain ⟨-, -, -, h0, h1, h2, -⟩ := idx_facts t
  funext j
  have hj : (j 0).val < 1 := (j 0).isLt
  unfold iblk
  rw [View.read_apply]
  entry_read
  have e : (((View.whole main_v2).slice ((win0 2).rect t)).emb j : S9x4x128.Idx)
      = ix3 (rowBlock t) (j 1) (j 2) := by
    funext b
    apply Fin.ext
    match b with
    | ⟨0, _⟩ => show win0_2.index t 0 * 1 + 1 * (j 0).val = t.val / 7; rw [h0]; omega
    | ⟨1, _⟩ => show win0_2.index t 1 * 4 + 1 * (j 1).val = (j 1).val; rw [h1]; omega
    | ⟨2, _⟩ => show win0_2.index t 2 * 128 + 1 * (j 2).val = (j 2).val; rw [h2]; omega
  show (shapeCast S9x4x128 (m (c.tc.loc main_arg1)) shapeCasts_S4608_S9x4x128) _ = _
  rw [e]
  refine (cast_blocks _ _ _ _).trans ?_
  congr 2
  apply Fin.ext
  show t.val / 7 * 512 + (j 1).val * 128 + (j 2).val = t.val / 7 * 512 + ((j 1).val * 128 + (j 2).val)
  omega

/-- A vector laid out as one row, read at an index. -/
theorem cast_row (x : Vec Ideal S5376 .f32) (l : Fin 5376) :
    shapeCast S1x5376 x shapeCasts_S5376_S1x5376 (ix2 0 l) = x (ix1 l) := by
  pointwise

/-- windows 3 and 5 are 768 columns of the two weights, windows 4 and 6 their scales. -/
theorem blk3 (c : Dev nD) (t : Fin cfg0.N) : (iblk m c 3 t : Vec Ideal S5120x768 .fp8e4m3)
    = fun j => (m (c.tc.loc main_arg2) : Vec Ideal S5120x5376 .fp8e4m3) (ix2 (j 0) (colm t (j 1))) := by
  obtain ⟨-, -, -, -, -, -, h0, h1, -⟩ := idx_facts t
  funext j
  unfold iblk
  rw [View.read_apply]
  entry_read
  show m (c.tc.loc main_arg2) _ = _
  congr 1
  funext b
  apply Fin.ext
  match b with
  | ⟨0, _⟩ => show win0_3.index t 0 * 5120 + 1 * (j 0).val = (j 0).val; rw [h0]; omega
  | ⟨1, _⟩ => show win0_3.index t 1 * 768 + 1 * (j 1).val = t.val % 7 * 768 + (j 1).val; rw [h1]; omega

theorem blk4 (c : Dev nD) (t : Fin cfg0.N) : (iblk m c 4 t : Vec Ideal S1x768 .f32)
    = fun j => (m (c.tc.loc main_arg3) : Vec Ideal S5376 .f32) (ix1 (colm t (j 1))) := by
  obtain ⟨-, -, -, -, -, -, -, -, h0, h1, -⟩ := idx_facts t
  funext j
  have hj : (j 0).val < 1 := (j 0).isLt
  unfold iblk
  rw [View.read_apply]
  entry_read
  have e : (((View.whole main_v0).slice ((win0 4).rect t)).emb j : S1x5376.Idx) = ix2 0 (colm t (j 1)) := by
    funext b
    apply Fin.ext
    match b with
    | ⟨0, _⟩ => show win0_4.index t 0 * 1 + 1 * (j 0).val = 0; rw [h0]; omega
    | ⟨1, _⟩ => show win0_4.index t 1 * 768 + 1 * (j 1).val = t.val % 7 * 768 + (j 1).val; rw [h1]; omega
  show (shapeCast S1x5376 (m (c.tc.loc main_arg3)) shapeCasts_S5376_S1x5376) _ = _
  rw [e]
  exact cast_row _ _

theorem blk5 (c : Dev nD) (t : Fin cfg0.N) : (iblk m c 5 t : Vec Ideal S5120x768 .fp8e4m3)
    = fun j => (m (c.tc.loc main_arg4) : Vec Ideal S5120x5376 .fp8e4m3) (ix2 (j 0) (colm t (j 1))) := by
  obtain ⟨-, -, -, -, -, -, -, -, -, -, h0, h1, -⟩ := idx_facts t
  funext j
  unfold iblk
  rw [View.read_apply]
  entry_read
  show m (c.tc.loc main_arg4) _ = _
  congr 1
  funext b
  apply Fin.ext
  match b with
  | ⟨0, _⟩ => show win0_5.index t 0 * 5120 + 1 * (j 0).val = (j 0).val; rw [h0]; omega
  | ⟨1, _⟩ => show win0_5.index t 1 * 768 + 1 * (j 1).val = t.val % 7 * 768 + (j 1).val; rw [h1]; omega

theorem blk6 (c : Dev nD) (t : Fin cfg0.N) : (iblk m c 6 t : Vec Ideal S1x768 .f32)
    = fun j => (m (c.tc.loc main_arg5) : Vec Ideal S5376 .f32) (ix1 (colm t (j 1))) := by
  obtain ⟨-, -, -, -, -, -, -, -, -, -, -, -, h0, h1, -⟩ := idx_facts t
  funext j
  have hj : (j 0).val < 1 := (j 0).isLt
  unfold iblk
  rw [View.read_apply]
  entry_read
  have e : (((View.whole main_v1).slice ((win0 6).rect t)).emb j : S1x5376.Idx) = ix2 0 (colm t (j 1)) := by
    funext b
    apply Fin.ext
    match b with
    | ⟨0, _⟩ => show win0_6.index t 0 * 1 + 1 * (j 0).val = 0; rw [h0]; omega
    | ⟨1, _⟩ => show win0_6.index t 1 * 768 + 1 * (j 1).val = t.val % 7 * 768 + (j 1).val; rw [h1]; omega
  show (shapeCast S1x5376 (m (c.tc.loc main_arg5)) shapeCasts_S5376_S1x5376) _ = _
  rw [e]
  exact cast_row _ _

/-- The activation of the arguments. -/
abbrev acts (c : Dev nD) : Fin 4608 → Fin 5376 → EReal :=
  act (m (c.tc.loc main_arg0)) (m (c.tc.loc main_arg1)) (m (c.tc.loc main_arg2)) (m (c.tc.loc main_arg3)) (m (c.tc.loc main_arg4))
    (m (c.tc.loc main_arg5)) (m (c.tc.loc main_arg6))

/-- A point's block is its block of the activation. -/
theorem pointAct_apply (c : Dev nD) (t : Fin cfg0.N) (p : Fin 512) (q : Fin 768) :
    pointAct m c t (ix3 0 p q) = acts m c (row t p) (colm t q) := by
  unfold pointAct
  rw [block_apply, blk0, blk1, blk2, blk3, blk4, blk5, blk6]
  have e : (⟨p.val / 128 * 128 + p.val % 128, by have := p.isLt; omega⟩ : Fin 512) = p := Fin.ext (Nat.div_add_mod' _ _)
  show _ * (m (c.tc.loc main_arg1) : Vec Ideal S4608 .f32) (ix1 (row t ⟨p.val / 128 * 128 + p.val % 128, _⟩)) * _ * _
    * Ideal.logistic (_ * (m (c.tc.loc main_arg1) : Vec Ideal S4608 .f32) (ix1 (row t ⟨p.val / 128 * 128 + p.val % 128, _⟩)) * _ * _)
    * (_ * (m (c.tc.loc main_arg1) : Vec Ideal S4608 .f32) (ix1 (row t ⟨p.val / 128 * 128 + p.val % 128, _⟩)) * _) = _
  rw [e]
  rfl

/-- A complete row of the scratch buffer is the row of the activation. -/
theorem rowOf_full (c : Dev nD) (t : Fin cfg0.N) (p : Fin 512) : rowOf (full m c t) p = acts m c (row t p) := by
  funext j
  have hj := j.isLt
  have ht := tlt t
  unfold rowOf full
  refine (pointAct_apply m c _ _ _).trans ?_
  congr 1
  · apply Fin.ext
    show (t.val / 7 * 7 + j.val / 768) / 7 * 512 + p.val = t.val / 7 * 512 + p.val
    omega
  · apply Fin.ext
    show (t.val / 7 * 7 + j.val / 768) % 7 * 768 + j.val % 768 = j.val
    omega

/-- The arrays the kernel leaves, as the plain formulas of the arguments. -/
abbrev result0 (c : Dev nD) : Buf (Elt Ideal) ((c : Thread nD τ).loc main_v3_0) := actCodes (acts m c)
abbrev result1 (c : Dev nD) : Buf (Elt Ideal) ((c : Thread nD τ).loc main_v3_1) := actScales (acts m c)

theorem codes_full (c : Dev nD) (t : Fin cfg0.N) (j : S512x5376.Idx) :
    codes7 (full m c t) j = result0 m c (ix2 (row t (j 0)) (j 1)) := by
  exact congrArg (fun f : Fin 5376 → EReal => codeOf (f (j 1)) (scaleOf (rowMax f))) (rowOf_full m c t (j 0))

theorem scales_full (c : Dev nD) (t : Fin cfg0.N) (j : S1x4x128.Idx) :
    scale8 (full m c t) j = result1 m c (ix3 (rowBlock t) (j 1) (j 2)) := by
  unfold scale8
  rw [rowOf_full]
  show scaleOf (rowMax (acts m c (row t _))) = scaleOf (rowMax (acts m c ⟨512 * (t.val / 7) + 128 * (j 1).val + (j 2).val, _⟩))
  congr 3
  apply Fin.ext
  show t.val / 7 * 512 + (128 * (j 1).val + (j 2).val) = 512 * (t.val / 7) + 128 * (j 1).val + (j 2).val
  omega

theorem emb7 (t : Fin cfg0.N) (j : S512x5376.Idx) :
    (((cfg0.win 7).blk t).view.emb j : S4608x5376.Idx) = ix2 (row t (j 0)) (j 1) := by
  obtain ⟨-, -, -, -, -, -, -, -, -, -, -, -, -, -, h0, h1, -⟩ := idx_facts t
  funext b
  apply Fin.ext
  match b with
  | ⟨0, _⟩ => show win0_7.index t 0 * 512 + 1 * (j 0).val = t.val / 7 * 512 + (j 0).val; rw [h0]; omega
  | ⟨1, _⟩ => show win0_7.index t 1 * 5376 + 1 * (j 1).val = (j 1).val; rw [h1]; omega

theorem emb8 (t : Fin cfg0.N) (j : S1x4x128.Idx) :
    (((cfg0.win 8).blk t).view.emb j : S9x4x128.Idx) = ix3 (rowBlock t) (j 1) (j 2) := by
  obtain ⟨-, -, -, -, -, -, -, -, -, -, -, -, -, -, -, -, h0, h1, h2⟩ := idx_facts t
  have hj : (j 0).val < 1 := (j 0).isLt
  funext b
  apply Fin.ext
  match b with
  | ⟨0, _⟩ => show win0_8.index t 0 * 1 + 1 * (j 0).val = t.val / 7; rw [h0]; omega
  | ⟨1, _⟩ => show win0_8.index t 1 * 4 + 1 * (j 1).val = (j 1).val; rw [h1]; omega
  | ⟨2, _⟩ => show win0_8.index t 2 * 128 + 1 * (j 2).val = (j 2).val; rw [h2]; omega

/-- What the last point of a row block holds is that block of the results. -/
theorem codes_read (c : Dev nD) (t : Fin cfg0.N) (j : S512x5376.Idx) :
    codes7 (full m c t) j = ((cfg0.win 7).blk t).view.read (Elt Ideal) (result0 m c) j := by
  rw [View.read_apply]
  have e := emb7 t j
  generalize ((cfg0.win 7).blk t).view.emb j = i at e ⊢
  subst e
  exact (codes_full m c t j).trans (cast_eq _ _).symm

theorem scales_read (c : Dev nD) (t : Fin cfg0.N) (j : S1x4x128.Idx) :
    scale8 (full m c t) j = ((cfg0.win 8).blk t).view.read (Elt Ideal) (result1 m c) j := by
  rw [View.read_apply]
  have e := emb8 t j
  generalize ((cfg0.win 8).blk t).view.emb j = i at e ⊢
  subst e
  exact (scales_full m c t j).trans (cast_eq _ _).symm

/-- Every index of the codes lies in a block that is written back, -/
theorem cover7 (i : S4608x5376.Idx) : ∃ t : Fin cfg0.N, (cfg0.win 7).flush t = true ∧ i ∈ ((cfg0.win 7).blk t).view.set := by
  have h0 : (i 0 : Nat) < 4608 := (i 0).isLt
  have h1 : (i 1 : Nat) < 5376 := (i 1).isLt
  have hN : cfg0.N = 63 := N_0
  obtain ⟨t, ht⟩ : ∃ t : Fin cfg0.N, t.val = (i 0 : Nat) / 512 * 7 + 6 := ⟨⟨_, by omega⟩, rfl⟩
  refine ⟨t, (flush0_7 t).mpr (by omega), ?_⟩
  obtain ⟨-, -, -, -, -, -, -, -, -, -, -, -, -, -, e0, e1, -⟩ := idx_facts t
  show i ∈ ((View.whole main_v3_0).slice (win0_7.rect t)).set
  rw [View.set_slice_whole, Rect.mem_set_unit]
  intro a
  match a with
  | ⟨0, _⟩ => show win0_7.index t 0 * 512 ≤ (i 0 : Nat) ∧ (i 0 : Nat) < win0_7.index t 0 * 512 + 512; rw [e0]; omega
  | ⟨1, _⟩ => show win0_7.index t 1 * 5376 ≤ (i 1 : Nat) ∧ (i 1 : Nat) < win0_7.index t 1 * 5376 + 5376; rw [e1]; omega

/-- and so does every index of the scales. -/
theorem cover8 (i : S9x4x128.Idx) : ∃ t : Fin cfg0.N, (cfg0.win 8).flush t = true ∧ i ∈ ((cfg0.win 8).blk t).view.set := by
  have h0 : (i 0 : Nat) < 9 := (i 0).isLt
  have h1 : (i 1 : Nat) < 4 := (i 1).isLt
  have h2 : (i 2 : Nat) < 128 := (i 2).isLt
  have hN : cfg0.N = 63 := N_0
  obtain ⟨t, ht⟩ : ∃ t : Fin cfg0.N, t.val = (i 0 : Nat) * 7 + 6 := ⟨⟨_, by omega⟩, rfl⟩
  refine ⟨t, (flush0_8 t).mpr (by omega), ?_⟩
  obtain ⟨-, -, -, -, -, -, -, -, -, -, -, -, -, -, -, -, e0, e1, e2⟩ := idx_facts t
  show i ∈ ((View.whole main_v3_1).slice (win0_8.rect t)).set
  rw [View.set_slice_whole, Rect.mem_set_unit]
  intro a
  match a with
  | ⟨0, _⟩ => show win0_8.index t 0 * 1 ≤ (i 0 : Nat) ∧ (i 0 : Nat) < win0_8.index t 0 * 1 + 1; rw [e0]; omega
  | ⟨1, _⟩ => show win0_8.index t 1 * 4 ≤ (i 1 : Nat) ∧ (i 1 : Nat) < win0_8.index t 1 * 4 + 4; rw [e1]; omega
  | ⟨2, _⟩ => show win0_8.index t 2 * 128 ≤ (i 2 : Nat) ∧ (i 2 : Nat) < win0_8.index t 2 * 128 + 128; rw [e2]; omega

/-- So both result arrays end holding the formulas everywhere. -/
theorem final (c : Dev nD) (r : PUnit × MemSt nD τ sig (Elt Ideal))
    (h : Pipeline.RDat.FramePost (cfgs 0) (fun c => rdats m c) (V m) r) :
    r.2.mem ((c : Thread nD τ).loc main_v3_0) = result0 m c ∧ r.2.mem ((c : Thread nD τ).loc main_v3_1) = result1 m c := by
  obtain ⟨after, hL, hA⟩ := Pipeline.RDat.FramePost.exists_exact h c
  constructor
  · refine (hA 7).trans (((rdats m c).withAfter after).arrAt_eq_of_cover 7 (result0 m c) (fun t ht => ?_) cover7)
    have hX := (dats m c).toRRel_leaves (fgt := marked) (Rl := leaves0 m c) (w := 7) rfl (hL 7 t ht)
    have hX' : (after 7 t : Vec Ideal S512x5376 .fp8e4m3) = codes7 (full m c t) := hX ((flush0_7 t).mp ht)
    exact funext fun j => (congrFun hX' j).trans (codes_read m c t j)
  · refine (hA 8).trans (((rdats m c).withAfter after).arrAt_eq_of_cover 8 (result1 m c) (fun t ht => ?_) cover8)
    have hX := (dats m c).toRRel_leaves (fgt := marked) (Rl := leaves0 m c) (w := 8) rfl (hL 8 t ht)
    have hX' : (after 8 t : Vec Ideal S1x4x128 .f32) = scale8 (full m c t) := hX ((flush0_8 t).mp ht)
    exact funext fun j => (congrFun hX' j).trans (scales_read m c t j)

end Cert.GateUpIdeal.Res

end
-- ==== Proof.GateUpReference.lean ====
/-
  The gate and up projections' reference, read as values over the reals: the whole-array products, the activation and its
  quantisation are the plain formulas of `Cert.Proof.GateUpSpec`.
-/
module

public import proofs.«01_k».proof.Proof.Gen.GateUpRefIdeal.Value
public import proofs.«01_k».proof.Proof.GateUpSpec
public import Idealize.ShloMosaic.Lib.Pointwise

@[expose] public section

noncomputable section

namespace Cert.GateUpRefIdeal.Res

open Cert.GateUpRefIdeal Cert.GateUpRefIdeal.Gen Cert.Proof.GateUpSpec
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- The activation's payload, at an index. -/
theorem pay4_apply (v0 : Vec Ideal S4608x5120 .fp8e4m3) (v1 : Vec Ideal S4608x1 .f32) (v3 : Vec Ideal S5120x5376 .fp8e4m3)
    (v4 : Vec Ideal S1x5376 .f32) (v11 : Vec Ideal S1x1 .f32) (v15 : Vec Ideal S4608x5120 .fp8e4m3) (v16 : Vec Ideal S4608x1 .f32)
    (v18 : Vec Ideal S5120x5376 .fp8e4m3) (v19 : Vec Ideal S1x5376 .f32) (j : S4608x5376.Idx) :
    k0_pay4 (F := Ideal) v0 v1 v3 v4 v11 v15 v16 v18 v19 j
      = (∑ k : Fin 5120, v0 (ix2 (j 0) k) * v3 (ix2 k (j 1))) * v1 (ix2 (j 0) 0) * v4 (ix2 0 (j 1)) * v11 (ix2 0 0)
        * Ideal.logistic ((∑ k : Fin 5120, v0 (ix2 (j 0) k) * v3 (ix2 k (j 1))) * v1 (ix2 (j 0) 0) * v4 (ix2 0 (j 1)) * v11 (ix2 0 0))
        * ((∑ k : Fin 5120, v15 (ix2 (j 0) k) * v18 (ix2 k (j 1))) * v16 (ix2 (j 0) 0) * v19 (ix2 0 (j 1))) := by
  pointwise [k0_pay4]

/-- The activation the body computes, whole, -/
def wholeAct (x0 : Vec Ideal S4608x5120 .fp8e4m3) (x1 : Vec Ideal S4608x1 .f32) (x2 : Vec Ideal S5120x5376 .fp8e4m3)
    (x3 : Vec Ideal S1x5376 .f32) (x4 : Vec Ideal S5120x5376 .fp8e4m3) (x5 : Vec Ideal S1x5376 .f32) (x6 : Vec Ideal S1x1 .f32) :
    FVec Ideal S4608x5376 .f32 :=
  k0_pay4 (F := Ideal) x0 x1 x2 x3 x6 x0 x1 x4 x5

theorem wholeAct_apply (x0 : Vec Ideal S4608x5120 .fp8e4m3) (x1 : Vec Ideal S4608x1 .f32) (x2 : Vec Ideal S5120x5376 .fp8e4m3)
    (x3 : Vec Ideal S1x5376 .f32) (x4 : Vec Ideal S5120x5376 .fp8e4m3) (x5 : Vec Ideal S1x5376 .f32) (x6 : Vec Ideal S1x1 .f32)
    (j : S4608x5376.Idx) :
    wholeAct x0 x1 x2 x3 x4 x5 x6 j
      = (∑ k : Fin 5120, x0 (ix2 (j 0) k) * x2 (ix2 k (j 1))) * x1 (ix2 (j 0) 0) * x3 (ix2 0 (j 1)) * x6 (ix2 0 0)
        * Ideal.logistic ((∑ k : Fin 5120, x0 (ix2 (j 0) k) * x2 (ix2 k (j 1))) * x1 (ix2 (j 0) 0) * x3 (ix2 0 (j 1)) * x6 (ix2 0 0))
        * ((∑ k : Fin 5120, x0 (ix2 (j 0) k) * x4 (ix2 k (j 1))) * x1 (ix2 (j 0) 0) * x5 (ix2 0 (j 1))) := by
  exact pay4_apply _ _ _ _ _ _ _ _ _ _

/-- the scales of its rows, -/
def wholeScale (w : FVec Ideal S4608x5376 .f32) (j : S4608x1.Idx) : EReal := scaleOf (rowMax fun x : Fin 5376 => w (ix2 (j 0) x))

/-- The running maximum of magnitudes along the rows of an array of any size is each row's largest magnitude. -/
theorem rowMax_reduction {A B : ℕ} (w : FVec Ideal ⟨2, ![A, B]⟩ .f32) (h : Shape.Reduces ⟨2, ![A, B]⟩ [1] ⟨1, ![A]⟩)
    (hφ : FKind.Formats .f32) (hacc : (0xFF800000#32 : BitVec 32) = FKind.maximumf.neutral .f32 hφ) (r : Fin A) :
    multiReduction .maximumf [1] ⟨1, ![A]⟩ (absf w) 0xFF800000#32 h hφ hacc (ix1 r) = rowMax fun x : Fin B => w (ix2 r x) := by
  rw [Ideal.multiReduction_maximumf_single]
  unfold rowMax low
  refine congrArg (fun f : Fin B → EReal => Finset.fold max (Ideal.ofBits .f32 4286578688#32) f Finset.univ) (funext fun x => ?_)
  refine congrArg (fun i => FloatOps.absf (F := Ideal) (φ := .f32) (w i)) (funext fun a => ?_)
  match a with
  | ⟨0, _⟩ => rfl
  | ⟨1, _⟩ => rfl

/-- The largest magnitude of each row of an activation, as one column; -/
def maxCol (w : FVec Ideal S4608x5376 .f32) : FVec Ideal S4608x1 .f32 :=
  shapeCast S4608x1 (multiReduction .maximumf [1] S4608 (absf w) 0xFF800000#32 reduces_S4608x5376_S4608 (.inl rfl) rfl)
    shapeCasts_S4608_S4608x1

theorem cast_maxCol (x : FVec Ideal S4608 .f32) (j : S4608x1.Idx) : shapeCast S4608x1 x shapeCasts_S4608_S4608x1 j = x (ix1 (j 0)) := by
  pointwise

theorem maxCol_apply (w : FVec Ideal S4608x5376 .f32) (j : S4608x1.Idx) :
    maxCol w j = rowMax fun x : Fin 5376 => w (ix2 (j 0) x) :=
  (cast_maxCol _ j).trans (rowMax_reduction w _ _ _ _)

/-- and the scales of the rows, from those. -/
theorem scale_of_col (a : FVec Ideal S4608x1 .f32) (j : S4608x1.Idx) :
    k0_pay1 (F := Ideal) (cmpf .oeq a (broadcast S4608x1 (Scalar.ofBits .f32 0x00000000#32)))
        (divf a (broadcast S4608x1 (Scalar.ofBits .f32 0x43E00000#32))) (Scalar.ofBits .f32 0x3F800000#32) j
      = scaleOf (a j) := by
  unfold scaleOf top
  pointwise [k0_pay1]
theorem scale_apply (x0 : Vec Ideal S4608x5120 .fp8e4m3) (x1 : Vec Ideal S4608x1 .f32) (x2 : Vec Ideal S5120x5376 .fp8e4m3)
    (x3 : Vec Ideal S1x5376 .f32) (x4 : Vec Ideal S5120x5376 .fp8e4m3) (x5 : Vec Ideal S1x5376 .f32) (x6 : Vec Ideal S1x1 .f32)
    (j : S4608x1.Idx) :
    k0_pay1 (F := Ideal) (k0_pay6 (F := Ideal) x0 x1 x2 x3 x6 x0 x1 x4 x5) (k0_pay7 (F := Ideal) x0 x1 x2 x3 x6 x0 x1 x4 x5)
        (Scalar.ofBits .f32 0x3F800000#32) j
      = wholeScale (wholeAct x0 x1 x2 x3 x4 x5 x6) j := by
  have e : k0_pay5 (F := Ideal) x0 x1 x2 x3 x6 x0 x1 x4 x5 = maxCol (wholeAct x0 x1 x2 x3 x4 x5 x6) := by
    unfold k0_pay5 maxCol wholeAct
    rfl
  unfold k0_pay6 k0_pay7 wholeScale
  rw [e]
  exact (scale_of_col _ j).trans (congrArg scaleOf (maxCol_apply _ j))

/-- and what it stores: the codes under those scales, and the scales in blocks of 4 by 128. -/
theorem codes_apply (w : FVec Ideal S4608x5376 .f32) (a : IVec S4608x1 1) (b : FVec Ideal S4608x1 .f32) (d : Ideal .f32) (j : S4608x5376.Idx) :
    k0_pay2 (F := Ideal) w a b d j = codeOf (w j) (k0_pay1 (F := Ideal) a b d (ix2 (j 0) 0)) := by
  unfold codeOf bot top k0_pay2
  generalize k0_pay1 (F := Ideal) a b d = s
  pointwise

theorem scales_apply (a : IVec S4608x1 1) (b : FVec Ideal S4608x1 .f32) (d : Ideal .f32) (j : S9x4x128.Idx) :
    k0_pay3 (F := Ideal) a b d j
      = k0_pay1 (F := Ideal) a b d (ix2 ⟨512 * (j 0).val + 128 * (j 1).val + (j 2).val, by
          have h0 : (j 0).val < 9 := (j 0).isLt; have h1 : (j 1).val < 4 := (j 1).isLt; have h2 : (j 2).val < 128 := (j 2).isLt; omega⟩ 0) := by
  unfold k0_pay3
  generalize k0_pay1 (F := Ideal) a b d = s
  pointwise
  congr 2
  apply Fin.ext
  show (j 0).val * 512 + (j 1).val * 128 + (j 2).val = 512 * (j 0).val + 128 * (j 1).val + (j 2).val
  omega

/-- Every window of the one point is its whole array. -/
theorem idx_facts : ∀ (t : Fin cfg0.N) (a : Fin 2), win0_0.index t a = 0 ∧ win0_1.index t a = 0 ∧ win0_2.index t a = 0 ∧ win0_3.index t a = 0 ∧ win0_4.index t a = 0 ∧ win0_5.index t a = 0 ∧ win0_6.index t a = 0 ∧ win0_7.index t a = 0 :=
  (by decide +kernel : ∀ (t : Fin grid0.N) (a : Fin 2), win0_0.index t a = 0 ∧ win0_1.index t a = 0 ∧ win0_2.index t a = 0 ∧ win0_3.index t a = 0 ∧ win0_4.index t a = 0 ∧ win0_5.index t a = 0 ∧ win0_6.index t a = 0 ∧ win0_7.index t a = 0)
theorem idx_facts8 : ∀ (t : Fin cfg0.N) (a : Fin 3), win0_8.index t a = 0 := (by decide +kernel : ∀ (t : Fin grid0.N) (a : Fin 3), win0_8.index t a = 0)

theorem blk0 (c : Dev nD) (t : Fin cfg0.N) : iblk m c 0 t = (m (c.tc.loc main_arg0) : Vec Ideal S4608x5120 .fp8e4m3) := by
  unfold iblk
  entry_read
  have hz' : (fun a => win0_0.index t a * main_arg0.ty.shape.size a) = fun _ => 0 := funext fun a => by rw [(idx_facts t a).1]; simp
  exact Memref.read_access_unit_zero (Elt Ideal) main_arg0 hz' (fun a => by rw [congrFun hz' a]; simp) _

theorem blk1 (c : Dev nD) (t : Fin cfg0.N) : iblk m c 1 t = shapeCast S4608x1 (m (c.tc.loc main_arg1) : Vec Ideal S4608 .f32) shapeCasts_S4608_S4608x1 := by
  unfold iblk
  entry_read
  have hz' : (fun a => win0_1.index t a * main_v0.ty.shape.size a) = fun _ => 0 := funext fun a => by rw [(idx_facts t a).2.1]; simp
  exact Memref.read_access_unit_zero (Elt Ideal) main_v0 hz' (fun a => by rw [congrFun hz' a]; simp) _

theorem blk2 (c : Dev nD) (t : Fin cfg0.N) : iblk m c 2 t = (m (c.tc.loc main_arg2) : Vec Ideal S5120x5376 .fp8e4m3) := by
  unfold iblk
  entry_read
  have hz' : (fun a => win0_2.index t a * main_arg2.ty.shape.size a) = fun _ => 0 := funext fun a => by rw [(idx_facts t a).2.2.1]; simp
  exact Memref.read_access_unit_zero (Elt Ideal) main_arg2 hz' (fun a => by rw [congrFun hz' a]; simp) _

theorem blk3 (c : Dev nD) (t : Fin cfg0.N) : iblk m c 3 t = shapeCast S1x5376 (m (c.tc.loc main_arg3) : Vec Ideal S5376 .f32) shapeCasts_S5376_S1x5376 := by
  unfold iblk
  entry_read
  have hz' : (fun a => win0_3.index t a * main_v1.ty.shape.size a) = fun _ => 0 := funext fun a => by rw [(idx_facts t a).2.2.2.1]; simp
  exact Memref.read_access_unit_zero (Elt Ideal) main_v1 hz' (fun a => by rw [congrFun hz' a]; simp) _

theorem blk4 (c : Dev nD) (t : Fin cfg0.N) : iblk m c 4 t = (m (c.tc.loc main_arg4) : Vec Ideal S5120x5376 .fp8e4m3) := by
  unfold iblk
  entry_read
  have hz' : (fun a => win0_4.index t a * main_arg4.ty.shape.size a) = fun _ => 0 := funext fun a => by rw [(idx_facts t a).2.2.2.2.1]; simp
  exact Memref.read_access_unit_zero (Elt Ideal) main_arg4 hz' (fun a => by rw [congrFun hz' a]; simp) _

theorem blk5 (c : Dev nD) (t : Fin cfg0.N) : iblk m c 5 t = shapeCast S1x5376 (m (c.tc.loc main_arg5) : Vec Ideal S5376 .f32) shapeCasts_S5376_S1x5376 := by
  unfold iblk
  entry_read
  have hz' : (fun a => win0_5.index t a * main_v2.ty.shape.size a) = fun _ => 0 := funext fun a => by rw [(idx_facts t a).2.2.2.2.2.1]; simp
  exact Memref.read_access_unit_zero (Elt Ideal) main_v2 hz' (fun a => by rw [congrFun hz' a]; simp) _

theorem blk6 (c : Dev nD) (t : Fin cfg0.N) : iblk m c 6 t = shapeCast S1x1 (extractStridedSlice S1 ![5] (m (c.tc.loc main_arg6) : Vec Ideal S12 .f32) slices_S12_S1_5) shapeCasts_S1_S1x1 := by
  unfold iblk
  entry_read
  have hz' : (fun a => win0_6.index t a * main_v4.ty.shape.size a) = fun _ => 0 := funext fun a => by rw [(idx_facts t a).2.2.2.2.2.2.1]; simp
  exact Memref.read_access_unit_zero (Elt Ideal) main_v4 hz' (fun a => by rw [congrFun hz' a]; simp) _

/-- The reshapes of the scales and of multiplier 5, read at an index. -/
theorem cast_col (x : Vec Ideal S4608 .f32) : shapeCast S4608x1 x shapeCasts_S4608_S4608x1 = fun j => x (ix1 (j 0)) := by
  funext j
  pointwise
theorem cast_row (x : Vec Ideal S5376 .f32) : shapeCast S1x5376 x shapeCasts_S5376_S1x5376 = fun j => x (ix1 (j 1)) := by
  funext j
  pointwise
theorem cast_one (x : Vec Ideal S12 .f32) :
    shapeCast S1x1 (extractStridedSlice S1 ![5] x slices_S12_S1_5) shapeCasts_S1_S1x1 = fun _ => x (ix1 5) := by
  funext j
  pointwise

/-- The activation of the arguments, -/
abbrev acts (c : Dev nD) : Fin 4608 → Fin 5376 → EReal :=
  act (m (c.tc.loc main_arg0)) (m (c.tc.loc main_arg1)) (m (c.tc.loc main_arg2)) (m (c.tc.loc main_arg3)) (m (c.tc.loc main_arg4))
    (m (c.tc.loc main_arg5)) (m (c.tc.loc main_arg6))
/-- and the arrays the reference leaves, as the plain formulas of the arguments. -/
abbrev result0 (c : Dev nD) : Buf (Elt Ideal) ((c : Thread nD τ).loc main_v5_0) := actCodes (acts m c)
abbrev result1 (c : Dev nD) : Buf (Elt Ideal) ((c : Thread nD τ).loc main_v5_1) := actScales (acts m c)

theorem wholeAct_eq (c : Dev nD) (t : Fin cfg0.N) (r : Fin 4608) (l : Fin 5376) :
    wholeAct (iblk m c 0 t) (iblk m c 1 t) (iblk m c 2 t) (iblk m c 3 t) (iblk m c 4 t) (iblk m c 5 t) (iblk m c 6 t) (ix2 r l) = acts m c r l := by
  rw [blk0, blk1, blk2, blk3, blk4, blk5, blk6, cast_col, cast_row, cast_row, cast_one]
  exact wholeAct_apply _ _ _ _ _ _ _ _

theorem wholeAct_at (c : Dev nD) (t : Fin cfg0.N) (j : S4608x5376.Idx) :
    wholeAct (iblk m c 0 t) (iblk m c 1 t) (iblk m c 2 t) (iblk m c 3 t) (iblk m c 4 t) (iblk m c 5 t) (iblk m c 6 t) j = acts m c (j 0) (j 1) := by
  rw [← wholeAct_eq m c t (j 0) (j 1)]
  congr 1
  funext a
  match a with
  | ⟨0, _⟩ => rfl
  | ⟨1, _⟩ => rfl

theorem wholeScale_eq (c : Dev nD) (t : Fin cfg0.N) (r : Fin 4608) :
    wholeScale (wholeAct (iblk m c 0 t) (iblk m c 1 t) (iblk m c 2 t) (iblk m c 3 t) (iblk m c 4 t) (iblk m c 5 t) (iblk m c 6 t)) (ix2 r 0)
      = scaleOf (rowMax (acts m c r)) :=
  congrArg (fun f : Fin 5376 → EReal => scaleOf (rowMax f)) (funext fun x => wholeAct_eq m c t r x)

/-- What the body leaves in its two whole-array outputs are the formulas. -/
theorem out7_eq (c : Dev nD) (t : Fin cfg0.N) :
    out0_7 (iblk m c 0 t) (iblk m c 1 t) (iblk m c 2 t) (iblk m c 3 t) (iblk m c 4 t) (iblk m c 5 t) (iblk m c 6 t) = result0 m c := by
  funext j
  unfold out0_7 k0_pay8 k0_pay9
  rw [View.canon_unit_zero (S := S4608x5376) hz]
  simp only [View.ld_unit_zero (S := S4608x5120) hz, View.ld_unit_zero (S := S5120x5376) hz,
    View.ld_unit_zero (S := S4608x1) hz, View.ld_unit_zero (S := S1x5376) hz, View.ld_unit_zero (S := S1x1) hz]
  refine (codes_apply _ _ _ _ _).trans ((congrArg₂ codeOf (wholeAct_at m c t j) ((scale_apply _ _ _ _ _ _ _ _).trans (wholeScale_eq m c t (j 0)))).trans rfl)

theorem out8_eq (c : Dev nD) (t : Fin cfg0.N) :
    out0_8 (iblk m c 0 t) (iblk m c 1 t) (iblk m c 2 t) (iblk m c 3 t) (iblk m c 4 t) (iblk m c 5 t) (iblk m c 6 t) = result1 m c := by
  funext j
  unfold out0_8 k0_pay8 k0_pay9
  rw [View.canon_unit_zero (S := S9x4x128) hz3]
  simp only [View.ld_unit_zero (S := S4608x5120) hz, View.ld_unit_zero (S := S5120x5376) hz,
    View.ld_unit_zero (S := S4608x1) hz, View.ld_unit_zero (S := S1x5376) hz, View.ld_unit_zero (S := S1x1) hz]
  refine (scales_apply _ _ _ _).trans ?_
  exact (scale_apply _ _ _ _ _ _ _ _).trans (wholeScale_eq m c t _)

theorem flushed_eq7 (c : Dev nD) (t : Fin cfg0.N) (_ : (cfg0.win 7).flush t = true) :
    (dats m 0 c).flushed 7 t = ((cfg0.win 7).blk t).view.read (Elt Ideal) (result0 m c) := by
  rw [Value.flushed7, out7_eq]
  have hz' : (fun a => win0_7.index t a * main_v5_0.ty.shape.size a) = fun _ => 0 := funext fun a => by rw [(idx_facts t a).2.2.2.2.2.2.2]; simp
  exact (Memref.read_access_unit_zero (Elt Ideal) main_v5_0 hz' (fun a => by rw [congrFun hz' a]; simp) (result0 m c)).symm

theorem cover7 (i : S4608x5376.Idx) : ∃ t : Fin cfg0.N, (cfg0.win 7).flush t = true ∧ i ∈ ((cfg0.win 7).blk t).view.set := by
  have h0 : (i 0 : Nat) < 4608 := (i 0).isLt
  have h1 : (i 1 : Nat) < 5376 := (i 1).isLt
  have hN : cfg0.N = 1 := N_0
  have t : Fin cfg0.N := ⟨0, by omega⟩
  refine ⟨t, flush0_7 t, ?_⟩
  show i ∈ ((View.whole main_v5_0).slice (win0_7.rect t)).set
  rw [View.set_slice_whole, Rect.mem_set_unit]
  intro a
  have e := (idx_facts t a).2.2.2.2.2.2.2
  match a with
  | ⟨0, _⟩ => show win0_7.index t 0 * 4608 ≤ (i 0 : Nat) ∧ (i 0 : Nat) < win0_7.index t 0 * 4608 + 4608; rw [show win0_7.index t 0 = 0 from e]; omega
  | ⟨1, _⟩ => show win0_7.index t 1 * 5376 ≤ (i 1 : Nat) ∧ (i 1 : Nat) < win0_7.index t 1 * 5376 + 5376; rw [show win0_7.index t 1 = 0 from e]; omega

/-- So this result array of the reference ends holding its formula. -/
theorem final7 (c : Dev nD) : (dats m 0 c).arrAt 7 cfg0.N = result0 m c :=
  (dats m 0 c).arrAt_eq_of_cover 7 (result0 m c) (flushed_eq7 m c) cover7

theorem flushed_eq8 (c : Dev nD) (t : Fin cfg0.N) (_ : (cfg0.win 8).flush t = true) :
    (dats m 0 c).flushed 8 t = ((cfg0.win 8).blk t).view.read (Elt Ideal) (result1 m c) := by
  rw [Value.flushed8, out8_eq]
  have hz' : (fun a => win0_8.index t a * main_v5_1.ty.shape.size a) = fun _ => 0 := funext fun a => by rw [idx_facts8 t a]; simp
  exact (Memref.read_access_unit_zero (Elt Ideal) main_v5_1 hz' (fun a => by rw [congrFun hz' a]; simp) (result1 m c)).symm

theorem cover8 (i : S9x4x128.Idx) : ∃ t : Fin cfg0.N, (cfg0.win 8).flush t = true ∧ i ∈ ((cfg0.win 8).blk t).view.set := by
  have h0 : (i 0 : Nat) < 9 := (i 0).isLt
  have h1 : (i 1 : Nat) < 4 := (i 1).isLt
  have h2 : (i 2 : Nat) < 128 := (i 2).isLt
  have hN : cfg0.N = 1 := N_0
  have t : Fin cfg0.N := ⟨0, by omega⟩
  refine ⟨t, flush0_8 t, ?_⟩
  show i ∈ ((View.whole main_v5_1).slice (win0_8.rect t)).set
  rw [View.set_slice_whole, Rect.mem_set_unit]
  intro a
  have e := idx_facts8 t a
  match a with
  | ⟨0, _⟩ => show win0_8.index t 0 * 9 ≤ (i 0 : Nat) ∧ (i 0 : Nat) < win0_8.index t 0 * 9 + 9; rw [show win0_8.index t 0 = 0 from e]; omega
  | ⟨1, _⟩ => show win0_8.index t 1 * 4 ≤ (i 1 : Nat) ∧ (i 1 : Nat) < win0_8.index t 1 * 4 + 4; rw [show win0_8.index t 1 = 0 from e]; omega
  | ⟨2, _⟩ => show win0_8.index t 2 * 128 ≤ (i 2 : Nat) ∧ (i 2 : Nat) < win0_8.index t 2 * 128 + 128; rw [show win0_8.index t 2 = 0 from e]; omega

/-- So this result array of the reference ends holding its formula. -/
theorem final8 (c : Dev nD) : (dats m 0 c).arrAt 8 cfg0.N = result1 m c :=
  (dats m 0 c).arrAt_eq_of_cover 8 (result1 m c) (flushed_eq8 m c) cover8

end Cert.GateUpRefIdeal.Res

end
-- ==== Proof.GateUpClaims.lean ====
/-
  The claims of the quantised gate and up projections.
-/
module

public import proofs.«01_k».proof.Defs
public import proofs.«01_k».proof.Proof.GateUpBitsFrame
public import proofs.«01_k».proof.Proof.GateUpKernel
public import proofs.«01_k».proof.Proof.GateUpReference

@[expose] public section

noncomputable section

namespace Cert.Proof.GateUpClaims

open Idealize.ShloMosaic Idealize.ShloMosaic.TcCoe Idealize.SL Idealize.SL.Sem

/-- The kernel terminates, leaves every semaphore at zero and its arguments as they were; so do its idealization and the
    reference's. -/
theorem frame_p : Cert.quiescent_GateUp := fun m ρ _ => Cert.GateUp.Res.frame_quiescent m ρ
theorem frame_pi : Cert.quiescent_GateUpIdeal := fun m ρ _ =>
  θ_run_and (Cert.GateUpIdeal.Res.frame_of_rel m ρ _ (Cert.GateUpIdeal.Res.A_eq m) (Cert.GateUpIdeal.Res.run_main m ρ))
    ((θ_run Cert.GateUpIdeal.defs _ _).mono (fun _ h => h.2) (Cert.GateUpIdeal.Res.run_quiescent m ρ))
theorem frame_ri : Cert.quiescent_GateUpRefIdeal := fun m ρ _ => Cert.GateUpRefIdeal.Gen.frame m ρ

/-- The idealization rewrote nothing. -/
theorem preserves : Cert.preserves_GateUp_GateUpIdeal := trivial

/-- Over the reals the kernel and the reference end with the same codes and the same scales, the formulas `actCodes` and
    `actScales` of the arguments. -/
theorem algebraic : Cert.algebraic_GateUpIdeal_GateUpRefIdeal := by
  intro m ρ m' ρ' _ hag
  refine ⟨fun c => Cert.GateUpIdeal.Res.result0 m c, fun c => Cert.GateUpIdeal.Res.result1 m c,
    (θ_run Cert.GateUpIdeal.defs _ _).mono
      (fun r h c => ⟨(Cert.GateUpIdeal.Res.final m c r h.2).1, (Cert.GateUpIdeal.Res.final m c r h.2).2, h.1 c⟩)
      (θ_run_and (Cert.GateUpIdeal.Res.frame_of_rel m ρ _ (Cert.GateUpIdeal.Res.A_eq m) (Cert.GateUpIdeal.Res.run_main m ρ))
        (Cert.GateUpIdeal.Res.run_main m ρ)),
    (θ_run Cert.GateUpRefIdeal.defs _ _).mono
      (fun _ h c => ⟨(h c).1.trans ((Cert.GateUpRefIdeal.Res.final7 m' c).trans ?_),
        (h c).2.1.trans ((Cert.GateUpRefIdeal.Res.final8 m' c).trans ?_), (h c).2.2⟩)
      (Cert.GateUpRefIdeal.Value.run_blocks m' ρ')⟩
  · obtain ⟨h0, h1, h2, h3, h4, h5, h6⟩ := hag c
    unfold Cert.GateUpRefIdeal.Res.result0 Cert.GateUpRefIdeal.Res.acts
    rw [h0, h1, h2, h3, h4, h5, h6]
  · obtain ⟨h0, h1, h2, h3, h4, h5, h6⟩ := hag c
    unfold Cert.GateUpRefIdeal.Res.result1 Cert.GateUpRefIdeal.Res.acts
    rw [h0, h1, h2, h3, h4, h5, h6]

end Cert.Proof.GateUpClaims

end
-- ==== Proof.OutProjSpec.lean ====
/-
  The output projections with the second norm over the reals, index by index: the residual plus the two projections, its
  root-mean-square norm, and the codes and scales of that; and the row sums and row maxima the programs take.
-/
module

public import proofs.«01_k».proof.Proof.GateUpSpec
public import Idealize.ShloMosaic.Lib.Pointwise

@[expose] public section

noncomputable section

namespace Cert.Proof.OutProjSpec

open Cert.Proof.GateUpSpec
open Idealize.ShloMosaic

/-- The bit pattern of 5120, the length of a row, as a value, -/
def len : EReal := Ideal.ofBits .f32 1168113664#32
/-- and that of the constant added under the root. -/
def eps : EReal := Ideal.ofBits .f32 925353388#32

/-- The residual stream after the two output projections: row `i`, column `j` holds the input plus the product of row `i` of
    the attention's codes with column `j` of their weights, times the row's scale, the column's scale and multiplier 2, plus
    the same of the state-space branch with multiplier 4. -/
def hmid (x : Vec Ideal ⟨2, ![4608, 5120]⟩ .bf16) (ac : Vec Ideal ⟨2, ![4608, 640]⟩ .fp8e4m3) (sa : Vec Ideal ⟨1, ![4608]⟩ .f32)
    (yc : Vec Ideal ⟨2, ![4608, 1024]⟩ .fp8e4m3) (sy : Vec Ideal ⟨1, ![4608]⟩ .f32)
    (wo : Vec Ideal ⟨2, ![640, 5120]⟩ .fp8e4m3) (wos : Vec Ideal ⟨1, ![5120]⟩ .f32)
    (wu : Vec Ideal ⟨2, ![1024, 5120]⟩ .fp8e4m3) (wus : Vec Ideal ⟨1, ![5120]⟩ .f32)
    (mu : Vec Ideal ⟨1, ![12]⟩ .f32) (r : Fin 4608) (j : Fin 5120) : EReal :=
  x (ix2 r j) + (∑ k : Fin 640, ac (ix2 r k) * wo (ix2 k j)) * sa (ix1 r) * wos (ix1 j) * mu (ix1 2)
    + (∑ k : Fin 1024, yc (ix2 r k) * wu (ix2 k j)) * sy (ix1 r) * wus (ix1 j) * mu (ix1 4)

/-- The norm of a row `f` with weights `g`, given the sum `s` of the row's squares, -/
def normOf (f g : Fin 5120 → EReal) (s : EReal) (j : Fin 5120) : EReal := f j * Ideal.rsqrt (Ideal.div s len + eps) * g j
/-- the sum of the squares of a row, -/
def sumSq {n : ℕ} (f : Fin n → EReal) : EReal := ∑ k, f k * f k
/-- and the norm of the row. -/
def normed (f g : Fin 5120 → EReal) : Fin 5120 → EReal := normOf f g (sumSq f)

/-- The residual stream as an array, -/
def stream (a : Fin 4608 → Fin 5120 → EReal) : Vec Ideal ⟨2, ![4608, 5120]⟩ .f32 := fun i => a (i 0) (i 1)
/-- the codes of its rows' norms, -/
def normCodes (a : Fin 4608 → Fin 5120 → EReal) (g : Fin 5120 → EReal) : Vec Ideal ⟨2, ![4608, 5120]⟩ .fp8e4m3 := fun i =>
  codeOf (normed (a (i 0)) g (i 1)) (scaleOf (rowMax (normed (a (i 0)) g)))
/-- and their scales, the rows laid out in blocks of 2 by 128. -/
def normScales (a : Fin 4608 → Fin 5120 → EReal) (g : Fin 5120 → EReal) : Vec Ideal ⟨3, ![18, 2, 128]⟩ .f32 := fun i =>
  scaleOf (rowMax (normed (a ⟨256 * (i 0).val + 128 * (i 1).val + (i 2).val, by
    have h0 : (i 0).val < 18 := (i 0).isLt; have h1 : (i 1).val < 2 := (i 1).isLt; have h2 : (i 2).val < 128 := (i 2).isLt; omega⟩) g))

/-- The running maximum of magnitudes along the rows of an array of any size is each row's largest magnitude, -/
theorem rowMax_red {A B : ℕ} (w : FVec Ideal ⟨2, ![A, B]⟩ .f32) (h : Shape.Reduces ⟨2, ![A, B]⟩ [1] ⟨1, ![A]⟩)
    (hφ : FKind.Formats .f32) (hacc : (0xFF800000#32 : BitVec 32) = FKind.maximumf.neutral .f32 hφ) (r : Fin A) :
    multiReduction .maximumf [1] ⟨1, ![A]⟩ (absf w) 0xFF800000#32 h hφ hacc (ix1 r) = rowMax fun x : Fin B => w (ix2 r x) := by
  rw [Ideal.multiReduction_maximumf_single]
  unfold rowMax low
  refine congrArg (fun f : Fin B → EReal => Finset.fold max (Ideal.ofBits .f32 4286578688#32) f Finset.univ) (funext fun x => ?_)
  refine congrArg (fun i => FloatOps.absf (F := Ideal) (φ := .f32) (w i)) (funext fun a => ?_)
  match a with
  | ⟨0, _⟩ => rfl
  | ⟨1, _⟩ => rfl

/-- and the sum along the rows of the squares is each row's sum of squares. -/
theorem sumSq_red {A B : ℕ} (w : FVec Ideal ⟨2, ![A, B]⟩ .f32) (h : Shape.Reduces ⟨2, ![A, B]⟩ [1] ⟨1, ![A]⟩)
    (hφ : FKind.Formats .f32) (hacc : (0x00000000#32 : BitVec 32) = FKind.add.neutral .f32 hφ) (r : Fin A) :
    multiReduction .add [1] ⟨1, ![A]⟩ (mulf w w) 0x00000000#32 h hφ hacc (ix1 r) = sumSq fun x : Fin B => w (ix2 r x) := by
  rw [Ideal.multiReduction_add_single]
  unfold sumSq
  refine congrArg (fun f : Fin B → EReal => Finset.sum Finset.univ f) (funext fun x => ?_)
  refine congrArg (fun i => w i * w i) (funext fun a => ?_)
  match a with
  | ⟨0, _⟩ => rfl
  | ⟨1, _⟩ => rfl

end Cert.Proof.OutProjSpec

end
-- ==== Proof.OutProjPieces.lean ====
/-
  The output projections' kernel over the reals: what one grid point leaves in its three outputs, as functions of the blocks
  it reads. The residual stream is written in ten strips of columns; the norm's codes and scales are then computed from
  what was written, in two strips of rows.
-/
module

public import proofs.«01_k».proof.Proof.Gen.OutProjIdeal.Frame.RunA
public import proofs.«01_k».proof.Proof.OutProjSpec
public import Idealize.ShloMosaic.Lib.WritesUnit
public import Idealize.ShloMosaic.Lib.Pointwise

@[expose] public section

noncomputable section

namespace Cert.OutProjIdeal.Res

open Cert.OutProjIdeal Cert.OutProjIdeal.Gen Cert.Proof.GateUpSpec Cert.Proof.OutProjSpec
open Idealize.ShloMosaic Idealize.ShloMosaic.TcCoe Idealize.ShloMosaic.Tactic
open Idealize.SL Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-! ## The residual stream -/

/-- A point's block of the residual stream, from the blocks it reads. -/
def block (x0 : Vec Ideal S12 .f32) (x1 : Vec Ideal S256x5120 .bf16) (x2 : Vec Ideal S256x640 .fp8e4m3) (x3 : Vec Ideal S1x2x128 .f32) (x4 : Vec Ideal S256x1024 .fp8e4m3) (x5 : Vec Ideal S1x2x128 .f32) (x6 : Vec Ideal S640x5120 .fp8e4m3) (x7 : Vec Ideal S1x5120 .f32) (x8 : Vec Ideal S1024x5120 .fp8e4m3) (x9 : Vec Ideal S1x5120 .f32) :
    Vec Ideal S256x5120 .f32 := fun y =>
  x1 y + (∑ k : Fin 640, x2 (ix2 (y 0) k) * x6 (ix2 k (y 1)))
      * x3 (ix3 0 ⟨(y 0).val / 128, by have h : (y 0).val < 256 := (y 0).isLt; omega⟩ ⟨(y 0).val % 128, Nat.mod_lt _ (by decide)⟩)
      * x7 (ix2 0 (y 1)) * x0 (ix1 2)
    + (∑ k : Fin 1024, x4 (ix2 (y 0) k) * x8 (ix2 k (y 1)))
      * x5 (ix3 0 ⟨(y 0).val / 128, by have h : (y 0).val < 256 := (y 0).isLt; omega⟩ ⟨(y 0).val % 128, Nat.mod_lt _ (by decide)⟩)
      * x9 (ix2 0 (y 1)) * x0 (ix1 4)

/-- One strip of columns, as the body computes it, at an index. -/
theorem pay6_apply (v0 : Vec Ideal S1x2x128 .f32) (v3 : Vec Ideal S1x2x128 .f32) (v6 : Vec Ideal S256x640 .fp8e4m3) (v7 : Vec Ideal S640x512 .fp8e4m3) (v11 : Vec Ideal S1x512 .f32) (v15 : Elt Ideal .f32) (v18 : Vec Ideal S256x1024 .fp8e4m3) (v19 : Vec Ideal S1024x512 .fp8e4m3) (v23 : Vec Ideal S1x512 .f32) (v27 : Elt Ideal .f32) (v30 : Vec Ideal S256x512 .bf16) (p : Fin 256) (q : Fin 512) :
    k0_pay6 (F := Ideal) v0 v3 v6 v7 v11 v15 v18 v19 v23 v27 v30 (ix2 p q)
      = v30 (ix2 p q) + (∑ k : Fin 640, v6 (ix2 p k) * v7 (ix2 k q))
          * v0 (ix3 0 ⟨p.val / 128, by have := p.isLt; omega⟩ ⟨p.val % 128, Nat.mod_lt _ (by decide)⟩)
          * v11 (ix2 0 q) * v15
        + (∑ k : Fin 1024, v18 (ix2 p k) * v19 (ix2 k q))
          * v3 (ix3 0 ⟨p.val / 128, by have := p.isLt; omega⟩ ⟨p.val % 128, Nat.mod_lt _ (by decide)⟩)
          * v23 (ix2 0 q) * v27 := by
  pointwise [k0_pay6, k0_pay4, k0_pay5]

/-- Columns `512 k` to `512 k + 512` of an array of 5120 columns lie in it. -/
theorem inb_cols (n : ℕ) (k : Fin 10) : ∀ a, (![0, 512 * k.val] : Fin 2 → Nat) a + (![n, 512] : Fin 2 → Nat) a ≤ (![n, 5120] : Fin 2 → Nat) a := by
  have := k.isLt
  intro a
  match a with
  | ⟨0, _⟩ => show 0 + n ≤ n; omega
  | ⟨1, _⟩ => show 512 * k.val + 512 ≤ 5120; omega

/-- Those columns of an array, as the body loads them. -/
def cols {n : ℕ} {e : EltTy} (X : Vec Ideal ⟨2, ![n, 5120]⟩ e) (k : Fin 10) : Vec Ideal ⟨2, ![n, 512]⟩ e :=
  View.ld X (Rect.unit (s := ⟨2, ![n, 5120]⟩) ![0, 512 * k.val] ![n, 512] (inb_cols n k))

theorem cols_apply {n : ℕ} {e : EltTy} (X : Vec Ideal ⟨2, ![n, 5120]⟩ e) (k : Fin 10) (p : Fin n) (q : Fin 512) :
    cols X k (ix2 p q) = X (ix2 p ⟨512 * k.val + q.val, by have := k.isLt; have := q.isLt; omega⟩) := by
  unfold cols
  show X _ = X _
  congr 1
  funext a
  apply Fin.ext
  match a with
  | ⟨0, _⟩ => show 0 + 1 * p.val = p.val; omega
  | ⟨1, _⟩ => show 512 * k.val + 1 * q.val = 512 * k.val + q.val; omega

/-- Strip `k` as the body computes it is `block` at that place. -/
theorem strip_apply (x0 : Vec Ideal S12 .f32) (x1 : Vec Ideal S256x5120 .bf16) (x2 : Vec Ideal S256x640 .fp8e4m3) (x3 : Vec Ideal S1x2x128 .f32) (x4 : Vec Ideal S256x1024 .fp8e4m3) (x5 : Vec Ideal S1x2x128 .f32) (x6 : Vec Ideal S640x5120 .fp8e4m3) (x7 : Vec Ideal S1x5120 .f32) (x8 : Vec Ideal S1024x5120 .fp8e4m3) (x9 : Vec Ideal S1x5120 .f32) (k : Fin 10) (p : Fin 256) (q : Fin 512) :
    k0_pay6 (F := Ideal) x3 x5 x2 (cols x6 k) (cols x7 k) (x0 (ix1 2)) x4 (cols x8 k) (cols x9 k) (x0 (ix1 4)) (cols x1 k) (ix2 p q)
      = block x0 x1 x2 x3 x4 x5 x6 x7 x8 x9 (ix2 p ⟨512 * k.val + q.val, by have := k.isLt; have := q.isLt; omega⟩) := by
  rw [pay6_apply]
  simp only [cols_apply]
  rfl

theorem strip_piece (x0 : Vec Ideal S12 .f32) (x1 : Vec Ideal S256x5120 .bf16) (x2 : Vec Ideal S256x640 .fp8e4m3) (x3 : Vec Ideal S1x2x128 .f32) (x4 : Vec Ideal S256x1024 .fp8e4m3) (x5 : Vec Ideal S1x2x128 .f32) (x6 : Vec Ideal S640x5120 .fp8e4m3) (x7 : Vec Ideal S1x5120 .f32) (x8 : Vec Ideal S1024x5120 .fp8e4m3) (x9 : Vec Ideal S1x5120 .f32) (k : Fin 10) (x : S256x512.Idx) :
    k0_pay6 (F := Ideal) x3 x5 x2 (cols x6 k) (cols x7 k) (x0 (ix1 2)) x4 (cols x8 k) (cols x9 k) (x0 (ix1 4)) (cols x1 k) x
      = block x0 x1 x2 x3 x4 x5 x6 x7 x8 x9 ((Rect.unit (s := S256x5120) ![0, 512 * k.val] S256x512.size (inb_cols 256 k)).emb x) := by
  have ex : x = ix2 (x 0) (x 1) := by
    funext a
    match a with
    | ⟨0, _⟩ => rfl
    | ⟨1, _⟩ => rfl
  refine (congrArg _ ex).trans ((strip_apply x0 x1 x2 x3 x4 x5 x6 x7 x8 x9 k (x 0) (x 1)).trans (congrArg _ ?_))
  funext a
  apply Fin.ext
  match a with
  | ⟨0, _⟩ => show (x 0).val = 0 + 1 * (x 0).val; omega
  | ⟨1, _⟩ => show 512 * k.val + (x 1).val = 512 * k.val + 1 * (x 1).val; omega

set_option maxHeartbeats 2000000 in
/-- What a point leaves in the first output is its block of the residual stream. -/
theorem out_a12 (c : Dev nD) (i : grid0.Coords) (a1 : Memref sig .tc .smem S12 .f32) (h1 : a1.IsWhole) (a2 : Memref sig .tc .vmem S256x5120 .bf16) (h2 : a2.IsWhole) (a3 : Memref sig .tc .vmem S256x640 .fp8e4m3) (h3 : a3.IsWhole) (a4 : Memref sig .tc .vmem S1x2x128 .f32) (h4 : a4.IsWhole) (a5 : Memref sig .tc .vmem S256x1024 .fp8e4m3) (h5 : a5.IsWhole) (a6 : Memref sig .tc .vmem S1x2x128 .f32) (h6 : a6.IsWhole) (a7 : Memref sig .tc .vmem S640x5120 .fp8e4m3) (h7 : a7.IsWhole) (a8 : Memref sig .tc .vmem S1x5120 .f32) (h8 : a8.IsWhole) (a9 : Memref sig .tc .vmem S1024x5120 .fp8e4m3) (h9 : a9.IsWhole) (a10 : Memref sig .tc .vmem S1x5120 .f32) (h10 : a10.IsWhole) (a11 : Memref sig .tc .vmem S1x5120 .f32) (h11 : a11.IsWhole) (a12 : Memref sig .tc .vmem S256x5120 .f32) (h12 : a12.IsWhole) (a13 : Memref sig .tc .vmem S256x5120 .fp8e4m3) (h13 : a13.IsWhole) (a14 : Memref sig .tc .vmem S1x2x128 .f32) (h14 : a14.IsWhole)
    (x0 : Vec Ideal S12 .f32) (x1 : Vec Ideal S256x5120 .bf16) (x2 : Vec Ideal S256x640 .fp8e4m3) (x3 : Vec Ideal S1x2x128 .f32) (x4 : Vec Ideal S256x1024 .fp8e4m3) (x5 : Vec Ideal S1x2x128 .f32) (x6 : Vec Ideal S640x5120 .fp8e4m3) (x7 : Vec Ideal S1x5120 .f32) (x8 : Vec Ideal S1024x5120 .fp8e4m3) (x9 : Vec Ideal S1x5120 .f32) (x10 : Vec Ideal S1x5120 .f32) (v : View sig .tc .vmem S256x5120 .f32) (f : v.ty.Contents (Elt Ideal)) :
    v.read (Elt Ideal) (v.writes (Elt Ideal) f (kernelRun0_A (F := Ideal) c i a1 h1 a2 h2 a3 h3 a4 h4 a5 h5 a6 h6 a7 h7 a8 h8 a9 h9 a10 h10 a11 h11 a12 h12 a13 h13 a14 h14 x0 x1 x2 x3 x4 x5 x6 x7 x8 x9 x10).1)
      = block x0 x1 x2 x3 x4 x5 x6 x7 x8 x9 := by
  have e2 : View.ld x0 (Rect.unit (s := S12) ![2] S1.size inb_S12_S1_2) (Shape.Idx.first (by decide)) = x0 (ix1 2) :=
    congrArg x0 (funext fun a => by match a with | ⟨0, _⟩ => rfl)
  have e4 : View.ld x0 (Rect.unit (s := S12) ![4] S1.size inb_S12_S1_4) (Shape.Idx.first (by decide)) = x0 (ix1 4) :=
    congrArg x0 (funext fun a => by match a with | ⟨0, _⟩ => rfl)
  unfold kernelRun0_A
  dsimp only
  sl_unfold_words
  simp only [View.readAt_eq_ld, h1.read_unread, h2.read_unread, h3.read_unread, h4.read_unread, h5.read_unread, h6.read_unread,
    h7.read_unread, h8.read_unread, h9.read_unread, h10.read_unread, View.ld_unit_zero (S := S1x2x128) hz3,
    View.ld_unit_zero (S := S256x640) hz, View.ld_unit_zero (S := S256x1024) hz]
  simp only [e2, e4]
  funext y
  refine View.read_writes_apply_of_pieces v f (block x0 x1 x2 x3 x4 x5 x6 x7 x8 x9) _ ?_ y ?_
  · simp only [List.forall_mem_cons]
    exact ⟨fun x => strip_piece x0 x1 x2 x3 x4 x5 x6 x7 x8 x9 ⟨9, by decide⟩ x, fun x => strip_piece x0 x1 x2 x3 x4 x5 x6 x7 x8 x9 ⟨8, by decide⟩ x, fun x => strip_piece x0 x1 x2 x3 x4 x5 x6 x7 x8 x9 ⟨7, by decide⟩ x, fun x => strip_piece x0 x1 x2 x3 x4 x5 x6 x7 x8 x9 ⟨6, by decide⟩ x, fun x => strip_piece x0 x1 x2 x3 x4 x5 x6 x7 x8 x9 ⟨5, by decide⟩ x, fun x => strip_piece x0 x1 x2 x3 x4 x5 x6 x7 x8 x9 ⟨4, by decide⟩ x, fun x => strip_piece x0 x1 x2 x3 x4 x5 x6 x7 x8 x9 ⟨3, by decide⟩ x, fun x => strip_piece x0 x1 x2 x3 x4 x5 x6 x7 x8 x9 ⟨2, by decide⟩ x, fun x => strip_piece x0 x1 x2 x3 x4 x5 x6 x7 x8 x9 ⟨1, by decide⟩ x, fun x => strip_piece x0 x1 x2 x3 x4 x5 x6 x7 x8 x9 ⟨0, by decide⟩ x, fun _ h => absurd h List.not_mem_nil⟩
  · exact View.cover_of_tiledL (s := S256x5120) _ S256x512.size (by sl_kernel_rfl) y

/-! ## The norm, its codes and its scales -/

/-- Row `p` of a block, and the norm's weights as the body reads them. -/
def rowOf (X : Vec Ideal S256x5120 .f32) (p : Fin 256) : Fin 5120 → EReal := fun j => X (ix2 p j)
def wts (g : Vec Ideal S1x5120 .f32) : Fin 5120 → EReal := fun j => g (ix2 0 j)

/-- The codes of a block's norm, row by row, -/
def codes12 (X : Vec Ideal S256x5120 .f32) (g : Vec Ideal S1x5120 .f32) : Vec Ideal S256x5120 .fp8e4m3 := fun y =>
  codeOf (normed (rowOf X (y 0)) (wts g) (y 1)) (scaleOf (rowMax (normed (rowOf X (y 0)) (wts g))))
/-- and the scale of each row. -/
def scale13 (X : Vec Ideal S256x5120 .f32) (g : Vec Ideal S1x5120 .f32) : Vec Ideal S1x2x128 .f32 := fun y =>
  scaleOf (rowMax (normed (rowOf X ⟨128 * (y 1).val + (y 2).val, by
    have h1 : (y 1).val < 2 := (y 1).isLt; have h2 : (y 2).val < 128 := (y 2).isLt; omega⟩) (wts g)))

theorem cast_same (v : FVec Ideal S128x5120 .f32) : shapeCast S128x5120 v shapeCasts_S128x5120_S128x5120 = v := by
  funext j
  pointwise
theorem cast_col (v : FVec Ideal S128 .f32) (j : S128x1.Idx) : shapeCast S128x1 v shapeCasts_S128_S128x1 j = v (ix1 (j 0)) := by
  pointwise

/-- The sums of squares of 128 rows, as one column, -/
def sumCol (v : FVec Ideal S128x5120 .f32) : FVec Ideal S128x1 .f32 :=
  shapeCast S128x1 (multiReduction .add [1] S128 (mulf v v) 0x00000000#32 reduces_S128x5120_S128 (.inl rfl) rfl) shapeCasts_S128_S128x1
/-- and the norm of the rows, from those. -/
def normBody (v : FVec Ideal S128x5120 .f32) (s : FVec Ideal S128x1 .f32) (g : Vec Ideal S1x5120 .f32) : FVec Ideal S128x5120 .f32 :=
  mulf (mulf v (broadcastTo S128x5120 (rsqrt (addf (divf s (broadcast S128x1 (Scalar.ofBits .f32 0x45A00000#32)))
      (broadcast S128x1 (Scalar.ofBits .f32 0x3727C5AC#32)))) broadcasts_S128x1_S128x5120))
    (broadcastTo S128x5120 (shapeCast S1x5120 g shapeCasts_S1x5120_S1x5120) broadcasts_S1x5120_S128x5120)

theorem normBody_apply (v : FVec Ideal S128x5120 .f32) (s : FVec Ideal S128x1 .f32) (g : Vec Ideal S1x5120 .f32) (p : Fin 128) (q : Fin 5120) :
    normBody v s g (ix2 p q) = normOf (fun j => v (ix2 p j)) (wts g) (s (ix2 p 0)) q := by
  unfold normOf wts len eps
  pointwise [normBody]

theorem sumCol_apply (v : FVec Ideal S128x5120 .f32) (p : Fin 128) : sumCol v (ix2 p 0) = sumSq fun j : Fin 5120 => v (ix2 p j) :=
  (cast_col _ _).trans (sumSq_red v _ _ _ _)

/-- The norm of 128 rows as the body computes it, at an index. -/
theorem norm_apply (v : Vec Ideal S128x5120 .f32) (g : Vec Ideal S1x5120 .f32) (p : Fin 128) (q : Fin 5120) :
    k0_pay21 (F := Ideal) v g (ix2 p q) = normed (fun j => v (ix2 p j)) (wts g) q := by
  have e : k0_pay21 (F := Ideal) v g = normBody (shapeCast S128x5120 v shapeCasts_S128x5120_S128x5120)
      (sumCol (shapeCast S128x5120 v shapeCasts_S128x5120_S128x5120)) g := rfl
  rw [e, cast_same, normBody_apply, sumCol_apply]
  rfl

/-- The largest magnitude of each row of the norm, -/
theorem max_apply (v : Vec Ideal S128x5120 .f32) (g : Vec Ideal S1x5120 .f32) (p : Fin 128) :
    k0_pay22 (F := Ideal) v g (ix2 p 0) = rowMax (normed (fun j => v (ix2 p j)) (wts g)) := by
  unfold k0_pay22
  refine (cast_col _ _).trans ((rowMax_red _ _ _ _ _).trans (congrArg rowMax (funext fun x => ?_)))
  exact norm_apply v g p x

/-- the scales from those, -/
theorem scale_of_col (a : FVec Ideal S128x1 .f32) (j : S128x1.Idx) : k0_pay23 (F := Ideal) a j = scaleOf (a j) := by
  unfold scaleOf top
  pointwise [k0_pay23]

theorem stripScale_apply (v : Vec Ideal S128x5120 .f32) (g : Vec Ideal S1x5120 .f32) (p : Fin 128) :
    k0_pay23 (F := Ideal) (k0_pay22 v g) (ix2 p 0) = scaleOf (rowMax (normed (fun j => v (ix2 p j)) (wts g))) :=
  (scale_of_col _ _).trans (congrArg scaleOf (max_apply v g p))

/-- and what is stored: the codes under those scales, and the scales. -/
theorem code_of (w : FVec Ideal S128x5120 .f32) (a : FVec Ideal S128x1 .f32) (j : S128x5120.Idx) :
    k0_pay24 (F := Ideal) w a j = codeOf (w (ix2 (j 0) (j 1))) (k0_pay23 (F := Ideal) a (ix2 (j 0) 0)) := by
  unfold codeOf bot top k0_pay24
  generalize k0_pay23 (F := Ideal) a = s
  pointwise

theorem scale_cast (a : FVec Ideal S128x1 .f32) (x : S1x1x128.Idx) : k0_pay25 (F := Ideal) a x = k0_pay23 (F := Ideal) a (ix2 (x 2) 0) := by
  unfold k0_pay25
  generalize k0_pay23 (F := Ideal) a = s
  pointwise

theorem inb_rows (r : Fin 2) : ∀ a, (![128 * r.val, 0] : Fin 2 → Nat) a + S128x5120.size a ≤ S256x5120.size a := by
  have := r.isLt
  intro a
  match a with
  | ⟨0, _⟩ => show 128 * r.val + 128 ≤ 256; omega
  | ⟨1, _⟩ => show 0 + 5120 ≤ 5120; omega

/-- Row strip `r` of a block, as the body loads it. -/
def rows (X : Vec Ideal S256x5120 .f32) (r : Fin 2) : Vec Ideal S128x5120 .f32 :=
  View.ld X (Rect.unit (s := S256x5120) ![128 * r.val, 0] S128x5120.size (inb_rows r))

theorem rows_row (X : Vec Ideal S256x5120 .f32) (r : Fin 2) (p : Fin 128) :
    (fun j : Fin 5120 => rows X r (ix2 p j)) = rowOf X ⟨128 * r.val + p.val, by have := r.isLt; have := p.isLt; omega⟩ := by
  funext j
  unfold rows rowOf
  show X _ = X _
  congr 1
  funext a
  apply Fin.ext
  match a with
  | ⟨0, _⟩ => show 128 * r.val + 1 * p.val = 128 * r.val + p.val; omega
  | ⟨1, _⟩ => show 0 + 1 * j.val = j.val; omega

/-- The codes of strip `r` are `codes12` at that place, -/
theorem code_piece (X : Vec Ideal S256x5120 .f32) (g : Vec Ideal S1x5120 .f32) (r : Fin 2) (x : S128x5120.Idx) :
    k0_pay24 (F := Ideal) (k0_pay21 (rows X r) g) (k0_pay22 (rows X r) g) x
      = codes12 X g ((Rect.unit (s := S256x5120) ![128 * r.val, 0] S128x5120.size (inb_rows r)).emb x) := by
  have hx0 : (x 0).val < 128 := (x 0).isLt
  have hr := r.isLt
  have e : (Rect.unit (s := S256x5120) ![128 * r.val, 0] S128x5120.size (inb_rows r)).emb x
      = (ix2 ⟨128 * r.val + (x 0).val, by omega⟩ (x 1) : S256x5120.Idx) := by
    funext a
    apply Fin.ext
    match a with
    | ⟨0, _⟩ => show 128 * r.val + 1 * (x 0).val = 128 * r.val + (x 0).val; omega
    | ⟨1, _⟩ => show 0 + 1 * (x 1).val = (x 1).val; omega
  rw [e]
  refine (code_of _ _ _).trans ?_
  refine (congrArg₂ codeOf (norm_apply _ g (x 0) (x 1)) (stripScale_apply _ g (x 0))).trans ?_
  exact congrArg (fun f => codeOf (normed f (wts g) (x 1)) (scaleOf (rowMax (normed f (wts g))))) (rows_row X r (x 0))

theorem inb_scale (r : Fin 2) : ∀ a, (![0, r.val, 0] : Fin 3 → Nat) a + S1x1x128.size a ≤ S1x2x128.size a := by
  have := r.isLt
  intro a
  match a with
  | ⟨0, _⟩ => show 0 + 1 ≤ 1; omega
  | ⟨1, _⟩ => show r.val + 1 ≤ 2; omega
  | ⟨2, _⟩ => show 0 + 128 ≤ 128; omega

/-- and its scales are `scale13` at that place. -/
theorem scale_piece (X : Vec Ideal S256x5120 .f32) (g : Vec Ideal S1x5120 .f32) (r : Fin 2) (x : S1x1x128.Idx) :
    k0_pay25 (F := Ideal) (k0_pay22 (rows X r) g) x
      = scale13 X g ((Rect.unit (s := S1x2x128) ![0, r.val, 0] S1x1x128.size (inb_scale r)).emb x) := by
  have hx1 : (x 1).val < 1 := (x 1).isLt
  have hx2 : (x 2).val < 128 := (x 2).isLt
  refine (scale_cast _ _).trans ((stripScale_apply _ g (x 2)).trans ?_)
  refine (congrArg (fun f => scaleOf (rowMax (normed f (wts g)))) (rows_row X r (x 2))).trans ?_
  unfold scale13
  congr 4
  apply Fin.ext
  show 128 * r.val + (x 2).val = 128 * (r.val + 1 * (x 1).val) + (0 + 1 * (x 2).val)
  omega

set_option maxHeartbeats 2000000 in
/-- What a point leaves in the second output: the codes of the norm of its block of the residual stream, -/
theorem out_a13 (c : Dev nD) (i : grid0.Coords) (a1 : Memref sig .tc .smem S12 .f32) (h1 : a1.IsWhole) (a2 : Memref sig .tc .vmem S256x5120 .bf16) (h2 : a2.IsWhole) (a3 : Memref sig .tc .vmem S256x640 .fp8e4m3) (h3 : a3.IsWhole) (a4 : Memref sig .tc .vmem S1x2x128 .f32) (h4 : a4.IsWhole) (a5 : Memref sig .tc .vmem S256x1024 .fp8e4m3) (h5 : a5.IsWhole) (a6 : Memref sig .tc .vmem S1x2x128 .f32) (h6 : a6.IsWhole) (a7 : Memref sig .tc .vmem S640x5120 .fp8e4m3) (h7 : a7.IsWhole) (a8 : Memref sig .tc .vmem S1x5120 .f32) (h8 : a8.IsWhole) (a9 : Memref sig .tc .vmem S1024x5120 .fp8e4m3) (h9 : a9.IsWhole) (a10 : Memref sig .tc .vmem S1x5120 .f32) (h10 : a10.IsWhole) (a11 : Memref sig .tc .vmem S1x5120 .f32) (h11 : a11.IsWhole) (a12 : Memref sig .tc .vmem S256x5120 .f32) (h12 : a12.IsWhole) (a13 : Memref sig .tc .vmem S256x5120 .fp8e4m3) (h13 : a13.IsWhole) (a14 : Memref sig .tc .vmem S1x2x128 .f32) (h14 : a14.IsWhole)
    (x0 : Vec Ideal S12 .f32) (x1 : Vec Ideal S256x5120 .bf16) (x2 : Vec Ideal S256x640 .fp8e4m3) (x3 : Vec Ideal S1x2x128 .f32) (x4 : Vec Ideal S256x1024 .fp8e4m3) (x5 : Vec Ideal S1x2x128 .f32) (x6 : Vec Ideal S640x5120 .fp8e4m3) (x7 : Vec Ideal S1x5120 .f32) (x8 : Vec Ideal S1024x5120 .fp8e4m3) (x9 : Vec Ideal S1x5120 .f32) (x10 : Vec Ideal S1x5120 .f32) (v : View sig .tc .vmem S256x5120 .fp8e4m3) (f : v.ty.Contents (Elt Ideal)) :
    v.read (Elt Ideal) (v.writes (Elt Ideal) f (kernelRun0_A (F := Ideal) c i a1 h1 a2 h2 a3 h3 a4 h4 a5 h5 a6 h6 a7 h7 a8 h8 a9 h9 a10 h10 a11 h11 a12 h12 a13 h13 a14 h14 x0 x1 x2 x3 x4 x5 x6 x7 x8 x9 x10).2.1)
      = codes12 (block x0 x1 x2 x3 x4 x5 x6 x7 x8 x9) x10 := by
  rw [← out_a12 c i a1 h1 a2 h2 a3 h3 a4 h4 a5 h5 a6 h6 a7 h7 a8 h8 a9 h9 a10 h10 a11 h11 a12 h12 a13 h13 a14 h14 x0 x1 x2 x3 x4 x5 x6 x7 x8 x9 x10 a12.view a12.view.junk]
  obtain ⟨X, hX⟩ : ∃ X, X = a12.view.read (Elt Ideal) (a12.view.writes (Elt Ideal) a12.view.junk (kernelRun0_A (F := Ideal) c i a1 h1 a2 h2 a3 h3 a4 h4 a5 h5 a6 h6 a7 h7 a8 h8 a9 h9 a10 h10 a11 h11 a12 h12 a13 h13 a14 h14 x0 x1 x2 x3 x4 x5 x6 x7 x8 x9 x10).1) := ⟨_, rfl⟩
  rw [← hX]
  revert hX
  unfold kernelRun0_A
  dsimp only
  sl_unfold_words
  intro hX
  simp only [View.readCov, View.readAt_eq_ld a12.view, ← hX, View.readAt_eq_ld a11.view, h11.read_unread, View.ld_unit_zero (S := S1x5120) hz]
  clear hX
  funext y
  refine View.read_writes_apply_of_pieces v f (codes12 X x10) _ ?_ y ?_
  · simp only [List.forall_mem_cons]
    exact ⟨fun x => code_piece X x10 ⟨1, by decide⟩ x, fun x => code_piece X x10 ⟨0, by decide⟩ x, fun _ h => absurd h List.not_mem_nil⟩
  · exact View.cover_of_tiledL (s := S256x5120) _ S128x5120.size (by sl_kernel_rfl) y

set_option maxHeartbeats 2000000 in
/-- and in the third, its scales. -/
theorem out_a14 (c : Dev nD) (i : grid0.Coords) (a1 : Memref sig .tc .smem S12 .f32) (h1 : a1.IsWhole) (a2 : Memref sig .tc .vmem S256x5120 .bf16) (h2 : a2.IsWhole) (a3 : Memref sig .tc .vmem S256x640 .fp8e4m3) (h3 : a3.IsWhole) (a4 : Memref sig .tc .vmem S1x2x128 .f32) (h4 : a4.IsWhole) (a5 : Memref sig .tc .vmem S256x1024 .fp8e4m3) (h5 : a5.IsWhole) (a6 : Memref sig .tc .vmem S1x2x128 .f32) (h6 : a6.IsWhole) (a7 : Memref sig .tc .vmem S640x5120 .fp8e4m3) (h7 : a7.IsWhole) (a8 : Memref sig .tc .vmem S1x5120 .f32) (h8 : a8.IsWhole) (a9 : Memref sig .tc .vmem S1024x5120 .fp8e4m3) (h9 : a9.IsWhole) (a10 : Memref sig .tc .vmem S1x5120 .f32) (h10 : a10.IsWhole) (a11 : Memref sig .tc .vmem S1x5120 .f32) (h11 : a11.IsWhole) (a12 : Memref sig .tc .vmem S256x5120 .f32) (h12 : a12.IsWhole) (a13 : Memref sig .tc .vmem S256x5120 .fp8e4m3) (h13 : a13.IsWhole) (a14 : Memref sig .tc .vmem S1x2x128 .f32) (h14 : a14.IsWhole)
    (x0 : Vec Ideal S12 .f32) (x1 : Vec Ideal S256x5120 .bf16) (x2 : Vec Ideal S256x640 .fp8e4m3) (x3 : Vec Ideal S1x2x128 .f32) (x4 : Vec Ideal S256x1024 .fp8e4m3) (x5 : Vec Ideal S1x2x128 .f32) (x6 : Vec Ideal S640x5120 .fp8e4m3) (x7 : Vec Ideal S1x5120 .f32) (x8 : Vec Ideal S1024x5120 .fp8e4m3) (x9 : Vec Ideal S1x5120 .f32) (x10 : Vec Ideal S1x5120 .f32) (v : View sig .tc .vmem S1x2x128 .f32) (f : v.ty.Contents (Elt Ideal)) :
    v.read (Elt Ideal) (v.writes (Elt Ideal) f (kernelRun0_A (F := Ideal) c i a1 h1 a2 h2 a3 h3 a4 h4 a5 h5 a6 h6 a7 h7 a8 h8 a9 h9 a10 h10 a11 h11 a12 h12 a13 h13 a14 h14 x0 x1 x2 x3 x4 x5 x6 x7 x8 x9 x10).2.2.1)
      = scale13 (block x0 x1 x2 x3 x4 x5 x6 x7 x8 x9) x10 := by
  rw [← out_a12 c i a1 h1 a2 h2 a3 h3 a4 h4 a5 h5 a6 h6 a7 h7 a8 h8 a9 h9 a10 h10 a11 h11 a12 h12 a13 h13 a14 h14 x0 x1 x2 x3 x4 x5 x6 x7 x8 x9 x10 a12.view a12.view.junk]
  obtain ⟨X, hX⟩ : ∃ X, X = a12.view.read (Elt Ideal) (a12.view.writes (Elt Ideal) a12.view.junk (kernelRun0_A (F := Ideal) c i a1 h1 a2 h2 a3 h3 a4 h4 a5 h5 a6 h6 a7 h7 a8 h8 a9 h9 a10 h10 a11 h11 a12 h12 a13 h13 a14 h14 x0 x1 x2 x3 x4 x5 x6 x7 x8 x9 x10).1) := ⟨_, rfl⟩
  rw [← hX]
  revert hX
  unfold kernelRun0_A
  dsimp only
  sl_unfold_words
  intro hX
  simp only [View.readCov, View.readAt_eq_ld a12.view, ← hX, View.readAt_eq_ld a11.view, h11.read_unread, View.ld_unit_zero (S := S1x5120) hz]
  clear hX
  funext y
  refine View.read_writes_apply_of_pieces v f (scale13 X x10) _ ?_ y ?_
  · simp only [List.forall_mem_cons]
    exact ⟨fun x => scale_piece X x10 ⟨1, by decide⟩ x, fun x => scale_piece X x10 ⟨0, by decide⟩ x, fun _ h => absurd h List.not_mem_nil⟩
  · exact View.cover_of_tiledL (s := S1x2x128) _ S1x1x128.size (by sl_kernel_rfl) y

end Cert.OutProjIdeal.Res

end
-- ==== Proof.OutProjKernel.lean ====
/-
  The output projections' kernel over the reals: the arrays its 18 grid points leave are the plain formulas of
  `Cert.Proof.OutProjSpec`, index by index.
-/
module

public import proofs.«01_k».proof.Proof.Gen.OutProjIdeal.Value
public import proofs.«01_k».proof.Proof.OutProjPieces

@[expose] public section

noncomputable section

namespace Cert.OutProjIdeal.Res

open Cert.OutProjIdeal Cert.OutProjIdeal.Gen Cert.Proof.GateUpSpec Cert.Proof.OutProjSpec
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- Point `t`'s block of the residual stream, from its input blocks. -/
abbrev blockAt (c : Dev nD) (t : Fin cfg0.N) : Vec Ideal S256x5120 .f32 :=
  block (iblk m c 0 t) (iblk m c 1 t) (iblk m c 2 t) (iblk m c 3 t) (iblk m c 4 t) (iblk m c 5 t) (iblk m c 6 t) (iblk m c 7 t)
    (iblk m c 8 t) (iblk m c 9 t)

/-- What the body leaves in the three outputs' blocks, from the blocks it reads. -/
theorem out_A11 (c : Dev nD) (i : grid0.Coords) (a1 : Memref sig .tc .smem S12 .f32) (h1 : a1.IsWhole) (a2 : Memref sig .tc .vmem S256x5120 .bf16) (h2 : a2.IsWhole) (a3 : Memref sig .tc .vmem S256x640 .fp8e4m3) (h3 : a3.IsWhole) (a4 : Memref sig .tc .vmem S1x2x128 .f32) (h4 : a4.IsWhole) (a5 : Memref sig .tc .vmem S256x1024 .fp8e4m3) (h5 : a5.IsWhole) (a6 : Memref sig .tc .vmem S1x2x128 .f32) (h6 : a6.IsWhole) (a7 : Memref sig .tc .vmem S640x5120 .fp8e4m3) (h7 : a7.IsWhole) (a8 : Memref sig .tc .vmem S1x5120 .f32) (h8 : a8.IsWhole) (a9 : Memref sig .tc .vmem S1024x5120 .fp8e4m3) (h9 : a9.IsWhole) (a10 : Memref sig .tc .vmem S1x5120 .f32) (h10 : a10.IsWhole) (a11 : Memref sig .tc .vmem S1x5120 .f32) (h11 : a11.IsWhole) (a12 : Memref sig .tc .vmem S256x5120 .f32) (h12 : a12.IsWhole) (a13 : Memref sig .tc .vmem S256x5120 .fp8e4m3) (h13 : a13.IsWhole) (a14 : Memref sig .tc .vmem S1x2x128 .f32) (h14 : a14.IsWhole)
    (x0 : Vec Ideal S12 .f32) (x1 : Vec Ideal S256x5120 .bf16) (x2 : Vec Ideal S256x640 .fp8e4m3) (x3 : Vec Ideal S1x2x128 .f32) (x4 : Vec Ideal S256x1024 .fp8e4m3) (x5 : Vec Ideal S1x2x128 .f32) (x6 : Vec Ideal S640x5120 .fp8e4m3) (x7 : Vec Ideal S1x5120 .f32) (x8 : Vec Ideal S1024x5120 .fp8e4m3) (x9 : Vec Ideal S1x5120 .f32) (x10 : Vec Ideal S1x5120 .f32) :
    out0_A_11 (F := Ideal) c i a1 h1 a2 h2 a3 h3 a4 h4 a5 h5 a6 h6 a7 h7 a8 h8 a9 h9 a10 h10 a11 h11 a12 h12 a13 h13 a14 h14 x0 x1 x2 x3 x4 x5 x6 x7 x8 x9 x10 = block x0 x1 x2 x3 x4 x5 x6 x7 x8 x9 := by
  unfold out0_A_11
  exact out_a12 c i a1 h1 a2 h2 a3 h3 a4 h4 a5 h5 a6 h6 a7 h7 a8 h8 a9 h9 a10 h10 a11 h11 a12 h12 a13 h13 a14 h14 x0 x1 x2 x3 x4 x5 x6 x7 x8 x9 x10 VO0_11 VO0_11.junk

theorem out_A12 (c : Dev nD) (i : grid0.Coords) (a1 : Memref sig .tc .smem S12 .f32) (h1 : a1.IsWhole) (a2 : Memref sig .tc .vmem S256x5120 .bf16) (h2 : a2.IsWhole) (a3 : Memref sig .tc .vmem S256x640 .fp8e4m3) (h3 : a3.IsWhole) (a4 : Memref sig .tc .vmem S1x2x128 .f32) (h4 : a4.IsWhole) (a5 : Memref sig .tc .vmem S256x1024 .fp8e4m3) (h5 : a5.IsWhole) (a6 : Memref sig .tc .vmem S1x2x128 .f32) (h6 : a6.IsWhole) (a7 : Memref sig .tc .vmem S640x5120 .fp8e4m3) (h7 : a7.IsWhole) (a8 : Memref sig .tc .vmem S1x5120 .f32) (h8 : a8.IsWhole) (a9 : Memref sig .tc .vmem S1024x5120 .fp8e4m3) (h9 : a9.IsWhole) (a10 : Memref sig .tc .vmem S1x5120 .f32) (h10 : a10.IsWhole) (a11 : Memref sig .tc .vmem S1x5120 .f32) (h11 : a11.IsWhole) (a12 : Memref sig .tc .vmem S256x5120 .f32) (h12 : a12.IsWhole) (a13 : Memref sig .tc .vmem S256x5120 .fp8e4m3) (h13 : a13.IsWhole) (a14 : Memref sig .tc .vmem S1x2x128 .f32) (h14 : a14.IsWhole)
    (x0 : Vec Ideal S12 .f32) (x1 : Vec Ideal S256x5120 .bf16) (x2 : Vec Ideal S256x640 .fp8e4m3) (x3 : Vec Ideal S1x2x128 .f32) (x4 : Vec Ideal S256x1024 .fp8e4m3) (x5 : Vec Ideal S1x2x128 .f32) (x6 : Vec Ideal S640x5120 .fp8e4m3) (x7 : Vec Ideal S1x5120 .f32) (x8 : Vec Ideal S1024x5120 .fp8e4m3) (x9 : Vec Ideal S1x5120 .f32) (x10 : Vec Ideal S1x5120 .f32) :
    out0_A_12 (F := Ideal) c i a1 h1 a2 h2 a3 h3 a4 h4 a5 h5 a6 h6 a7 h7 a8 h8 a9 h9 a10 h10 a11 h11 a12 h12 a13 h13 a14 h14 x0 x1 x2 x3 x4 x5 x6 x7 x8 x9 x10 = codes12 (block x0 x1 x2 x3 x4 x5 x6 x7 x8 x9) x10 := by
  unfold out0_A_12
  exact out_a13 c i a1 h1 a2 h2 a3 h3 a4 h4 a5 h5 a6 h6 a7 h7 a8 h8 a9 h9 a10 h10 a11 h11 a12 h12 a13 h13 a14 h14 x0 x1 x2 x3 x4 x5 x6 x7 x8 x9 x10 VO0_12 VO0_12.junk

theorem out_A13 (c : Dev nD) (i : grid0.Coords) (a1 : Memref sig .tc .smem S12 .f32) (h1 : a1.IsWhole) (a2 : Memref sig .tc .vmem S256x5120 .bf16) (h2 : a2.IsWhole) (a3 : Memref sig .tc .vmem S256x640 .fp8e4m3) (h3 : a3.IsWhole) (a4 : Memref sig .tc .vmem S1x2x128 .f32) (h4 : a4.IsWhole) (a5 : Memref sig .tc .vmem S256x1024 .fp8e4m3) (h5 : a5.IsWhole) (a6 : Memref sig .tc .vmem S1x2x128 .f32) (h6 : a6.IsWhole) (a7 : Memref sig .tc .vmem S640x5120 .fp8e4m3) (h7 : a7.IsWhole) (a8 : Memref sig .tc .vmem S1x5120 .f32) (h8 : a8.IsWhole) (a9 : Memref sig .tc .vmem S1024x5120 .fp8e4m3) (h9 : a9.IsWhole) (a10 : Memref sig .tc .vmem S1x5120 .f32) (h10 : a10.IsWhole) (a11 : Memref sig .tc .vmem S1x5120 .f32) (h11 : a11.IsWhole) (a12 : Memref sig .tc .vmem S256x5120 .f32) (h12 : a12.IsWhole) (a13 : Memref sig .tc .vmem S256x5120 .fp8e4m3) (h13 : a13.IsWhole) (a14 : Memref sig .tc .vmem S1x2x128 .f32) (h14 : a14.IsWhole)
    (x0 : Vec Ideal S12 .f32) (x1 : Vec Ideal S256x5120 .bf16) (x2 : Vec Ideal S256x640 .fp8e4m3) (x3 : Vec Ideal S1x2x128 .f32) (x4 : Vec Ideal S256x1024 .fp8e4m3) (x5 : Vec Ideal S1x2x128 .f32) (x6 : Vec Ideal S640x5120 .fp8e4m3) (x7 : Vec Ideal S1x5120 .f32) (x8 : Vec Ideal S1024x5120 .fp8e4m3) (x9 : Vec Ideal S1x5120 .f32) (x10 : Vec Ideal S1x5120 .f32) :
    out0_A_13 (F := Ideal) c i a1 h1 a2 h2 a3 h3 a4 h4 a5 h5 a6 h6 a7 h7 a8 h8 a9 h9 a10 h10 a11 h11 a12 h12 a13 h13 a14 h14 x0 x1 x2 x3 x4 x5 x6 x7 x8 x9 x10 = scale13 (block x0 x1 x2 x3 x4 x5 x6 x7 x8 x9) x10 := by
  unfold out0_A_13
  exact out_a14 c i a1 h1 a2 h2 a3 h3 a4 h4 a5 h5 a6 h6 a7 h7 a8 h8 a9 h9 a10 h10 a11 h11 a12 h12 a13 h13 a14 h14 x0 x1 x2 x3 x4 x5 x6 x7 x8 x9 x10 VO0_13 VO0_13.junk

/-- The block index of every window at point `t`: the row blocks in order; the weights, their scales and the norm's weights
    whole. -/
theorem idx_rows : ∀ t : Fin cfg0.N, win0_0.index t 0 = 0
    ∧ win0_1.index t 0 = t.val
    ∧ win0_1.index t 1 = 0
    ∧ win0_2.index t 0 = t.val
    ∧ win0_2.index t 1 = 0
    ∧ win0_3.index t 0 = t.val
    ∧ win0_3.index t 1 = 0
    ∧ win0_3.index t 2 = 0
    ∧ win0_4.index t 0 = t.val
    ∧ win0_4.index t 1 = 0
    ∧ win0_5.index t 0 = t.val
    ∧ win0_5.index t 1 = 0
    ∧ win0_5.index t 2 = 0
    ∧ win0_11.index t 0 = t.val
    ∧ win0_11.index t 1 = 0
    ∧ win0_12.index t 0 = t.val
    ∧ win0_12.index t 1 = 0
    ∧ win0_13.index t 0 = t.val
    ∧ win0_13.index t 1 = 0
    ∧ win0_13.index t 2 = 0 :=
  (by decide +kernel : ∀ t : Fin grid0.N, win0_0.index t 0 = 0
    ∧ win0_1.index t 0 = t.val
    ∧ win0_1.index t 1 = 0
    ∧ win0_2.index t 0 = t.val
    ∧ win0_2.index t 1 = 0
    ∧ win0_3.index t 0 = t.val
    ∧ win0_3.index t 1 = 0
    ∧ win0_3.index t 2 = 0
    ∧ win0_4.index t 0 = t.val
    ∧ win0_4.index t 1 = 0
    ∧ win0_5.index t 0 = t.val
    ∧ win0_5.index t 1 = 0
    ∧ win0_5.index t 2 = 0
    ∧ win0_11.index t 0 = t.val
    ∧ win0_11.index t 1 = 0
    ∧ win0_12.index t 0 = t.val
    ∧ win0_12.index t 1 = 0
    ∧ win0_13.index t 0 = t.val
    ∧ win0_13.index t 1 = 0
    ∧ win0_13.index t 2 = 0)
theorem idx_cols : ∀ (t : Fin cfg0.N) (a : Fin 2), win0_6.index t a = 0 ∧ win0_7.index t a = 0 ∧ win0_8.index t a = 0 ∧ win0_9.index t a = 0 ∧ win0_10.index t a = 0 :=
  (by decide +kernel : ∀ (t : Fin grid0.N) (a : Fin 2), win0_6.index t a = 0 ∧ win0_7.index t a = 0 ∧ win0_8.index t a = 0 ∧ win0_9.index t a = 0 ∧ win0_10.index t a = 0)

theorem tlt (t : Fin cfg0.N) : t.val < 18 := by have := t.isLt; have : cfg0.N = 18 := N_0; omega

/-- Row `r` of row block `t`, as a row of the whole array. -/
def row (t : Fin cfg0.N) (r : Fin 256) : Fin 4608 := ⟨t.val * 256 + r.val, by have := r.isLt; have := tlt t; omega⟩

theorem blk0 (c : Dev nD) (t : Fin cfg0.N) (a : Fin 12) :
    (iblk m c 0 t : Vec Ideal S12 .f32) (ix1 a) = (m (c.tc.loc main_arg10) : Vec Ideal S12 .f32) (ix1 a) := by
  unfold iblk
  rw [View.read_apply]
  entry_read
  show m (c.tc.loc main_arg10) _ = _
  congr 1
  funext b
  apply Fin.ext
  match b with
  | ⟨0, _⟩ => show win0_0.index t 0 * 12 + 1 * a.val = a.val; rw [(idx_rows t).1]; omega

/-- Window 1's block is 256 rows of the input, -/
theorem blk1 (c : Dev nD) (t : Fin cfg0.N) : (iblk m c 1 t : Vec Ideal S256x5120 .bf16)
    = fun j => (m (c.tc.loc main_arg0) : Vec Ideal S4608x5120 .bf16) (ix2 (row t (j 0)) (j 1)) := by
  funext j
  unfold iblk
  rw [View.read_apply]
  entry_read
  show m (c.tc.loc main_arg0) _ = _
  congr 1
  funext b
  apply Fin.ext
  match b with
  | ⟨0, _⟩ => show win0_1.index t 0 * 256 + 1 * (j 0).val = t.val * 256 + (j 0).val; rw [(idx_rows t).2.1]; omega
  | ⟨1, _⟩ => show win0_1.index t 1 * 5120 + 1 * (j 1).val = (j 1).val; rw [(idx_rows t).2.2.1]; omega

/-- window 2's is those rows of the attention's codes, -/
theorem blk2 (c : Dev nD) (t : Fin cfg0.N) : (iblk m c 2 t : Vec Ideal S256x640 .fp8e4m3)
    = fun j => (m (c.tc.loc main_arg1) : Vec Ideal S4608x640 .fp8e4m3) (ix2 (row t (j 0)) (j 1)) := by
  funext j
  unfold iblk
  rw [View.read_apply]
  entry_read
  show m (c.tc.loc main_arg1) _ = _
  congr 1
  funext b
  apply Fin.ext
  match b with
  | ⟨0, _⟩ => show win0_2.index t 0 * 256 + 1 * (j 0).val = t.val * 256 + (j 0).val; rw [(idx_rows t).2.2.2.1]; omega
  | ⟨1, _⟩ => show win0_2.index t 1 * 640 + 1 * (j 1).val = (j 1).val; rw [(idx_rows t).2.2.2.2.1]; omega

/-- and window 4's is those of the state-space branch's codes. -/
theorem blk4 (c : Dev nD) (t : Fin cfg0.N) : (iblk m c 4 t : Vec Ideal S256x1024 .fp8e4m3)
    = fun j => (m (c.tc.loc main_arg3) : Vec Ideal S4608x1024 .fp8e4m3) (ix2 (row t (j 0)) (j 1)) := by
  funext j
  unfold iblk
  rw [View.read_apply]
  entry_read
  show m (c.tc.loc main_arg3) _ = _
  congr 1
  funext b
  apply Fin.ext
  match b with
  | ⟨0, _⟩ => show win0_4.index t 0 * 256 + 1 * (j 0).val = t.val * 256 + (j 0).val; rw [(idx_rows t).2.2.2.2.2.2.2.2.1]; omega
  | ⟨1, _⟩ => show win0_4.index t 1 * 1024 + 1 * (j 1).val = (j 1).val; rw [(idx_rows t).2.2.2.2.2.2.2.2.2.1]; omega

/-- A vector laid out in row blocks of 2 by 128, read at an index. -/
theorem cast_blocks (x : Vec Ideal S4608 .f32) (a : Fin 18) (b : Fin 2) (d : Fin 128) :
    shapeCast S18x2x128 x shapeCasts_S4608_S18x2x128 (ix3 a b d)
      = x (ix1 ⟨a.val * 256 + b.val * 128 + d.val, by have := a.isLt; have := b.isLt; have := d.isLt; omega⟩) := by
  pointwise

theorem blk3 (c : Dev nD) (t : Fin cfg0.N) : (iblk m c 3 t : Vec Ideal S1x2x128 .f32)
    = fun j => (m (c.tc.loc main_arg2) : Vec Ideal S4608 .f32) (ix1 (row t ⟨(j 1).val * 128 + (j 2).val, by
        have h1 : (j 1).val < 2 := (j 1).isLt; have h2 : (j 2).val < 128 := (j 2).isLt; omega⟩)) := by
  funext j
  have hj : (j 0).val < 1 := (j 0).isLt
  unfold iblk
  rw [View.read_apply]
  entry_read
  have e : (((View.whole main_v3).slice ((win0 3).rect t)).emb j : S18x2x128.Idx) = ix3 ⟨t.val, tlt t⟩ (j 1) (j 2) := by
    funext b
    apply Fin.ext
    match b with
    | ⟨0, _⟩ => show win0_3.index t 0 * 1 + 1 * (j 0).val = t.val; rw [(idx_rows t).2.2.2.2.2.1]; omega
    | ⟨1, _⟩ => show win0_3.index t 1 * 2 + 1 * (j 1).val = (j 1).val; rw [(idx_rows t).2.2.2.2.2.2.1]; omega
    | ⟨2, _⟩ => show win0_3.index t 2 * 128 + 1 * (j 2).val = (j 2).val; rw [(idx_rows t).2.2.2.2.2.2.2.1]; omega
  show (shapeCast S18x2x128 (m (c.tc.loc main_arg2)) shapeCasts_S4608_S18x2x128) _ = _
  rw [e]
  refine (cast_blocks _ _ _ _).trans ?_
  congr 2
  apply Fin.ext
  show t.val * 256 + (j 1).val * 128 + (j 2).val = t.val * 256 + ((j 1).val * 128 + (j 2).val)
  omega

theorem blk5 (c : Dev nD) (t : Fin cfg0.N) : (iblk m c 5 t : Vec Ideal S1x2x128 .f32)
    = fun j => (m (c.tc.loc main_arg4) : Vec Ideal S4608 .f32) (ix1 (row t ⟨(j 1).val * 128 + (j 2).val, by
        have h1 : (j 1).val < 2 := (j 1).isLt; have h2 : (j 2).val < 128 := (j 2).isLt; omega⟩)) := by
  funext j
  have hj : (j 0).val < 1 := (j 0).isLt
  unfold iblk
  rw [View.read_apply]
  entry_read
  have e : (((View.whole main_v4).slice ((win0 5).rect t)).emb j : S18x2x128.Idx) = ix3 ⟨t.val, tlt t⟩ (j 1) (j 2) := by
    funext b
    apply Fin.ext
    match b with
    | ⟨0, _⟩ => show win0_5.index t 0 * 1 + 1 * (j 0).val = t.val; rw [(idx_rows t).2.2.2.2.2.2.2.2.2.2.1]; omega
    | ⟨1, _⟩ => show win0_5.index t 1 * 2 + 1 * (j 1).val = (j 1).val; rw [(idx_rows t).2.2.2.2.2.2.2.2.2.2.2.1]; omega
    | ⟨2, _⟩ => show win0_5.index t 2 * 128 + 1 * (j 2).val = (j 2).val; rw [(idx_rows t).2.2.2.2.2.2.2.2.2.2.2.2.1]; omega
  show (shapeCast S18x2x128 (m (c.tc.loc main_arg4)) shapeCasts_S4608_S18x2x128) _ = _
  rw [e]
  refine (cast_blocks _ _ _ _).trans ?_
  congr 2
  apply Fin.ext
  show t.val * 256 + (j 1).val * 128 + (j 2).val = t.val * 256 + ((j 1).val * 128 + (j 2).val)
  omega

/-- The weights' windows are their whole arrays, -/
theorem blk6 (c : Dev nD) (t : Fin cfg0.N) : iblk m c 6 t = (m (c.tc.loc main_arg5) : Vec Ideal S640x5120 .fp8e4m3) := by
  unfold iblk
  entry_read
  have hz' : (fun a => win0_6.index t a * main_arg5.ty.shape.size a) = fun _ => 0 := funext fun a => by rw [(idx_cols t a).1]; simp
  exact Memref.read_access_unit_zero (Elt Ideal) main_arg5 hz' (fun a => by rw [congrFun hz' a]; simp) _

theorem blk8 (c : Dev nD) (t : Fin cfg0.N) : iblk m c 8 t = (m (c.tc.loc main_arg7) : Vec Ideal S1024x5120 .fp8e4m3) := by
  unfold iblk
  entry_read
  have hz' : (fun a => win0_8.index t a * main_arg7.ty.shape.size a) = fun _ => 0 := funext fun a => by rw [(idx_cols t a).2.2.1]; simp
  exact Memref.read_access_unit_zero (Elt Ideal) main_arg7 hz' (fun a => by rw [congrFun hz' a]; simp) _

/-- and the column scales' and the norm weights' are theirs, laid out as one row. -/
theorem cast_row (x : Vec Ideal S5120 .f32) : shapeCast S1x5120 x shapeCasts_S5120_S1x5120 = fun j => x (ix1 (j 1)) := by
  funext j
  pointwise

theorem blk7 (c : Dev nD) (t : Fin cfg0.N) : iblk m c 7 t = fun j : S1x5120.Idx => (m (c.tc.loc main_arg6) : Vec Ideal S5120 .f32) (ix1 (j 1)) := by
  unfold iblk
  entry_read
  have hz' : (fun a => win0_7.index t a * main_v0.ty.shape.size a) = fun _ => 0 := funext fun a => by rw [(idx_cols t a).2.1]; simp
  exact (Memref.read_access_unit_zero (Elt Ideal) main_v0 hz' (fun a => by rw [congrFun hz' a]; simp) _).trans (cast_row _)

theorem blk9 (c : Dev nD) (t : Fin cfg0.N) : iblk m c 9 t = fun j : S1x5120.Idx => (m (c.tc.loc main_arg8) : Vec Ideal S5120 .f32) (ix1 (j 1)) := by
  unfold iblk
  entry_read
  have hz' : (fun a => win0_9.index t a * main_v1.ty.shape.size a) = fun _ => 0 := funext fun a => by rw [(idx_cols t a).2.2.2.1]; simp
  exact (Memref.read_access_unit_zero (Elt Ideal) main_v1 hz' (fun a => by rw [congrFun hz' a]; simp) _).trans (cast_row _)

theorem blk10 (c : Dev nD) (t : Fin cfg0.N) : iblk m c 10 t = fun j : S1x5120.Idx => (m (c.tc.loc main_arg9) : Vec Ideal S5120 .f32) (ix1 (j 1)) := by
  unfold iblk
  entry_read
  have hz' : (fun a => win0_10.index t a * main_v2.ty.shape.size a) = fun _ => 0 := funext fun a => by rw [(idx_cols t a).2.2.2.2]; simp
  exact (Memref.read_access_unit_zero (Elt Ideal) main_v2 hz' (fun a => by rw [congrFun hz' a]; simp) _).trans (cast_row _)

/-- The residual stream of the arguments, -/
abbrev stm (c : Dev nD) : Fin 4608 → Fin 5120 → EReal :=
  hmid (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg10))
/-- the norm's weights, -/
abbrev gain (c : Dev nD) : Fin 5120 → EReal := fun j => (m (c.tc.loc main_arg9) : Vec Ideal S5120 .f32) (ix1 j)
/-- and the arrays the kernel leaves, as the plain formulas of the arguments. -/
abbrev result0 (c : Dev nD) : Buf (Elt Ideal) ((c : Thread nD τ).loc main_v5_0) := stream (stm m c)
abbrev result1 (c : Dev nD) : Buf (Elt Ideal) ((c : Thread nD τ).loc main_v5_1) := normCodes (stm m c) (gain m c)
abbrev result2 (c : Dev nD) : Buf (Elt Ideal) ((c : Thread nD τ).loc main_v5_2) := normScales (stm m c) (gain m c)

/-- Point `t`'s block is the row block `t` of the residual stream. -/
theorem block_eq (c : Dev nD) (t : Fin cfg0.N) (p : Fin 256) : rowOf (blockAt m c t) p = stm m c (row t p) := by
  have e : (⟨p.val / 128 * 128 + p.val % 128, by have := p.isLt; omega⟩ : Fin 256) = p := Fin.ext (Nat.div_add_mod' _ _)
  funext j
  unfold rowOf blockAt block
  rw [blk0, blk0, blk1, blk2, blk3, blk4, blk5, blk6, blk7, blk8, blk9]
  show _ + _ * (m (c.tc.loc main_arg2) : Vec Ideal S4608 .f32) (ix1 (row t ⟨p.val / 128 * 128 + p.val % 128, _⟩)) * _ * _
    + _ * (m (c.tc.loc main_arg4) : Vec Ideal S4608 .f32) (ix1 (row t ⟨p.val / 128 * 128 + p.val % 128, _⟩)) * _ * _ = _
  rw [e]
  rfl

theorem wts_eq (c : Dev nD) (t : Fin cfg0.N) : wts (iblk m c 10 t) = gain m c := by
  rw [blk10]
  rfl

/-- and so are its codes and its scales those of the row block. -/
theorem codes_eq (c : Dev nD) (t : Fin cfg0.N) (p : Fin 256) (q : Fin 5120) :
    codes12 (blockAt m c t) (iblk m c 10 t) (ix2 p q) = result1 m c (ix2 (row t p) q) := by
  show codeOf (normed (rowOf (blockAt m c t) p) (wts (iblk m c 10 t)) q)
    (scaleOf (rowMax (normed (rowOf (blockAt m c t) p) (wts (iblk m c 10 t))))) = _
  rw [wts_eq, block_eq]
  rfl
theorem scales_eq (c : Dev nD) (t : Fin cfg0.N) (z : Fin 1) (a : Fin 2) (b : Fin 128) :
    scale13 (blockAt m c t) (iblk m c 10 t) (ix3 z a b) = result2 m c (ix3 ⟨t.val, tlt t⟩ a b) := by
  have ha := a.isLt
  have hb := b.isLt
  have ht := tlt t
  have hp : 128 * a.val + b.val < 256 := by omega
  have hr : 256 * t.val + 128 * a.val + b.val < 4608 := by omega
  have e : row t ⟨128 * a.val + b.val, hp⟩ = ⟨256 * t.val + 128 * a.val + b.val, hr⟩ := by
    apply Fin.ext
    show t.val * 256 + (128 * a.val + b.val) = 256 * t.val + 128 * a.val + b.val
    omega
  show scaleOf (rowMax (normed (rowOf (blockAt m c t) ⟨128 * a.val + b.val, hp⟩) (wts (iblk m c 10 t)))) = _
  rw [wts_eq, block_eq, e]
  rfl

/-- What point `t` writes back is block `t` of each formula. -/
theorem flushed_eq11 (c : Dev nD) (t : Fin cfg0.N) (_ : (cfg0.win 11).flush t = true) :
    (dats m 0 c).flushed 11 t = ((cfg0.win 11).blk t).view.read (Elt Ideal) (result0 m c) := by
  rw [Value.flushed11_A, out_A11]
  funext j
  rw [View.read_apply]
  have ej : j = (ix2 (j 0) (j 1) : S256x5120.Idx) := funext fun a => by match a with | ⟨0, _⟩ => rfl | ⟨1, _⟩ => rfl
  refine (congrArg (blockAt m c t) ej).trans ((congrFun (block_eq m c t (j 0)) (j 1)).trans (congrArg (fun i : S4608x5120.Idx => stm m c (i 0) (i 1)) (Eq.symm (b := (ix2 (row t (j 0)) (j 1) : S4608x5120.Idx)) ?_)))
  funext b
  apply Fin.ext
  match b with
  | ⟨0, _⟩ => show win0_11.index t 0 * 256 + 1 * (j 0).val = t.val * 256 + (j 0).val; rw [(idx_rows t).2.2.2.2.2.2.2.2.2.2.2.2.2.1]; omega
  | ⟨1, _⟩ => show win0_11.index t 1 * 5120 + 1 * (j 1).val = (j 1).val; rw [(idx_rows t).2.2.2.2.2.2.2.2.2.2.2.2.2.2.1]; omega

theorem flushed_eq12 (c : Dev nD) (t : Fin cfg0.N) (_ : (cfg0.win 12).flush t = true) :
    (dats m 0 c).flushed 12 t = ((cfg0.win 12).blk t).view.read (Elt Ideal) (result1 m c) := by
  rw [Value.flushed12_A, out_A12]
  funext j
  rw [View.read_apply]
  have ej : j = (ix2 (j 0) (j 1) : S256x5120.Idx) := funext fun a => by match a with | ⟨0, _⟩ => rfl | ⟨1, _⟩ => rfl
  refine (congrArg (codes12 (blockAt m c t) (iblk m c 10 t)) ej).trans ((codes_eq m c t (j 0) (j 1)).trans
    (congrArg (result1 m c) (Eq.symm (b := (ix2 (row t (j 0)) (j 1) : S4608x5120.Idx)) ?_)))
  funext b
  apply Fin.ext
  match b with
  | ⟨0, _⟩ => show win0_12.index t 0 * 256 + 1 * (j 0).val = t.val * 256 + (j 0).val; rw [(idx_rows t).2.2.2.2.2.2.2.2.2.2.2.2.2.2.2.1]; omega
  | ⟨1, _⟩ => show win0_12.index t 1 * 5120 + 1 * (j 1).val = (j 1).val; rw [(idx_rows t).2.2.2.2.2.2.2.2.2.2.2.2.2.2.2.2.1]; omega

theorem flushed_eq13 (c : Dev nD) (t : Fin cfg0.N) (_ : (cfg0.win 13).flush t = true) :
    (dats m 0 c).flushed 13 t = ((cfg0.win 13).blk t).view.read (Elt Ideal) (result2 m c) := by
  rw [Value.flushed13_A, out_A13]
  funext j
  have hj : (j 0).val < 1 := (j 0).isLt
  rw [View.read_apply]
  have ej : j = (ix3 (j 0) (j 1) (j 2) : S1x2x128.Idx) := funext fun a => by
    match a with | ⟨0, _⟩ => rfl | ⟨1, _⟩ => rfl | ⟨2, _⟩ => rfl
  have key := scales_eq m c t (j 0) (j 1) (j 2)
  generalize result2 m c = G at key ⊢
  refine (congrArg (scale13 (blockAt m c t) (iblk m c 10 t)) ej).trans (key.trans
    (congrArg G (Eq.symm (b := (ix3 ⟨t.val, tlt t⟩ (j 1) (j 2) : S18x2x128.Idx)) ?_)))
  funext b
  apply Fin.ext
  match b with
  | ⟨0, _⟩ => show win0_13.index t 0 * 1 + 1 * (j 0).val = t.val; rw [(idx_rows t).2.2.2.2.2.2.2.2.2.2.2.2.2.2.2.2.2.1]; omega
  | ⟨1, _⟩ => show win0_13.index t 1 * 2 + 1 * (j 1).val = (j 1).val; rw [(idx_rows t).2.2.2.2.2.2.2.2.2.2.2.2.2.2.2.2.2.2.1]; omega
  | ⟨2, _⟩ => show win0_13.index t 2 * 128 + 1 * (j 2).val = (j 2).val; rw [(idx_rows t).2.2.2.2.2.2.2.2.2.2.2.2.2.2.2.2.2.2.2]; omega

/-- Every index lies in one of the 18 blocks, -/
theorem cover11 (i : S4608x5120.Idx) : ∃ t : Fin cfg0.N, (cfg0.win 11).flush t = true ∧ i ∈ ((cfg0.win 11).blk t).view.set := by
  have h0 : (i 0 : Nat) < 4608 := (i 0).isLt
  have h1 : (i 1 : Nat) < 5120 := (i 1).isLt
  have hN : cfg0.N = 18 := N_0
  obtain ⟨t, ht⟩ : ∃ t : Fin cfg0.N, t.val = (i 0 : Nat) / 256 := ⟨⟨_, by omega⟩, rfl⟩
  refine ⟨t, flush0_11 t, ?_⟩
  show i ∈ ((View.whole main_v5_0).slice (win0_11.rect t)).set
  rw [View.set_slice_whole, Rect.mem_set_unit]
  intro a
  match a with
  | ⟨0, _⟩ => show win0_11.index t 0 * 256 ≤ (i 0 : Nat) ∧ (i 0 : Nat) < win0_11.index t 0 * 256 + 256; rw [(idx_rows t).2.2.2.2.2.2.2.2.2.2.2.2.2.1]; omega
  | ⟨1, _⟩ => show win0_11.index t 1 * 5120 ≤ (i 1 : Nat) ∧ (i 1 : Nat) < win0_11.index t 1 * 5120 + 5120; rw [(idx_rows t).2.2.2.2.2.2.2.2.2.2.2.2.2.2.1]; omega

theorem cover12 (i : S4608x5120.Idx) : ∃ t : Fin cfg0.N, (cfg0.win 12).flush t = true ∧ i ∈ ((cfg0.win 12).blk t).view.set := by
  have h0 : (i 0 : Nat) < 4608 := (i 0).isLt
  have h1 : (i 1 : Nat) < 5120 := (i 1).isLt
  have hN : cfg0.N = 18 := N_0
  obtain ⟨t, ht⟩ : ∃ t : Fin cfg0.N, t.val = (i 0 : Nat) / 256 := ⟨⟨_, by omega⟩, rfl⟩
  refine ⟨t, flush0_12 t, ?_⟩
  show i ∈ ((View.whole main_v5_1).slice (win0_12.rect t)).set
  rw [View.set_slice_whole, Rect.mem_set_unit]
  intro a
  match a with
  | ⟨0, _⟩ => show win0_12.index t 0 * 256 ≤ (i 0 : Nat) ∧ (i 0 : Nat) < win0_12.index t 0 * 256 + 256; rw [(idx_rows t).2.2.2.2.2.2.2.2.2.2.2.2.2.2.2.1]; omega
  | ⟨1, _⟩ => show win0_12.index t 1 * 5120 ≤ (i 1 : Nat) ∧ (i 1 : Nat) < win0_12.index t 1 * 5120 + 5120; rw [(idx_rows t).2.2.2.2.2.2.2.2.2.2.2.2.2.2.2.2.1]; omega

theorem cover13 (i : S18x2x128.Idx) : ∃ t : Fin cfg0.N, (cfg0.win 13).flush t = true ∧ i ∈ ((cfg0.win 13).blk t).view.set := by
  have h0 : (i 0 : Nat) < 18 := (i 0).isLt
  have h1 : (i 1 : Nat) < 2 := (i 1).isLt
  have h2 : (i 2 : Nat) < 128 := (i 2).isLt
  have hN : cfg0.N = 18 := N_0
  obtain ⟨t, ht⟩ : ∃ t : Fin cfg0.N, t.val = (i 0 : Nat) := ⟨⟨_, by omega⟩, rfl⟩
  refine ⟨t, flush0_13 t, ?_⟩
  show i ∈ ((View.whole main_v5_2).slice (win0_13.rect t)).set
  rw [View.set_slice_whole, Rect.mem_set_unit]
  intro a
  match a with
  | ⟨0, _⟩ => show win0_13.index t 0 * 1 ≤ (i 0 : Nat) ∧ (i 0 : Nat) < win0_13.index t 0 * 1 + 1; rw [(idx_rows t).2.2.2.2.2.2.2.2.2.2.2.2.2.2.2.2.2.1]; omega
  | ⟨1, _⟩ => show win0_13.index t 1 * 2 ≤ (i 1 : Nat) ∧ (i 1 : Nat) < win0_13.index t 1 * 2 + 2; rw [(idx_rows t).2.2.2.2.2.2.2.2.2.2.2.2.2.2.2.2.2.2.1]; omega
  | ⟨2, _⟩ => show win0_13.index t 2 * 128 ≤ (i 2 : Nat) ∧ (i 2 : Nat) < win0_13.index t 2 * 128 + 128; rw [(idx_rows t).2.2.2.2.2.2.2.2.2.2.2.2.2.2.2.2.2.2.2]; omega

/-- so the kernel's result arrays end holding the formulas everywhere. -/
theorem final11 (c : Dev nD) : (dats m 0 c).arrAt 11 cfg0.N = result0 m c :=
  (dats m 0 c).arrAt_eq_of_cover 11 (result0 m c) (flushed_eq11 m c) cover11
theorem final12 (c : Dev nD) : (dats m 0 c).arrAt 12 cfg0.N = result1 m c :=
  (dats m 0 c).arrAt_eq_of_cover 12 (result1 m c) (flushed_eq12 m c) cover12
theorem final13 (c : Dev nD) : (dats m 0 c).arrAt 13 cfg0.N = result2 m c :=
  (dats m 0 c).arrAt_eq_of_cover 13 (result2 m c) (flushed_eq13 m c) cover13

end Cert.OutProjIdeal.Res

end
-- ==== Proof.OutProjReference.lean ====
/-
  The output projections' reference, read as values over the reals: the whole residual stream, its norm and the norm's
  quantisation are the plain formulas of `Cert.Proof.OutProjSpec`.
-/
module

public import proofs.«01_k».proof.Proof.Gen.OutProjRefIdeal.Value
public import proofs.«01_k».proof.Proof.OutProjSpec
public import Idealize.ShloMosaic.Lib.Pointwise

@[expose] public section

noncomputable section

namespace Cert.OutProjRefIdeal.Res

open Cert.OutProjRefIdeal Cert.OutProjRefIdeal.Gen Cert.Proof.GateUpSpec Cert.Proof.OutProjSpec
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-! ## The body's values, at an index -/

/-- The residual stream. -/
theorem pay5_apply (v0 : Vec Ideal S4608x640 .fp8e4m3) (v1 : Vec Ideal S4608x1 .f32) (v3 : Vec Ideal S640x5120 .fp8e4m3)
    (v4 : Vec Ideal S1x5120 .f32) (v11 : Vec Ideal S1x1 .f32) (v15 : Vec Ideal S4608x1024 .fp8e4m3) (v16 : Vec Ideal S4608x1 .f32)
    (v18 : Vec Ideal S1024x5120 .fp8e4m3) (v19 : Vec Ideal S1x5120 .f32) (v26 : Vec Ideal S1x1 .f32)
    (v30 : Vec Ideal S4608x5120 .bf16) (r : Fin 4608) (j : Fin 5120) :
    k0_pay5 (F := Ideal) v0 v1 v3 v4 v11 v15 v16 v18 v19 v26 v30 (ix2 r j)
      = v30 (ix2 r j) + (∑ k : Fin 640, v0 (ix2 r k) * v3 (ix2 k j)) * v1 (ix2 r 0) * v4 (ix2 0 j) * v11 (ix2 0 0)
        + (∑ k : Fin 1024, v15 (ix2 r k) * v18 (ix2 k j)) * v16 (ix2 r 0) * v19 (ix2 0 j) * v26 (ix2 0 0) := by
  pointwise [k0_pay5]

/-- One row of an array laid out as a vector, and the norm's weights out of their one row. -/
def rowOf (X : FVec Ideal S4608x5120 .f32) (r : Fin 4608) : Fin 5120 → EReal := fun j => X (ix2 r j)
def wts (g : Vec Ideal S1x5120 .f32) : Fin 5120 → EReal := fun j => g (ix2 0 j)

theorem col_of (v : FVec Ideal S4608 .f32) (j : S4608x1.Idx) : shapeCast S4608x1 v shapeCasts_S4608_S4608x1 j = v (ix1 (j 0)) := by
  pointwise

/-- The sums of squares of the rows, as one column, -/
def sumCol (v : FVec Ideal S4608x5120 .f32) : FVec Ideal S4608x1 .f32 :=
  shapeCast S4608x1 (multiReduction .add [1] S4608 (mulf v v) 0x00000000#32 reduces_S4608x5120_S4608 (.inl rfl) rfl) shapeCasts_S4608_S4608x1
/-- the norm of the rows, from those, -/
def normBody (v : FVec Ideal S4608x5120 .f32) (s : FVec Ideal S4608x1 .f32) (g : Vec Ideal S1x5120 .f32) : FVec Ideal S4608x5120 .f32 :=
  mulf (mulf v (broadcastTo S4608x5120 (rsqrt (addf (divf s (broadcast S4608x1 (Scalar.ofBits .f32 0x45A00000#32)))
      (broadcast S4608x1 (Scalar.ofBits .f32 0x3727C5AC#32)))) broadcasts_S4608x1_S4608x5120))
    (broadcastTo S4608x5120 (shapeCast S1x5120 g shapeCasts_S1x5120_S1x5120) broadcasts_S1x5120_S4608x5120)
/-- and the largest magnitude of each row of it. -/
def maxCol (v : FVec Ideal S4608x5120 .f32) : FVec Ideal S4608x1 .f32 :=
  shapeCast S4608x1 (multiReduction .maximumf [1] S4608 (absf v) 0xFF800000#32 reduces_S4608x5120_S4608 (.inl rfl) rfl) shapeCasts_S4608_S4608x1

theorem normBody_apply (v : FVec Ideal S4608x5120 .f32) (s : FVec Ideal S4608x1 .f32) (g : Vec Ideal S1x5120 .f32) (p : Fin 4608) (q : Fin 5120) :
    normBody v s g (ix2 p q) = normOf (rowOf v p) (wts g) (s (ix2 p 0)) q := by
  unfold normOf rowOf wts len eps
  pointwise [normBody]

theorem sumCol_apply (v : FVec Ideal S4608x5120 .f32) (p : Fin 4608) : sumCol v (ix2 p 0) = sumSq (rowOf v p) :=
  (col_of _ _).trans (sumSq_red v _ _ _ _)
theorem maxCol_apply (v : FVec Ideal S4608x5120 .f32) (p : Fin 4608) : maxCol v (ix2 p 0) = rowMax (rowOf v p) :=
  (col_of _ _).trans (rowMax_red v _ _ _ _)

theorem norm_apply (v : FVec Ideal S4608x5120 .f32) (g : Vec Ideal S1x5120 .f32) (p : Fin 4608) (q : Fin 5120) :
    k0_pay1 (F := Ideal) v g (ix2 p q) = normed (rowOf v p) (wts g) q := by
  have e : k0_pay1 (F := Ideal) v g = normBody v (sumCol v) g := rfl
  rw [e, normBody_apply, sumCol_apply]
  rfl

theorem norm_row (v : FVec Ideal S4608x5120 .f32) (g : Vec Ideal S1x5120 .f32) (p : Fin 4608) :
    rowOf (k0_pay1 (F := Ideal) v g) p = normed (rowOf v p) (wts g) := funext fun q => norm_apply v g p q

/-- The scales from the largest magnitudes, -/
def scaleCol (a : FVec Ideal S4608x1 .f32) : FVec Ideal S4608x1 .f32 :=
  select (cmpf .oeq a (broadcast S4608x1 (Scalar.ofBits .f32 0x00000000#32))) (broadcast S4608x1 (Scalar.ofBits .f32 0x3F800000#32))
    (divf a (broadcast S4608x1 (Scalar.ofBits .f32 0x43E00000#32)))

theorem scaleCol_apply (a : FVec Ideal S4608x1 .f32) (j : S4608x1.Idx) : scaleCol a j = scaleOf (a j) := by
  unfold scaleOf top
  pointwise [scaleCol]

theorem scale_apply (v : FVec Ideal S4608x5120 .f32) (g : Vec Ideal S1x5120 .f32) (p : Fin 4608) :
    k0_pay2 (F := Ideal) v g (ix2 p 0) = scaleOf (rowMax (normed (rowOf v p) (wts g))) := by
  have e : k0_pay2 (F := Ideal) v g = scaleCol (maxCol (k0_pay1 (F := Ideal) v g)) := by
    unfold k0_pay2 scaleCol maxCol
    rfl
  rw [e, scaleCol_apply, maxCol_apply, norm_row]

/-- and what is stored: the codes under those scales, and the scales in blocks of 2 by 128. -/
theorem code_of (w : FVec Ideal S4608x5120 .f32) (s : FVec Ideal S4608x1 .f32) (p : Fin 4608) (q : Fin 5120) :
    (truncf .fp8e4m3 (minimumf (broadcast S4608x5120 (Scalar.ofBits .f32 0x43E00000#32)) (maximumf (broadcast S4608x5120 (Scalar.ofBits .f32 0xC3E00000#32))
      (divf w (broadcastTo S4608x5120 s broadcasts_S4608x1_S4608x5120)))) bitsLt_fp8e4m3_f32 : FVec Ideal S4608x5120 .fp8e4m3) (ix2 p q)
      = codeOf (w (ix2 p q)) (s (ix2 p 0)) := by
  unfold codeOf bot top
  pointwise

theorem codes_apply (v : FVec Ideal S4608x5120 .f32) (g : Vec Ideal S1x5120 .f32) (p : Fin 4608) (q : Fin 5120) :
    k0_pay3 (F := Ideal) v g (ix2 p q)
      = codeOf (normed (rowOf v p) (wts g) q) (scaleOf (rowMax (normed (rowOf v p) (wts g)))) := by
  unfold k0_pay3
  exact (code_of _ _ p q).trans (congrArg₂ codeOf (norm_apply v g p q) (scale_apply v g p))

theorem scale_cast (s : FVec Ideal S4608x1 .f32) (j : S18x2x128.Idx) :
    shapeCast S18x2x128 s shapeCasts_S4608x1_S18x2x128 j = s (ix2 ⟨256 * (j 0).val + 128 * (j 1).val + (j 2).val, by
      have h0 : (j 0).val < 18 := (j 0).isLt; have h1 : (j 1).val < 2 := (j 1).isLt; have h2 : (j 2).val < 128 := (j 2).isLt; omega⟩ 0) := by
  pointwise
  congr 2
  apply Fin.ext
  show (j 0).val * 256 + (j 1).val * 128 + (j 2).val = 256 * (j 0).val + 128 * (j 1).val + (j 2).val
  omega

theorem scales_apply (v : FVec Ideal S4608x5120 .f32) (g : Vec Ideal S1x5120 .f32) (j : S18x2x128.Idx) :
    k0_pay4 (F := Ideal) v g j = scaleOf (rowMax (normed (rowOf v ⟨256 * (j 0).val + 128 * (j 1).val + (j 2).val, by
      have h0 : (j 0).val < 18 := (j 0).isLt; have h1 : (j 1).val < 2 := (j 1).isLt; have h2 : (j 2).val < 128 := (j 2).isLt; omega⟩) (wts g))) := by
  unfold k0_pay4
  exact (scale_cast _ j).trans (scale_apply v g _)

/-! ## The blocks it reads -/

/-- Every window of the one point is its whole array. -/
theorem idx_facts : ∀ (t : Fin cfg0.N) (a : Fin 2), win0_0.index t a = 0 ∧ win0_1.index t a = 0 ∧ win0_2.index t a = 0 ∧ win0_3.index t a = 0 ∧ win0_4.index t a = 0 ∧ win0_5.index t a = 0 ∧ win0_6.index t a = 0 ∧ win0_7.index t a = 0 ∧ win0_8.index t a = 0 ∧ win0_9.index t a = 0 ∧ win0_10.index t a = 0 ∧ win0_11.index t a = 0 ∧ win0_12.index t a = 0 ∧ win0_13.index t a = 0 :=
  (by decide +kernel : ∀ (t : Fin grid0.N) (a : Fin 2), win0_0.index t a = 0 ∧ win0_1.index t a = 0 ∧ win0_2.index t a = 0 ∧ win0_3.index t a = 0 ∧ win0_4.index t a = 0 ∧ win0_5.index t a = 0 ∧ win0_6.index t a = 0 ∧ win0_7.index t a = 0 ∧ win0_8.index t a = 0 ∧ win0_9.index t a = 0 ∧ win0_10.index t a = 0 ∧ win0_11.index t a = 0 ∧ win0_12.index t a = 0 ∧ win0_13.index t a = 0)
theorem idx_facts14 : ∀ (t : Fin cfg0.N) (a : Fin 3), win0_14.index t a = 0 := (by decide +kernel : ∀ (t : Fin grid0.N) (a : Fin 3), win0_14.index t a = 0)

/-- The reshapes of the scales, of the norm's weights and of the two multipliers, read at an index. -/
theorem cast_col (x : Vec Ideal S4608 .f32) : shapeCast S4608x1 x shapeCasts_S4608_S4608x1 = fun j => x (ix1 (j 0)) := by
  funext j
  pointwise
theorem cast_row (x : Vec Ideal S5120 .f32) : shapeCast S1x5120 x shapeCasts_S5120_S1x5120 = fun j => x (ix1 (j 1)) := by
  funext j
  pointwise
theorem cast_two (x : Vec Ideal S12 .f32) :
    shapeCast S1x1 (extractStridedSlice S1 ![2] x slices_S12_S1_2) shapeCasts_S1_S1x1 = fun _ => x (ix1 2) := by
  funext j
  pointwise
theorem cast_four (x : Vec Ideal S12 .f32) :
    shapeCast S1x1 (extractStridedSlice S1 ![4] x slices_S12_S1_4) shapeCasts_S1_S1x1 = fun _ => x (ix1 4) := by
  funext j
  pointwise

theorem blk0 (c : Dev nD) (t : Fin cfg0.N) : iblk m c 0 t = (m (c.tc.loc main_arg0) : Vec Ideal S4608x5120 .bf16) := by
  unfold iblk
  entry_read
  have hz' : (fun a => win0_0.index t a * main_arg0.ty.shape.size a) = fun _ => 0 := funext fun a => by rw [(idx_facts t a).1]; simp
  exact Memref.read_access_unit_zero (Elt Ideal) main_arg0 hz' (fun a => by rw [congrFun hz' a]; simp) _

theorem blk1 (c : Dev nD) (t : Fin cfg0.N) : iblk m c 1 t = (m (c.tc.loc main_arg1) : Vec Ideal S4608x640 .fp8e4m3) := by
  unfold iblk
  entry_read
  have hz' : (fun a => win0_1.index t a * main_arg1.ty.shape.size a) = fun _ => 0 := funext fun a => by rw [(idx_facts t a).2.1]; simp
  exact Memref.read_access_unit_zero (Elt Ideal) main_arg1 hz' (fun a => by rw [congrFun hz' a]; simp) _

theorem blk2 (c : Dev nD) (t : Fin cfg0.N) : iblk m c 2 t = shapeCast S4608x1 (m (c.tc.loc main_arg2) : Vec Ideal S4608 .f32) shapeCasts_S4608_S4608x1 := by
  unfold iblk
  entry_read
  have hz' : (fun a => win0_2.index t a * main_v0.ty.shape.size a) = fun _ => 0 := funext fun a => by rw [(idx_facts t a).2.2.1]; simp
  exact Memref.read_access_unit_zero (Elt Ideal) main_v0 hz' (fun a => by rw [congrFun hz' a]; simp) _

theorem blk3 (c : Dev nD) (t : Fin cfg0.N) : iblk m c 3 t = (m (c.tc.loc main_arg3) : Vec Ideal S4608x1024 .fp8e4m3) := by
  unfold iblk
  entry_read
  have hz' : (fun a => win0_3.index t a * main_arg3.ty.shape.size a) = fun _ => 0 := funext fun a => by rw [(idx_facts t a).2.2.2.1]; simp
  exact Memref.read_access_unit_zero (Elt Ideal) main_arg3 hz' (fun a => by rw [congrFun hz' a]; simp) _

theorem blk4 (c : Dev nD) (t : Fin cfg0.N) : iblk m c 4 t = shapeCast S4608x1 (m (c.tc.loc main_arg4) : Vec Ideal S4608 .f32) shapeCasts_S4608_S4608x1 := by
  unfold iblk
  entry_read
  have hz' : (fun a => win0_4.index t a * main_v1.ty.shape.size a) = fun _ => 0 := funext fun a => by rw [(idx_facts t a).2.2.2.2.1]; simp
  exact Memref.read_access_unit_zero (Elt Ideal) main_v1 hz' (fun a => by rw [congrFun hz' a]; simp) _

theorem blk5 (c : Dev nD) (t : Fin cfg0.N) : iblk m c 5 t = (m (c.tc.loc main_arg5) : Vec Ideal S640x5120 .fp8e4m3) := by
  unfold iblk
  entry_read
  have hz' : (fun a => win0_5.index t a * main_arg5.ty.shape.size a) = fun _ => 0 := funext fun a => by rw [(idx_facts t a).2.2.2.2.2.1]; simp
  exact Memref.read_access_unit_zero (Elt Ideal) main_arg5 hz' (fun a => by rw [congrFun hz' a]; simp) _

theorem blk6 (c : Dev nD) (t : Fin cfg0.N) : iblk m c 6 t = shapeCast S1x5120 (m (c.tc.loc main_arg6) : Vec Ideal S5120 .f32) shapeCasts_S5120_S1x5120 := by
  unfold iblk
  entry_read
  have hz' : (fun a => win0_6.index t a * main_v2.ty.shape.size a) = fun _ => 0 := funext fun a => by rw [(idx_facts t a).2.2.2.2.2.2.1]; simp
  exact Memref.read_access_unit_zero (Elt Ideal) main_v2 hz' (fun a => by rw [congrFun hz' a]; simp) _

theorem blk7 (c : Dev nD) (t : Fin cfg0.N) : iblk m c 7 t = (m (c.tc.loc main_arg7) : Vec Ideal S1024x5120 .fp8e4m3) := by
  unfold iblk
  entry_read
  have hz' : (fun a => win0_7.index t a * main_arg7.ty.shape.size a) = fun _ => 0 := funext fun a => by rw [(idx_facts t a).2.2.2.2.2.2.2.1]; simp
  exact Memref.read_access_unit_zero (Elt Ideal) main_arg7 hz' (fun a => by rw [congrFun hz' a]; simp) _

theorem blk8 (c : Dev nD) (t : Fin cfg0.N) : iblk m c 8 t = shapeCast S1x5120 (m (c.tc.loc main_arg8) : Vec Ideal S5120 .f32) shapeCasts_S5120_S1x5120 := by
  unfold iblk
  entry_read
  have hz' : (fun a => win0_8.index t a * main_v3.ty.shape.size a) = fun _ => 0 := funext fun a => by rw [(idx_facts t a).2.2.2.2.2.2.2.2.1]; simp
  exact Memref.read_access_unit_zero (Elt Ideal) main_v3 hz' (fun a => by rw [congrFun hz' a]; simp) _

theorem blk9 (c : Dev nD) (t : Fin cfg0.N) : iblk m c 9 t = shapeCast S1x5120 (m (c.tc.loc main_arg9) : Vec Ideal S5120 .f32) shapeCasts_S5120_S1x5120 := by
  unfold iblk
  entry_read
  have hz' : (fun a => win0_9.index t a * main_v4.ty.shape.size a) = fun _ => 0 := funext fun a => by rw [(idx_facts t a).2.2.2.2.2.2.2.2.2.1]; simp
  exact Memref.read_access_unit_zero (Elt Ideal) main_v4 hz' (fun a => by rw [congrFun hz' a]; simp) _

theorem blk10 (c : Dev nD) (t : Fin cfg0.N) : iblk m c 10 t = shapeCast S1x1 (extractStridedSlice S1 ![2] (m (c.tc.loc main_arg10) : Vec Ideal S12 .f32) slices_S12_S1_2) shapeCasts_S1_S1x1 := by
  unfold iblk
  entry_read
  have hz' : (fun a => win0_10.index t a * main_v6.ty.shape.size a) = fun _ => 0 := funext fun a => by rw [(idx_facts t a).2.2.2.2.2.2.2.2.2.2.1]; simp
  exact Memref.read_access_unit_zero (Elt Ideal) main_v6 hz' (fun a => by rw [congrFun hz' a]; simp) _

theorem blk11 (c : Dev nD) (t : Fin cfg0.N) : iblk m c 11 t = shapeCast S1x1 (extractStridedSlice S1 ![4] (m (c.tc.loc main_arg10) : Vec Ideal S12 .f32) slices_S12_S1_4) shapeCasts_S1_S1x1 := by
  unfold iblk
  entry_read
  have hz' : (fun a => win0_11.index t a * main_v8.ty.shape.size a) = fun _ => 0 := funext fun a => by rw [(idx_facts t a).2.2.2.2.2.2.2.2.2.2.2.1]; simp
  exact Memref.read_access_unit_zero (Elt Ideal) main_v8 hz' (fun a => by rw [congrFun hz' a]; simp) _

/-! ## The results -/

/-- The residual stream of the arguments, -/
abbrev stm (c : Dev nD) : Fin 4608 → Fin 5120 → EReal :=
  hmid (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg10))
/-- the norm's weights, -/
abbrev gain (c : Dev nD) : Fin 5120 → EReal := fun j => (m (c.tc.loc main_arg9) : Vec Ideal S5120 .f32) (ix1 j)
/-- and the arrays the reference leaves, as the plain formulas of the arguments. -/
abbrev result0 (c : Dev nD) : Buf (Elt Ideal) ((c : Thread nD τ).loc main_v9_0) := stream (stm m c)
abbrev result1 (c : Dev nD) : Buf (Elt Ideal) ((c : Thread nD τ).loc main_v9_1) := normCodes (stm m c) (gain m c)
abbrev result2 (c : Dev nD) : Buf (Elt Ideal) ((c : Thread nD τ).loc main_v9_2) := normScales (stm m c) (gain m c)

/-- The residual stream the body computes, whole, from the blocks it reads, -/
def whole (c : Dev nD) (t : Fin cfg0.N) : FVec Ideal S4608x5120 .f32 :=
  k0_pay5 (F := Ideal) (iblk m c 1 t) (iblk m c 2 t) (iblk m c 5 t) (iblk m c 6 t) (iblk m c 10 t) (iblk m c 3 t) (iblk m c 4 t)
    (iblk m c 7 t) (iblk m c 8 t) (iblk m c 11 t) (iblk m c 0 t)

/-- is that of the arguments. -/
theorem whole_eq (c : Dev nD) (t : Fin cfg0.N) (r : Fin 4608) : rowOf (whole m c t) r = stm m c r := by
  funext j
  unfold rowOf whole
  rw [blk0, blk1, blk2, blk3, blk4, blk5, blk6, blk7, blk8, blk10, blk11, cast_col, cast_col, cast_row, cast_row, cast_two, cast_four]
  exact pay5_apply _ _ _ _ _ _ _ _ _ _ _ _ _

theorem wts_eq (c : Dev nD) (t : Fin cfg0.N) : wts (iblk m c 9 t) = gain m c := by
  rw [blk9, cast_row]
  rfl

theorem idx2 (j : S4608x5120.Idx) : j = (ix2 (j 0) (j 1) : S4608x5120.Idx) :=
  funext fun a => by match a with | ⟨0, _⟩ => rfl | ⟨1, _⟩ => rfl

/-- What the body leaves in its three whole-array outputs are the formulas. -/
theorem out12_eq (c : Dev nD) (t : Fin cfg0.N) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = result0 m c := by
  funext j
  unfold out0_12 k0_pay6
  rw [View.canon_unit_zero (S := S4608x5120) hz]
  simp only [View.ld_unit_zero (S := S4608x5120) hz, View.ld_unit_zero (S := S4608x640) hz, View.ld_unit_zero (S := S4608x1024) hz, View.ld_unit_zero (S := S4608x1) hz, View.ld_unit_zero (S := S640x5120) hz, View.ld_unit_zero (S := S1024x5120) hz, View.ld_unit_zero (S := S1x5120) hz, View.ld_unit_zero (S := S1x1) hz]
  refine (congrArg (whole m c t) (idx2 j)).trans ?_
  exact congrFun (whole_eq m c t (j 0)) (j 1)

theorem out13_eq (c : Dev nD) (t : Fin cfg0.N) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = result1 m c := by
  funext j
  unfold out0_13 k0_pay6
  rw [View.canon_unit_zero (S := S4608x5120) hz]
  simp only [View.ld_unit_zero (S := S4608x5120) hz, View.ld_unit_zero (S := S4608x640) hz, View.ld_unit_zero (S := S4608x1024) hz, View.ld_unit_zero (S := S4608x1) hz, View.ld_unit_zero (S := S640x5120) hz, View.ld_unit_zero (S := S1024x5120) hz, View.ld_unit_zero (S := S1x5120) hz, View.ld_unit_zero (S := S1x1) hz]
  refine (congrArg (k0_pay3 (F := Ideal) (whole m c t) (iblk m c 9 t)) (idx2 j)).trans ((codes_apply _ _ _ _).trans ?_)
  rw [wts_eq]
  exact congrArg (fun f => codeOf (normed f (gain m c) (j 1)) (scaleOf (rowMax (normed f (gain m c))))) (whole_eq m c t (j 0))

theorem out14_eq (c : Dev nD) (t : Fin cfg0.N) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = result2 m c := by
  funext j
  unfold out0_14 k0_pay6
  rw [View.canon_unit_zero (S := S18x2x128) hz3]
  simp only [View.ld_unit_zero (S := S4608x5120) hz, View.ld_unit_zero (S := S4608x640) hz, View.ld_unit_zero (S := S4608x1024) hz, View.ld_unit_zero (S := S4608x1) hz, View.ld_unit_zero (S := S640x5120) hz, View.ld_unit_zero (S := S1024x5120) hz, View.ld_unit_zero (S := S1x5120) hz, View.ld_unit_zero (S := S1x1) hz]
  refine (scales_apply (whole m c t) (iblk m c 9 t) j).trans ?_
  rw [wts_eq, whole_eq]
  rfl

theorem flushed_eq12 (c : Dev nD) (t : Fin cfg0.N) (_ : (cfg0.win 12).flush t = true) :
    (dats m 0 c).flushed 12 t = ((cfg0.win 12).blk t).view.read (Elt Ideal) (result0 m c) := by
  rw [Value.flushed12, out12_eq]
  have hz' : (fun a => win0_12.index t a * main_v9_0.ty.shape.size a) = fun _ => 0 := funext fun a => by rw [(idx_facts t a).2.2.2.2.2.2.2.2.2.2.2.2.1]; simp
  exact (Memref.read_access_unit_zero (Elt Ideal) main_v9_0 hz' (fun a => by rw [congrFun hz' a]; simp) (result0 m c)).symm

theorem cover12 (i : S4608x5120.Idx) : ∃ t : Fin cfg0.N, (cfg0.win 12).flush t = true ∧ i ∈ ((cfg0.win 12).blk t).view.set := by
  have h0 : (i 0 : Nat) < 4608 := (i 0).isLt
  have h1 : (i 1 : Nat) < 5120 := (i 1).isLt
  have hN : cfg0.N = 1 := N_0
  have t : Fin cfg0.N := ⟨0, by omega⟩
  refine ⟨t, flush0_12 t, ?_⟩
  show i ∈ ((View.whole main_v9_0).slice (win0_12.rect t)).set
  rw [View.set_slice_whole, Rect.mem_set_unit]
  intro a
  have e := (idx_facts t a).2.2.2.2.2.2.2.2.2.2.2.2.1
  match a with
  | ⟨0, _⟩ => show win0_12.index t 0 * 4608 ≤ (i 0 : Nat) ∧ (i 0 : Nat) < win0_12.index t 0 * 4608 + 4608; rw [show win0_12.index t 0 = 0 from e]; omega
  | ⟨1, _⟩ => show win0_12.index t 1 * 5120 ≤ (i 1 : Nat) ∧ (i 1 : Nat) < win0_12.index t 1 * 5120 + 5120; rw [show win0_12.index t 1 = 0 from e]; omega

/-- So this result array of the reference ends holding its formula. -/
theorem final12 (c : Dev nD) : (dats m 0 c).arrAt 12 cfg0.N = result0 m c :=
  (dats m 0 c).arrAt_eq_of_cover 12 (result0 m c) (flushed_eq12 m c) cover12

theorem flushed_eq13 (c : Dev nD) (t : Fin cfg0.N) (_ : (cfg0.win 13).flush t = true) :
    (dats m 0 c).flushed 13 t = ((cfg0.win 13).blk t).view.read (Elt Ideal) (result1 m c) := by
  rw [Value.flushed13, out13_eq]
  have hz' : (fun a => win0_13.index t a * main_v9_1.ty.shape.size a) = fun _ => 0 := funext fun a => by rw [(idx_facts t a).2.2.2.2.2.2.2.2.2.2.2.2.2]; simp
  exact (Memref.read_access_unit_zero (Elt Ideal) main_v9_1 hz' (fun a => by rw [congrFun hz' a]; simp) (result1 m c)).symm

theorem cover13 (i : S4608x5120.Idx) : ∃ t : Fin cfg0.N, (cfg0.win 13).flush t = true ∧ i ∈ ((cfg0.win 13).blk t).view.set := by
  have h0 : (i 0 : Nat) < 4608 := (i 0).isLt
  have h1 : (i 1 : Nat) < 5120 := (i 1).isLt
  have hN : cfg0.N = 1 := N_0
  have t : Fin cfg0.N := ⟨0, by omega⟩
  refine ⟨t, flush0_13 t, ?_⟩
  show i ∈ ((View.whole main_v9_1).slice (win0_13.rect t)).set
  rw [View.set_slice_whole, Rect.mem_set_unit]
  intro a
  have e := (idx_facts t a).2.2.2.2.2.2.2.2.2.2.2.2.2
  match a with
  | ⟨0, _⟩ => show win0_13.index t 0 * 4608 ≤ (i 0 : Nat) ∧ (i 0 : Nat) < win0_13.index t 0 * 4608 + 4608; rw [show win0_13.index t 0 = 0 from e]; omega
  | ⟨1, _⟩ => show win0_13.index t 1 * 5120 ≤ (i 1 : Nat) ∧ (i 1 : Nat) < win0_13.index t 1 * 5120 + 5120; rw [show win0_13.index t 1 = 0 from e]; omega

/-- So this result array of the reference ends holding its formula. -/
theorem final13 (c : Dev nD) : (dats m 0 c).arrAt 13 cfg0.N = result1 m c :=
  (dats m 0 c).arrAt_eq_of_cover 13 (result1 m c) (flushed_eq13 m c) cover13

theorem flushed_eq14 (c : Dev nD) (t : Fin cfg0.N) (_ : (cfg0.win 14).flush t = true) :
    (dats m 0 c).flushed 14 t = ((cfg0.win 14).blk t).view.read (Elt Ideal) (result2 m c) := by
  rw [Value.flushed14, out14_eq]
  have hz' : (fun a => win0_14.index t a * main_v9_2.ty.shape.size a) = fun _ => 0 := funext fun a => by rw [idx_facts14 t a]; simp
  exact (Memref.read_access_unit_zero (Elt Ideal) main_v9_2 hz' (fun a => by rw [congrFun hz' a]; simp) (result2 m c)).symm

theorem cover14 (i : S18x2x128.Idx) : ∃ t : Fin cfg0.N, (cfg0.win 14).flush t = true ∧ i ∈ ((cfg0.win 14).blk t).view.set := by
  have h0 : (i 0 : Nat) < 18 := (i 0).isLt
  have h1 : (i 1 : Nat) < 2 := (i 1).isLt
  have h2 : (i 2 : Nat) < 128 := (i 2).isLt
  have hN : cfg0.N = 1 := N_0
  have t : Fin cfg0.N := ⟨0, by omega⟩
  refine ⟨t, flush0_14 t, ?_⟩
  show i ∈ ((View.whole main_v9_2).slice (win0_14.rect t)).set
  rw [View.set_slice_whole, Rect.mem_set_unit]
  intro a
  have e := idx_facts14 t a
  match a with
  | ⟨0, _⟩ => show win0_14.index t 0 * 18 ≤ (i 0 : Nat) ∧ (i 0 : Nat) < win0_14.index t 0 * 18 + 18; rw [show win0_14.index t 0 = 0 from e]; omega
  | ⟨1, _⟩ => show win0_14.index t 1 * 2 ≤ (i 1 : Nat) ∧ (i 1 : Nat) < win0_14.index t 1 * 2 + 2; rw [show win0_14.index t 1 = 0 from e]; omega
  | ⟨2, _⟩ => show win0_14.index t 2 * 128 ≤ (i 2 : Nat) ∧ (i 2 : Nat) < win0_14.index t 2 * 128 + 128; rw [show win0_14.index t 2 = 0 from e]; omega

/-- So this result array of the reference ends holding its formula. -/
theorem final14 (c : Dev nD) : (dats m 0 c).arrAt 14 cfg0.N = result2 m c :=
  (dats m 0 c).arrAt_eq_of_cover 14 (result2 m c) (flushed_eq14 m c) cover14

end Cert.OutProjRefIdeal.Res

end
-- ==== Proof.OutProjClaims.lean ====
/-
  The claims of the output projections with the second norm.
-/
module

public import proofs.«01_k».proof.Defs
public import proofs.«01_k».proof.Proof.Gen.OutProj.Frame
public import proofs.«01_k».proof.Proof.OutProjKernel
public import proofs.«01_k».proof.Proof.OutProjReference

@[expose] public section

noncomputable section

namespace Cert.Proof.OutProjClaims

open Idealize.ShloMosaic Idealize.ShloMosaic.TcCoe Idealize.SL Idealize.SL.Sem

/-- The kernel terminates, leaves every semaphore at zero and its arguments as they were; so do its idealization and the
    reference's. -/
theorem frame_p : Cert.quiescent_OutProj := fun m ρ _ => Cert.OutProj.Gen.frame m ρ
theorem frame_pi : Cert.quiescent_OutProjIdeal := fun m ρ _ => Cert.OutProjIdeal.Gen.frame m ρ
theorem frame_ri : Cert.quiescent_OutProjRefIdeal := fun m ρ _ => Cert.OutProjRefIdeal.Gen.frame m ρ

/-- The idealization rewrote nothing. -/
theorem preserves : Cert.preserves_OutProj_OutProjIdeal := trivial

/-- Over the reals the kernel and the reference end with the same residual stream, codes and scales, the formulas `stream`,
    `normCodes` and `normScales` of the arguments. -/
theorem algebraic : Cert.algebraic_OutProjIdeal_OutProjRefIdeal := by
  intro m ρ m' ρ' _ hag
  have hs : ∀ c, Cert.OutProjRefIdeal.Res.stm m' c = Cert.OutProjIdeal.Res.stm m c := by
    intro c
    obtain ⟨h0, h1, h2, h3, h4, h5, h6, h7, h8, -, h10⟩ := hag c
    unfold Cert.OutProjRefIdeal.Res.stm
    rw [h0, h1, h2, h3, h4, h5, h6, h7, h8, h10]
  have hg : ∀ c, Cert.OutProjRefIdeal.Res.gain m' c = Cert.OutProjIdeal.Res.gain m c := by
    intro c
    obtain ⟨-, -, -, -, -, -, -, -, -, h9, -⟩ := hag c
    unfold Cert.OutProjRefIdeal.Res.gain
    rw [h9]
  refine ⟨fun c => Cert.OutProjIdeal.Res.result0 m c, fun c => Cert.OutProjIdeal.Res.result1 m c, fun c => Cert.OutProjIdeal.Res.result2 m c,
    (θ_run Cert.OutProjIdeal.defs _ _).mono
      (fun _ h c => ⟨(h c).1.trans (Cert.OutProjIdeal.Res.final11 m c), (h c).2.1.trans (Cert.OutProjIdeal.Res.final12 m c),
        (h c).2.2.1.trans (Cert.OutProjIdeal.Res.final13 m c), (h c).2.2.2⟩)
      (Cert.OutProjIdeal.Value.run_blocks m ρ),
    (θ_run Cert.OutProjRefIdeal.defs _ _).mono
      (fun _ h c => ⟨(h c).1.trans ((Cert.OutProjRefIdeal.Res.final12 m' c).trans ?_),
        (h c).2.1.trans ((Cert.OutProjRefIdeal.Res.final13 m' c).trans ?_),
        (h c).2.2.1.trans ((Cert.OutProjRefIdeal.Res.final14 m' c).trans ?_), (h c).2.2.2⟩)
      (Cert.OutProjRefIdeal.Value.run_blocks m' ρ')⟩
  · unfold Cert.OutProjRefIdeal.Res.result0
    rw [hs c]
  · unfold Cert.OutProjRefIdeal.Res.result1
    rw [hs c, hg c]
  · unfold Cert.OutProjRefIdeal.Res.result2
    rw [hs c, hg c]

end Cert.Proof.OutProjClaims

end
-- ==== Proof.InProjSpec.lean ====
/-
  The input projection over the reals, row by row: a row of the input normed, quantised and multiplied with the weights, and
  the seven results that are cut from the product.
-/
module

public import proofs.«01_k».proof.Proof.OutProjSpec

@[expose] public section

noncomputable section

namespace Cert.Proof.InProjSpec

open Cert.Proof.GateUpSpec Cert.Proof.OutProjSpec
open Idealize.ShloMosaic

/-- The scale of a row `f` normed with weights `g`, -/
def rowScale (f g : Fin 5120 → EReal) : EReal := scaleOf (rowMax (normed f g))
/-- its codes, -/
def rowCode (f g : Fin 5120 → EReal) (k : Fin 5120) : EReal := codeOf (normed f g k) (rowScale f g)
/-- and the product of the codes with every column of the weights, times the row's scale and the column's. -/
def proj (f g : Fin 5120 → EReal) (w : Vec Ideal ⟨2, ![5120, 3464]⟩ .fp8e4m3) (ws : Fin 3464 → EReal) (j : Fin 3464) : EReal :=
  (∑ k : Fin 5120, rowCode f g k * w (ix2 k j)) * rowScale f g * ws j

/-- The rotary embedding of a row of 128: the halves rotated by the angles whose cosines and sines are `c` and `s`. -/
def rope (f : Fin 128 → EReal) (c s : Fin 64 → EReal) (d : Fin 128) : EReal :=
  if h : d.val < 64 then
    f d * c ⟨d.val, h⟩ - f ⟨d.val + 64, by omega⟩ * s ⟨d.val, h⟩
  else
    f d * c ⟨d.val - 64, by have := d.isLt; omega⟩ + f ⟨d.val - 64, by have := d.isLt; omega⟩ * s ⟨d.val - 64, by have := d.isLt; omega⟩

/-- From the row `u` of the product and the multipliers `a`: the queries of head `h`, -/
def qOf (u : Fin 3464 → EReal) (a : Fin 12 → EReal) (c s : Fin 64 → EReal) (h : Fin 5) (d : Fin 128) : EReal :=
  rope (fun e => u ⟨128 * h.val + e.val, by have := h.isLt; have := e.isLt; omega⟩ * a 0) c s d
/-- the codes of the keys under the scale `ks`, -/
def kOf (u : Fin 3464 → EReal) (a : Fin 12 → EReal) (c s : Fin 64 → EReal) (ks : EReal) (d : Fin 128) : EReal :=
  codeOf (rope (fun e => u ⟨640 + e.val, by have := e.isLt; omega⟩ * a 0 * a 1) c s d) ks
/-- those of the values under the scale `vs`, -/
def vOf (u : Fin 3464 → EReal) (a : Fin 12 → EReal) (vs : EReal) (d : Fin 128) : EReal :=
  codeOf (u ⟨768 + d.val, by have := d.isLt; omega⟩ * a 0) vs
/-- the gate, -/
def zOf (u : Fin 3464 → EReal) (a : Fin 12 → EReal) (j : Fin 1024) : EReal :=
  u ⟨896 + j.val, by have := j.isLt; omega⟩ * a 3 * a 7
/-- the convolution's input, whose three parts have a multiplier each, -/
def xMul (a : Fin 12 → EReal) (n : ℕ) : EReal := if n < 1024 then a 8 else if n < 1280 then a 9 else a 10
def xOf (u : Fin 3464 → EReal) (a : Fin 12 → EReal) (j : Fin 1536) : EReal :=
  u ⟨1920 + j.val, by have := j.isLt; omega⟩ * a 3 * xMul a j.val
/-- and the step sizes of the 8 state-space heads, with zeros up to 128. -/
def dOf (u : Fin 3464 → EReal) (a : Fin 12 → EReal) (j : Fin 128) : EReal :=
  if h : j.val < 8 then u ⟨3456 + j.val, by omega⟩ * a 3 * a 11 else 0

/-! ## The result arrays

Each is cut, row by row, from the product `u`, with the multipliers `a` and the rows `c` and `s` of cosines and sines. -/

def queries (u : Fin 4608 → Fin 3464 → EReal) (a : Fin 12 → EReal) (c s : Fin 4608 → Fin 64 → EReal) : Vec Ideal ⟨3, ![5, 4608, 128]⟩ .bf16 :=
  fun y => qOf (u (y 1)) a (c (y 1)) (s (y 1)) (y 0) (y 2)
def keys (u : Fin 4608 → Fin 3464 → EReal) (a : Fin 12 → EReal) (c s : Fin 4608 → Fin 64 → EReal) (ks : EReal) :
    Vec Ideal ⟨2, ![4608, 128]⟩ .fp8e4m3 := fun y => kOf (u (y 0)) a (c (y 0)) (s (y 0)) ks (y 1)
def values (u : Fin 4608 → Fin 3464 → EReal) (a : Fin 12 → EReal) (vs : EReal) : Vec Ideal ⟨2, ![4608, 128]⟩ .fp8e4m3 :=
  fun y => vOf (u (y 0)) a vs (y 1)
def gates (u : Fin 4608 → Fin 3464 → EReal) (a : Fin 12 → EReal) : Vec Ideal ⟨2, ![4608, 1024]⟩ .f32 := fun y => zOf (u (y 0)) a (y 1)
def convs (u : Fin 4608 → Fin 3464 → EReal) (a : Fin 12 → EReal) : Vec Ideal ⟨2, ![4608, 1536]⟩ .f32 := fun y => xOf (u (y 0)) a (y 1)
def steps (u : Fin 4608 → Fin 3464 → EReal) (a : Fin 12 → EReal) : Vec Ideal ⟨2, ![4608, 128]⟩ .f32 := fun y => dOf (u (y 0)) a (y 1)

end Cert.Proof.InProjSpec

end
-- ==== Proof.InProjParts.lean ====
/-
  The input projection's kernel over the reals: each value its body computes, read at an index.
-/
module

public import proofs.«01_k».proof.Proof.Gen.InProjIdeal.Skeleton
public import proofs.«01_k».proof.Proof.InProjSpec
public import Idealize.ShloMosaic.Lib.Pointwise

@[expose] public section

noncomputable section

namespace Cert.InProjIdeal.Res

open Cert.InProjIdeal Cert.InProjIdeal.Gen Cert.Proof.GateUpSpec Cert.Proof.OutProjSpec Cert.Proof.InProjSpec
open Idealize.ShloMosaic Idealize.ShloMosaic.TcCoe Idealize.ShloMosaic.Tactic
open Idealize.SL Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-- A rank-2 index by its coordinates. -/
theorem eta2 {a b : ℕ} (x : (⟨2, ![a, b]⟩ : Shape).Idx) : x = ix2 (x 0) (x 1) := by
  funext i
  match i with
  | ⟨0, _⟩ => rfl
  | ⟨1, _⟩ => rfl

/-! ## The norm, its codes and its scales -/

/-- Row `p` of a block, and the norm's weights as the body reads them. -/
def rowOf (X : Vec Ideal S256x5120 .bf16) (p : Fin 256) : Fin 5120 → EReal := fun j => X (ix2 p j)
def wts (g : Vec Ideal S1x5120 .f32) : Fin 5120 → EReal := fun j => g (ix2 0 j)

/-- The codes of a block's norm, row by row, -/
def codes8 (X : Vec Ideal S256x5120 .bf16) (g : Vec Ideal S1x5120 .f32) : Vec Ideal S256x5120 .fp8e4m3 := fun y =>
  rowCode (rowOf X (y 0)) (wts g) (y 1)
/-- and the scale of each row. -/
def scale9 (X : Vec Ideal S256x5120 .bf16) (g : Vec Ideal S1x5120 .f32) : Vec Ideal S1x2x128 .f32 := fun y =>
  rowScale (rowOf X ⟨128 * (y 1).val + (y 2).val, by
    have h1 : (y 1).val < 2 := (y 1).isLt; have h2 : (y 2).val < 128 := (y 2).isLt; omega⟩) (wts g)

theorem cast_col (v : FVec Ideal S128 .f32) (j : S128x1.Idx) : shapeCast S128x1 v shapeCasts_S128_S128x1 j = v (ix1 (j 0)) := by
  pointwise

/-- The sums of squares of 128 rows, as one column, -/
def sumCol (v : FVec Ideal S128x5120 .f32) : FVec Ideal S128x1 .f32 :=
  shapeCast S128x1 (multiReduction .add [1] S128 (mulf v v) 0x00000000#32 reduces_S128x5120_S128 (.inl rfl) rfl) shapeCasts_S128_S128x1
/-- and the norm of the rows, from those. -/
def normBody (v : FVec Ideal S128x5120 .f32) (s : FVec Ideal S128x1 .f32) (g : Vec Ideal S1x5120 .f32) : FVec Ideal S128x5120 .f32 :=
  mulf (mulf v (broadcastTo S128x5120 (rsqrt (addf (divf s (broadcast S128x1 (Scalar.ofBits .f32 0x45A00000#32)))
      (broadcast S128x1 (Scalar.ofBits .f32 0x3727C5AC#32)))) broadcasts_S128x1_S128x5120))
    (broadcastTo S128x5120 (shapeCast S1x5120 g shapeCasts_S1x5120_S1x5120) broadcasts_S1x5120_S128x5120)

theorem normBody_apply (v : FVec Ideal S128x5120 .f32) (s : FVec Ideal S128x1 .f32) (g : Vec Ideal S1x5120 .f32) (p : Fin 128) (q : Fin 5120) :
    normBody v s g (ix2 p q) = normOf (fun j => v (ix2 p j)) (wts g) (s (ix2 p 0)) q := by
  unfold normOf wts len eps
  pointwise [normBody]

theorem sumCol_apply (v : FVec Ideal S128x5120 .f32) (p : Fin 128) : sumCol v (ix2 p 0) = sumSq fun j : Fin 5120 => v (ix2 p j) :=
  (cast_col _ _).trans (sumSq_red v _ _ _ _)

/-- The norm of 128 rows as the body computes it, at an index. -/
theorem norm_apply (v : Vec Ideal S128x5120 .bf16) (g : Vec Ideal S1x5120 .f32) (p : Fin 128) (q : Fin 5120) :
    k0_pay5 (F := Ideal) v g (ix2 p q) = normed (fun j => v (ix2 p j)) (wts g) q := by
  have e : k0_pay5 (F := Ideal) v g = normBody (extf .f32 v bitsLt_bf16_f32) (sumCol (extf .f32 v bitsLt_bf16_f32)) g := rfl
  rw [e, normBody_apply, sumCol_apply]
  rfl

/-- The largest magnitude of each row of the norm, -/
def maxCol (w : FVec Ideal S128x5120 .f32) : FVec Ideal S128x1 .f32 :=
  shapeCast S128x1 (multiReduction .maximumf [1] S128 (absf w) 0xFF800000#32 reduces_S128x5120_S128 (.inl rfl) rfl) shapeCasts_S128_S128x1
/-- the scales from those, -/
def scaleCol (a : FVec Ideal S128x1 .f32) : FVec Ideal S128x1 .f32 :=
  select (cmpf .oeq a (broadcast S128x1 (Scalar.ofBits .f32 0x00000000#32))) (broadcast S128x1 (Scalar.ofBits .f32 0x3F800000#32))
    (divf a (broadcast S128x1 (Scalar.ofBits .f32 0x43E00000#32)))

theorem scaleCol_apply (a : FVec Ideal S128x1 .f32) (j : S128x1.Idx) : scaleCol a j = scaleOf (a j) := by
  unfold scaleOf top
  pointwise [scaleCol]

theorem scale_apply (v : Vec Ideal S128x5120 .bf16) (g : Vec Ideal S1x5120 .f32) (p : Fin 128) :
    k0_pay6 (F := Ideal) v g (ix2 p 0) = rowScale (fun j => v (ix2 p j)) (wts g) := by
  have e : k0_pay6 (F := Ideal) v g = scaleCol (maxCol (k0_pay5 (F := Ideal) v g)) := rfl
  rw [e, scaleCol_apply]
  refine congrArg scaleOf ((cast_col _ _).trans ((rowMax_red _ _ _ _ _).trans (congrArg rowMax (funext fun x => ?_))))
  exact norm_apply v g p x

/-- and what is stored: the codes under those scales, and the scales. -/
def codeBody (w : FVec Ideal S128x5120 .f32) (s : FVec Ideal S128x1 .f32) : FVec Ideal S128x5120 .fp8e4m3 :=
  truncf .fp8e4m3 (minimumf (broadcast S128x5120 (Scalar.ofBits .f32 0x43E00000#32)) (maximumf (broadcast S128x5120 (Scalar.ofBits .f32 0xC3E00000#32))
    (divf w (broadcastTo S128x5120 s broadcasts_S128x1_S128x5120)))) bitsLt_fp8e4m3_f32

theorem codeBody_apply (w : FVec Ideal S128x5120 .f32) (s : FVec Ideal S128x1 .f32) (p : Fin 128) (q : Fin 5120) :
    codeBody w s (ix2 p q) = codeOf (w (ix2 p q)) (s (ix2 p 0)) := by
  unfold codeOf bot top
  pointwise [codeBody]

theorem code_apply (v : Vec Ideal S128x5120 .bf16) (g : Vec Ideal S1x5120 .f32) (p : Fin 128) (q : Fin 5120) :
    k0_pay7 (F := Ideal) v g (ix2 p q) = rowCode (fun j => v (ix2 p j)) (wts g) q := by
  have e : k0_pay7 (F := Ideal) v g = codeBody (k0_pay5 (F := Ideal) v g) (k0_pay6 (F := Ideal) v g) := rfl
  rw [e, codeBody_apply, norm_apply, scale_apply]
  rfl

theorem scale_cast (v : Vec Ideal S128x5120 .bf16) (g : Vec Ideal S1x5120 .f32) (x : S1x1x128.Idx) :
    k0_pay8 (F := Ideal) v g x = k0_pay6 (F := Ideal) v g (ix2 (x 2) 0) := by
  unfold k0_pay8
  generalize k0_pay6 (F := Ideal) v g = s
  pointwise

theorem inb_rows (r : Fin 2) : ∀ a, (![128 * r.val, 0] : Fin 2 → Nat) a + S128x5120.size a ≤ S256x5120.size a := by
  have := r.isLt
  intro a
  match a with
  | ⟨0, _⟩ => show 128 * r.val + 128 ≤ 256; omega
  | ⟨1, _⟩ => show 0 + 5120 ≤ 5120; omega

/-- Row strip `r` of a block, as the body loads it. -/
def rows (X : Vec Ideal S256x5120 .bf16) (r : Fin 2) : Vec Ideal S128x5120 .bf16 :=
  View.ld X (Rect.unit (s := S256x5120) ![128 * r.val, 0] S128x5120.size (inb_rows r))

theorem rows_row (X : Vec Ideal S256x5120 .bf16) (r : Fin 2) (p : Fin 128) :
    (fun j : Fin 5120 => rows X r (ix2 p j)) = rowOf X ⟨128 * r.val + p.val, by have := r.isLt; have := p.isLt; omega⟩ := by
  funext j
  unfold rows rowOf
  show X _ = X _
  congr 1
  funext a
  apply Fin.ext
  match a with
  | ⟨0, _⟩ => show 128 * r.val + 1 * p.val = 128 * r.val + p.val; omega
  | ⟨1, _⟩ => show 0 + 1 * j.val = j.val; omega

/-- The codes of strip `r` are `codes8` at that place, -/
theorem code_piece (X : Vec Ideal S256x5120 .bf16) (g : Vec Ideal S1x5120 .f32) (r : Fin 2) (x : S128x5120.Idx) :
    k0_pay7 (F := Ideal) (rows X r) g x
      = codes8 X g ((Rect.unit (s := S256x5120) ![128 * r.val, 0] S128x5120.size (inb_rows r)).emb x) := by
  have hx0 : (x 0).val < 128 := (x 0).isLt
  have hr := r.isLt
  have e : (Rect.unit (s := S256x5120) ![128 * r.val, 0] S128x5120.size (inb_rows r)).emb x
      = (ix2 ⟨128 * r.val + (x 0).val, by omega⟩ (x 1) : S256x5120.Idx) := by
    funext a
    apply Fin.ext
    match a with
    | ⟨0, _⟩ => show 128 * r.val + 1 * (x 0).val = 128 * r.val + (x 0).val; omega
    | ⟨1, _⟩ => show 0 + 1 * (x 1).val = (x 1).val; omega
  rw [e]
  refine (congrArg _ (eta2 x)).trans ((code_apply _ g (x 0) (x 1)).trans ?_)
  exact congrArg (fun f => rowCode f (wts g) (x 1)) (rows_row X r (x 0))

theorem inb_scale (r : Fin 2) : ∀ a, (![0, r.val, 0] : Fin 3 → Nat) a + S1x1x128.size a ≤ S1x2x128.size a := by
  have := r.isLt
  intro a
  match a with
  | ⟨0, _⟩ => show 0 + 1 ≤ 1; omega
  | ⟨1, _⟩ => show r.val + 1 ≤ 2; omega
  | ⟨2, _⟩ => show 0 + 128 ≤ 128; omega

/-- and its scales are `scale9` at that place. -/
theorem scale_piece (X : Vec Ideal S256x5120 .bf16) (g : Vec Ideal S1x5120 .f32) (r : Fin 2) (x : S1x1x128.Idx) :
    k0_pay8 (F := Ideal) (rows X r) g x
      = scale9 X g ((Rect.unit (s := S1x2x128) ![0, r.val, 0] S1x1x128.size (inb_scale r)).emb x) := by
  have hx1 : (x 1).val < 1 := (x 1).isLt
  have hx2 : (x 2).val < 128 := (x 2).isLt
  refine (scale_cast _ _ _).trans ((scale_apply _ g (x 2)).trans ?_)
  refine (congrArg (fun f => rowScale f (wts g)) (rows_row X r (x 2))).trans ?_
  unfold scale9
  congr 2
  apply Fin.ext
  show 128 * r.val + (x 2).val = 128 * (r.val + 1 * (x 1).val) + (0 + 1 * (x 2).val)
  omega

/-! ## The product with the weights -/

/-- Row `p`, column `j` of the product, from the block's codes and scales. -/
def prod (S : Vec Ideal S1x2x128 .f32) (C : Vec Ideal S256x5120 .fp8e4m3) (w : Vec Ideal S5120x3464 .fp8e4m3) (ws : Vec Ideal S1x3464 .f32)
    (p : Fin 256) (j : Fin 3464) : EReal :=
  (∑ k : Fin 5120, C (ix2 p k) * w (ix2 k j))
    * S (ix3 0 ⟨p.val / 128, by have := p.isLt; omega⟩ ⟨p.val % 128, Nat.mod_lt _ (by decide)⟩) * ws (ix2 0 j)

/-- The body's strip of 512 columns, -/
abbrev strip (S : Vec Ideal S1x2x128 .f32) (C : Vec Ideal S256x5120 .fp8e4m3) (W : Vec Ideal S5120x512 .fp8e4m3) (Ws : Vec Ideal S1x512 .f32) :
    FVec Ideal S256x512 .f32 := k0_pay18 (F := Ideal) (k0_pay13 S) C W Ws
/-- and its last one, of 392. -/
abbrev lastStrip (S : Vec Ideal S1x2x128 .f32) (C : Vec Ideal S256x5120 .fp8e4m3) (W : Vec Ideal S5120x392 .fp8e4m3) (Ws : Vec Ideal S1x392 .f32) :
    FVec Ideal S256x392 .f32 := k0_pay54 (F := Ideal) (k0_pay14 (k0_pay13 S)) (k0_pay15 C) W Ws

theorem strip_apply (S : Vec Ideal S1x2x128 .f32) (C : Vec Ideal S256x5120 .fp8e4m3) (W : Vec Ideal S5120x512 .fp8e4m3) (Ws : Vec Ideal S1x512 .f32)
    (p : Fin 256) (q : Fin 512) :
    strip S C W Ws (ix2 p q) = (∑ k : Fin 5120, C (ix2 p k) * W (ix2 k q))
      * S (ix3 0 ⟨p.val / 128, by have := p.isLt; omega⟩ ⟨p.val % 128, Nat.mod_lt _ (by decide)⟩) * Ws (ix2 0 q) := by
  pointwise [k0_pay18, k0_pay13, k0_pay14, k0_pay15]

theorem lastStrip_apply (S : Vec Ideal S1x2x128 .f32) (C : Vec Ideal S256x5120 .fp8e4m3) (W : Vec Ideal S5120x392 .fp8e4m3) (Ws : Vec Ideal S1x392 .f32)
    (p : Fin 256) (q : Fin 392) :
    lastStrip S C W Ws (ix2 p q) = (∑ k : Fin 5120, C (ix2 p k) * W (ix2 k q))
      * S (ix3 0 ⟨p.val / 128, by have := p.isLt; omega⟩ ⟨p.val % 128, Nat.mod_lt _ (by decide)⟩) * Ws (ix2 0 q) := by
  pointwise [k0_pay54, k0_pay13, k0_pay14, k0_pay15]

theorem inb_cols (n b : ℕ) (o : ℕ) (h : o + b ≤ 3464) : ∀ a, (![0, o] : Fin 2 → Nat) a + (![n, b] : Fin 2 → Nat) a ≤ (![n, 3464] : Fin 2 → Nat) a := by
  intro a
  match a with
  | ⟨0, _⟩ => show 0 + n ≤ n; omega
  | ⟨1, _⟩ => exact h

/-- Columns `o` to `o + b` of an array, as the body loads them. -/
def cols {n : ℕ} {e : EltTy} (X : Vec Ideal ⟨2, ![n, 3464]⟩ e) (o b : ℕ) (h : o + b ≤ 3464) : Vec Ideal ⟨2, ![n, b]⟩ e :=
  View.ld X (Rect.unit (s := ⟨2, ![n, 3464]⟩) ![0, o] ![n, b] (inb_cols n b o h))

theorem cols_apply {n : ℕ} {e : EltTy} (X : Vec Ideal ⟨2, ![n, 3464]⟩ e) (o b : ℕ) (h : o + b ≤ 3464) (p : Fin n) (q : Fin b) :
    cols X o b h (ix2 p q) = X (ix2 p ⟨o + q.val, by have := q.isLt; omega⟩) := by
  unfold cols
  show X _ = X _
  congr 1
  funext a
  apply Fin.ext
  match a with
  | ⟨0, _⟩ => show 0 + 1 * p.val = p.val; omega
  | ⟨1, _⟩ => show o + 1 * q.val = o + q.val; omega

theorem slices_strip (o : ℕ) (h : o + 128 ≤ 512) : S256x512.Slices ![0, o] S256x128 :=
  ⟨rfl, fun a => by
    match a with
    | ⟨0, _⟩ => show 0 + 256 ≤ 256; omega
    | ⟨1, _⟩ => exact h⟩
theorem slices_last (o : ℕ) (h : o + 128 ≤ 392) : S256x392.Slices ![0, o] S256x128 :=
  ⟨rfl, fun a => by
    match a with
    | ⟨0, _⟩ => show 0 + 256 ≤ 256; omega
    | ⟨1, _⟩ => exact h⟩

/-- Columns `128 k` to `128 k + 128` of the product as the body has them: a piece of a strip, -/
abbrev chunk (S : Vec Ideal S1x2x128 .f32) (C : Vec Ideal S256x5120 .fp8e4m3) (w : Vec Ideal S5120x3464 .fp8e4m3) (ws : Vec Ideal S1x3464 .f32)
    (k : ℕ) (hk : k < 24) : FVec Ideal S256x128 .f32 :=
  extractStridedSlice S256x128 ![0, 128 * (k % 4)]
    (strip S C (cols w (512 * (k / 4)) 512 (by omega)) (cols ws (512 * (k / 4)) 512 (by omega))) (slices_strip _ (by omega))
/-- or of the last strip; -/
abbrev lastChunk (S : Vec Ideal S1x2x128 .f32) (C : Vec Ideal S256x5120 .fp8e4m3) (w : Vec Ideal S5120x3464 .fp8e4m3) (ws : Vec Ideal S1x3464 .f32)
    (k : ℕ) (hk : k < 3) : FVec Ideal S256x128 .f32 :=
  extractStridedSlice S256x128 ![0, 128 * k] (lastStrip S C (cols w 3072 392 (by omega)) (cols ws 3072 392 (by omega))) (slices_last _ (by omega))

theorem chunk_apply (S : Vec Ideal S1x2x128 .f32) (C : Vec Ideal S256x5120 .fp8e4m3) (w : Vec Ideal S5120x3464 .fp8e4m3) (ws : Vec Ideal S1x3464 .f32)
    (k : ℕ) (hk : k < 24) (p : Fin 256) (e : Fin 128) :
    chunk S C w ws k hk (ix2 p e) = prod S C w ws p ⟨128 * k + e.val, by have := e.isLt; omega⟩ := by
  have he := e.isLt
  have h1 : chunk S C w ws k hk (ix2 p e) = strip S C (cols w (512 * (k / 4)) 512 (by omega)) (cols ws (512 * (k / 4)) 512 (by omega))
      (ix2 p ⟨128 * (k % 4) + e.val, by omega⟩) := by
    show strip _ _ _ _ _ = _
    congr 1
    funext a
    apply Fin.ext
    match a with
    | ⟨0, _⟩ => show 0 + p.val = p.val; omega
    | ⟨1, _⟩ => rfl
  have h2 : (⟨512 * (k / 4) + (128 * (k % 4) + e.val), by omega⟩ : Fin 3464) = ⟨128 * k + e.val, by omega⟩ := Fin.ext (by
    show 512 * (k / 4) + (128 * (k % 4) + e.val) = 128 * k + e.val
    omega)
  rw [h1, strip_apply]
  simp only [cols_apply]
  rw [h2]
  rfl

theorem lastChunk_apply (S : Vec Ideal S1x2x128 .f32) (C : Vec Ideal S256x5120 .fp8e4m3) (w : Vec Ideal S5120x3464 .fp8e4m3) (ws : Vec Ideal S1x3464 .f32)
    (k : ℕ) (hk : k < 3) (p : Fin 256) (e : Fin 128) :
    lastChunk S C w ws k hk (ix2 p e) = prod S C w ws p ⟨3072 + (128 * k + e.val), by have := e.isLt; omega⟩ := by
  have he := e.isLt
  have h1 : lastChunk S C w ws k hk (ix2 p e) = lastStrip S C (cols w 3072 392 (by omega)) (cols ws 3072 392 (by omega))
      (ix2 p ⟨128 * k + e.val, by omega⟩) := by
    show lastStrip _ _ _ _ _ = _
    congr 1
    funext a
    apply Fin.ext
    match a with
    | ⟨0, _⟩ => show 0 + p.val = p.val; omega
    | ⟨1, _⟩ => rfl
  rw [h1, lastStrip_apply]
  simp only [cols_apply]
  rfl

/-! ## The rotary embedding and the quantiser of one value per array -/

theorem cos_apply (c : Vec Ideal S256x64 .f32) (p : Fin 256) (d : Fin 128) :
    k0_pay16 (F := Ideal) c (ix2 p d) = if h : d.val < 64 then c (ix2 p ⟨d.val, h⟩) else c (ix2 p ⟨d.val - 64, by have := d.isLt; omega⟩) := by
  pointwise [k0_pay16]

theorem sin_apply (s : Vec Ideal S256x64 .f32) (p : Fin 256) (d : Fin 128) :
    k0_pay17 (F := Ideal) s (ix2 p d) = if h : d.val < 64 then 0 - s (ix2 p ⟨d.val, h⟩) else s (ix2 p ⟨d.val - 64, by have := d.isLt; omega⟩) := by
  pointwise [k0_pay17]

/-- What the body computes for the rotary embedding. -/
abbrev ropeBody (v c2 s2 : FVec Ideal S256x128 .f32) : FVec Ideal S256x128 .f32 :=
  addf (mulf v c2) (mulf (dynamicRotate 1 64#32 none v rotates_S256x128_d1) s2)

theorem rotate_apply (v : FVec Ideal S256x128 .f32) (p : Fin 256) (d : Fin 128) :
    dynamicRotate 1 64#32 none v rotates_S256x128_d1 (ix2 p d) = v (ix2 p ⟨(d.val + 64) % 128, Nat.mod_lt _ (by decide)⟩) := by
  show v _ = v _
  congr 1
  funext a
  apply Fin.ext
  match a with
  | ⟨0, _⟩ => rfl
  | ⟨1, _⟩ => show (d.val + 128 - (64 + 0) % 128) % 128 = (d.val + 64) % 128; omega

theorem ropeBody_apply (v : FVec Ideal S256x128 .f32) (c s : Vec Ideal S256x64 .f32) (p : Fin 256) (d : Fin 128) :
    ropeBody v (k0_pay16 c) (k0_pay17 s) (ix2 p d) = rope (fun e => v (ix2 p e)) (fun e => c (ix2 p e)) (fun e => s (ix2 p e)) d := by
  have hd := d.isLt
  show v (ix2 p d) * k0_pay16 (F := Ideal) c (ix2 p d)
    + dynamicRotate 1 64#32 none v rotates_S256x128_d1 (ix2 p d) * k0_pay17 (F := Ideal) s (ix2 p d) = _
  rw [cos_apply, sin_apply, rotate_apply]
  unfold rope
  by_cases h : d.val < 64
  · have e : (⟨(d.val + 64) % 128, Nat.mod_lt _ (by decide)⟩ : Fin 128) = ⟨d.val + 64, by omega⟩ := Fin.ext (by
      show (d.val + 64) % 128 = d.val + 64
      omega)
    rw [dif_pos h, dif_pos h, dif_pos h, e, zero_sub, mul_neg, ← sub_eq_add_neg]
  · have e : (⟨(d.val + 64) % 128, Nat.mod_lt _ (by decide)⟩ : Fin 128) = ⟨d.val - 64, by omega⟩ := Fin.ext (by
      show (d.val + 64) % 128 = d.val - 64
      omega)
    rw [dif_neg h, dif_neg h, dif_neg h, e]

/-- What the body computes for the quantiser with one scale. -/
abbrev quantBody (v : FVec Ideal S256x128 .f32) (s : EReal) : FVec Ideal S256x128 .fp8e4m3 :=
  truncf .fp8e4m3 (minimumf (broadcast S256x128 (Scalar.ofBits (F := Ideal) .f32 0x43E00000#32)) (maximumf (broadcast S256x128 (Scalar.ofBits (F := Ideal) .f32 0xC3E00000#32))
    (divf v (broadcast S256x128 (α := Elt Ideal .f32) s)))) bitsLt_fp8e4m3_f32

theorem quantBody_apply (v : FVec Ideal S256x128 .f32) (s : EReal) (j : S256x128.Idx) : quantBody v s j = codeOf (v j) s := by
  unfold codeOf bot top
  pointwise

/-! ## The seven results of a block

  Each is a function of the rows of the product `u`, the multipliers `a`, and the rows of the cosines `c` and the sines `s`. -/

/-- The row of an array of 64 columns. -/
def row64 (c : Vec Ideal S256x64 .f32) (p : Fin 256) : Fin 64 → EReal := fun e => c (ix2 p e)

def q10 (u : Fin 256 → Fin 3464 → EReal) (a : Fin 12 → EReal) (c s : Fin 256 → Fin 64 → EReal) : Vec Ideal S5x256x128 .bf16 :=
  fun y => qOf (u (y 1)) a (c (y 1)) (s (y 1)) (y 0) (y 2)
def k11 (u : Fin 256 → Fin 3464 → EReal) (a : Fin 12 → EReal) (c s : Fin 256 → Fin 64 → EReal) (ks : EReal) : Vec Ideal S256x128 .fp8e4m3 :=
  fun y => kOf (u (y 0)) a (c (y 0)) (s (y 0)) ks (y 1)
def v12 (u : Fin 256 → Fin 3464 → EReal) (a : Fin 12 → EReal) (vs : EReal) : Vec Ideal S256x128 .fp8e4m3 := fun y => vOf (u (y 0)) a vs (y 1)
def z13 (u : Fin 256 → Fin 3464 → EReal) (a : Fin 12 → EReal) : Vec Ideal S256x1024 .f32 := fun y => zOf (u (y 0)) a (y 1)
def x14 (u : Fin 256 → Fin 3464 → EReal) (a : Fin 12 → EReal) : Vec Ideal S256x1536 .f32 := fun y => xOf (u (y 0)) a (y 1)
def d15 (u : Fin 256 → Fin 3464 → EReal) (a : Fin 12 → EReal) : Vec Ideal S256x128 .f32 := fun y => dOf (u (y 0)) a (y 1)

theorem q10_apply (u : Fin 256 → Fin 3464 → EReal) (a : Fin 12 → EReal) (c s : Fin 256 → Fin 64 → EReal) (h : Fin 5) (p : Fin 256) (d : Fin 128)
    (p' : S5x256x128.Coord 1) (d' : S5x256x128.Coord 2) (hp : p' = p) (hd : d' = d) :
    q10 u a c s (ix3 h p' d') = rope (fun e => u p ⟨128 * h.val + e.val, by have := h.isLt; have := e.isLt; omega⟩ * a 0) (c p) (s p) d := by
  subst hp hd
  rfl

/-- A piece of the product times one multiplier, and times two. -/
abbrev scaled (v : FVec Ideal S256x128 .f32) (b : EReal) : FVec Ideal S256x128 .f32 := mulf v (broadcast S256x128 (α := Elt Ideal .f32) b)
abbrev scaled2 (v : FVec Ideal S256x128 .f32) (b b' : EReal) : FVec Ideal S256x128 .f32 := scaled (scaled v b) b'

/-- An array of 256 by 128 stored as one head of three axes, -/
theorem cast_head (v : FVec Ideal S256x128 .bf16) (x : S1x256x128.Idx) :
    shapeCast S1x256x128 v shapeCasts_S256x128_S1x256x128 x = v (ix2 (x 1) (x 2)) := by
  pointwise

theorem head_apply (v : FVec Ideal S256x128 .f32) (c s : Vec Ideal S256x64 .f32) (x : S1x256x128.Idx) (p : Fin 256) (d : Fin 128)
    (hp : x 1 = p) (hd : x 2 = d) :
    shapeCast S1x256x128 (truncf .bf16 (ropeBody v (k0_pay16 c) (k0_pay17 s)) bitsLt_bf16_f32) shapeCasts_S256x128_S1x256x128 x
      = rope (fun e => v (ix2 p e)) (row64 c p) (row64 s p) d := by
  rw [cast_head, hp, hd]
  exact ropeBody_apply v c s p d

theorem inb_head (k : ℕ) (hk : k < 5) : ∀ a, (![k, 0, 0] : Fin 3 → Nat) a + S1x256x128.size a ≤ S5x256x128.size a := by
  intro a
  match a with
  | ⟨0, _⟩ => show k + 1 ≤ 5; omega
  | ⟨1, _⟩ => show 0 + 256 ≤ 256; omega
  | ⟨2, _⟩ => show 0 + 128 ≤ 128; omega

/-- head `k` of the queries, -/
theorem q_piece (S : Vec Ideal S1x2x128 .f32) (C : Vec Ideal S256x5120 .fp8e4m3) (w : Vec Ideal S5120x3464 .fp8e4m3) (ws : Vec Ideal S1x3464 .f32) (c s : Vec Ideal S256x64 .f32) (a : Fin 12 → EReal) (k : ℕ) (hk : k < 5) (x : S1x256x128.Idx) :
    shapeCast S1x256x128 (truncf .bf16 (ropeBody (scaled (chunk S C w ws k (by omega)) (a 0)) (k0_pay16 c) (k0_pay17 s)) bitsLt_bf16_f32)
        shapeCasts_S256x128_S1x256x128 x
      = q10 (prod S C w ws) a (row64 c) (row64 s) ((Rect.unit (s := S5x256x128) ![k, 0, 0] S1x256x128.size (inb_head k hk)).emb x) := by
  have hx0 : (x 0).val < 1 := (x 0).isLt
  have e : (Rect.unit (s := S5x256x128) ![k, 0, 0] S1x256x128.size (inb_head k hk)).emb x = (ix3 ⟨k, hk⟩ (x 1) (x 2) : S5x256x128.Idx) := by
    funext b
    apply Fin.ext
    match b with
    | ⟨0, _⟩ => show k + 1 * (x 0).val = k; omega
    | ⟨1, _⟩ => show 0 + 1 * (x 1).val = (x 1).val; omega
    | ⟨2, _⟩ => show 0 + 1 * (x 2).val = (x 2).val; omega
  generalize (Rect.unit (s := S5x256x128) ![k, 0, 0] S1x256x128.size (inb_head k hk)).emb x = y at e ⊢
  subst e
  obtain ⟨p, hp⟩ : ∃ p : Fin 256, x 1 = p := ⟨_, rfl⟩
  obtain ⟨d, hd⟩ : ∃ d : Fin 128, x 2 = d := ⟨_, rfl⟩
  refine (head_apply _ c s x p d hp hd).trans (Eq.trans ?_ (q10_apply _ _ _ _ ⟨k, hk⟩ p d (x 1) (x 2) hp hd).symm)
  have e : (fun e => scaled (chunk S C w ws k (by omega)) (a 0) (ix2 p e))
      = fun e : Fin 128 => prod S C w ws p ⟨128 * k + e.val, by have := e.isLt; omega⟩ * a 0 :=
    funext fun d => congrArg (· * a 0) (chunk_apply S C w ws k (by omega) p d)
  rw [e]

/-- the codes of the keys, -/
theorem k_piece (S : Vec Ideal S1x2x128 .f32) (C : Vec Ideal S256x5120 .fp8e4m3) (w : Vec Ideal S5120x3464 .fp8e4m3) (ws : Vec Ideal S1x3464 .f32) (c s : Vec Ideal S256x64 .f32) (a : Fin 12 → EReal) (ks : EReal) (x : S256x128.Idx) :
    quantBody (ropeBody (scaled2 (chunk S C w ws 5 (by omega)) (a 0) (a 1)) (k0_pay16 c) (k0_pay17 s)) ks x
      = k11 (prod S C w ws) a (row64 c) (row64 s) ks x := by
  refine (quantBody_apply _ ks x).trans (congrArg (codeOf · ks) ?_)
  refine (congrArg _ (eta2 x)).trans ((ropeBody_apply _ c s (x 0) (x 1)).trans ?_)
  refine congrArg (fun f => rope f (row64 c (x 0)) (row64 s (x 0)) (x 1)) (funext fun d => ?_)
  exact congrArg (· * a 0 * a 1) (chunk_apply S C w ws 5 (by omega) (x 0) d)

/-- those of the values, -/
theorem v_piece (S : Vec Ideal S1x2x128 .f32) (C : Vec Ideal S256x5120 .fp8e4m3) (w : Vec Ideal S5120x3464 .fp8e4m3) (ws : Vec Ideal S1x3464 .f32) (a : Fin 12 → EReal) (vs : EReal) (x : S256x128.Idx) :
    quantBody (scaled (chunk S C w ws 6 (by omega)) (a 0)) vs x = v12 (prod S C w ws) a vs x := by
  refine (quantBody_apply _ vs x).trans (congrArg (codeOf · vs) ?_)
  exact congrArg (· * a 0) ((congrArg _ (eta2 x)).trans (chunk_apply S C w ws 6 (by omega) (x 0) (x 1)))

theorem inb_piece (n k : ℕ) (hk : 128 * k + 128 ≤ n) : ∀ a, (![0, 128 * k] : Fin 2 → Nat) a + S256x128.size a ≤ (![256, n] : Fin 2 → Nat) a := by
  intro a
  match a with
  | ⟨0, _⟩ => show 0 + 256 ≤ 256; omega
  | ⟨1, _⟩ => exact hk

theorem emb_piece (n k : ℕ) (hk : 128 * k + 128 ≤ n) (x : S256x128.Idx) :
    (Rect.unit (s := ⟨2, ![256, n]⟩) ![0, 128 * k] S256x128.size (inb_piece n k hk)).emb x
      = (ix2 (x 0) ⟨128 * k + (x 1).val, by have h : (x 1).val < 128 := (x 1).isLt; omega⟩ : (⟨2, ![256, n]⟩ : Shape).Idx) := by
  funext b
  apply Fin.ext
  match b with
  | ⟨0, _⟩ => show 0 + 1 * (x 0).val = (x 0).val; omega
  | ⟨1, _⟩ => show 128 * k + 1 * (x 1).val = 128 * k + (x 1).val; omega

/-- a piece of the gate, -/
theorem z_piece (S : Vec Ideal S1x2x128 .f32) (C : Vec Ideal S256x5120 .fp8e4m3) (w : Vec Ideal S5120x3464 .fp8e4m3) (ws : Vec Ideal S1x3464 .f32) (a : Fin 12 → EReal) (k : ℕ) (hk : k < 8) (x : S256x128.Idx) :
    scaled2 (chunk S C w ws (7 + k) (by omega)) (a 3) (a 7) x
      = z13 (prod S C w ws) a ((Rect.unit (s := S256x1024) ![0, 128 * k] S256x128.size (inb_piece 1024 k (by omega))).emb x) := by
  have hx : (x 1).val < 128 := (x 1).isLt
  refine Eq.trans ?_ (congrArg (z13 (prod S C w ws) a) (emb_piece 1024 k (by omega) x)).symm
  refine congrArg (· * a 3 * a 7) ((congrArg _ (eta2 x)).trans ((chunk_apply S C w ws (7 + k) (by omega) (x 0) (x 1)).trans ?_))
  refine congrArg (prod S C w ws (x 0)) (Fin.ext ?_)
  show 128 * (7 + k) + (x 1).val = 896 + (128 * k + (x 1).val)
  omega

/-- Within a piece of the convolution's input the multiplier is one. -/
theorem xMul_piece (a : Fin 12 → EReal) (k e : ℕ) (he : e < 128) : xMul a (128 * k + e) = xMul a (128 * k) := by
  unfold xMul
  by_cases h1 : 128 * k < 1024
  · rw [if_pos h1, if_pos (by omega)]
  · rw [if_neg h1, if_neg (by omega)]
    by_cases h2 : 128 * k < 1280
    · rw [if_pos h2, if_pos (by omega)]
    · rw [if_neg h2, if_neg (by omega)]

/-- A piece of the convolution's input, from a strip -/
theorem x_piece (S : Vec Ideal S1x2x128 .f32) (C : Vec Ideal S256x5120 .fp8e4m3) (w : Vec Ideal S5120x3464 .fp8e4m3) (ws : Vec Ideal S1x3464 .f32) (a : Fin 12 → EReal) (k : ℕ) (hk : k < 9) (b : EReal) (hb : xMul a (128 * k) = b) (x : S256x128.Idx) :
    scaled2 (chunk S C w ws (15 + k) (by omega)) (a 3) b x
      = x14 (prod S C w ws) a ((Rect.unit (s := S256x1536) ![0, 128 * k] S256x128.size (inb_piece 1536 k (by omega))).emb x) := by
  have hx : (x 1).val < 128 := (x 1).isLt
  subst hb
  refine Eq.trans ?_ (congrArg (x14 (prod S C w ws) a) (emb_piece 1536 k (by omega) x)).symm
  refine congrArg₂ (fun f g => f * a 3 * g) ((congrArg _ (eta2 x)).trans ((chunk_apply S C w ws (15 + k) (by omega) (x 0) (x 1)).trans ?_))
    (xMul_piece a k (x 1).val hx).symm
  refine congrArg (prod S C w ws (x 0)) (Fin.ext ?_)
  show 128 * (15 + k) + (x 1).val = 1920 + (128 * k + (x 1).val)
  omega

/-- and from the last one, -/
theorem xlast_piece (S : Vec Ideal S1x2x128 .f32) (C : Vec Ideal S256x5120 .fp8e4m3) (w : Vec Ideal S5120x3464 .fp8e4m3) (ws : Vec Ideal S1x3464 .f32) (a : Fin 12 → EReal) (k : ℕ) (hk : k < 3) (b : EReal) (hb : xMul a (128 * (9 + k)) = b) (x : S256x128.Idx) :
    scaled2 (lastChunk S C w ws k hk) (a 3) b x
      = x14 (prod S C w ws) a ((Rect.unit (s := S256x1536) ![0, 128 * (9 + k)] S256x128.size (inb_piece 1536 (9 + k) (by omega))).emb x) := by
  have hx : (x 1).val < 128 := (x 1).isLt
  subst hb
  refine Eq.trans ?_ (congrArg (x14 (prod S C w ws) a) (emb_piece 1536 (9 + k) (by omega) x)).symm
  refine congrArg₂ (fun f g => f * a 3 * g) ((congrArg _ (eta2 x)).trans ((lastChunk_apply S C w ws k hk (x 0) (x 1)).trans ?_))
    (xMul_piece a (9 + k) (x 1).val hx).symm
  refine congrArg (prod S C w ws (x 0)) (Fin.ext ?_)
  show 3072 + (128 * k + (x 1).val) = 1920 + (128 * (9 + k) + (x 1).val)
  omega

/-- and the step sizes: eight columns of the last strip. -/
theorem d_piece (S : Vec Ideal S1x2x128 .f32) (C : Vec Ideal S256x5120 .fp8e4m3) (w : Vec Ideal S5120x3464 .fp8e4m3) (ws : Vec Ideal S1x3464 .f32) (a : Fin 12 → EReal) (x : S256x8.Idx) :
    k0_pay4 (F := Ideal) (lastStrip S C (cols w 3072 392 (by omega)) (cols ws 3072 392 (by omega))) (a 3) (a 11) x
      = prod S C w ws (x 0) ⟨3456 + (x 1).val, by have h : (x 1).val < 8 := (x 1).isLt; omega⟩ * a 3 * a 11 := by
  have hx : (x 1).val < 8 := (x 1).isLt
  have h1 : extractStridedSlice S256x8 ![0, 384] (lastStrip S C (cols w 3072 392 (by omega)) (cols ws 3072 392 (by omega))) slices_S256x392_o0_384_S256x8 x
      = lastStrip S C (cols w 3072 392 (by omega)) (cols ws 3072 392 (by omega)) (ix2 (x 0) ⟨384 + (x 1).val, by omega⟩) := by
    show lastStrip _ _ _ _ _ = _
    congr 1
    funext b
    apply Fin.ext
    match b with
    | ⟨0, _⟩ => show 0 + (x 0).val = (x 0).val; omega
    | ⟨1, _⟩ => rfl
  have h2 : (⟨3072 + (384 + (x 1).val), by omega⟩ : Fin 3464) = ⟨3456 + (x 1).val, by omega⟩ := Fin.ext (by
    show 3072 + (384 + (x 1).val) = 3456 + (x 1).val
    omega)
  refine congrArg (· * a 3 * a 11) (h1.trans ((lastStrip_apply _ _ _ _ _ _).trans ?_))
  simp only [cols_apply]
  rw [h2]
  rfl

end Cert.InProjIdeal.Res

end
-- ==== Proof.InProjPieces.lean ====
/-
  The input projection's kernel over the reals: what one grid point leaves in its eight outputs, as functions of the blocks it
  reads. The codes and scales of the norm are written in two strips of rows and read back; the product with the weights is
  computed in strips of columns, and its pieces of 128 columns are what the other outputs are made of.
-/
module

public import proofs.«01_k».proof.Proof.Gen.InProjIdeal.Frame.RunA
public import proofs.«01_k».proof.Proof.InProjParts
public import Idealize.ShloMosaic.Lib.WritesUnit
public import Idealize.ShloMosaic.Lib.Pointwise

@[expose] public section

noncomputable section

namespace Cert.InProjIdeal.Res

open Cert.InProjIdeal Cert.InProjIdeal.Gen Cert.Proof.GateUpSpec Cert.Proof.OutProjSpec Cert.Proof.InProjSpec
open Idealize.ShloMosaic Idealize.ShloMosaic.TcCoe Idealize.ShloMosaic.Tactic
open Idealize.SL Idealize.SL.Sem

set_option maxHeartbeats 2000000 in
/-- What a point leaves in the first output: the codes of its rows' norms, -/
theorem out_a9 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32) (v : View sig .tc .vmem S256x5120 .fp8e4m3) (f : v.ty.Contents (Elt Ideal)) :
    v.read (Elt Ideal) (v.writes (Elt Ideal) f (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).1)
      = codes8 x2 x3 := by
  unfold kernelRun0_A
  dsimp only
  sl_unfold_words
  simp only [View.readAt_eq_ld, h3.read_unread, h4.read_unread, View.ld_unit_zero (S := S1x5120) hz]
  funext y
  refine View.read_writes_apply_of_pieces v f (codes8 x2 x3) _ ?_ y ?_
  · simp only [List.forall_mem_cons]
    exact ⟨fun x => code_piece x2 x3 ⟨1, by decide⟩ x, fun x => code_piece x2 x3 ⟨0, by decide⟩ x, fun _ h => absurd h List.not_mem_nil⟩
  · exact View.cover_of_tiledL (s := S256x5120) _ S128x5120.size (by sl_kernel_rfl) y

set_option maxHeartbeats 2000000 in
/-- and in the second, their scales. -/
theorem out_a10 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32) (v : View sig .tc .vmem S1x2x128 .f32) (f : v.ty.Contents (Elt Ideal)) :
    v.read (Elt Ideal) (v.writes (Elt Ideal) f (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).2.1)
      = scale9 x2 x3 := by
  unfold kernelRun0_A
  dsimp only
  sl_unfold_words
  simp only [View.readAt_eq_ld, h3.read_unread, h4.read_unread, View.ld_unit_zero (S := S1x5120) hz]
  funext y
  refine View.read_writes_apply_of_pieces v f (scale9 x2 x3) _ ?_ y ?_
  · simp only [List.forall_mem_cons]
    exact ⟨fun x => scale_piece x2 x3 ⟨1, by decide⟩ x, fun x => scale_piece x2 x3 ⟨0, by decide⟩ x, fun _ h => absurd h List.not_mem_nil⟩
  · exact View.cover_of_tiledL (s := S1x2x128) _ S1x1x128.size (by sl_kernel_rfl) y

set_option maxHeartbeats 2000000 in
/-- From the codes and scales written before them: the queries, -/
theorem of_codes10 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32)
    (C : Vec Ideal S256x5120 .fp8e4m3)
    (hC : C = a9.view.read (Elt Ideal) (a9.view.writes (Elt Ideal) a9.view.junk (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).1))
    (S : Vec Ideal S1x2x128 .f32)
    (hS : S = a10.view.read (Elt Ideal) (a10.view.writes (Elt Ideal) a10.view.junk (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).2.1))
    (v : View sig .tc .vmem S5x256x128 .bf16) (f : v.ty.Contents (Elt Ideal)) :
    v.read (Elt Ideal) (v.writes (Elt Ideal) f (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).2.2.1)
      = q10 (prod S C x4 x5) (fun b => x0 (ix1 b)) (row64 x6) (row64 x7) := by
  revert hC hS
  unfold kernelRun0_A
  dsimp only
  sl_unfold_words
  intro hC hS
  simp only [View.readCov, View.readAt_eq_ld a9.view, View.readAt_eq_ld a10.view, ← hC, ← hS, View.readAt_eq_ld a1.view, View.readAt_eq_ld a2.view, View.readAt_eq_ld a5.view,
    View.readAt_eq_ld a6.view, View.readAt_eq_ld a7.view, View.readAt_eq_ld a8.view, h1.read_unread, h2.read_unread, h5.read_unread, h6.read_unread, h7.read_unread,
    h8.read_unread, View.ld_unit_zero (S := S1x2x128) hz3, View.ld_unit_zero (S := S256x5120) hz, View.ld_unit_zero (S := S256x64) hz]
  clear hC hS
  have e0 : View.ld x0 (Rect.unit (s := S12) ![0] S1.size inb_S12_S1_0) (Shape.Idx.first (by decide)) = x0 (ix1 0) :=
    congrArg x0 (funext fun a => by match a with | ⟨0, _⟩ => rfl)
  simp only [e0]
  funext y
  refine View.read_writes_apply_of_pieces v f (q10 (prod S C x4 x5) (fun b => x0 (ix1 b)) (row64 x6) (row64 x7)) _ ?_ y ?_
  · simp only [List.forall_mem_cons]
    exact ⟨fun x => q_piece S C x4 x5 x6 x7 (fun b => x0 (ix1 b)) 4 (by decide) x, fun x => q_piece S C x4 x5 x6 x7 (fun b => x0 (ix1 b)) 3 (by decide) x, fun x => q_piece S C x4 x5 x6 x7 (fun b => x0 (ix1 b)) 2 (by decide) x, fun x => q_piece S C x4 x5 x6 x7 (fun b => x0 (ix1 b)) 1 (by decide) x, fun x => q_piece S C x4 x5 x6 x7 (fun b => x0 (ix1 b)) 0 (by decide) x, fun _ h => absurd h List.not_mem_nil⟩
  · exact View.cover_of_tiledL (s := S5x256x128) _ S1x256x128.size (by sl_kernel_rfl) y

set_option maxHeartbeats 2000000 in
/-- the codes of the keys, -/
theorem of_codes11 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32)
    (C : Vec Ideal S256x5120 .fp8e4m3)
    (hC : C = a9.view.read (Elt Ideal) (a9.view.writes (Elt Ideal) a9.view.junk (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).1))
    (S : Vec Ideal S1x2x128 .f32)
    (hS : S = a10.view.read (Elt Ideal) (a10.view.writes (Elt Ideal) a10.view.junk (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).2.1))
    (v : View sig .tc .vmem S256x128 .fp8e4m3) (f : v.ty.Contents (Elt Ideal)) :
    v.read (Elt Ideal) (v.writes (Elt Ideal) f (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).2.2.2.1)
      = k11 (prod S C x4 x5) (fun b => x0 (ix1 b)) (row64 x6) (row64 x7) (x1 (ix1 0)) := by
  revert hC hS
  unfold kernelRun0_A
  dsimp only
  sl_unfold_words
  intro hC hS
  simp only [View.readCov, View.readAt_eq_ld a9.view, View.readAt_eq_ld a10.view, ← hC, ← hS, View.readAt_eq_ld a1.view, View.readAt_eq_ld a2.view, View.readAt_eq_ld a5.view,
    View.readAt_eq_ld a6.view, View.readAt_eq_ld a7.view, View.readAt_eq_ld a8.view, h1.read_unread, h2.read_unread, h5.read_unread, h6.read_unread, h7.read_unread,
    h8.read_unread, View.ld_unit_zero (S := S1x2x128) hz3, View.ld_unit_zero (S := S256x5120) hz, View.ld_unit_zero (S := S256x64) hz]
  clear hC hS
  have e0 : View.ld x0 (Rect.unit (s := S12) ![0] S1.size inb_S12_S1_0) (Shape.Idx.first (by decide)) = x0 (ix1 0) :=
    congrArg x0 (funext fun a => by match a with | ⟨0, _⟩ => rfl)
  have e1 : View.ld x0 (Rect.unit (s := S12) ![1] S1.size inb_S12_S1_1) (Shape.Idx.first (by decide)) = x0 (ix1 1) :=
    congrArg x0 (funext fun a => by match a with | ⟨0, _⟩ => rfl)
  have ek : View.ld x1 (Rect.unit (s := S2) ![0] S1.size inb_S2_S1_0) (Shape.Idx.first (by decide)) = x1 (ix1 0) :=
    congrArg x1 (funext fun a => by match a with | ⟨0, _⟩ => rfl)
  simp only [e0, e1, ek]
  funext y
  refine (View.read_writes_cons_unit_of_mem v f _ _ [] y y rfl fun a => ?_).trans (k_piece S C x4 x5 x6 x7 (fun b => x0 (ix1 b)) (x1 (ix1 0)) y)
  match a with
  | ⟨0, _⟩ => show (y 0).val = 0 + (y 0).val; omega
  | ⟨1, _⟩ => show (y 1).val = 0 + (y 1).val; omega

set_option maxHeartbeats 2000000 in
/-- those of the values, -/
theorem of_codes12 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32)
    (C : Vec Ideal S256x5120 .fp8e4m3)
    (hC : C = a9.view.read (Elt Ideal) (a9.view.writes (Elt Ideal) a9.view.junk (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).1))
    (S : Vec Ideal S1x2x128 .f32)
    (hS : S = a10.view.read (Elt Ideal) (a10.view.writes (Elt Ideal) a10.view.junk (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).2.1))
    (v : View sig .tc .vmem S256x128 .fp8e4m3) (f : v.ty.Contents (Elt Ideal)) :
    v.read (Elt Ideal) (v.writes (Elt Ideal) f (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).2.2.2.2.1)
      = v12 (prod S C x4 x5) (fun b => x0 (ix1 b)) (x1 (ix1 1)) := by
  revert hC hS
  unfold kernelRun0_A
  dsimp only
  sl_unfold_words
  intro hC hS
  simp only [View.readCov, View.readAt_eq_ld a9.view, View.readAt_eq_ld a10.view, ← hC, ← hS, View.readAt_eq_ld a1.view, View.readAt_eq_ld a2.view, View.readAt_eq_ld a5.view,
    View.readAt_eq_ld a6.view, View.readAt_eq_ld a7.view, View.readAt_eq_ld a8.view, h1.read_unread, h2.read_unread, h5.read_unread, h6.read_unread, h7.read_unread,
    h8.read_unread, View.ld_unit_zero (S := S1x2x128) hz3, View.ld_unit_zero (S := S256x5120) hz, View.ld_unit_zero (S := S256x64) hz]
  clear hC hS
  have e0 : View.ld x0 (Rect.unit (s := S12) ![0] S1.size inb_S12_S1_0) (Shape.Idx.first (by decide)) = x0 (ix1 0) :=
    congrArg x0 (funext fun a => by match a with | ⟨0, _⟩ => rfl)
  have ek : View.ld x1 (Rect.unit (s := S2) ![1] S1.size inb_S2_S1_1) (Shape.Idx.first (by decide)) = x1 (ix1 1) :=
    congrArg x1 (funext fun a => by match a with | ⟨0, _⟩ => rfl)
  simp only [e0, ek]
  funext y
  refine (View.read_writes_cons_unit_of_mem v f _ _ [] y y rfl fun a => ?_).trans (v_piece S C x4 x5 (fun b => x0 (ix1 b)) (x1 (ix1 1)) y)
  match a with
  | ⟨0, _⟩ => show (y 0).val = 0 + (y 0).val; omega
  | ⟨1, _⟩ => show (y 1).val = 0 + (y 1).val; omega

set_option maxHeartbeats 2000000 in
/-- the gate, -/
theorem of_codes13 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32)
    (C : Vec Ideal S256x5120 .fp8e4m3)
    (hC : C = a9.view.read (Elt Ideal) (a9.view.writes (Elt Ideal) a9.view.junk (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).1))
    (S : Vec Ideal S1x2x128 .f32)
    (hS : S = a10.view.read (Elt Ideal) (a10.view.writes (Elt Ideal) a10.view.junk (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).2.1))
    (v : View sig .tc .vmem S256x1024 .f32) (f : v.ty.Contents (Elt Ideal)) :
    v.read (Elt Ideal) (v.writes (Elt Ideal) f (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).2.2.2.2.2.1)
      = z13 (prod S C x4 x5) (fun b => x0 (ix1 b)) := by
  revert hC hS
  unfold kernelRun0_A
  dsimp only
  sl_unfold_words
  intro hC hS
  simp only [View.readCov, View.readAt_eq_ld a9.view, View.readAt_eq_ld a10.view, ← hC, ← hS, View.readAt_eq_ld a1.view, View.readAt_eq_ld a2.view, View.readAt_eq_ld a5.view,
    View.readAt_eq_ld a6.view, View.readAt_eq_ld a7.view, View.readAt_eq_ld a8.view, h1.read_unread, h2.read_unread, h5.read_unread, h6.read_unread, h7.read_unread,
    h8.read_unread, View.ld_unit_zero (S := S1x2x128) hz3, View.ld_unit_zero (S := S256x5120) hz, View.ld_unit_zero (S := S256x64) hz]
  clear hC hS
  have e3 : View.ld x0 (Rect.unit (s := S12) ![3] S1.size inb_S12_S1_3) (Shape.Idx.first (by decide)) = x0 (ix1 3) :=
    congrArg x0 (funext fun a => by match a with | ⟨0, _⟩ => rfl)
  have e7 : View.ld x0 (Rect.unit (s := S12) ![7] S1.size inb_S12_S1_7) (Shape.Idx.first (by decide)) = x0 (ix1 7) :=
    congrArg x0 (funext fun a => by match a with | ⟨0, _⟩ => rfl)
  simp only [e3, e7]
  funext y
  refine View.read_writes_apply_of_pieces v f (z13 (prod S C x4 x5) (fun b => x0 (ix1 b))) _ ?_ y ?_
  · simp only [List.forall_mem_cons]
    exact ⟨fun x => z_piece S C x4 x5 (fun b => x0 (ix1 b)) 7 (by decide) x, fun x => z_piece S C x4 x5 (fun b => x0 (ix1 b)) 6 (by decide) x, fun x => z_piece S C x4 x5 (fun b => x0 (ix1 b)) 5 (by decide) x, fun x => z_piece S C x4 x5 (fun b => x0 (ix1 b)) 4 (by decide) x, fun x => z_piece S C x4 x5 (fun b => x0 (ix1 b)) 3 (by decide) x, fun x => z_piece S C x4 x5 (fun b => x0 (ix1 b)) 2 (by decide) x, fun x => z_piece S C x4 x5 (fun b => x0 (ix1 b)) 1 (by decide) x, fun x => z_piece S C x4 x5 (fun b => x0 (ix1 b)) 0 (by decide) x, fun _ h => absurd h List.not_mem_nil⟩
  · exact View.cover_of_tiledL (s := S256x1024) _ S256x128.size (by sl_kernel_rfl) y

set_option maxHeartbeats 2000000 in
/-- the convolution's input, -/
theorem of_codes14 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32)
    (C : Vec Ideal S256x5120 .fp8e4m3)
    (hC : C = a9.view.read (Elt Ideal) (a9.view.writes (Elt Ideal) a9.view.junk (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).1))
    (S : Vec Ideal S1x2x128 .f32)
    (hS : S = a10.view.read (Elt Ideal) (a10.view.writes (Elt Ideal) a10.view.junk (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).2.1))
    (v : View sig .tc .vmem S256x1536 .f32) (f : v.ty.Contents (Elt Ideal)) :
    v.read (Elt Ideal) (v.writes (Elt Ideal) f (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).2.2.2.2.2.2.1)
      = x14 (prod S C x4 x5) (fun b => x0 (ix1 b)) := by
  revert hC hS
  unfold kernelRun0_A
  dsimp only
  sl_unfold_words
  intro hC hS
  simp only [View.readCov, View.readAt_eq_ld a9.view, View.readAt_eq_ld a10.view, ← hC, ← hS, View.readAt_eq_ld a1.view, View.readAt_eq_ld a2.view, View.readAt_eq_ld a5.view,
    View.readAt_eq_ld a6.view, View.readAt_eq_ld a7.view, View.readAt_eq_ld a8.view, h1.read_unread, h2.read_unread, h5.read_unread, h6.read_unread, h7.read_unread,
    h8.read_unread, View.ld_unit_zero (S := S1x2x128) hz3, View.ld_unit_zero (S := S256x5120) hz, View.ld_unit_zero (S := S256x64) hz]
  clear hC hS
  have e3 : View.ld x0 (Rect.unit (s := S12) ![3] S1.size inb_S12_S1_3) (Shape.Idx.first (by decide)) = x0 (ix1 3) :=
    congrArg x0 (funext fun a => by match a with | ⟨0, _⟩ => rfl)
  have e8 : View.ld x0 (Rect.unit (s := S12) ![8] S1.size inb_S12_S1_8) (Shape.Idx.first (by decide)) = x0 (ix1 8) :=
    congrArg x0 (funext fun a => by match a with | ⟨0, _⟩ => rfl)
  have e9 : View.ld x0 (Rect.unit (s := S12) ![9] S1.size inb_S12_S1_9) (Shape.Idx.first (by decide)) = x0 (ix1 9) :=
    congrArg x0 (funext fun a => by match a with | ⟨0, _⟩ => rfl)
  have e10 : View.ld x0 (Rect.unit (s := S12) ![10] S1.size inb_S12_S1_10) (Shape.Idx.first (by decide)) = x0 (ix1 10) :=
    congrArg x0 (funext fun a => by match a with | ⟨0, _⟩ => rfl)
  simp only [e3, e8, e9, e10]
  funext y
  refine View.read_writes_apply_of_pieces v f (x14 (prod S C x4 x5) (fun b => x0 (ix1 b))) _ ?_ y ?_
  · simp only [List.forall_mem_cons]
    exact ⟨fun x => xlast_piece S C x4 x5 (fun b => x0 (ix1 b)) 2 (by decide) _ rfl x, fun x => xlast_piece S C x4 x5 (fun b => x0 (ix1 b)) 1 (by decide) _ rfl x, fun x => xlast_piece S C x4 x5 (fun b => x0 (ix1 b)) 0 (by decide) _ rfl x, fun x => x_piece S C x4 x5 (fun b => x0 (ix1 b)) 8 (by decide) _ rfl x, fun x => x_piece S C x4 x5 (fun b => x0 (ix1 b)) 7 (by decide) _ rfl x, fun x => x_piece S C x4 x5 (fun b => x0 (ix1 b)) 6 (by decide) _ rfl x, fun x => x_piece S C x4 x5 (fun b => x0 (ix1 b)) 5 (by decide) _ rfl x, fun x => x_piece S C x4 x5 (fun b => x0 (ix1 b)) 4 (by decide) _ rfl x, fun x => x_piece S C x4 x5 (fun b => x0 (ix1 b)) 3 (by decide) _ rfl x, fun x => x_piece S C x4 x5 (fun b => x0 (ix1 b)) 2 (by decide) _ rfl x, fun x => x_piece S C x4 x5 (fun b => x0 (ix1 b)) 1 (by decide) _ rfl x, fun x => x_piece S C x4 x5 (fun b => x0 (ix1 b)) 0 (by decide) _ rfl x, fun _ h => absurd h List.not_mem_nil⟩
  · exact View.cover_of_tiledL (s := S256x1536) _ S256x128.size (by sl_kernel_rfl) y

set_option maxHeartbeats 2000000 in
/-- and the step sizes. -/
theorem of_codes15 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32)
    (C : Vec Ideal S256x5120 .fp8e4m3)
    (hC : C = a9.view.read (Elt Ideal) (a9.view.writes (Elt Ideal) a9.view.junk (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).1))
    (S : Vec Ideal S1x2x128 .f32)
    (hS : S = a10.view.read (Elt Ideal) (a10.view.writes (Elt Ideal) a10.view.junk (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).2.1))
    (v : View sig .tc .vmem S256x128 .f32) (f : v.ty.Contents (Elt Ideal)) :
    v.read (Elt Ideal) (v.writes (Elt Ideal) f (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).2.2.2.2.2.2.2.1)
      = d15 (prod S C x4 x5) (fun b => x0 (ix1 b)) := by
  revert hC hS
  unfold kernelRun0_A
  dsimp only
  sl_unfold_words
  intro hC hS
  simp only [View.readCov, View.readAt_eq_ld a9.view, View.readAt_eq_ld a10.view, ← hC, ← hS, View.readAt_eq_ld a1.view, View.readAt_eq_ld a2.view, View.readAt_eq_ld a5.view,
    View.readAt_eq_ld a6.view, View.readAt_eq_ld a7.view, View.readAt_eq_ld a8.view, h1.read_unread, h2.read_unread, h5.read_unread, h6.read_unread, h7.read_unread,
    h8.read_unread, View.ld_unit_zero (S := S1x2x128) hz3, View.ld_unit_zero (S := S256x5120) hz, View.ld_unit_zero (S := S256x64) hz]
  clear hC hS
  have e3 : View.ld x0 (Rect.unit (s := S12) ![3] S1.size inb_S12_S1_3) (Shape.Idx.first (by decide)) = x0 (ix1 3) :=
    congrArg x0 (funext fun a => by match a with | ⟨0, _⟩ => rfl)
  have e11 : View.ld x0 (Rect.unit (s := S12) ![11] S1.size inb_S12_S1_11) (Shape.Idx.first (by decide)) = x0 (ix1 11) :=
    congrArg x0 (funext fun a => by match a with | ⟨0, _⟩ => rfl)
  simp only [e3, e11]
  funext y
  have hy : (y 1).val < 128 := (y 1).isLt
  by_cases h : (y 1).val < 8
  · obtain ⟨x, hx⟩ : ∃ x : S256x8.Idx, x = ix2 (y 0) ⟨(y 1).val, h⟩ := ⟨_, rfl⟩
    refine (View.read_writes_cons_unit_of_mem v f _ _ _ y x rfl fun a => ?_).trans ((d_piece S C x4 x5 (fun b => x0 (ix1 b)) x).trans ?_)
    · rw [hx]
      match a with
      | ⟨0, _⟩ => show (y 0).val = 0 + (y 0).val; omega
      | ⟨1, _⟩ => show (y 1).val = 0 + (y 1).val; omega
    · rw [hx]
      unfold d15 dOf
      rw [dif_pos h]
      rfl
  · refine (View.read_writes_cons_unit_of_not_mem v f _ _ _ y rfl 1 (Or.inr ?_)).trans ?_
    · show 0 + 8 ≤ (y 1).val
      omega
    · refine (View.read_writes_cons_unit_of_mem v f _ _ [] y y rfl fun a => ?_).trans ?_
      · match a with
        | ⟨0, _⟩ => show (y 0).val = 0 + (y 0).val; omega
        | ⟨1, _⟩ => show (y 1).val = 0 + (y 1).val; omega
      · unfold d15 dOf
        rw [dif_neg h]
        exact Ideal.ofBits_zero_f32

/-- So every output of a point is its formula of the blocks the point reads: the queries, -/
theorem out_a11 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32) (v : View sig .tc .vmem S5x256x128 .bf16) (f : v.ty.Contents (Elt Ideal)) :
    v.read (Elt Ideal) (v.writes (Elt Ideal) f (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).2.2.1)
      = q10 (prod (scale9 x2 x3) (codes8 x2 x3) x4 x5) (fun b => x0 (ix1 b)) (row64 x6) (row64 x7) :=
  of_codes10 c i a1 h1 a2 h2 a3 h3 a4 h4 a5 h5 a6 h6 a7 h7 a8 h8 a9 h9 a10 h10 a11 h11 a12 h12 a13 h13 a14 h14 a15 h15 a16 h16 x0 x1 x2 x3 x4 x5 x6 x7 _
    (out_a9 c i a1 h1 a2 h2 a3 h3 a4 h4 a5 h5 a6 h6 a7 h7 a8 h8 a9 h9 a10 h10 a11 h11 a12 h12 a13 h13 a14 h14 a15 h15 a16 h16 x0 x1 x2 x3 x4 x5 x6 x7 a9.view a9.view.junk).symm _
    (out_a10 c i a1 h1 a2 h2 a3 h3 a4 h4 a5 h5 a6 h6 a7 h7 a8 h8 a9 h9 a10 h10 a11 h11 a12 h12 a13 h13 a14 h14 a15 h15 a16 h16 x0 x1 x2 x3 x4 x5 x6 x7 a10.view a10.view.junk).symm v f

/-- the codes of the keys, -/
theorem out_a12 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32) (v : View sig .tc .vmem S256x128 .fp8e4m3) (f : v.ty.Contents (Elt Ideal)) :
    v.read (Elt Ideal) (v.writes (Elt Ideal) f (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).2.2.2.1)
      = k11 (prod (scale9 x2 x3) (codes8 x2 x3) x4 x5) (fun b => x0 (ix1 b)) (row64 x6) (row64 x7) (x1 (ix1 0)) :=
  of_codes11 c i a1 h1 a2 h2 a3 h3 a4 h4 a5 h5 a6 h6 a7 h7 a8 h8 a9 h9 a10 h10 a11 h11 a12 h12 a13 h13 a14 h14 a15 h15 a16 h16 x0 x1 x2 x3 x4 x5 x6 x7 _
    (out_a9 c i a1 h1 a2 h2 a3 h3 a4 h4 a5 h5 a6 h6 a7 h7 a8 h8 a9 h9 a10 h10 a11 h11 a12 h12 a13 h13 a14 h14 a15 h15 a16 h16 x0 x1 x2 x3 x4 x5 x6 x7 a9.view a9.view.junk).symm _
    (out_a10 c i a1 h1 a2 h2 a3 h3 a4 h4 a5 h5 a6 h6 a7 h7 a8 h8 a9 h9 a10 h10 a11 h11 a12 h12 a13 h13 a14 h14 a15 h15 a16 h16 x0 x1 x2 x3 x4 x5 x6 x7 a10.view a10.view.junk).symm v f

/-- those of the values, -/
theorem out_a13 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32) (v : View sig .tc .vmem S256x128 .fp8e4m3) (f : v.ty.Contents (Elt Ideal)) :
    v.read (Elt Ideal) (v.writes (Elt Ideal) f (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).2.2.2.2.1)
      = v12 (prod (scale9 x2 x3) (codes8 x2 x3) x4 x5) (fun b => x0 (ix1 b)) (x1 (ix1 1)) :=
  of_codes12 c i a1 h1 a2 h2 a3 h3 a4 h4 a5 h5 a6 h6 a7 h7 a8 h8 a9 h9 a10 h10 a11 h11 a12 h12 a13 h13 a14 h14 a15 h15 a16 h16 x0 x1 x2 x3 x4 x5 x6 x7 _
    (out_a9 c i a1 h1 a2 h2 a3 h3 a4 h4 a5 h5 a6 h6 a7 h7 a8 h8 a9 h9 a10 h10 a11 h11 a12 h12 a13 h13 a14 h14 a15 h15 a16 h16 x0 x1 x2 x3 x4 x5 x6 x7 a9.view a9.view.junk).symm _
    (out_a10 c i a1 h1 a2 h2 a3 h3 a4 h4 a5 h5 a6 h6 a7 h7 a8 h8 a9 h9 a10 h10 a11 h11 a12 h12 a13 h13 a14 h14 a15 h15 a16 h16 x0 x1 x2 x3 x4 x5 x6 x7 a10.view a10.view.junk).symm v f

/-- the gate, -/
theorem out_a14 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32) (v : View sig .tc .vmem S256x1024 .f32) (f : v.ty.Contents (Elt Ideal)) :
    v.read (Elt Ideal) (v.writes (Elt Ideal) f (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).2.2.2.2.2.1)
      = z13 (prod (scale9 x2 x3) (codes8 x2 x3) x4 x5) (fun b => x0 (ix1 b)) :=
  of_codes13 c i a1 h1 a2 h2 a3 h3 a4 h4 a5 h5 a6 h6 a7 h7 a8 h8 a9 h9 a10 h10 a11 h11 a12 h12 a13 h13 a14 h14 a15 h15 a16 h16 x0 x1 x2 x3 x4 x5 x6 x7 _
    (out_a9 c i a1 h1 a2 h2 a3 h3 a4 h4 a5 h5 a6 h6 a7 h7 a8 h8 a9 h9 a10 h10 a11 h11 a12 h12 a13 h13 a14 h14 a15 h15 a16 h16 x0 x1 x2 x3 x4 x5 x6 x7 a9.view a9.view.junk).symm _
    (out_a10 c i a1 h1 a2 h2 a3 h3 a4 h4 a5 h5 a6 h6 a7 h7 a8 h8 a9 h9 a10 h10 a11 h11 a12 h12 a13 h13 a14 h14 a15 h15 a16 h16 x0 x1 x2 x3 x4 x5 x6 x7 a10.view a10.view.junk).symm v f

/-- the convolution's input, -/
theorem out_a15 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32) (v : View sig .tc .vmem S256x1536 .f32) (f : v.ty.Contents (Elt Ideal)) :
    v.read (Elt Ideal) (v.writes (Elt Ideal) f (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).2.2.2.2.2.2.1)
      = x14 (prod (scale9 x2 x3) (codes8 x2 x3) x4 x5) (fun b => x0 (ix1 b)) :=
  of_codes14 c i a1 h1 a2 h2 a3 h3 a4 h4 a5 h5 a6 h6 a7 h7 a8 h8 a9 h9 a10 h10 a11 h11 a12 h12 a13 h13 a14 h14 a15 h15 a16 h16 x0 x1 x2 x3 x4 x5 x6 x7 _
    (out_a9 c i a1 h1 a2 h2 a3 h3 a4 h4 a5 h5 a6 h6 a7 h7 a8 h8 a9 h9 a10 h10 a11 h11 a12 h12 a13 h13 a14 h14 a15 h15 a16 h16 x0 x1 x2 x3 x4 x5 x6 x7 a9.view a9.view.junk).symm _
    (out_a10 c i a1 h1 a2 h2 a3 h3 a4 h4 a5 h5 a6 h6 a7 h7 a8 h8 a9 h9 a10 h10 a11 h11 a12 h12 a13 h13 a14 h14 a15 h15 a16 h16 x0 x1 x2 x3 x4 x5 x6 x7 a10.view a10.view.junk).symm v f

/-- and the step sizes. -/
theorem out_a16 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32) (v : View sig .tc .vmem S256x128 .f32) (f : v.ty.Contents (Elt Ideal)) :
    v.read (Elt Ideal) (v.writes (Elt Ideal) f (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7).2.2.2.2.2.2.2.1)
      = d15 (prod (scale9 x2 x3) (codes8 x2 x3) x4 x5) (fun b => x0 (ix1 b)) :=
  of_codes15 c i a1 h1 a2 h2 a3 h3 a4 h4 a5 h5 a6 h6 a7 h7 a8 h8 a9 h9 a10 h10 a11 h11 a12 h12 a13 h13 a14 h14 a15 h15 a16 h16 x0 x1 x2 x3 x4 x5 x6 x7 _
    (out_a9 c i a1 h1 a2 h2 a3 h3 a4 h4 a5 h5 a6 h6 a7 h7 a8 h8 a9 h9 a10 h10 a11 h11 a12 h12 a13 h13 a14 h14 a15 h15 a16 h16 x0 x1 x2 x3 x4 x5 x6 x7 a9.view a9.view.junk).symm _
    (out_a10 c i a1 h1 a2 h2 a3 h3 a4 h4 a5 h5 a6 h6 a7 h7 a8 h8 a9 h9 a10 h10 a11 h11 a12 h12 a13 h13 a14 h14 a15 h15 a16 h16 x0 x1 x2 x3 x4 x5 x6 x7 a10.view a10.view.junk).symm v f

end Cert.InProjIdeal.Res

end
-- ==== Proof.InProjKernel.lean ====
/-
  The input projection's kernel over the reals: the arrays its 18 grid points leave are the plain formulas of
  `Cert.Proof.InProjSpec`, index by index.
-/
module

public import proofs.«01_k».proof.Proof.Gen.InProjIdeal.Value
public import proofs.«01_k».proof.Proof.InProjPieces

@[expose] public section

noncomputable section

namespace Cert.InProjIdeal.Res

open Cert.InProjIdeal Cert.InProjIdeal.Gen Cert.Proof.GateUpSpec Cert.Proof.OutProjSpec Cert.Proof.InProjSpec
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- What the body leaves in the outputs' blocks, from the blocks it reads. -/
theorem out_A8 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32) :
    out0_A_8 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 = codes8 x2 x3 := by
  unfold out0_A_8
  exact out_a9 c i a1 h1 a2 h2 a3 h3 a4 h4 a5 h5 a6 h6 a7 h7 a8 h8 a9 h9 a10 h10 a11 h11 a12 h12 a13 h13 a14 h14 a15 h15 a16 h16 x0 x1 x2 x3 x4 x5 x6 x7 VO0_8 VO0_8.junk

theorem out_A9 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32) :
    out0_A_9 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 = scale9 x2 x3 := by
  unfold out0_A_9
  exact out_a10 c i a1 h1 a2 h2 a3 h3 a4 h4 a5 h5 a6 h6 a7 h7 a8 h8 a9 h9 a10 h10 a11 h11 a12 h12 a13 h13 a14 h14 a15 h15 a16 h16 x0 x1 x2 x3 x4 x5 x6 x7 VO0_9 VO0_9.junk

theorem out_A10 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32) :
    out0_A_10 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 = q10 (prod (scale9 x2 x3) (codes8 x2 x3) x4 x5) (fun b => x0 (ix1 b)) (row64 x6) (row64 x7) := by
  unfold out0_A_10
  exact out_a11 c i a1 h1 a2 h2 a3 h3 a4 h4 a5 h5 a6 h6 a7 h7 a8 h8 a9 h9 a10 h10 a11 h11 a12 h12 a13 h13 a14 h14 a15 h15 a16 h16 x0 x1 x2 x3 x4 x5 x6 x7 VO0_10 VO0_10.junk

theorem out_A11 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32) :
    out0_A_11 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 = k11 (prod (scale9 x2 x3) (codes8 x2 x3) x4 x5) (fun b => x0 (ix1 b)) (row64 x6) (row64 x7) (x1 (ix1 0)) := by
  unfold out0_A_11
  exact out_a12 c i a1 h1 a2 h2 a3 h3 a4 h4 a5 h5 a6 h6 a7 h7 a8 h8 a9 h9 a10 h10 a11 h11 a12 h12 a13 h13 a14 h14 a15 h15 a16 h16 x0 x1 x2 x3 x4 x5 x6 x7 VO0_11 VO0_11.junk

theorem out_A12 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32) :
    out0_A_12 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 = v12 (prod (scale9 x2 x3) (codes8 x2 x3) x4 x5) (fun b => x0 (ix1 b)) (x1 (ix1 1)) := by
  unfold out0_A_12
  exact out_a13 c i a1 h1 a2 h2 a3 h3 a4 h4 a5 h5 a6 h6 a7 h7 a8 h8 a9 h9 a10 h10 a11 h11 a12 h12 a13 h13 a14 h14 a15 h15 a16 h16 x0 x1 x2 x3 x4 x5 x6 x7 VO0_12 VO0_12.junk

theorem out_A13 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32) :
    out0_A_13 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 = z13 (prod (scale9 x2 x3) (codes8 x2 x3) x4 x5) (fun b => x0 (ix1 b)) := by
  unfold out0_A_13
  exact out_a14 c i a1 h1 a2 h2 a3 h3 a4 h4 a5 h5 a6 h6 a7 h7 a8 h8 a9 h9 a10 h10 a11 h11 a12 h12 a13 h13 a14 h14 a15 h15 a16 h16 x0 x1 x2 x3 x4 x5 x6 x7 VO0_13 VO0_13.junk

theorem out_A14 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32) :
    out0_A_14 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 = x14 (prod (scale9 x2 x3) (codes8 x2 x3) x4 x5) (fun b => x0 (ix1 b)) := by
  unfold out0_A_14
  exact out_a15 c i a1 h1 a2 h2 a3 h3 a4 h4 a5 h5 a6 h6 a7 h7 a8 h8 a9 h9 a10 h10 a11 h11 a12 h12 a13 h13 a14 h14 a15 h15 a16 h16 x0 x1 x2 x3 x4 x5 x6 x7 VO0_14 VO0_14.junk

theorem out_A15 (c : Dev nD) (i : grid0.Coords) (a1 : Memref sig .tc .smem S12 .f32) (h1 : a1.IsWhole) (a2 : Memref sig .tc .smem S2 .f32) (h2 : a2.IsWhole) (a3 : Memref sig .tc .vmem S256x5120 .bf16) (h3 : a3.IsWhole) (a4 : Memref sig .tc .vmem S1x5120 .f32) (h4 : a4.IsWhole) (a5 : Memref sig .tc .vmem S5120x3464 .fp8e4m3) (h5 : a5.IsWhole) (a6 : Memref sig .tc .vmem S1x3464 .f32) (h6 : a6.IsWhole) (a7 : Memref sig .tc .vmem S256x64 .f32) (h7 : a7.IsWhole) (a8 : Memref sig .tc .vmem S256x64 .f32) (h8 : a8.IsWhole) (a9 : Memref sig .tc .vmem S256x5120 .fp8e4m3) (h9 : a9.IsWhole) (a10 : Memref sig .tc .vmem S1x2x128 .f32) (h10 : a10.IsWhole) (a11 : Memref sig .tc .vmem S5x256x128 .bf16) (h11 : a11.IsWhole) (a12 : Memref sig .tc .vmem S256x128 .fp8e4m3) (h12 : a12.IsWhole) (a13 : Memref sig .tc .vmem S256x128 .fp8e4m3) (h13 : a13.IsWhole) (a14 : Memref sig .tc .vmem S256x1024 .f32) (h14 : a14.IsWhole) (a15 : Memref sig .tc .vmem S256x1536 .f32) (h15 : a15.IsWhole) (a16 : Memref sig .tc .vmem S256x128 .f32) (h16 : a16.IsWhole)
    (x0 : Vec Ideal S12 .f32) (x1 : Vec Ideal S2 .f32) (x2 : Vec Ideal S256x5120 .bf16) (x3 : Vec Ideal S1x5120 .f32) (x4 : Vec Ideal S5120x3464 .fp8e4m3) (x5 : Vec Ideal S1x3464 .f32) (x6 : Vec Ideal S256x64 .f32) (x7 : Vec Ideal S256x64 .f32) :
    out0_A_15 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 = d15 (prod (scale9 x2 x3) (codes8 x2 x3) x4 x5) (fun b => x0 (ix1 b)) := by
  unfold out0_A_15
  exact out_a16 c i a1 h1 a2 h2 a3 h3 a4 h4 a5 h5 a6 h6 a7 h7 a8 h8 a9 h9 a10 h10 a11 h11 a12 h12 a13 h13 a14 h14 a15 h15 a16 h16 x0 x1 x2 x3 x4 x5 x6 x7 VO0_15 VO0_15.junk

/-- The block index of every window at point `t`: the row blocks in order; the multipliers, the weights, their scales and the
    norm's weights whole. -/
theorem idx_rows : ∀ t : Fin cfg0.N, win0_0.index t 0 = 0
    ∧ win0_1.index t 0 = 0
    ∧ win0_2.index t 0 = t.val
    ∧ win0_2.index t 1 = 0
    ∧ win0_6.index t 0 = t.val
    ∧ win0_6.index t 1 = 0
    ∧ win0_7.index t 0 = t.val
    ∧ win0_7.index t 1 = 0
    ∧ win0_8.index t 0 = t.val
    ∧ win0_8.index t 1 = 0
    ∧ win0_9.index t 0 = t.val
    ∧ win0_9.index t 1 = 0
    ∧ win0_9.index t 2 = 0
    ∧ win0_10.index t 0 = 0
    ∧ win0_10.index t 1 = t.val
    ∧ win0_10.index t 2 = 0
    ∧ win0_11.index t 0 = t.val
    ∧ win0_11.index t 1 = 0
    ∧ win0_12.index t 0 = t.val
    ∧ win0_12.index t 1 = 0
    ∧ win0_13.index t 0 = t.val
    ∧ win0_13.index t 1 = 0
    ∧ win0_14.index t 0 = t.val
    ∧ win0_14.index t 1 = 0
    ∧ win0_15.index t 0 = t.val
    ∧ win0_15.index t 1 = 0 :=
  (by decide +kernel : ∀ t : Fin grid0.N, win0_0.index t 0 = 0
    ∧ win0_1.index t 0 = 0
    ∧ win0_2.index t 0 = t.val
    ∧ win0_2.index t 1 = 0
    ∧ win0_6.index t 0 = t.val
    ∧ win0_6.index t 1 = 0
    ∧ win0_7.index t 0 = t.val
    ∧ win0_7.index t 1 = 0
    ∧ win0_8.index t 0 = t.val
    ∧ win0_8.index t 1 = 0
    ∧ win0_9.index t 0 = t.val
    ∧ win0_9.index t 1 = 0
    ∧ win0_9.index t 2 = 0
    ∧ win0_10.index t 0 = 0
    ∧ win0_10.index t 1 = t.val
    ∧ win0_10.index t 2 = 0
    ∧ win0_11.index t 0 = t.val
    ∧ win0_11.index t 1 = 0
    ∧ win0_12.index t 0 = t.val
    ∧ win0_12.index t 1 = 0
    ∧ win0_13.index t 0 = t.val
    ∧ win0_13.index t 1 = 0
    ∧ win0_14.index t 0 = t.val
    ∧ win0_14.index t 1 = 0
    ∧ win0_15.index t 0 = t.val
    ∧ win0_15.index t 1 = 0)
theorem idx_cols : ∀ (t : Fin cfg0.N) (a : Fin 2), win0_3.index t a = 0 ∧ win0_4.index t a = 0 ∧ win0_5.index t a = 0 :=
  (by decide +kernel : ∀ (t : Fin grid0.N) (a : Fin 2), win0_3.index t a = 0 ∧ win0_4.index t a = 0 ∧ win0_5.index t a = 0)

theorem tlt (t : Fin cfg0.N) : t.val < 18 := by have := t.isLt; have : cfg0.N = 18 := N_0; omega

/-- Row `r` of row block `t`, as a row of the whole array. -/
def row (t : Fin cfg0.N) (r : Fin 256) : Fin 4608 := ⟨t.val * 256 + r.val, by have := r.isLt; have := tlt t; omega⟩

theorem blk0 (c : Dev nD) (t : Fin cfg0.N) (a : Fin 12) :
    (iblk m c 0 t : Vec Ideal S12 .f32) (ix1 a) = (m (c.tc.loc main_arg6) : Vec Ideal S12 .f32) (ix1 a) := by
  unfold iblk
  rw [View.read_apply]
  entry_read
  show m (c.tc.loc main_arg6) _ = _
  congr 1
  funext b
  apply Fin.ext
  match b with
  | ⟨0, _⟩ => show win0_0.index t 0 * 12 + 1 * a.val = a.val; rw [(idx_rows t).1]; omega

/-- The keys' and the values' scales, laid out as one vector of two. -/
theorem pair_apply (x y : Vec Ideal S1 .f32) (a : Fin 2) :
    concatenate S2 0 [⟨S1, x⟩, ⟨S1, y⟩] concatenates_S1_S1_S2_d0 (ix1 a) = if a.val < 1 then x (ix1 0) else y (ix1 0) := by
  match a with
  | ⟨0, _⟩ => pointwise
  | ⟨1, _⟩ => pointwise

theorem blk1 (c : Dev nD) (t : Fin cfg0.N) (a : Fin 2) :
    (iblk m c 1 t : Vec Ideal S2 .f32) (ix1 a)
      = if a.val < 1 then (m (c.tc.loc main_arg7) : Vec Ideal S1 .f32) (ix1 0) else (m (c.tc.loc main_arg8) : Vec Ideal S1 .f32) (ix1 0) := by
  unfold iblk
  rw [View.read_apply]
  entry_read
  have e : (((View.whole main_v0).slice ((win0 1).rect t)).emb (ix1 a) : S2.Idx) = ix1 a := by
    funext b
    apply Fin.ext
    match b with
    | ⟨0, _⟩ => show win0_1.index t 0 * 2 + 1 * a.val = a.val; rw [(idx_rows t).2.1]; omega
  show (concatenate S2 0 [⟨S1, (m (c.tc.loc main_arg7) : Vec Ideal S1 .f32)⟩, ⟨S1, (m (c.tc.loc main_arg8) : Vec Ideal S1 .f32)⟩] concatenates_S1_S1_S2_d0) _ = _
  rw [e]
  exact pair_apply _ _ a

/-- Window 2's block is 256 rows of the input, -/
theorem blk2 (c : Dev nD) (t : Fin cfg0.N) : (iblk m c 2 t : Vec Ideal S256x5120 .bf16)
    = fun j => (m (c.tc.loc main_arg0) : Vec Ideal S4608x5120 .bf16) (ix2 (row t (j 0)) (j 1)) := by
  funext j
  unfold iblk
  rw [View.read_apply]
  entry_read
  show m (c.tc.loc main_arg0) _ = _
  congr 1
  funext b
  apply Fin.ext
  match b with
  | ⟨0, _⟩ => show win0_2.index t 0 * 256 + 1 * (j 0).val = t.val * 256 + (j 0).val; rw [(idx_rows t).2.2.1]; omega
  | ⟨1, _⟩ => show win0_2.index t 1 * 5120 + 1 * (j 1).val = (j 1).val; rw [(idx_rows t).2.2.2.1]; omega

/-- window 6's is those rows of the cosines, -/
theorem blk6 (c : Dev nD) (t : Fin cfg0.N) : (iblk m c 6 t : Vec Ideal S256x64 .f32)
    = fun j => (m (c.tc.loc main_arg4) : Vec Ideal S4608x64 .f32) (ix2 (row t (j 0)) (j 1)) := by
  funext j
  unfold iblk
  rw [View.read_apply]
  entry_read
  show m (c.tc.loc main_arg4) _ = _
  congr 1
  funext b
  apply Fin.ext
  match b with
  | ⟨0, _⟩ => show win0_6.index t 0 * 256 + 1 * (j 0).val = t.val * 256 + (j 0).val; rw [(idx_rows t).2.2.2.2.1]; omega
  | ⟨1, _⟩ => show win0_6.index t 1 * 64 + 1 * (j 1).val = (j 1).val; rw [(idx_rows t).2.2.2.2.2.1]; omega

/-- and window 7's is those of the sines. -/
theorem blk7 (c : Dev nD) (t : Fin cfg0.N) : (iblk m c 7 t : Vec Ideal S256x64 .f32)
    = fun j => (m (c.tc.loc main_arg5) : Vec Ideal S4608x64 .f32) (ix2 (row t (j 0)) (j 1)) := by
  funext j
  unfold iblk
  rw [View.read_apply]
  entry_read
  show m (c.tc.loc main_arg5) _ = _
  congr 1
  funext b
  apply Fin.ext
  match b with
  | ⟨0, _⟩ => show win0_7.index t 0 * 256 + 1 * (j 0).val = t.val * 256 + (j 0).val; rw [(idx_rows t).2.2.2.2.2.2.1]; omega
  | ⟨1, _⟩ => show win0_7.index t 1 * 64 + 1 * (j 1).val = (j 1).val; rw [(idx_rows t).2.2.2.2.2.2.2.1]; omega

/-- The weights' window is their whole array, -/
theorem blk4 (c : Dev nD) (t : Fin cfg0.N) : iblk m c 4 t = (m (c.tc.loc main_arg2) : Vec Ideal S5120x3464 .fp8e4m3) := by
  unfold iblk
  entry_read
  have hz' : (fun a => win0_4.index t a * main_arg2.ty.shape.size a) = fun _ => 0 := funext fun a => by rw [(idx_cols t a).2.1]; simp
  exact Memref.read_access_unit_zero (Elt Ideal) main_arg2 hz' (fun a => by rw [congrFun hz' a]; simp) _

/-- and the norm weights' and the column scales' are theirs, laid out as one row. -/
theorem cast_row3 (x : Vec Ideal S5120 .f32) : shapeCast S1x5120 x shapeCasts_S5120_S1x5120 = fun j => x (ix1 (j 1)) := by
  funext j
  pointwise
theorem blk3 (c : Dev nD) (t : Fin cfg0.N) : iblk m c 3 t = fun j : S1x5120.Idx => (m (c.tc.loc main_arg1) : Vec Ideal S5120 .f32) (ix1 (j 1)) := by
  unfold iblk
  entry_read
  have hz' : (fun a => win0_3.index t a * main_v1.ty.shape.size a) = fun _ => 0 := funext fun a => by rw [(idx_cols t a).1]; simp
  exact (Memref.read_access_unit_zero (Elt Ideal) main_v1 hz' (fun a => by rw [congrFun hz' a]; simp) _).trans (cast_row3 _)

theorem cast_row5 (x : Vec Ideal S3464 .f32) : shapeCast S1x3464 x shapeCasts_S3464_S1x3464 = fun j => x (ix1 (j 1)) := by
  funext j
  pointwise
theorem blk5 (c : Dev nD) (t : Fin cfg0.N) : iblk m c 5 t = fun j : S1x3464.Idx => (m (c.tc.loc main_arg3) : Vec Ideal S3464 .f32) (ix1 (j 1)) := by
  unfold iblk
  entry_read
  have hz' : (fun a => win0_5.index t a * main_v2.ty.shape.size a) = fun _ => 0 := funext fun a => by rw [(idx_cols t a).2.2]; simp
  exact (Memref.read_access_unit_zero (Elt Ideal) main_v2 hz' (fun a => by rw [congrFun hz' a]; simp) _).trans (cast_row5 _)

/-- A row of the input, the norm's weights and the product's rows, -/
abbrev inRow (c : Dev nD) : Fin 4608 → Fin 5120 → EReal := fun r j => (m (c.tc.loc main_arg0) : Vec Ideal S4608x5120 .bf16) (ix2 r j)
abbrev gain (c : Dev nD) : Fin 5120 → EReal := fun j => (m (c.tc.loc main_arg1) : Vec Ideal S5120 .f32) (ix1 j)
abbrev prodRow (c : Dev nD) : Fin 4608 → Fin 3464 → EReal := fun r =>
  proj (inRow m c r) (gain m c) (m (c.tc.loc main_arg2)) fun j => (m (c.tc.loc main_arg3) : Vec Ideal S3464 .f32) (ix1 j)
/-- the multipliers, the rows of cosines and sines, the keys' and the values' scale, -/
abbrev mul (c : Dev nD) : Fin 12 → EReal := fun a => (m (c.tc.loc main_arg6) : Vec Ideal S12 .f32) (ix1 a)
abbrev cosRow (c : Dev nD) : Fin 4608 → Fin 64 → EReal := fun r e => (m (c.tc.loc main_arg4) : Vec Ideal S4608x64 .f32) (ix2 r e)
abbrev sinRow (c : Dev nD) : Fin 4608 → Fin 64 → EReal := fun r e => (m (c.tc.loc main_arg5) : Vec Ideal S4608x64 .f32) (ix2 r e)
abbrev ksc (c : Dev nD) : EReal := (m (c.tc.loc main_arg7) : Vec Ideal S1 .f32) (ix1 0)
abbrev vsc (c : Dev nD) : EReal := (m (c.tc.loc main_arg8) : Vec Ideal S1 .f32) (ix1 0)
/-- and the arrays the kernel leaves, as the plain formulas of the arguments. -/
abbrev result0 (c : Dev nD) : Buf (Elt Ideal) ((c : Thread nD τ).loc main_v3_0) := normCodes (inRow m c) (gain m c)
abbrev result1 (c : Dev nD) : Buf (Elt Ideal) ((c : Thread nD τ).loc main_v3_1) := normScales (inRow m c) (gain m c)
abbrev result2 (c : Dev nD) : Buf (Elt Ideal) ((c : Thread nD τ).loc main_v3_2) := queries (prodRow m c) (mul m c) (cosRow m c) (sinRow m c)
abbrev result3 (c : Dev nD) : Buf (Elt Ideal) ((c : Thread nD τ).loc main_v3_3) := keys (prodRow m c) (mul m c) (cosRow m c) (sinRow m c) (ksc m c)
abbrev result4 (c : Dev nD) : Buf (Elt Ideal) ((c : Thread nD τ).loc main_v3_4) := values (prodRow m c) (mul m c) (vsc m c)
abbrev result5 (c : Dev nD) : Buf (Elt Ideal) ((c : Thread nD τ).loc main_v3_5) := gates (prodRow m c) (mul m c)
abbrev result6 (c : Dev nD) : Buf (Elt Ideal) ((c : Thread nD τ).loc main_v3_6) := convs (prodRow m c) (mul m c)
abbrev result7 (c : Dev nD) : Buf (Elt Ideal) ((c : Thread nD τ).loc main_v3_7) := steps (prodRow m c) (mul m c)

theorem row_eq (c : Dev nD) (t : Fin cfg0.N) (p : Fin 256) : rowOf (iblk m c 2 t) p = inRow m c (row t p) := by
  rw [blk2]
  rfl
theorem wts_eq (c : Dev nD) (t : Fin cfg0.N) : wts (iblk m c 3 t) = gain m c := by
  rw [blk3]
  rfl

/-- Point `t`'s codes and scales are those of the row block `t`, -/
theorem codes_eq (c : Dev nD) (t : Fin cfg0.N) (p : Fin 256) (q : Fin 5120) :
    codes8 (iblk m c 2 t) (iblk m c 3 t) (ix2 p q) = rowCode (inRow m c (row t p)) (gain m c) q := by
  show rowCode (rowOf (iblk m c 2 t) p) (wts (iblk m c 3 t)) q = _
  rw [wts_eq, row_eq]
theorem scales_eq (c : Dev nD) (t : Fin cfg0.N) (z : Fin 1) (a : Fin 2) (b : Fin 128) :
    scale9 (iblk m c 2 t) (iblk m c 3 t) (ix3 z a b)
      = rowScale (inRow m c (row t ⟨128 * a.val + b.val, by have := a.isLt; have := b.isLt; omega⟩)) (gain m c) := by
  show rowScale (rowOf (iblk m c 2 t) ⟨128 * a.val + b.val, _⟩) (wts (iblk m c 3 t)) = _
  rw [wts_eq, row_eq]
theorem scales_eq' (c : Dev nD) (t : Fin cfg0.N) (z : Fin 1) (a : Fin 2) (b : Fin 128) :
    scale9 (iblk m c 2 t) (iblk m c 3 t) (ix3 z a b) = result1 m c (ix3 ⟨t.val, tlt t⟩ a b) := by
  have ha := a.isLt
  have hb := b.isLt
  have ht := tlt t
  have hp : 128 * a.val + b.val < 256 := by omega
  have hr : 256 * t.val + 128 * a.val + b.val < 4608 := by omega
  have e : row t ⟨128 * a.val + b.val, hp⟩ = ⟨256 * t.val + 128 * a.val + b.val, hr⟩ := by
    apply Fin.ext
    show t.val * 256 + (128 * a.val + b.val) = 256 * t.val + 128 * a.val + b.val
    omega
  rw [scales_eq, e]
  rfl

/-- and so are its rows of the product. -/
theorem prod_eq (c : Dev nD) (t : Fin cfg0.N) :
    prod (scale9 (iblk m c 2 t) (iblk m c 3 t)) (codes8 (iblk m c 2 t) (iblk m c 3 t)) (iblk m c 4 t) (iblk m c 5 t)
      = fun p => prodRow m c (row t p) := by
  funext p j
  have hp := p.isLt
  have e : (⟨128 * (p.val / 128) + p.val % 128, by omega⟩ : Fin 256) = p := Fin.ext (Nat.div_add_mod _ _)
  unfold prod
  rw [scales_eq, blk4, blk5]
  simp only [codes_eq]
  rw [e]
  rfl

theorem cos_eq (c : Dev nD) (t : Fin cfg0.N) : row64 (iblk m c 6 t) = fun p => cosRow m c (row t p) := by
  rw [blk6]
  rfl
theorem sin_eq (c : Dev nD) (t : Fin cfg0.N) : row64 (iblk m c 7 t) = fun p => sinRow m c (row t p) := by
  rw [blk7]
  rfl
theorem mul_eq (c : Dev nD) (t : Fin cfg0.N) : (fun b => (iblk m c 0 t : Vec Ideal S12 .f32) (ix1 b)) = mul m c :=
  funext fun b => blk0 m c t b
theorem ksc_eq (c : Dev nD) (t : Fin cfg0.N) : (iblk m c 1 t : Vec Ideal S2 .f32) (ix1 0) = ksc m c := blk1 m c t 0
theorem vsc_eq (c : Dev nD) (t : Fin cfg0.N) : (iblk m c 1 t : Vec Ideal S2 .f32) (ix1 1) = vsc m c := blk1 m c t 1

theorem queries_eq (c : Dev nD) (t : Fin cfg0.N) (h : Fin 5) (p : Fin 256) (d : Fin 128) :
    q10 (fun p => prodRow m c (row t p)) (mul m c) (fun p => cosRow m c (row t p)) (fun p => sinRow m c (row t p)) (ix3 h p d) = result2 m c (ix3 h (row t p) d) := rfl

theorem at8 (c : Dev nD) (t : Fin cfg0.N) (p : Fin 256) (q : Fin 5120) :
    codes8 (iblk m c 2 t) (iblk m c 3 t) (ix2 p q) = result0 m c (ix2 (row t p) q) := codes_eq m c t p q
theorem at11 (c : Dev nD) (t : Fin cfg0.N) (p : Fin 256) (q : Fin 128) :
    k11 (fun p => prodRow m c (row t p)) (mul m c) (fun p => cosRow m c (row t p)) (fun p => sinRow m c (row t p)) (ksc m c) (ix2 p q) = result3 m c (ix2 (row t p) q) := rfl
theorem at12 (c : Dev nD) (t : Fin cfg0.N) (p : Fin 256) (q : Fin 128) :
    v12 (fun p => prodRow m c (row t p)) (mul m c) (vsc m c) (ix2 p q) = result4 m c (ix2 (row t p) q) := rfl
theorem at13 (c : Dev nD) (t : Fin cfg0.N) (p : Fin 256) (q : Fin 1024) :
    z13 (fun p => prodRow m c (row t p)) (mul m c) (ix2 p q) = result5 m c (ix2 (row t p) q) := rfl
theorem at14 (c : Dev nD) (t : Fin cfg0.N) (p : Fin 256) (q : Fin 1536) :
    x14 (fun p => prodRow m c (row t p)) (mul m c) (ix2 p q) = result6 m c (ix2 (row t p) q) := rfl
theorem at15 (c : Dev nD) (t : Fin cfg0.N) (p : Fin 256) (q : Fin 128) :
    d15 (fun p => prodRow m c (row t p)) (mul m c) (ix2 p q) = result7 m c (ix2 (row t p) q) := rfl

/-- What point `t` writes back is block `t` of each formula. -/
theorem flushed_eq8 (c : Dev nD) (t : Fin cfg0.N) (_ : (cfg0.win 8).flush t = true) :
    (dats m 0 c).flushed 8 t = ((cfg0.win 8).blk t).view.read (Elt Ideal) (result0 m c) := by
  rw [Value.flushed8_A, out_A8]
  funext j
  rw [View.read_apply]
  have ej : j = (ix2 (j 0) (j 1) : S256x5120.Idx) := funext fun a => by match a with | ⟨0, _⟩ => rfl | ⟨1, _⟩ => rfl
  have key := at8 m c t (j 0) (j 1)
  generalize result0 m c = G at key ⊢
  refine (congrArg (codes8 (iblk m c 2 t) (iblk m c 3 t)) ej).trans (key.trans
    (congrArg G (Eq.symm (b := (ix2 (row t (j 0)) (j 1) : S4608x5120.Idx)) ?_)))
  funext b
  apply Fin.ext
  match b with
  | ⟨0, _⟩ => show win0_8.index t 0 * 256 + 1 * (j 0).val = t.val * 256 + (j 0).val; rw [(idx_rows t).2.2.2.2.2.2.2.2.1]; omega
  | ⟨1, _⟩ => show win0_8.index t 1 * 5120 + 1 * (j 1).val = (j 1).val; rw [(idx_rows t).2.2.2.2.2.2.2.2.2.1]; omega

theorem flushed_eq9 (c : Dev nD) (t : Fin cfg0.N) (_ : (cfg0.win 9).flush t = true) :
    (dats m 0 c).flushed 9 t = ((cfg0.win 9).blk t).view.read (Elt Ideal) (result1 m c) := by
  rw [Value.flushed9_A, out_A9]
  funext j
  rw [View.read_apply]
  have hj : (j 0).val < 1 := (j 0).isLt
  have ej : j = (ix3 (j 0) (j 1) (j 2) : S1x2x128.Idx) := funext fun a => by
    match a with | ⟨0, _⟩ => rfl | ⟨1, _⟩ => rfl | ⟨2, _⟩ => rfl
  have key := scales_eq' m c t (j 0) (j 1) (j 2)
  generalize result1 m c = G at key ⊢
  refine (congrArg (scale9 (iblk m c 2 t) (iblk m c 3 t)) ej).trans (key.trans
    (congrArg G (Eq.symm (b := (ix3 ⟨t.val, tlt t⟩ (j 1) (j 2) : S18x2x128.Idx)) ?_)))
  funext b
  apply Fin.ext
  match b with
  | ⟨0, _⟩ => show win0_9.index t 0 * 1 + 1 * (j 0).val = t.val; rw [(idx_rows t).2.2.2.2.2.2.2.2.2.2.1]; omega
  | ⟨1, _⟩ => show win0_9.index t 1 * 2 + 1 * (j 1).val = (j 1).val; rw [(idx_rows t).2.2.2.2.2.2.2.2.2.2.2.1]; omega
  | ⟨2, _⟩ => show win0_9.index t 2 * 128 + 1 * (j 2).val = (j 2).val; rw [(idx_rows t).2.2.2.2.2.2.2.2.2.2.2.2.1]; omega

theorem flushed_eq10 (c : Dev nD) (t : Fin cfg0.N) (_ : (cfg0.win 10).flush t = true) :
    (dats m 0 c).flushed 10 t = ((cfg0.win 10).blk t).view.read (Elt Ideal) (result2 m c) := by
  rw [Value.flushed10_A, out_A10, prod_eq, mul_eq, cos_eq, sin_eq]
  funext j
  rw [View.read_apply]
  have ej : j = (ix3 (j 0) (j 1) (j 2) : S5x256x128.Idx) := funext fun a => by
    match a with | ⟨0, _⟩ => rfl | ⟨1, _⟩ => rfl | ⟨2, _⟩ => rfl
  have key := queries_eq m c t (j 0) (j 1) (j 2)
  generalize result2 m c = G at key ⊢
  refine (congrArg (q10 (fun p => prodRow m c (row t p)) (mul m c) (fun p => cosRow m c (row t p)) (fun p => sinRow m c (row t p))) ej).trans (key.trans
    (congrArg G (Eq.symm (b := (ix3 (j 0) (row t (j 1)) (j 2) : S5x4608x128.Idx)) ?_)))
  funext b
  apply Fin.ext
  match b with
  | ⟨0, _⟩ => show win0_10.index t 0 * 5 + 1 * (j 0).val = (j 0).val; rw [(idx_rows t).2.2.2.2.2.2.2.2.2.2.2.2.2.1]; omega
  | ⟨1, _⟩ => show win0_10.index t 1 * 256 + 1 * (j 1).val = t.val * 256 + (j 1).val; rw [(idx_rows t).2.2.2.2.2.2.2.2.2.2.2.2.2.2.1]; omega
  | ⟨2, _⟩ => show win0_10.index t 2 * 128 + 1 * (j 2).val = (j 2).val; rw [(idx_rows t).2.2.2.2.2.2.2.2.2.2.2.2.2.2.2.1]; omega

theorem flushed_eq11 (c : Dev nD) (t : Fin cfg0.N) (_ : (cfg0.win 11).flush t = true) :
    (dats m 0 c).flushed 11 t = ((cfg0.win 11).blk t).view.read (Elt Ideal) (result3 m c) := by
  rw [Value.flushed11_A, out_A11, prod_eq, mul_eq, cos_eq, sin_eq, ksc_eq]
  funext j
  rw [View.read_apply]
  have ej : j = (ix2 (j 0) (j 1) : S256x128.Idx) := funext fun a => by match a with | ⟨0, _⟩ => rfl | ⟨1, _⟩ => rfl
  have key := at11 m c t (j 0) (j 1)
  generalize result3 m c = G at key ⊢
  refine (congrArg (k11 (fun p => prodRow m c (row t p)) (mul m c) (fun p => cosRow m c (row t p)) (fun p => sinRow m c (row t p)) (ksc m c)) ej).trans (key.trans
    (congrArg G (Eq.symm (b := (ix2 (row t (j 0)) (j 1) : S4608x128.Idx)) ?_)))
  funext b
  apply Fin.ext
  match b with
  | ⟨0, _⟩ => show win0_11.index t 0 * 256 + 1 * (j 0).val = t.val * 256 + (j 0).val; rw [(idx_rows t).2.2.2.2.2.2.2.2.2.2.2.2.2.2.2.2.1]; omega
  | ⟨1, _⟩ => show win0_11.index t 1 * 128 + 1 * (j 1).val = (j 1).val; rw [(idx_rows t).2.2.2.2.2.2.2.2.2.2.2.2.2.2.2.2.2.1]; omega

theorem flushed_eq12 (c : Dev nD) (t : Fin cfg0.N) (_ : (cfg0.win 12).flush t = true) :
    (dats m 0 c).flushed 12 t = ((cfg0.win 12).blk t).view.read (Elt Ideal) (result4 m c) := by
  rw [Value.flushed12_A, out_A12, prod_eq, mul_eq, vsc_eq]
  funext j
  rw [View.read_apply]
  have ej : j = (ix2 (j 0) (j 1) : S256x128.Idx) := funext fun a => by match a with | ⟨0, _⟩ => rfl | ⟨1, _⟩ => rfl
  have key := at12 m c t (j 0) (j 1)
  generalize result4 m c = G at key ⊢
  refine (congrArg (v12 (fun p => prodRow m c (row t p)) (mul m c) (vsc m c)) ej).trans (key.trans
    (congrArg G (Eq.symm (b := (ix2 (row t (j 0)) (j 1) : S4608x128.Idx)) ?_)))
  funext b
  apply Fin.ext
  match b with
  | ⟨0, _⟩ => show win0_12.index t 0 * 256 + 1 * (j 0).val = t.val * 256 + (j 0).val; rw [(idx_rows t).2.2.2.2.2.2.2.2.2.2.2.2.2.2.2.2.2.2.1]; omega
  | ⟨1, _⟩ => show win0_12.index t 1 * 128 + 1 * (j 1).val = (j 1).val; rw [(idx_rows t).2.2.2.2.2.2.2.2.2.2.2.2.2.2.2.2.2.2.2.1]; omega

theorem flushed_eq13 (c : Dev nD) (t : Fin cfg0.N) (_ : (cfg0.win 13).flush t = true) :
    (dats m 0 c).flushed 13 t = ((cfg0.win 13).blk t).view.read (Elt Ideal) (result5 m c) := by
  rw [Value.flushed13_A, out_A13, prod_eq, mul_eq]
  funext j
  rw [View.read_apply]
  have ej : j = (ix2 (j 0) (j 1) : S256x1024.Idx) := funext fun a => by match a with | ⟨0, _⟩ => rfl | ⟨1, _⟩ => rfl
  have key := at13 m c t (j 0) (j 1)
  generalize result5 m c = G at key ⊢
  refine (congrArg (z13 (fun p => prodRow m c (row t p)) (mul m c)) ej).trans (key.trans
    (congrArg G (Eq.symm (b := (ix2 (row t (j 0)) (j 1) : S4608x1024.Idx)) ?_)))
  funext b
  apply Fin.ext
  match b with
  | ⟨0, _⟩ => show win0_13.index t 0 * 256 + 1 * (j 0).val = t.val * 256 + (j 0).val; rw [(idx_rows t).2.2.2.2.2.2.2.2.2.2.2.2.2.2.2.2.2.2.2.2.1]; omega
  | ⟨1, _⟩ => show win0_13.index t 1 * 1024 + 1 * (j 1).val = (j 1).val; rw [(idx_rows t).2.2.2.2.2.2.2.2.2.2.2.2.2.2.2.2.2.2.2.2.2.1]; omega

theorem flushed_eq14 (c : Dev nD) (t : Fin cfg0.N) (_ : (cfg0.win 14).flush t = true) :
    (dats m 0 c).flushed 14 t = ((cfg0.win 14).blk t).view.read (Elt Ideal) (result6 m c) := by
  rw [Value.flushed14_A, out_A14, prod_eq, mul_eq]
  funext j
  rw [View.read_apply]
  have ej : j = (ix2 (j 0) (j 1) : S256x1536.Idx) := funext fun a => by match a with | ⟨0, _⟩ => rfl | ⟨1, _⟩ => rfl
  have key := at14 m c t (j 0) (j 1)
  generalize result6 m c = G at key ⊢
  refine (congrArg (x14 (fun p => prodRow m c (row t p)) (mul m c)) ej).trans (key.trans
    (congrArg G (Eq.symm (b := (ix2 (row t (j 0)) (j 1) : S4608x1536.Idx)) ?_)))
  funext b
  apply Fin.ext
  match b with
  | ⟨0, _⟩ => show win0_14.index t 0 * 256 + 1 * (j 0).val = t.val * 256 + (j 0).val; rw [(idx_rows t).2.2.2.2.2.2.2.2.2.2.2.2.2.2.2.2.2.2.2.2.2.2.1]; omega
  | ⟨1, _⟩ => show win0_14.index t 1 * 1536 + 1 * (j 1).val = (j 1).val; rw [(idx_rows t).2.2.2.2.2.2.2.2.2.2.2.2.2.2.2.2.2.2.2.2.2.2.2.1]; omega

theorem flushed_eq15 (c : Dev nD) (t : Fin cfg0.N) (_ : (cfg0.win 15).flush t = true) :
    (dats m 0 c).flushed 15 t = ((cfg0.win 15).blk t).view.read (Elt Ideal) (result7 m c) := by
  rw [Value.flushed15_A, out_A15, prod_eq, mul_eq]
  funext j
  rw [View.read_apply]
  have ej : j = (ix2 (j 0) (j 1) : S256x128.Idx) := funext fun a => by match a with | ⟨0, _⟩ => rfl | ⟨1, _⟩ => rfl
  have key := at15 m c t (j 0) (j 1)
  generalize result7 m c = G at key ⊢
  refine (congrArg (d15 (fun p => prodRow m c (row t p)) (mul m c)) ej).trans (key.trans
    (congrArg G (Eq.symm (b := (ix2 (row t (j 0)) (j 1) : S4608x128.Idx)) ?_)))
  funext b
  apply Fin.ext
  match b with
  | ⟨0, _⟩ => show win0_15.index t 0 * 256 + 1 * (j 0).val = t.val * 256 + (j 0).val; rw [(idx_rows t).2.2.2.2.2.2.2.2.2.2.2.2.2.2.2.2.2.2.2.2.2.2.2.2.1]; omega
  | ⟨1, _⟩ => show win0_15.index t 1 * 128 + 1 * (j 1).val = (j 1).val; rw [(idx_rows t).2.2.2.2.2.2.2.2.2.2.2.2.2.2.2.2.2.2.2.2.2.2.2.2.2]; omega

/-- Every index lies in one of the 18 blocks, -/
theorem cover8 (i : S4608x5120.Idx) : ∃ t : Fin cfg0.N, (cfg0.win 8).flush t = true ∧ i ∈ ((cfg0.win 8).blk t).view.set := by
  have h0 : (i 0 : Nat) < 4608 := (i 0).isLt
  have h1 : (i 1 : Nat) < 5120 := (i 1).isLt
  have hN : cfg0.N = 18 := N_0
  obtain ⟨t, ht⟩ : ∃ t : Fin cfg0.N, t.val = (i 0 : Nat) / 256 := ⟨⟨_, by omega⟩, rfl⟩
  refine ⟨t, flush0_8 t, ?_⟩
  show i ∈ ((View.whole main_v3_0).slice (win0_8.rect t)).set
  rw [View.set_slice_whole, Rect.mem_set_unit]
  intro a
  match a with
  | ⟨0, _⟩ => show win0_8.index t 0 * 256 ≤ (i 0 : Nat) ∧ (i 0 : Nat) < win0_8.index t 0 * 256 + 256; rw [(idx_rows t).2.2.2.2.2.2.2.2.1]; omega
  | ⟨1, _⟩ => show win0_8.index t 1 * 5120 ≤ (i 1 : Nat) ∧ (i 1 : Nat) < win0_8.index t 1 * 5120 + 5120; rw [(idx_rows t).2.2.2.2.2.2.2.2.2.1]; omega

theorem cover9 (i : S18x2x128.Idx) : ∃ t : Fin cfg0.N, (cfg0.win 9).flush t = true ∧ i ∈ ((cfg0.win 9).blk t).view.set := by
  have h0 : (i 0 : Nat) < 18 := (i 0).isLt
  have h1 : (i 1 : Nat) < 2 := (i 1).isLt
  have h2 : (i 2 : Nat) < 128 := (i 2).isLt
  have hN : cfg0.N = 18 := N_0
  obtain ⟨t, ht⟩ : ∃ t : Fin cfg0.N, t.val = (i 0 : Nat) / 1 := ⟨⟨_, by omega⟩, rfl⟩
  refine ⟨t, flush0_9 t, ?_⟩
  show i ∈ ((View.whole main_v3_1).slice (win0_9.rect t)).set
  rw [View.set_slice_whole, Rect.mem_set_unit]
  intro a
  match a with
  | ⟨0, _⟩ => show win0_9.index t 0 * 1 ≤ (i 0 : Nat) ∧ (i 0 : Nat) < win0_9.index t 0 * 1 + 1; rw [(idx_rows t).2.2.2.2.2.2.2.2.2.2.1]; omega
  | ⟨1, _⟩ => show win0_9.index t 1 * 2 ≤ (i 1 : Nat) ∧ (i 1 : Nat) < win0_9.index t 1 * 2 + 2; rw [(idx_rows t).2.2.2.2.2.2.2.2.2.2.2.1]; omega
  | ⟨2, _⟩ => show win0_9.index t 2 * 128 ≤ (i 2 : Nat) ∧ (i 2 : Nat) < win0_9.index t 2 * 128 + 128; rw [(idx_rows t).2.2.2.2.2.2.2.2.2.2.2.2.1]; omega

theorem cover10 (i : S5x4608x128.Idx) : ∃ t : Fin cfg0.N, (cfg0.win 10).flush t = true ∧ i ∈ ((cfg0.win 10).blk t).view.set := by
  have h0 : (i 0 : Nat) < 5 := (i 0).isLt
  have h1 : (i 1 : Nat) < 4608 := (i 1).isLt
  have h2 : (i 2 : Nat) < 128 := (i 2).isLt
  have hN : cfg0.N = 18 := N_0
  obtain ⟨t, ht⟩ : ∃ t : Fin cfg0.N, t.val = (i 1 : Nat) / 256 := ⟨⟨_, by omega⟩, rfl⟩
  refine ⟨t, flush0_10 t, ?_⟩
  show i ∈ ((View.whole main_v3_2).slice (win0_10.rect t)).set
  rw [View.set_slice_whole, Rect.mem_set_unit]
  intro a
  match a with
  | ⟨0, _⟩ => show win0_10.index t 0 * 5 ≤ (i 0 : Nat) ∧ (i 0 : Nat) < win0_10.index t 0 * 5 + 5; rw [(idx_rows t).2.2.2.2.2.2.2.2.2.2.2.2.2.1]; omega
  | ⟨1, _⟩ => show win0_10.index t 1 * 256 ≤ (i 1 : Nat) ∧ (i 1 : Nat) < win0_10.index t 1 * 256 + 256; rw [(idx_rows t).2.2.2.2.2.2.2.2.2.2.2.2.2.2.1]; omega
  | ⟨2, _⟩ => show win0_10.index t 2 * 128 ≤ (i 2 : Nat) ∧ (i 2 : Nat) < win0_10.index t 2 * 128 + 128; rw [(idx_rows t).2.2.2.2.2.2.2.2.2.2.2.2.2.2.2.1]; omega

theorem cover11 (i : S4608x128.Idx) : ∃ t : Fin cfg0.N, (cfg0.win 11).flush t = true ∧ i ∈ ((cfg0.win 11).blk t).view.set := by
  have h0 : (i 0 : Nat) < 4608 := (i 0).isLt
  have h1 : (i 1 : Nat) < 128 := (i 1).isLt
  have hN : cfg0.N = 18 := N_0
  obtain ⟨t, ht⟩ : ∃ t : Fin cfg0.N, t.val = (i 0 : Nat) / 256 := ⟨⟨_, by omega⟩, rfl⟩
  refine ⟨t, flush0_11 t, ?_⟩
  show i ∈ ((View.whole main_v3_3).slice (win0_11.rect t)).set
  rw [View.set_slice_whole, Rect.mem_set_unit]
  intro a
  match a with
  | ⟨0, _⟩ => show win0_11.index t 0 * 256 ≤ (i 0 : Nat) ∧ (i 0 : Nat) < win0_11.index t 0 * 256 + 256; rw [(idx_rows t).2.2.2.2.2.2.2.2.2.2.2.2.2.2.2.2.1]; omega
  | ⟨1, _⟩ => show win0_11.index t 1 * 128 ≤ (i 1 : Nat) ∧ (i 1 : Nat) < win0_11.index t 1 * 128 + 128; rw [(idx_rows t).2.2.2.2.2.2.2.2.2.2.2.2.2.2.2.2.2.1]; omega

theorem cover12 (i : S4608x128.Idx) : ∃ t : Fin cfg0.N, (cfg0.win 12).flush t = true ∧ i ∈ ((cfg0.win 12).blk t).view.set := by
  have h0 : (i 0 : Nat) < 4608 := (i 0).isLt
  have h1 : (i 1 : Nat) < 128 := (i 1).isLt
  have hN : cfg0.N = 18 := N_0
  obtain ⟨t, ht⟩ : ∃ t : Fin cfg0.N, t.val = (i 0 : Nat) / 256 := ⟨⟨_, by omega⟩, rfl⟩
  refine ⟨t, flush0_12 t, ?_⟩
  show i ∈ ((View.whole main_v3_4).slice (win0_12.rect t)).set
  rw [View.set_slice_whole, Rect.mem_set_unit]
  intro a
  match a with
  | ⟨0, _⟩ => show win0_12.index t 0 * 256 ≤ (i 0 : Nat) ∧ (i 0 : Nat) < win0_12.index t 0 * 256 + 256; rw [(idx_rows t).2.2.2.2.2.2.2.2.2.2.2.2.2.2.2.2.2.2.1]; omega
  | ⟨1, _⟩ => show win0_12.index t 1 * 128 ≤ (i 1 : Nat) ∧ (i 1 : Nat) < win0_12.index t 1 * 128 + 128; rw [(idx_rows t).2.2.2.2.2.2.2.2.2.2.2.2.2.2.2.2.2.2.2.1]; omega

theorem cover13 (i : S4608x1024.Idx) : ∃ t : Fin cfg0.N, (cfg0.win 13).flush t = true ∧ i ∈ ((cfg0.win 13).blk t).view.set := by
  have h0 : (i 0 : Nat) < 4608 := (i 0).isLt
  have h1 : (i 1 : Nat) < 1024 := (i 1).isLt
  have hN : cfg0.N = 18 := N_0
  obtain ⟨t, ht⟩ : ∃ t : Fin cfg0.N, t.val = (i 0 : Nat) / 256 := ⟨⟨_, by omega⟩, rfl⟩
  refine ⟨t, flush0_13 t, ?_⟩
  show i ∈ ((View.whole main_v3_5).slice (win0_13.rect t)).set
  rw [View.set_slice_whole, Rect.mem_set_unit]
  intro a
  match a with
  | ⟨0, _⟩ => show win0_13.index t 0 * 256 ≤ (i 0 : Nat) ∧ (i 0 : Nat) < win0_13.index t 0 * 256 + 256; rw [(idx_rows t).2.2.2.2.2.2.2.2.2.2.2.2.2.2.2.2.2.2.2.2.1]; omega
  | ⟨1, _⟩ => show win0_13.index t 1 * 1024 ≤ (i 1 : Nat) ∧ (i 1 : Nat) < win0_13.index t 1 * 1024 + 1024; rw [(idx_rows t).2.2.2.2.2.2.2.2.2.2.2.2.2.2.2.2.2.2.2.2.2.1]; omega

theorem cover14 (i : S4608x1536.Idx) : ∃ t : Fin cfg0.N, (cfg0.win 14).flush t = true ∧ i ∈ ((cfg0.win 14).blk t).view.set := by
  have h0 : (i 0 : Nat) < 4608 := (i 0).isLt
  have h1 : (i 1 : Nat) < 1536 := (i 1).isLt
  have hN : cfg0.N = 18 := N_0
  obtain ⟨t, ht⟩ : ∃ t : Fin cfg0.N, t.val = (i 0 : Nat) / 256 := ⟨⟨_, by omega⟩, rfl⟩
  refine ⟨t, flush0_14 t, ?_⟩
  show i ∈ ((View.whole main_v3_6).slice (win0_14.rect t)).set
  rw [View.set_slice_whole, Rect.mem_set_unit]
  intro a
  match a with
  | ⟨0, _⟩ => show win0_14.index t 0 * 256 ≤ (i 0 : Nat) ∧ (i 0 : Nat) < win0_14.index t 0 * 256 + 256; rw [(idx_rows t).2.2.2.2.2.2.2.2.2.2.2.2.2.2.2.2.2.2.2.2.2.2.1]; omega
  | ⟨1, _⟩ => show win0_14.index t 1 * 1536 ≤ (i 1 : Nat) ∧ (i 1 : Nat) < win0_14.index t 1 * 1536 + 1536; rw [(idx_rows t).2.2.2.2.2.2.2.2.2.2.2.2.2.2.2.2.2.2.2.2.2.2.2.1]; omega

theorem cover15 (i : S4608x128.Idx) : ∃ t : Fin cfg0.N, (cfg0.win 15).flush t = true ∧ i ∈ ((cfg0.win 15).blk t).view.set := by
  have h0 : (i 0 : Nat) < 4608 := (i 0).isLt
  have h1 : (i 1 : Nat) < 128 := (i 1).isLt
  have hN : cfg0.N = 18 := N_0
  obtain ⟨t, ht⟩ : ∃ t : Fin cfg0.N, t.val = (i 0 : Nat) / 256 := ⟨⟨_, by omega⟩, rfl⟩
  refine ⟨t, flush0_15 t, ?_⟩
  show i ∈ ((View.whole main_v3_7).slice (win0_15.rect t)).set
  rw [View.set_slice_whole, Rect.mem_set_unit]
  intro a
  match a with
  | ⟨0, _⟩ => show win0_15.index t 0 * 256 ≤ (i 0 : Nat) ∧ (i 0 : Nat) < win0_15.index t 0 * 256 + 256; rw [(idx_rows t).2.2.2.2.2.2.2.2.2.2.2.2.2.2.2.2.2.2.2.2.2.2.2.2.1]; omega
  | ⟨1, _⟩ => show win0_15.index t 1 * 128 ≤ (i 1 : Nat) ∧ (i 1 : Nat) < win0_15.index t 1 * 128 + 128; rw [(idx_rows t).2.2.2.2.2.2.2.2.2.2.2.2.2.2.2.2.2.2.2.2.2.2.2.2.2]; omega

/-- so the kernel's result arrays end holding the formulas everywhere. -/
theorem final8 (c : Dev nD) : (dats m 0 c).arrAt 8 cfg0.N = result0 m c :=
  (dats m 0 c).arrAt_eq_of_cover 8 (result0 m c) (flushed_eq8 m c) cover8
theorem final9 (c : Dev nD) : (dats m 0 c).arrAt 9 cfg0.N = result1 m c :=
  (dats m 0 c).arrAt_eq_of_cover 9 (result1 m c) (flushed_eq9 m c) cover9
theorem final10 (c : Dev nD) : (dats m 0 c).arrAt 10 cfg0.N = result2 m c :=
  (dats m 0 c).arrAt_eq_of_cover 10 (result2 m c) (flushed_eq10 m c) cover10
theorem final11 (c : Dev nD) : (dats m 0 c).arrAt 11 cfg0.N = result3 m c :=
  (dats m 0 c).arrAt_eq_of_cover 11 (result3 m c) (flushed_eq11 m c) cover11
theorem final12 (c : Dev nD) : (dats m 0 c).arrAt 12 cfg0.N = result4 m c :=
  (dats m 0 c).arrAt_eq_of_cover 12 (result4 m c) (flushed_eq12 m c) cover12
theorem final13 (c : Dev nD) : (dats m 0 c).arrAt 13 cfg0.N = result5 m c :=
  (dats m 0 c).arrAt_eq_of_cover 13 (result5 m c) (flushed_eq13 m c) cover13
theorem final14 (c : Dev nD) : (dats m 0 c).arrAt 14 cfg0.N = result6 m c :=
  (dats m 0 c).arrAt_eq_of_cover 14 (result6 m c) (flushed_eq14 m c) cover14
theorem final15 (c : Dev nD) : (dats m 0 c).arrAt 15 cfg0.N = result7 m c :=
  (dats m 0 c).arrAt_eq_of_cover 15 (result7 m c) (flushed_eq15 m c) cover15

end Cert.InProjIdeal.Res

end
-- ==== Proof.InProjRefParts.lean ====
/-
  The parts of the input projection's reference over the reals: the norm of the rows, its codes and scales, the product with the
  weights, and the arrays cut from it, read at an index as the plain formulas of `Cert.Proof.InProjSpec`.
-/
module

public import proofs.«01_k».proof.Proof.Gen.InProjRefIdeal.Skeleton
public import proofs.«01_k».proof.Proof.InProjSpec
public import Idealize.ShloMosaic.Lib.Pointwise

@[expose] public section

noncomputable section

namespace Cert.InProjRefIdeal.Res

open Cert.InProjRefIdeal Cert.InProjRefIdeal.Gen Cert.Proof.GateUpSpec Cert.Proof.OutProjSpec Cert.Proof.InProjSpec
open Idealize.ShloMosaic Idealize.ShloMosaic.TcCoe Idealize.ShloMosaic.Tactic
open Idealize.SL Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-- A rank-2 index by its coordinates. -/
theorem eta2 {a b : ℕ} (x : (⟨2, ![a, b]⟩ : Shape).Idx) : x = ix2 (x 0) (x 1) := by
  funext i
  match i with
  | ⟨0, _⟩ => rfl
  | ⟨1, _⟩ => rfl

/-! ## The norm, its scales and its codes -/

/-- One row of the input, and the norm's weights out of their one row. -/
def rowOf (X : Vec Ideal S4608x5120 .bf16) (r : Fin 4608) : Fin 5120 → EReal := fun j => X (ix2 r j)
def wts (g : Vec Ideal S1x5120 .f32) : Fin 5120 → EReal := fun j => g (ix2 0 j)

theorem col_of (v : FVec Ideal S4608 .f32) (j : S4608x1.Idx) : shapeCast S4608x1 v shapeCasts_S4608_S4608x1 j = v (ix1 (j 0)) := by
  pointwise

/-- The sums of squares of the rows, as one column, -/
def sumCol (v : FVec Ideal S4608x5120 .f32) : FVec Ideal S4608x1 .f32 :=
  shapeCast S4608x1 (multiReduction .add [1] S4608 (mulf v v) 0x00000000#32 reduces_S4608x5120_S4608 (.inl rfl) rfl) shapeCasts_S4608_S4608x1
/-- the norm of the rows, from those, -/
def normBody (v : FVec Ideal S4608x5120 .f32) (s : FVec Ideal S4608x1 .f32) (g : Vec Ideal S1x5120 .f32) : FVec Ideal S4608x5120 .f32 :=
  mulf (mulf v (broadcastTo S4608x5120 (rsqrt (addf (divf s (broadcast S4608x1 (Scalar.ofBits .f32 0x45A00000#32)))
      (broadcast S4608x1 (Scalar.ofBits .f32 0x3727C5AC#32)))) broadcasts_S4608x1_S4608x5120))
    (broadcastTo S4608x5120 (shapeCast S1x5120 g shapeCasts_S1x5120_S1x5120) broadcasts_S1x5120_S4608x5120)
/-- and the largest magnitude of each row of it. -/
def maxCol (v : FVec Ideal S4608x5120 .f32) : FVec Ideal S4608x1 .f32 :=
  shapeCast S4608x1 (multiReduction .maximumf [1] S4608 (absf v) 0xFF800000#32 reduces_S4608x5120_S4608 (.inl rfl) rfl) shapeCasts_S4608_S4608x1

theorem normBody_apply (v : FVec Ideal S4608x5120 .f32) (s : FVec Ideal S4608x1 .f32) (g : Vec Ideal S1x5120 .f32) (p : Fin 4608) (q : Fin 5120) :
    normBody v s g (ix2 p q) = normOf (fun j => v (ix2 p j)) (wts g) (s (ix2 p 0)) q := by
  unfold normOf wts len eps
  pointwise [normBody]

theorem sumCol_apply (v : FVec Ideal S4608x5120 .f32) (p : Fin 4608) : sumCol v (ix2 p 0) = sumSq fun j : Fin 5120 => v (ix2 p j) :=
  (col_of _ _).trans (sumSq_red v _ _ _ _)
theorem maxCol_apply (v : FVec Ideal S4608x5120 .f32) (p : Fin 4608) : maxCol v (ix2 p 0) = rowMax fun j : Fin 5120 => v (ix2 p j) :=
  (col_of _ _).trans (rowMax_red v _ _ _ _)

theorem norm_apply (X : Vec Ideal S4608x5120 .bf16) (g : Vec Ideal S1x5120 .f32) (p : Fin 4608) (q : Fin 5120) :
    k0_pay3 (F := Ideal) X g (ix2 p q) = normed (rowOf X p) (wts g) q := by
  have e : k0_pay3 (F := Ideal) X g = normBody (extf .f32 X bitsLt_bf16_f32) (sumCol (extf .f32 X bitsLt_bf16_f32)) g := rfl
  rw [e, normBody_apply, sumCol_apply]
  rfl

/-- The scales from the largest magnitudes, -/
def scaleCol (a : FVec Ideal S4608x1 .f32) : FVec Ideal S4608x1 .f32 :=
  select (cmpf .oeq a (broadcast S4608x1 (Scalar.ofBits .f32 0x00000000#32))) (broadcast S4608x1 (Scalar.ofBits .f32 0x3F800000#32))
    (divf a (broadcast S4608x1 (Scalar.ofBits .f32 0x43E00000#32)))

theorem scaleCol_apply (a : FVec Ideal S4608x1 .f32) (j : S4608x1.Idx) : scaleCol a j = scaleOf (a j) := by
  unfold scaleOf top
  pointwise [scaleCol]

theorem scale_apply (X : Vec Ideal S4608x5120 .bf16) (g : Vec Ideal S1x5120 .f32) (p : Fin 4608) :
    k0_pay4 (F := Ideal) X g (ix2 p 0) = rowScale (rowOf X p) (wts g) := by
  have e : k0_pay4 (F := Ideal) X g = scaleCol (maxCol (k0_pay3 (F := Ideal) X g)) := by
    unfold k0_pay4 scaleCol maxCol
    rfl
  rw [e, scaleCol_apply, maxCol_apply]
  exact congrArg (fun f => scaleOf (rowMax f)) (funext fun q => norm_apply X g p q)

/-- and what is stored: the codes under those scales, and the scales in blocks of 2 by 128. -/
theorem code_of (w : FVec Ideal S4608x5120 .f32) (s : FVec Ideal S4608x1 .f32) (p : Fin 4608) (q : Fin 5120) :
    (truncf .fp8e4m3 (minimumf (broadcast S4608x5120 (Scalar.ofBits .f32 0x43E00000#32)) (maximumf (broadcast S4608x5120 (Scalar.ofBits .f32 0xC3E00000#32))
      (divf w (broadcastTo S4608x5120 s broadcasts_S4608x1_S4608x5120)))) bitsLt_fp8e4m3_f32 : FVec Ideal S4608x5120 .fp8e4m3) (ix2 p q)
      = codeOf (w (ix2 p q)) (s (ix2 p 0)) := by
  unfold codeOf bot top
  pointwise

theorem codes_apply (X : Vec Ideal S4608x5120 .bf16) (g : Vec Ideal S1x5120 .f32) (p : Fin 4608) (q : Fin 5120) :
    k0_pay5 (F := Ideal) X g (ix2 p q) = rowCode (rowOf X p) (wts g) q := by
  unfold k0_pay5
  exact (code_of _ _ p q).trans (congrArg₂ codeOf (norm_apply X g p q) (scale_apply X g p))

theorem scale_cast (s : FVec Ideal S4608x1 .f32) (j : S18x2x128.Idx) :
    shapeCast S18x2x128 s shapeCasts_S4608x1_S18x2x128 j = s (ix2 ⟨256 * (j 0).val + 128 * (j 1).val + (j 2).val, by
      have h0 : (j 0).val < 18 := (j 0).isLt; have h1 : (j 1).val < 2 := (j 1).isLt; have h2 : (j 2).val < 128 := (j 2).isLt; omega⟩ 0) := by
  pointwise
  congr 2
  apply Fin.ext
  show (j 0).val * 256 + (j 1).val * 128 + (j 2).val = 256 * (j 0).val + 128 * (j 1).val + (j 2).val
  omega

theorem scales_apply (X : Vec Ideal S4608x5120 .bf16) (g : Vec Ideal S1x5120 .f32) (j : S18x2x128.Idx) :
    k0_pay6 (F := Ideal) X g j = rowScale (rowOf X ⟨256 * (j 0).val + 128 * (j 1).val + (j 2).val, by
      have h0 : (j 0).val < 18 := (j 0).isLt; have h1 : (j 1).val < 2 := (j 1).isLt; have h2 : (j 2).val < 128 := (j 2).isLt; omega⟩) (wts g) := by
  unfold k0_pay6
  exact (scale_cast _ j).trans (scale_apply X g _)

/-! ## The product -/

/-- The product of the codes with the weights, -/
theorem mat_apply (S : FVec Ideal S4608x1 .f32) (C : FVec Ideal S4608x5120 .fp8e4m3) (w : Vec Ideal S5120x3464 .fp8e4m3) (ws : Vec Ideal S1x3464 .f32)
    (r : Fin 4608) (j : Fin 3464) :
    k0_pay7 (F := Ideal) S C w ws (ix2 r j) = (∑ k : Fin 5120, C (ix2 r k) * w (ix2 k j)) * S (ix2 r 0) * ws (ix2 0 j) := by
  pointwise [k0_pay7]

/-- an array's rows, the column scales out of their one row, -/
def prodRows (P : FVec Ideal S4608x3464 .f32) : Fin 4608 → Fin 3464 → EReal := fun r j => P (ix2 r j)
def colScales (ws : Vec Ideal S1x3464 .f32) : Fin 3464 → EReal := fun j => ws (ix2 0 j)
/-- and the product as the body computes it from its blocks. -/
def whole (X : Vec Ideal S4608x5120 .bf16) (g : Vec Ideal S1x5120 .f32) (w : Vec Ideal S5120x3464 .fp8e4m3) (ws : Vec Ideal S1x3464 .f32) :
    FVec Ideal S4608x3464 .f32 := k0_pay7 (F := Ideal) (k0_pay4 X g) (k0_pay5 X g) w ws

theorem whole_rows (X : Vec Ideal S4608x5120 .bf16) (g : Vec Ideal S1x5120 .f32) (w : Vec Ideal S5120x3464 .fp8e4m3) (ws : Vec Ideal S1x3464 .f32) :
    prodRows (whole X g w ws) = fun r => proj (rowOf X r) (wts g) w (colScales ws) := by
  funext r j
  unfold prodRows whole
  rw [mat_apply, scale_apply]
  simp only [codes_apply]
  rfl

/-! ## The arrays cut from the product -/

/-- One row of the cosines or of the sines. -/
def row64 (c : Vec Ideal S4608x64 .f32) (p : Fin 4608) : Fin 64 → EReal := fun e => c (ix2 p e)

/-- The one element of a one by one array. -/
abbrev one (b : Vec Ideal S1x1 .f32) : EReal := b (ix2 0 0)

theorem slice_apply {b : ℕ} (P : FVec Ideal S4608x3464 .f32) (o : ℕ) (h : S4608x3464.Slices ![0, o] ⟨2, ![4608, b]⟩) (hb : o + b ≤ 3464) (p : Fin 4608) (q : Fin b) :
    extractStridedSlice ⟨2, ![4608, b]⟩ ![0, o] P h (ix2 p q) = prodRows P p ⟨o + q.val, by have := q.isLt; omega⟩ := by
  show P _ = P _
  congr 1
  funext a
  apply Fin.ext
  match a with
  | ⟨0, _⟩ => show 0 + p.val = p.val; omega
  | ⟨1, _⟩ => rfl

/-- A multiplier, spread over an array of 128 columns. -/
abbrev scaled (v : FVec Ideal S4608x128 .f32) (b : Vec Ideal S1x1 .f32) : FVec Ideal S4608x128 .f32 :=
  mulf v (broadcastTo S4608x128 (shapeCast S1x1 b shapeCasts_S1x1_S1x1) broadcasts_S1x1_S4608x128)

theorem scaled_apply (v : FVec Ideal S4608x128 .f32) (b : Vec Ideal S1x1 .f32) (p : Fin 4608) (q : Fin 128) :
    scaled v b (ix2 p q) = v (ix2 p q) * one b := by
  pointwise

/-- The rotary embedding as the body computes it. -/
abbrev ropeBody (v : FVec Ideal S4608x128 .f32) (c s : Vec Ideal S4608x64 .f32) : FVec Ideal S4608x128 .f32 :=
  concatenate S4608x128 1
    [⟨S4608x64, subf (mulf (extractStridedSlice S4608x64 ![0, 0] v slices_S4608x128_o0_0_S4608x64) c)
        (mulf (extractStridedSlice S4608x64 ![0, 64] v slices_S4608x128_o0_64_S4608x64) s)⟩,
      ⟨S4608x64, addf (mulf (extractStridedSlice S4608x64 ![0, 64] v slices_S4608x128_o0_64_S4608x64) c)
        (mulf (extractStridedSlice S4608x64 ![0, 0] v slices_S4608x128_o0_0_S4608x64) s)⟩]
    concatenates_S4608x64_S4608x64_S4608x128_d1

theorem ropeBody_apply (v : FVec Ideal S4608x128 .f32) (c s : Vec Ideal S4608x64 .f32) (p : Fin 4608) (d : Fin 128) :
    ropeBody v c s (ix2 p d) = rope (fun e => v (ix2 p e)) (row64 c p) (row64 s p) d := by
  have hd := d.isLt
  unfold rope row64
  by_cases h : d.val < 64
  · have e : (⟨64 + d.val, by omega⟩ : Fin 128) = ⟨d.val + 64, by omega⟩ := Fin.ext (Nat.add_comm _ _)
    rw [dif_pos h]
    pointwise
    rw [dif_pos h]
    exact congrArg (fun j => v (ix2 p d) * c (ix2 p ⟨d.val, h⟩) - v (ix2 p j) * s (ix2 p ⟨d.val, h⟩)) e
  · have e : (⟨64 + (d.val - 64), by omega⟩ : Fin 128) = d := Fin.ext (by show 64 + (d.val - 64) = d.val; omega)
    rw [dif_neg h]
    pointwise
    rw [dif_neg h]
    exact congrArg (fun j => v (ix2 p j) * c (ix2 p ⟨d.val - 64, by omega⟩) + v (ix2 p ⟨d.val - 64, by omega⟩) * s (ix2 p ⟨d.val - 64, by omega⟩)) e

/-- The quantiser with one scale as the body computes it. -/
abbrev quantBody (v : FVec Ideal S4608x128 .f32) (s : Vec Ideal S1x1 .f32) : FVec Ideal S4608x128 .fp8e4m3 :=
  truncf .fp8e4m3 (minimumf (broadcast S4608x128 (Scalar.ofBits (F := Ideal) .f32 0x43E00000#32)) (maximumf (broadcast S4608x128 (Scalar.ofBits (F := Ideal) .f32 0xC3E00000#32))
    (divf v (broadcastTo S4608x128 (shapeCast S1x1 s shapeCasts_S1x1_S1x1) broadcasts_S1x1_S4608x128)))) bitsLt_fp8e4m3_f32

theorem quantBody_apply (v : FVec Ideal S4608x128 .f32) (s : Vec Ideal S1x1 .f32) (p : Fin 4608) (q : Fin 128) :
    quantBody v s (ix2 p q) = codeOf (v (ix2 p q)) (one s) := by
  unfold codeOf bot top
  pointwise

/-- The codes of the keys, -/
theorem k_apply (P : FVec Ideal S4608x3464 .f32) (c s : Vec Ideal S4608x64 .f32) (a : Fin 12 → EReal) (b b' ks : Vec Ideal S1x1 .f32)
    (hb : one b = a 0) (hb' : one b' = a 1) (x : S4608x128.Idx) :
    k0_pay19 (F := Ideal) c s (k0_pay16 P b b') (k0_pay17 P b b') (k0_pay18 P b b' c) ks x
      = keys (prodRows P) a (row64 c) (row64 s) (one ks) x := by
  have e : k0_pay19 (F := Ideal) c s (k0_pay16 P b b') (k0_pay17 P b b') (k0_pay18 P b b' c) ks = quantBody (ropeBody (k0_pay15 P b b') c s) ks := rfl
  rw [e]
  refine (congrArg _ (eta2 x)).trans ((quantBody_apply _ ks (x 0) (x 1)).trans (congrArg (codeOf · (one ks)) ?_))
  refine (ropeBody_apply _ c s (x 0) (x 1)).trans ?_
  refine congrArg (fun f => rope f (row64 c (x 0)) (row64 s (x 0)) (x 1)) (funext fun d => ?_)
  have e' : k0_pay15 (F := Ideal) P b b' = scaled (scaled (extractStridedSlice S4608x128 ![0, 640] P slices_S4608x3464_o0_640_S4608x128) b) b' := rfl
  rw [e']
  refine (scaled_apply _ b' (x 0) d).trans ?_
  rw [hb', ← hb]
  exact congrArg (· * a 1) ((scaled_apply _ b (x 0) d).trans (congrArg (· * one b) (slice_apply (b := 128) P 640 _ (by omega) (x 0) d)))

/-- those of the values, -/
theorem v_apply (P : FVec Ideal S4608x3464 .f32) (a : Fin 12 → EReal) (b vs : Vec Ideal S1x1 .f32) (hb : one b = a 0) (x : S4608x128.Idx) :
    k0_pay20 (F := Ideal) P b vs x = values (prodRows P) a (one vs) x := by
  have e : k0_pay20 (F := Ideal) P b vs = quantBody (scaled (extractStridedSlice S4608x128 ![0, 768] P slices_S4608x3464_o0_768_S4608x128) b) vs := rfl
  rw [e]
  refine (congrArg _ (eta2 x)).trans ((quantBody_apply _ vs (x 0) (x 1)).trans (congrArg (codeOf · (one vs)) ?_))
  refine (scaled_apply _ b (x 0) (x 1)).trans ?_
  rw [hb]
  exact congrArg (· * a 0) (slice_apply (b := 128) P 768 _ (by omega) (x 0) (x 1))

/-- An array of 4608 by 128 stored as one head of three axes, -/
theorem cast_head (v : FVec Ideal S4608x128 .bf16) (x : S1x4608x128.Idx) :
    shapeCast S1x4608x128 v shapeCasts_S4608x128_S1x4608x128 x = v (ix2 (x 1) (x 2)) := by
  pointwise

theorem head_apply (v : FVec Ideal S4608x128 .f32) (c s : Vec Ideal S4608x64 .f32) (x : S1x4608x128.Idx) (p : Fin 4608) (d : Fin 128)
    (hp : x 1 = p) (hd : x 2 = d) :
    shapeCast S1x4608x128 (truncf .bf16 (ropeBody v c s) bitsLt_bf16_f32) shapeCasts_S4608x128_S1x4608x128 x
      = rope (fun e => v (ix2 p e)) (row64 c p) (row64 s p) d := by
  rw [cast_head, hp, hd]
  exact ropeBody_apply v c s p d

theorem inb_head (k : ℕ) (hk : k < 5) : ∀ a, (![k, 0, 0] : Fin 3 → Nat) a + S1x4608x128.size a ≤ S5x4608x128.size a := by
  intro a
  match a with
  | ⟨0, _⟩ => show k + 1 ≤ 5; omega
  | ⟨1, _⟩ => show 0 + 4608 ≤ 4608; omega
  | ⟨2, _⟩ => show 0 + 128 ≤ 128; omega

theorem queries_apply (u : Fin 4608 → Fin 3464 → EReal) (a : Fin 12 → EReal) (c s : Fin 4608 → Fin 64 → EReal) (h : Fin 5) (p : Fin 4608) (d : Fin 128)
    (p' : S5x4608x128.Coord 1) (d' : S5x4608x128.Coord 2) (hp : p' = p) (hd : d' = d) :
    queries u a c s (ix3 h p' d') = rope (fun e => u p ⟨128 * h.val + e.val, by have := h.isLt; have := e.isLt; omega⟩ * a 0) (c p) (s p) d := by
  subst hp hd
  rfl

/-- head `k` of the queries, -/
theorem q_piece (P : FVec Ideal S4608x3464 .f32) (c s : Vec Ideal S4608x64 .f32) (a : Fin 12 → EReal) (b : Vec Ideal S1x1 .f32) (hb : one b = a 0)
    (k : ℕ) (hk : k < 5) (hs : S4608x3464.Slices ![0, 128 * k] S4608x128) (x : S1x4608x128.Idx) :
    shapeCast S1x4608x128 (truncf .bf16 (ropeBody (scaled (extractStridedSlice S4608x128 ![0, 128 * k] P hs) b) c s) bitsLt_bf16_f32)
        shapeCasts_S4608x128_S1x4608x128 x
      = queries (prodRows P) a (row64 c) (row64 s) ((Rect.unit (s := S5x4608x128) ![k, 0, 0] S1x4608x128.size (inb_head k hk)).emb x) := by
  have hx0 : (x 0).val < 1 := (x 0).isLt
  have e : (Rect.unit (s := S5x4608x128) ![k, 0, 0] S1x4608x128.size (inb_head k hk)).emb x = (ix3 ⟨k, hk⟩ (x 1) (x 2) : S5x4608x128.Idx) := by
    funext b
    apply Fin.ext
    match b with
    | ⟨0, _⟩ => show k + 1 * (x 0).val = k; omega
    | ⟨1, _⟩ => show 0 + 1 * (x 1).val = (x 1).val; omega
    | ⟨2, _⟩ => show 0 + 1 * (x 2).val = (x 2).val; omega
  generalize (Rect.unit (s := S5x4608x128) ![k, 0, 0] S1x4608x128.size (inb_head k hk)).emb x = y at e ⊢
  subst e
  obtain ⟨p, hp⟩ : ∃ p : Fin 4608, x 1 = p := ⟨_, rfl⟩
  obtain ⟨d, hd⟩ : ∃ d : Fin 128, x 2 = d := ⟨_, rfl⟩
  refine (head_apply _ c s x p d hp hd).trans (Eq.trans ?_ (queries_apply _ _ _ _ ⟨k, hk⟩ p d (x 1) (x 2) hp hd).symm)
  have e : (fun e => scaled (extractStridedSlice S4608x128 ![0, 128 * k] P hs) b (ix2 p e))
      = fun e : Fin 128 => prodRows P p ⟨128 * k + e.val, by have := e.isLt; omega⟩ * a 0 :=
    funext fun d => by
      rw [scaled_apply, hb]
      exact congrArg (· * a 0) (slice_apply (b := 128) P (128 * k) hs (by omega) p d)
  rw [e]

/-- the gate, -/
theorem z_apply (P : FVec Ideal S4608x3464 .f32) (b b' : Vec Ideal S1x1 .f32) (p : Fin 4608) (q : Fin 1024) :
    k0_pay21 (F := Ideal) P b b' (ix2 p q) = prodRows P p ⟨896 + q.val, by have := q.isLt; omega⟩ * one b * one b' := by
  unfold prodRows
  pointwise [k0_pay21]

/-- the three parts of the convolution's input, -/
theorem x_apply (P : FVec Ideal S4608x3464 .f32) (b b' : Vec Ideal S1x1 .f32) (p : Fin 4608) (q : Fin 1024) :
    k0_pay22 (F := Ideal) P b b' (ix2 p q) = prodRows P p ⟨1920 + q.val, by have := q.isLt; omega⟩ * one b * one b' := by
  unfold prodRows
  pointwise [k0_pay22]
theorem x_apply2 (P : FVec Ideal S4608x3464 .f32) (b b' : Vec Ideal S1x1 .f32) (p : Fin 4608) (q : Fin 256) :
    k0_pay23 (F := Ideal) P b b' (ix2 p q) = prodRows P p ⟨2944 + q.val, by have := q.isLt; omega⟩ * one b * one b' := by
  unfold prodRows
  pointwise [k0_pay23]
theorem x_apply3 (P : FVec Ideal S4608x3464 .f32) (b b' : Vec Ideal S1x1 .f32) (p : Fin 4608) (q : Fin 256) :
    k0_pay24 (F := Ideal) P b b' (ix2 p q) = prodRows P p ⟨3200 + q.val, by have := q.isLt; omega⟩ * one b * one b' := by
  unfold prodRows
  pointwise [k0_pay24]

/-- and the step sizes. -/
theorem d_apply (P : FVec Ideal S4608x3464 .f32) (b b' : Vec Ideal S1x1 .f32) (p : Fin 4608) (q : Fin 8) :
    k0_pay1 (F := Ideal) (k0_pay25 P) (k0_pay26 b) b' (ix2 p q) = prodRows P p ⟨3456 + q.val, by have := q.isLt; omega⟩ * one b * one b' := by
  unfold prodRows
  pointwise [k0_pay1, k0_pay25, k0_pay26]
theorem d_zero (j : S4608x120.Idx) : k0_pay2 (F := Ideal) j = (0 : EReal) := by
  pointwise [k0_pay2]

end Cert.InProjRefIdeal.Res

end
-- ==== Proof.InProjRefPieces.lean ====
/-
  What the one point of the input projection's reference leaves in its eight result arrays, over the reals, as the plain formulas
  of `Cert.Proof.InProjSpec` of the blocks it reads.
-/
module

public import proofs.«01_k».proof.Proof.Gen.InProjRefIdeal.Frame.RunA
public import proofs.«01_k».proof.Proof.InProjRefParts
public import Idealize.ShloMosaic.Lib.WritesUnit
public import Idealize.ShloMosaic.Lib.Pointwise

@[expose] public section

noncomputable section

namespace Cert.InProjRefIdeal.Res

open Cert.InProjRefIdeal Cert.InProjRefIdeal.Gen Cert.Proof.GateUpSpec Cert.Proof.OutProjSpec Cert.Proof.InProjSpec
open Idealize.ShloMosaic Idealize.ShloMosaic.TcCoe Idealize.ShloMosaic.Tactic
open Idealize.SL Idealize.SL.Sem

/-- One multiplier out of the row of twelve. -/
theorem ld_mul (x : Vec Ideal S1x12 .f32) (k : ℕ) (hk : k < 12) (h : ∀ a, (![0, k] : Fin 2 → Nat) a + S1x1.size a ≤ S1x12.size a) :
    one (View.ld x (Rect.unit (s := S1x12) ![0, k] S1x1.size h)) = x (ix2 0 ⟨k, hk⟩) := by
  refine congrArg x (funext fun a => Fin.ext ?_)
  match a with
  | ⟨0, _⟩ => rfl
  | ⟨1, _⟩ => show k + 1 * 0 = k; omega

/-- The multipliers and the one element of a scale, out of their rows. -/
def muls (x : Vec Ideal S1x12 .f32) : Fin 12 → EReal := fun k => x (ix2 0 k)

set_option maxHeartbeats 2000000 in
/-- The codes of the norm's rows, -/
theorem out_a9 (c : Dev nD) (a0 : Memref sig .tc .vmem S4608x5120 .bf16) (h0 : a0.IsWhole) (a1 : Memref sig .tc .vmem S1x5120 .f32) (h1 : a1.IsWhole) (a2 : Memref sig .tc .vmem S5120x3464 .fp8e4m3) (h2 : a2.IsWhole) (a3 : Memref sig .tc .vmem S1x3464 .f32) (h3 : a3.IsWhole) (a4 : Memref sig .tc .vmem S4608x64 .f32) (h4 : a4.IsWhole) (a5 : Memref sig .tc .vmem S4608x64 .f32) (h5 : a5.IsWhole) (a6 : Memref sig .tc .vmem S1x12 .f32) (h6 : a6.IsWhole) (a7 : Memref sig .tc .vmem S1x1 .f32) (h7 : a7.IsWhole) (a8 : Memref sig .tc .vmem S1x1 .f32) (h8 : a8.IsWhole) (a9 : Memref sig .tc .vmem S4608x5120 .fp8e4m3) (h9 : a9.IsWhole) (a10 : Memref sig .tc .vmem S18x2x128 .f32) (h10 : a10.IsWhole) (a11 : Memref sig .tc .vmem S5x4608x128 .bf16) (h11 : a11.IsWhole) (a12 : Memref sig .tc .vmem S4608x128 .fp8e4m3) (h12 : a12.IsWhole) (a13 : Memref sig .tc .vmem S4608x128 .fp8e4m3) (h13 : a13.IsWhole) (a14 : Memref sig .tc .vmem S4608x1024 .f32) (h14 : a14.IsWhole) (a15 : Memref sig .tc .vmem S4608x1536 .f32) (h15 : a15.IsWhole) (a16 : Memref sig .tc .vmem S4608x128 .f32) (h16 : a16.IsWhole)
    (x0 : Vec Ideal S4608x5120 .bf16) (x1 : Vec Ideal S1x5120 .f32) (x2 : Vec Ideal S5120x3464 .fp8e4m3) (x3 : Vec Ideal S1x3464 .f32) (x4 : Vec Ideal S4608x64 .f32) (x5 : Vec Ideal S4608x64 .f32) (x6 : Vec Ideal S1x12 .f32) (x7 : Vec Ideal S1x1 .f32) (x8 : Vec Ideal S1x1 .f32) (v : View sig .tc .vmem S4608x5120 .fp8e4m3) (f : v.ty.Contents (Elt Ideal)) :
    v.read (Elt Ideal) (v.writes (Elt Ideal) f (kernelRun0_A (F := Ideal) c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8).1)
      = fun y => rowCode (rowOf x0 (y 0)) (wts x1) (y 1) := by
  unfold kernelRun0_A
  dsimp only
  sl_unfold_words
  simp only [View.readAt_eq_ld, h0.read_unread, h1.read_unread, h2.read_unread, h3.read_unread, h4.read_unread, h5.read_unread, h6.read_unread, h7.read_unread, h8.read_unread, View.ld_unit_zero (S := S4608x5120) hz, View.ld_unit_zero (S := S1x5120) hz, View.ld_unit_zero (S := S5120x3464) hz, View.ld_unit_zero (S := S1x3464) hz, View.ld_unit_zero (S := S4608x64) hz]
  funext y
  refine (View.read_writes_cons_unit_of_mem v f _ _ [] y y rfl fun a => ?_).trans ?_
  · match a with
    | ⟨0, _⟩ => show (y 0).val = 0 + (y 0).val; omega
    | ⟨1, _⟩ => show (y 1).val = 0 + (y 1).val; omega
  · exact (congrArg (k0_pay5 (F := Ideal) x0 x1) (eta2 y)).trans (codes_apply x0 x1 (y 0) (y 1))

set_option maxHeartbeats 2000000 in
/-- their scales, -/
theorem out_a10 (c : Dev nD) (a0 : Memref sig .tc .vmem S4608x5120 .bf16) (h0 : a0.IsWhole) (a1 : Memref sig .tc .vmem S1x5120 .f32) (h1 : a1.IsWhole) (a2 : Memref sig .tc .vmem S5120x3464 .fp8e4m3) (h2 : a2.IsWhole) (a3 : Memref sig .tc .vmem S1x3464 .f32) (h3 : a3.IsWhole) (a4 : Memref sig .tc .vmem S4608x64 .f32) (h4 : a4.IsWhole) (a5 : Memref sig .tc .vmem S4608x64 .f32) (h5 : a5.IsWhole) (a6 : Memref sig .tc .vmem S1x12 .f32) (h6 : a6.IsWhole) (a7 : Memref sig .tc .vmem S1x1 .f32) (h7 : a7.IsWhole) (a8 : Memref sig .tc .vmem S1x1 .f32) (h8 : a8.IsWhole) (a9 : Memref sig .tc .vmem S4608x5120 .fp8e4m3) (h9 : a9.IsWhole) (a10 : Memref sig .tc .vmem S18x2x128 .f32) (h10 : a10.IsWhole) (a11 : Memref sig .tc .vmem S5x4608x128 .bf16) (h11 : a11.IsWhole) (a12 : Memref sig .tc .vmem S4608x128 .fp8e4m3) (h12 : a12.IsWhole) (a13 : Memref sig .tc .vmem S4608x128 .fp8e4m3) (h13 : a13.IsWhole) (a14 : Memref sig .tc .vmem S4608x1024 .f32) (h14 : a14.IsWhole) (a15 : Memref sig .tc .vmem S4608x1536 .f32) (h15 : a15.IsWhole) (a16 : Memref sig .tc .vmem S4608x128 .f32) (h16 : a16.IsWhole)
    (x0 : Vec Ideal S4608x5120 .bf16) (x1 : Vec Ideal S1x5120 .f32) (x2 : Vec Ideal S5120x3464 .fp8e4m3) (x3 : Vec Ideal S1x3464 .f32) (x4 : Vec Ideal S4608x64 .f32) (x5 : Vec Ideal S4608x64 .f32) (x6 : Vec Ideal S1x12 .f32) (x7 : Vec Ideal S1x1 .f32) (x8 : Vec Ideal S1x1 .f32) (v : View sig .tc .vmem S18x2x128 .f32) (f : v.ty.Contents (Elt Ideal)) :
    v.read (Elt Ideal) (v.writes (Elt Ideal) f (kernelRun0_A (F := Ideal) c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8).2.1)
      = fun y => k0_pay6 (F := Ideal) x0 x1 y := by
  unfold kernelRun0_A
  dsimp only
  sl_unfold_words
  simp only [View.readAt_eq_ld, h0.read_unread, h1.read_unread, h2.read_unread, h3.read_unread, h4.read_unread, h5.read_unread, h6.read_unread, h7.read_unread, h8.read_unread, View.ld_unit_zero (S := S4608x5120) hz, View.ld_unit_zero (S := S1x5120) hz, View.ld_unit_zero (S := S5120x3464) hz, View.ld_unit_zero (S := S1x3464) hz, View.ld_unit_zero (S := S4608x64) hz]
  funext y
  refine (View.read_writes_cons_unit_of_mem v f _ _ [] y y rfl fun a => ?_).trans ?_
  · match a with
    | ⟨0, _⟩ => show (y 0).val = 0 + (y 0).val; omega
    | ⟨1, _⟩ => show (y 1).val = 0 + (y 1).val; omega
    | ⟨2, _⟩ => show (y 2).val = 0 + (y 2).val; omega
  · rfl

set_option maxHeartbeats 2000000 in
/-- the queries, -/
theorem out_a11 (c : Dev nD) (a0 : Memref sig .tc .vmem S4608x5120 .bf16) (h0 : a0.IsWhole) (a1 : Memref sig .tc .vmem S1x5120 .f32) (h1 : a1.IsWhole) (a2 : Memref sig .tc .vmem S5120x3464 .fp8e4m3) (h2 : a2.IsWhole) (a3 : Memref sig .tc .vmem S1x3464 .f32) (h3 : a3.IsWhole) (a4 : Memref sig .tc .vmem S4608x64 .f32) (h4 : a4.IsWhole) (a5 : Memref sig .tc .vmem S4608x64 .f32) (h5 : a5.IsWhole) (a6 : Memref sig .tc .vmem S1x12 .f32) (h6 : a6.IsWhole) (a7 : Memref sig .tc .vmem S1x1 .f32) (h7 : a7.IsWhole) (a8 : Memref sig .tc .vmem S1x1 .f32) (h8 : a8.IsWhole) (a9 : Memref sig .tc .vmem S4608x5120 .fp8e4m3) (h9 : a9.IsWhole) (a10 : Memref sig .tc .vmem S18x2x128 .f32) (h10 : a10.IsWhole) (a11 : Memref sig .tc .vmem S5x4608x128 .bf16) (h11 : a11.IsWhole) (a12 : Memref sig .tc .vmem S4608x128 .fp8e4m3) (h12 : a12.IsWhole) (a13 : Memref sig .tc .vmem S4608x128 .fp8e4m3) (h13 : a13.IsWhole) (a14 : Memref sig .tc .vmem S4608x1024 .f32) (h14 : a14.IsWhole) (a15 : Memref sig .tc .vmem S4608x1536 .f32) (h15 : a15.IsWhole) (a16 : Memref sig .tc .vmem S4608x128 .f32) (h16 : a16.IsWhole)
    (x0 : Vec Ideal S4608x5120 .bf16) (x1 : Vec Ideal S1x5120 .f32) (x2 : Vec Ideal S5120x3464 .fp8e4m3) (x3 : Vec Ideal S1x3464 .f32) (x4 : Vec Ideal S4608x64 .f32) (x5 : Vec Ideal S4608x64 .f32) (x6 : Vec Ideal S1x12 .f32) (x7 : Vec Ideal S1x1 .f32) (x8 : Vec Ideal S1x1 .f32) (v : View sig .tc .vmem S5x4608x128 .bf16) (f : v.ty.Contents (Elt Ideal)) :
    v.read (Elt Ideal) (v.writes (Elt Ideal) f (kernelRun0_A (F := Ideal) c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8).2.2.1)
      = queries (prodRows (whole x0 x1 x2 x3)) (muls x6) (row64 x4) (row64 x5) := by
  unfold kernelRun0_A
  dsimp only
  sl_unfold_words
  simp only [View.readAt_eq_ld, h0.read_unread, h1.read_unread, h2.read_unread, h3.read_unread, h4.read_unread, h5.read_unread, h6.read_unread, h7.read_unread, h8.read_unread, View.ld_unit_zero (S := S4608x5120) hz, View.ld_unit_zero (S := S1x5120) hz, View.ld_unit_zero (S := S5120x3464) hz, View.ld_unit_zero (S := S1x3464) hz, View.ld_unit_zero (S := S4608x64) hz]
  funext y
  refine View.read_writes_apply_of_pieces v f (queries (prodRows (whole x0 x1 x2 x3)) (muls x6) (row64 x4) (row64 x5)) _ ?_ y ?_
  · simp only [List.forall_mem_cons]
    exact ⟨fun x => q_piece (whole x0 x1 x2 x3) x4 x5 (muls x6) _ (ld_mul x6 0 (by decide) _) 4 (by decide) slices_S4608x3464_o0_512_S4608x128 x,
      fun x => q_piece (whole x0 x1 x2 x3) x4 x5 (muls x6) _ (ld_mul x6 0 (by decide) _) 3 (by decide) slices_S4608x3464_o0_384_S4608x128 x,
      fun x => q_piece (whole x0 x1 x2 x3) x4 x5 (muls x6) _ (ld_mul x6 0 (by decide) _) 2 (by decide) slices_S4608x3464_o0_256_S4608x128 x,
      fun x => q_piece (whole x0 x1 x2 x3) x4 x5 (muls x6) _ (ld_mul x6 0 (by decide) _) 1 (by decide) slices_S4608x3464_o0_128_S4608x128 x,
      fun x => q_piece (whole x0 x1 x2 x3) x4 x5 (muls x6) _ (ld_mul x6 0 (by decide) _) 0 (by decide) slices_S4608x3464_o0_0_S4608x128 x,
      fun _ h => absurd h List.not_mem_nil⟩
  · exact View.cover_of_tiledL (s := S5x4608x128) _ S1x4608x128.size (by sl_kernel_rfl) y

set_option maxHeartbeats 2000000 in
/-- the codes of the keys, -/
theorem out_a12 (c : Dev nD) (a0 : Memref sig .tc .vmem S4608x5120 .bf16) (h0 : a0.IsWhole) (a1 : Memref sig .tc .vmem S1x5120 .f32) (h1 : a1.IsWhole) (a2 : Memref sig .tc .vmem S5120x3464 .fp8e4m3) (h2 : a2.IsWhole) (a3 : Memref sig .tc .vmem S1x3464 .f32) (h3 : a3.IsWhole) (a4 : Memref sig .tc .vmem S4608x64 .f32) (h4 : a4.IsWhole) (a5 : Memref sig .tc .vmem S4608x64 .f32) (h5 : a5.IsWhole) (a6 : Memref sig .tc .vmem S1x12 .f32) (h6 : a6.IsWhole) (a7 : Memref sig .tc .vmem S1x1 .f32) (h7 : a7.IsWhole) (a8 : Memref sig .tc .vmem S1x1 .f32) (h8 : a8.IsWhole) (a9 : Memref sig .tc .vmem S4608x5120 .fp8e4m3) (h9 : a9.IsWhole) (a10 : Memref sig .tc .vmem S18x2x128 .f32) (h10 : a10.IsWhole) (a11 : Memref sig .tc .vmem S5x4608x128 .bf16) (h11 : a11.IsWhole) (a12 : Memref sig .tc .vmem S4608x128 .fp8e4m3) (h12 : a12.IsWhole) (a13 : Memref sig .tc .vmem S4608x128 .fp8e4m3) (h13 : a13.IsWhole) (a14 : Memref sig .tc .vmem S4608x1024 .f32) (h14 : a14.IsWhole) (a15 : Memref sig .tc .vmem S4608x1536 .f32) (h15 : a15.IsWhole) (a16 : Memref sig .tc .vmem S4608x128 .f32) (h16 : a16.IsWhole)
    (x0 : Vec Ideal S4608x5120 .bf16) (x1 : Vec Ideal S1x5120 .f32) (x2 : Vec Ideal S5120x3464 .fp8e4m3) (x3 : Vec Ideal S1x3464 .f32) (x4 : Vec Ideal S4608x64 .f32) (x5 : Vec Ideal S4608x64 .f32) (x6 : Vec Ideal S1x12 .f32) (x7 : Vec Ideal S1x1 .f32) (x8 : Vec Ideal S1x1 .f32) (v : View sig .tc .vmem S4608x128 .fp8e4m3) (f : v.ty.Contents (Elt Ideal)) :
    v.read (Elt Ideal) (v.writes (Elt Ideal) f (kernelRun0_A (F := Ideal) c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8).2.2.2.1)
      = keys (prodRows (whole x0 x1 x2 x3)) (muls x6) (row64 x4) (row64 x5) (one x7) := by
  unfold kernelRun0_A
  dsimp only
  sl_unfold_words
  simp only [View.readAt_eq_ld, h0.read_unread, h1.read_unread, h2.read_unread, h3.read_unread, h4.read_unread, h5.read_unread, h6.read_unread, h7.read_unread, h8.read_unread, View.ld_unit_zero (S := S4608x5120) hz, View.ld_unit_zero (S := S1x5120) hz, View.ld_unit_zero (S := S5120x3464) hz, View.ld_unit_zero (S := S1x3464) hz, View.ld_unit_zero (S := S4608x64) hz, View.ld_unit_zero (S := S1x1) hz]
  funext y
  refine (View.read_writes_cons_unit_of_mem v f _ _ [] y y rfl fun a => ?_).trans ?_
  · match a with
    | ⟨0, _⟩ => show (y 0).val = 0 + (y 0).val; omega
    | ⟨1, _⟩ => show (y 1).val = 0 + (y 1).val; omega
  · exact k_apply (whole x0 x1 x2 x3) x4 x5 (muls x6) _ _ x7 (ld_mul x6 0 (by decide) _) (ld_mul x6 1 (by decide) _) y

set_option maxHeartbeats 2000000 in
/-- those of the values, -/
theorem out_a13 (c : Dev nD) (a0 : Memref sig .tc .vmem S4608x5120 .bf16) (h0 : a0.IsWhole) (a1 : Memref sig .tc .vmem S1x5120 .f32) (h1 : a1.IsWhole) (a2 : Memref sig .tc .vmem S5120x3464 .fp8e4m3) (h2 : a2.IsWhole) (a3 : Memref sig .tc .vmem S1x3464 .f32) (h3 : a3.IsWhole) (a4 : Memref sig .tc .vmem S4608x64 .f32) (h4 : a4.IsWhole) (a5 : Memref sig .tc .vmem S4608x64 .f32) (h5 : a5.IsWhole) (a6 : Memref sig .tc .vmem S1x12 .f32) (h6 : a6.IsWhole) (a7 : Memref sig .tc .vmem S1x1 .f32) (h7 : a7.IsWhole) (a8 : Memref sig .tc .vmem S1x1 .f32) (h8 : a8.IsWhole) (a9 : Memref sig .tc .vmem S4608x5120 .fp8e4m3) (h9 : a9.IsWhole) (a10 : Memref sig .tc .vmem S18x2x128 .f32) (h10 : a10.IsWhole) (a11 : Memref sig .tc .vmem S5x4608x128 .bf16) (h11 : a11.IsWhole) (a12 : Memref sig .tc .vmem S4608x128 .fp8e4m3) (h12 : a12.IsWhole) (a13 : Memref sig .tc .vmem S4608x128 .fp8e4m3) (h13 : a13.IsWhole) (a14 : Memref sig .tc .vmem S4608x1024 .f32) (h14 : a14.IsWhole) (a15 : Memref sig .tc .vmem S4608x1536 .f32) (h15 : a15.IsWhole) (a16 : Memref sig .tc .vmem S4608x128 .f32) (h16 : a16.IsWhole)
    (x0 : Vec Ideal S4608x5120 .bf16) (x1 : Vec Ideal S1x5120 .f32) (x2 : Vec Ideal S5120x3464 .fp8e4m3) (x3 : Vec Ideal S1x3464 .f32) (x4 : Vec Ideal S4608x64 .f32) (x5 : Vec Ideal S4608x64 .f32) (x6 : Vec Ideal S1x12 .f32) (x7 : Vec Ideal S1x1 .f32) (x8 : Vec Ideal S1x1 .f32) (v : View sig .tc .vmem S4608x128 .fp8e4m3) (f : v.ty.Contents (Elt Ideal)) :
    v.read (Elt Ideal) (v.writes (Elt Ideal) f (kernelRun0_A (F := Ideal) c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8).2.2.2.2.1)
      = values (prodRows (whole x0 x1 x2 x3)) (muls x6) (one x8) := by
  unfold kernelRun0_A
  dsimp only
  sl_unfold_words
  simp only [View.readAt_eq_ld, h0.read_unread, h1.read_unread, h2.read_unread, h3.read_unread, h4.read_unread, h5.read_unread, h6.read_unread, h7.read_unread, h8.read_unread, View.ld_unit_zero (S := S4608x5120) hz, View.ld_unit_zero (S := S1x5120) hz, View.ld_unit_zero (S := S5120x3464) hz, View.ld_unit_zero (S := S1x3464) hz, View.ld_unit_zero (S := S4608x64) hz, View.ld_unit_zero (S := S1x1) hz]
  funext y
  refine (View.read_writes_cons_unit_of_mem v f _ _ [] y y rfl fun a => ?_).trans ?_
  · match a with
    | ⟨0, _⟩ => show (y 0).val = 0 + (y 0).val; omega
    | ⟨1, _⟩ => show (y 1).val = 0 + (y 1).val; omega
  · exact v_apply (whole x0 x1 x2 x3) (muls x6) _ x8 (ld_mul x6 0 (by decide) _) y

set_option maxHeartbeats 2000000 in
/-- the gate, -/
theorem out_a14 (c : Dev nD) (a0 : Memref sig .tc .vmem S4608x5120 .bf16) (h0 : a0.IsWhole) (a1 : Memref sig .tc .vmem S1x5120 .f32) (h1 : a1.IsWhole) (a2 : Memref sig .tc .vmem S5120x3464 .fp8e4m3) (h2 : a2.IsWhole) (a3 : Memref sig .tc .vmem S1x3464 .f32) (h3 : a3.IsWhole) (a4 : Memref sig .tc .vmem S4608x64 .f32) (h4 : a4.IsWhole) (a5 : Memref sig .tc .vmem S4608x64 .f32) (h5 : a5.IsWhole) (a6 : Memref sig .tc .vmem S1x12 .f32) (h6 : a6.IsWhole) (a7 : Memref sig .tc .vmem S1x1 .f32) (h7 : a7.IsWhole) (a8 : Memref sig .tc .vmem S1x1 .f32) (h8 : a8.IsWhole) (a9 : Memref sig .tc .vmem S4608x5120 .fp8e4m3) (h9 : a9.IsWhole) (a10 : Memref sig .tc .vmem S18x2x128 .f32) (h10 : a10.IsWhole) (a11 : Memref sig .tc .vmem S5x4608x128 .bf16) (h11 : a11.IsWhole) (a12 : Memref sig .tc .vmem S4608x128 .fp8e4m3) (h12 : a12.IsWhole) (a13 : Memref sig .tc .vmem S4608x128 .fp8e4m3) (h13 : a13.IsWhole) (a14 : Memref sig .tc .vmem S4608x1024 .f32) (h14 : a14.IsWhole) (a15 : Memref sig .tc .vmem S4608x1536 .f32) (h15 : a15.IsWhole) (a16 : Memref sig .tc .vmem S4608x128 .f32) (h16 : a16.IsWhole)
    (x0 : Vec Ideal S4608x5120 .bf16) (x1 : Vec Ideal S1x5120 .f32) (x2 : Vec Ideal S5120x3464 .fp8e4m3) (x3 : Vec Ideal S1x3464 .f32) (x4 : Vec Ideal S4608x64 .f32) (x5 : Vec Ideal S4608x64 .f32) (x6 : Vec Ideal S1x12 .f32) (x7 : Vec Ideal S1x1 .f32) (x8 : Vec Ideal S1x1 .f32) (v : View sig .tc .vmem S4608x1024 .f32) (f : v.ty.Contents (Elt Ideal)) :
    v.read (Elt Ideal) (v.writes (Elt Ideal) f (kernelRun0_A (F := Ideal) c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8).2.2.2.2.2.1)
      = gates (prodRows (whole x0 x1 x2 x3)) (muls x6) := by
  unfold kernelRun0_A
  dsimp only
  sl_unfold_words
  simp only [View.readAt_eq_ld, h0.read_unread, h1.read_unread, h2.read_unread, h3.read_unread, h4.read_unread, h5.read_unread, h6.read_unread, h7.read_unread, h8.read_unread, View.ld_unit_zero (S := S4608x5120) hz, View.ld_unit_zero (S := S1x5120) hz, View.ld_unit_zero (S := S5120x3464) hz, View.ld_unit_zero (S := S1x3464) hz, View.ld_unit_zero (S := S4608x64) hz]
  funext y
  refine (View.read_writes_cons_unit_of_mem v f _ _ [] y y rfl fun a => ?_).trans ?_
  · match a with
    | ⟨0, _⟩ => show (y 0).val = 0 + (y 0).val; omega
    | ⟨1, _⟩ => show (y 1).val = 0 + (y 1).val; omega
  · refine (congrArg _ (eta2 y)).trans ((z_apply (whole x0 x1 x2 x3) _ _ (y 0) (y 1)).trans ?_)
    rw [ld_mul x6 3 (by decide), ld_mul x6 7 (by decide)]
    rfl

set_option maxHeartbeats 2000000 in
/-- the convolution's input, -/
theorem out_a15 (c : Dev nD) (a0 : Memref sig .tc .vmem S4608x5120 .bf16) (h0 : a0.IsWhole) (a1 : Memref sig .tc .vmem S1x5120 .f32) (h1 : a1.IsWhole) (a2 : Memref sig .tc .vmem S5120x3464 .fp8e4m3) (h2 : a2.IsWhole) (a3 : Memref sig .tc .vmem S1x3464 .f32) (h3 : a3.IsWhole) (a4 : Memref sig .tc .vmem S4608x64 .f32) (h4 : a4.IsWhole) (a5 : Memref sig .tc .vmem S4608x64 .f32) (h5 : a5.IsWhole) (a6 : Memref sig .tc .vmem S1x12 .f32) (h6 : a6.IsWhole) (a7 : Memref sig .tc .vmem S1x1 .f32) (h7 : a7.IsWhole) (a8 : Memref sig .tc .vmem S1x1 .f32) (h8 : a8.IsWhole) (a9 : Memref sig .tc .vmem S4608x5120 .fp8e4m3) (h9 : a9.IsWhole) (a10 : Memref sig .tc .vmem S18x2x128 .f32) (h10 : a10.IsWhole) (a11 : Memref sig .tc .vmem S5x4608x128 .bf16) (h11 : a11.IsWhole) (a12 : Memref sig .tc .vmem S4608x128 .fp8e4m3) (h12 : a12.IsWhole) (a13 : Memref sig .tc .vmem S4608x128 .fp8e4m3) (h13 : a13.IsWhole) (a14 : Memref sig .tc .vmem S4608x1024 .f32) (h14 : a14.IsWhole) (a15 : Memref sig .tc .vmem S4608x1536 .f32) (h15 : a15.IsWhole) (a16 : Memref sig .tc .vmem S4608x128 .f32) (h16 : a16.IsWhole)
    (x0 : Vec Ideal S4608x5120 .bf16) (x1 : Vec Ideal S1x5120 .f32) (x2 : Vec Ideal S5120x3464 .fp8e4m3) (x3 : Vec Ideal S1x3464 .f32) (x4 : Vec Ideal S4608x64 .f32) (x5 : Vec Ideal S4608x64 .f32) (x6 : Vec Ideal S1x12 .f32) (x7 : Vec Ideal S1x1 .f32) (x8 : Vec Ideal S1x1 .f32) (v : View sig .tc .vmem S4608x1536 .f32) (f : v.ty.Contents (Elt Ideal)) :
    v.read (Elt Ideal) (v.writes (Elt Ideal) f (kernelRun0_A (F := Ideal) c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8).2.2.2.2.2.2.1)
      = convs (prodRows (whole x0 x1 x2 x3)) (muls x6) := by
  unfold kernelRun0_A
  dsimp only
  sl_unfold_words
  simp only [View.readAt_eq_ld, h0.read_unread, h1.read_unread, h2.read_unread, h3.read_unread, h4.read_unread, h5.read_unread, h6.read_unread, h7.read_unread, h8.read_unread, View.ld_unit_zero (S := S4608x5120) hz, View.ld_unit_zero (S := S1x5120) hz, View.ld_unit_zero (S := S5120x3464) hz, View.ld_unit_zero (S := S1x3464) hz, View.ld_unit_zero (S := S4608x64) hz]
  funext y
  have hy : (y 1).val < 1536 := (y 1).isLt
  by_cases h : 1280 ≤ (y 1).val
  · obtain ⟨x, hx⟩ : ∃ x : S4608x256.Idx, x = ix2 (y 0) ⟨(y 1).val - 1280, by omega⟩ := ⟨_, rfl⟩
    refine (View.read_writes_cons_unit_of_mem v f _ _ _ y x rfl fun a => ?_).trans ?_
    · rw [hx]
      match a with
      | ⟨0, _⟩ => show (y 0).val = 0 + (y 0).val; omega
      | ⟨1, _⟩ => show (y 1).val = 1280 + ((y 1).val - 1280); omega
    · rw [hx]
      refine (x_apply3 (whole x0 x1 x2 x3) _ _ (y 0) ⟨(y 1).val - 1280, by omega⟩).trans ?_
      rw [ld_mul x6 3 (by decide), ld_mul x6 10 (by decide)]
      have e : (⟨3200 + ((y 1).val - 1280), by omega⟩ : Fin 3464) = ⟨1920 + (y 1).val, by omega⟩ := Fin.ext (by show 3200 + ((y 1).val - 1280) = 1920 + (y 1).val; omega)
      have em : xMul (muls x6) (y 1).val = x6 (ix2 0 ⟨10, by decide⟩) := by
        unfold xMul
        rw [if_neg (by omega), if_neg (by omega)]
        rfl
      unfold convs xOf
      rw [em]
      exact congrArg (fun j => prodRows (whole x0 x1 x2 x3) (y 0) j * x6 (ix2 0 3) * x6 (ix2 0 ⟨10, by decide⟩)) e
  · refine (View.read_writes_cons_unit_of_not_mem v f _ _ _ y rfl 1 (Or.inl ?_)).trans ?_
    · show (y 1).val < 1280
      omega
    · by_cases h2 : 1024 ≤ (y 1).val
      · obtain ⟨x, hx⟩ : ∃ x : S4608x256.Idx, x = ix2 (y 0) ⟨(y 1).val - 1024, by omega⟩ := ⟨_, rfl⟩
        refine (View.read_writes_cons_unit_of_mem v f _ _ _ y x rfl fun a => ?_).trans ?_
        · rw [hx]
          match a with
          | ⟨0, _⟩ => show (y 0).val = 0 + (y 0).val; omega
          | ⟨1, _⟩ => show (y 1).val = 1024 + ((y 1).val - 1024); omega
        · rw [hx]
          refine (x_apply2 (whole x0 x1 x2 x3) _ _ (y 0) ⟨(y 1).val - 1024, by omega⟩).trans ?_
          rw [ld_mul x6 3 (by decide), ld_mul x6 9 (by decide)]
          have e : (⟨2944 + ((y 1).val - 1024), by omega⟩ : Fin 3464) = ⟨1920 + (y 1).val, by omega⟩ := Fin.ext (by show 2944 + ((y 1).val - 1024) = 1920 + (y 1).val; omega)
          have em : xMul (muls x6) (y 1).val = x6 (ix2 0 ⟨9, by decide⟩) := by
            unfold xMul
            rw [if_neg (by omega), if_pos (by omega)]
            rfl
          unfold convs xOf
          rw [em]
          exact congrArg (fun j => prodRows (whole x0 x1 x2 x3) (y 0) j * x6 (ix2 0 3) * x6 (ix2 0 ⟨9, by decide⟩)) e
      · refine (View.read_writes_cons_unit_of_not_mem v f _ _ _ y rfl 1 (Or.inl ?_)).trans ?_
        · show (y 1).val < 1024
          omega
        · obtain ⟨x, hx⟩ : ∃ x : S4608x1024.Idx, x = ix2 (y 0) ⟨(y 1).val - 0, by omega⟩ := ⟨_, rfl⟩
          refine (View.read_writes_cons_unit_of_mem v f _ _ _ y x rfl fun a => ?_).trans ?_
          · rw [hx]
            match a with
            | ⟨0, _⟩ => show (y 0).val = 0 + (y 0).val; omega
            | ⟨1, _⟩ => show (y 1).val = 0 + ((y 1).val - 0); omega
          · rw [hx]
            refine (x_apply (whole x0 x1 x2 x3) _ _ (y 0) ⟨(y 1).val - 0, by omega⟩).trans ?_
            rw [ld_mul x6 3 (by decide), ld_mul x6 8 (by decide)]
            have e : (⟨1920 + ((y 1).val - 0), by omega⟩ : Fin 3464) = ⟨1920 + (y 1).val, by omega⟩ := Fin.ext (by show 1920 + ((y 1).val - 0) = 1920 + (y 1).val; omega)
            have em : xMul (muls x6) (y 1).val = x6 (ix2 0 ⟨8, by decide⟩) := by
              unfold xMul
              rw [if_pos (by omega)]
              rfl
            unfold convs xOf
            rw [em]
            exact congrArg (fun j => prodRows (whole x0 x1 x2 x3) (y 0) j * x6 (ix2 0 3) * x6 (ix2 0 ⟨8, by decide⟩)) e

set_option maxHeartbeats 2000000 in
/-- and the step sizes. -/
theorem out_a16 (c : Dev nD) (a0 : Memref sig .tc .vmem S4608x5120 .bf16) (h0 : a0.IsWhole) (a1 : Memref sig .tc .vmem S1x5120 .f32) (h1 : a1.IsWhole) (a2 : Memref sig .tc .vmem S5120x3464 .fp8e4m3) (h2 : a2.IsWhole) (a3 : Memref sig .tc .vmem S1x3464 .f32) (h3 : a3.IsWhole) (a4 : Memref sig .tc .vmem S4608x64 .f32) (h4 : a4.IsWhole) (a5 : Memref sig .tc .vmem S4608x64 .f32) (h5 : a5.IsWhole) (a6 : Memref sig .tc .vmem S1x12 .f32) (h6 : a6.IsWhole) (a7 : Memref sig .tc .vmem S1x1 .f32) (h7 : a7.IsWhole) (a8 : Memref sig .tc .vmem S1x1 .f32) (h8 : a8.IsWhole) (a9 : Memref sig .tc .vmem S4608x5120 .fp8e4m3) (h9 : a9.IsWhole) (a10 : Memref sig .tc .vmem S18x2x128 .f32) (h10 : a10.IsWhole) (a11 : Memref sig .tc .vmem S5x4608x128 .bf16) (h11 : a11.IsWhole) (a12 : Memref sig .tc .vmem S4608x128 .fp8e4m3) (h12 : a12.IsWhole) (a13 : Memref sig .tc .vmem S4608x128 .fp8e4m3) (h13 : a13.IsWhole) (a14 : Memref sig .tc .vmem S4608x1024 .f32) (h14 : a14.IsWhole) (a15 : Memref sig .tc .vmem S4608x1536 .f32) (h15 : a15.IsWhole) (a16 : Memref sig .tc .vmem S4608x128 .f32) (h16 : a16.IsWhole)
    (x0 : Vec Ideal S4608x5120 .bf16) (x1 : Vec Ideal S1x5120 .f32) (x2 : Vec Ideal S5120x3464 .fp8e4m3) (x3 : Vec Ideal S1x3464 .f32) (x4 : Vec Ideal S4608x64 .f32) (x5 : Vec Ideal S4608x64 .f32) (x6 : Vec Ideal S1x12 .f32) (x7 : Vec Ideal S1x1 .f32) (x8 : Vec Ideal S1x1 .f32) (v : View sig .tc .vmem S4608x128 .f32) (f : v.ty.Contents (Elt Ideal)) :
    v.read (Elt Ideal) (v.writes (Elt Ideal) f (kernelRun0_A (F := Ideal) c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8).2.2.2.2.2.2.2.1)
      = steps (prodRows (whole x0 x1 x2 x3)) (muls x6) := by
  unfold kernelRun0_A
  dsimp only
  sl_unfold_words
  simp only [View.readAt_eq_ld, h0.read_unread, h1.read_unread, h2.read_unread, h3.read_unread, h4.read_unread, h5.read_unread, h6.read_unread, h7.read_unread, h8.read_unread, View.ld_unit_zero (S := S4608x5120) hz, View.ld_unit_zero (S := S1x5120) hz, View.ld_unit_zero (S := S5120x3464) hz, View.ld_unit_zero (S := S1x3464) hz, View.ld_unit_zero (S := S4608x64) hz]
  funext y
  have hy : (y 1).val < 128 := (y 1).isLt
  by_cases h : 8 ≤ (y 1).val
  · obtain ⟨x, hx⟩ : ∃ x : S4608x120.Idx, x = ix2 (y 0) ⟨(y 1).val - 8, by omega⟩ := ⟨_, rfl⟩
    refine (View.read_writes_cons_unit_of_mem v f _ _ _ y x rfl fun a => ?_).trans ?_
    · rw [hx]
      match a with
      | ⟨0, _⟩ => show (y 0).val = 0 + (y 0).val; omega
      | ⟨1, _⟩ => show (y 1).val = 8 + ((y 1).val - 8); omega
    · unfold steps dOf
      rw [dif_neg (by omega)]
      exact d_zero x
  · refine (View.read_writes_cons_unit_of_not_mem v f _ _ _ y rfl 1 (Or.inl ?_)).trans ?_
    · show (y 1).val < 8
      omega
    · obtain ⟨x, hx⟩ : ∃ x : S4608x8.Idx, x = ix2 (y 0) ⟨(y 1).val - 0, by omega⟩ := ⟨_, rfl⟩
      refine (View.read_writes_cons_unit_of_mem v f _ _ _ y x rfl fun a => ?_).trans ?_
      · rw [hx]
        match a with
        | ⟨0, _⟩ => show (y 0).val = 0 + (y 0).val; omega
        | ⟨1, _⟩ => show (y 1).val = 0 + ((y 1).val - 0); omega
      · rw [hx]
        refine (d_apply (whole x0 x1 x2 x3) _ _ (y 0) ⟨(y 1).val - 0, by omega⟩).trans ?_
        rw [ld_mul x6 3 (by decide), ld_mul x6 11 (by decide)]
        have e : (⟨3456 + ((y 1).val - 0), by omega⟩ : Fin 3464) = ⟨3456 + (y 1).val, by omega⟩ := rfl
        unfold steps dOf
        rw [dif_pos (by omega)]
        rfl

end Cert.InProjRefIdeal.Res

end
-- ==== Proof.InProjReference.lean ====
/-
  The reference of the input projection over the reals: what its result arrays end holding, as the plain formulas of
  `Cert.Proof.InProjSpec` of its arguments.
-/
module

public import proofs.«01_k».proof.Proof.Gen.InProjRefIdeal.Value
public import proofs.«01_k».proof.Proof.InProjRefPieces
public import Idealize.ShloMosaic.Lib.WritesUnit
public import Idealize.ShloMosaic.Lib.Pointwise

@[expose] public section

noncomputable section

namespace Cert.InProjRefIdeal.Res

open Cert.InProjRefIdeal Cert.InProjRefIdeal.Gen Cert.Proof.GateUpSpec Cert.Proof.OutProjSpec Cert.Proof.InProjSpec
open Idealize.ShloMosaic Idealize.ShloMosaic.TcCoe Idealize.ShloMosaic.Tactic
open Idealize.SL Idealize.SL.Sem

/-! ## What its point leaves, by the name of the window -/

theorem out_A9 (c : Dev nD) (a0 : Memref sig .tc .vmem S4608x5120 .bf16) (h0 : a0.IsWhole) (a1 : Memref sig .tc .vmem S1x5120 .f32) (h1 : a1.IsWhole) (a2 : Memref sig .tc .vmem S5120x3464 .fp8e4m3) (h2 : a2.IsWhole) (a3 : Memref sig .tc .vmem S1x3464 .f32) (h3 : a3.IsWhole) (a4 : Memref sig .tc .vmem S4608x64 .f32) (h4 : a4.IsWhole) (a5 : Memref sig .tc .vmem S4608x64 .f32) (h5 : a5.IsWhole) (a6 : Memref sig .tc .vmem S1x12 .f32) (h6 : a6.IsWhole) (a7 : Memref sig .tc .vmem S1x1 .f32) (h7 : a7.IsWhole) (a8 : Memref sig .tc .vmem S1x1 .f32) (h8 : a8.IsWhole) (a9 : Memref sig .tc .vmem S4608x5120 .fp8e4m3) (h9 : a9.IsWhole) (a10 : Memref sig .tc .vmem S18x2x128 .f32) (h10 : a10.IsWhole) (a11 : Memref sig .tc .vmem S5x4608x128 .bf16) (h11 : a11.IsWhole) (a12 : Memref sig .tc .vmem S4608x128 .fp8e4m3) (h12 : a12.IsWhole) (a13 : Memref sig .tc .vmem S4608x128 .fp8e4m3) (h13 : a13.IsWhole) (a14 : Memref sig .tc .vmem S4608x1024 .f32) (h14 : a14.IsWhole) (a15 : Memref sig .tc .vmem S4608x1536 .f32) (h15 : a15.IsWhole) (a16 : Memref sig .tc .vmem S4608x128 .f32) (h16 : a16.IsWhole)
    (x0 : Vec Ideal S4608x5120 .bf16) (x1 : Vec Ideal S1x5120 .f32) (x2 : Vec Ideal S5120x3464 .fp8e4m3) (x3 : Vec Ideal S1x3464 .f32) (x4 : Vec Ideal S4608x64 .f32) (x5 : Vec Ideal S4608x64 .f32) (x6 : Vec Ideal S1x12 .f32) (x7 : Vec Ideal S1x1 .f32) (x8 : Vec Ideal S1x1 .f32) :
    out0_A_9 (F := Ideal) c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 = fun y => rowCode (rowOf x0 (y 0)) (wts x1) (y 1) := by
  unfold out0_A_9
  exact out_a9 c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 VO0_9 VO0_9.junk

theorem out_A10 (c : Dev nD) (a0 : Memref sig .tc .vmem S4608x5120 .bf16) (h0 : a0.IsWhole) (a1 : Memref sig .tc .vmem S1x5120 .f32) (h1 : a1.IsWhole) (a2 : Memref sig .tc .vmem S5120x3464 .fp8e4m3) (h2 : a2.IsWhole) (a3 : Memref sig .tc .vmem S1x3464 .f32) (h3 : a3.IsWhole) (a4 : Memref sig .tc .vmem S4608x64 .f32) (h4 : a4.IsWhole) (a5 : Memref sig .tc .vmem S4608x64 .f32) (h5 : a5.IsWhole) (a6 : Memref sig .tc .vmem S1x12 .f32) (h6 : a6.IsWhole) (a7 : Memref sig .tc .vmem S1x1 .f32) (h7 : a7.IsWhole) (a8 : Memref sig .tc .vmem S1x1 .f32) (h8 : a8.IsWhole) (a9 : Memref sig .tc .vmem S4608x5120 .fp8e4m3) (h9 : a9.IsWhole) (a10 : Memref sig .tc .vmem S18x2x128 .f32) (h10 : a10.IsWhole) (a11 : Memref sig .tc .vmem S5x4608x128 .bf16) (h11 : a11.IsWhole) (a12 : Memref sig .tc .vmem S4608x128 .fp8e4m3) (h12 : a12.IsWhole) (a13 : Memref sig .tc .vmem S4608x128 .fp8e4m3) (h13 : a13.IsWhole) (a14 : Memref sig .tc .vmem S4608x1024 .f32) (h14 : a14.IsWhole) (a15 : Memref sig .tc .vmem S4608x1536 .f32) (h15 : a15.IsWhole) (a16 : Memref sig .tc .vmem S4608x128 .f32) (h16 : a16.IsWhole)
    (x0 : Vec Ideal S4608x5120 .bf16) (x1 : Vec Ideal S1x5120 .f32) (x2 : Vec Ideal S5120x3464 .fp8e4m3) (x3 : Vec Ideal S1x3464 .f32) (x4 : Vec Ideal S4608x64 .f32) (x5 : Vec Ideal S4608x64 .f32) (x6 : Vec Ideal S1x12 .f32) (x7 : Vec Ideal S1x1 .f32) (x8 : Vec Ideal S1x1 .f32) :
    out0_A_10 (F := Ideal) c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 = fun y => k0_pay6 (F := Ideal) x0 x1 y := by
  unfold out0_A_10
  exact out_a10 c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 VO0_10 VO0_10.junk

theorem out_A11 (c : Dev nD) (a0 : Memref sig .tc .vmem S4608x5120 .bf16) (h0 : a0.IsWhole) (a1 : Memref sig .tc .vmem S1x5120 .f32) (h1 : a1.IsWhole) (a2 : Memref sig .tc .vmem S5120x3464 .fp8e4m3) (h2 : a2.IsWhole) (a3 : Memref sig .tc .vmem S1x3464 .f32) (h3 : a3.IsWhole) (a4 : Memref sig .tc .vmem S4608x64 .f32) (h4 : a4.IsWhole) (a5 : Memref sig .tc .vmem S4608x64 .f32) (h5 : a5.IsWhole) (a6 : Memref sig .tc .vmem S1x12 .f32) (h6 : a6.IsWhole) (a7 : Memref sig .tc .vmem S1x1 .f32) (h7 : a7.IsWhole) (a8 : Memref sig .tc .vmem S1x1 .f32) (h8 : a8.IsWhole) (a9 : Memref sig .tc .vmem S4608x5120 .fp8e4m3) (h9 : a9.IsWhole) (a10 : Memref sig .tc .vmem S18x2x128 .f32) (h10 : a10.IsWhole) (a11 : Memref sig .tc .vmem S5x4608x128 .bf16) (h11 : a11.IsWhole) (a12 : Memref sig .tc .vmem S4608x128 .fp8e4m3) (h12 : a12.IsWhole) (a13 : Memref sig .tc .vmem S4608x128 .fp8e4m3) (h13 : a13.IsWhole) (a14 : Memref sig .tc .vmem S4608x1024 .f32) (h14 : a14.IsWhole) (a15 : Memref sig .tc .vmem S4608x1536 .f32) (h15 : a15.IsWhole) (a16 : Memref sig .tc .vmem S4608x128 .f32) (h16 : a16.IsWhole)
    (x0 : Vec Ideal S4608x5120 .bf16) (x1 : Vec Ideal S1x5120 .f32) (x2 : Vec Ideal S5120x3464 .fp8e4m3) (x3 : Vec Ideal S1x3464 .f32) (x4 : Vec Ideal S4608x64 .f32) (x5 : Vec Ideal S4608x64 .f32) (x6 : Vec Ideal S1x12 .f32) (x7 : Vec Ideal S1x1 .f32) (x8 : Vec Ideal S1x1 .f32) :
    out0_A_11 (F := Ideal) c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 = queries (prodRows (whole x0 x1 x2 x3)) (muls x6) (row64 x4) (row64 x5) := by
  unfold out0_A_11
  exact out_a11 c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 VO0_11 VO0_11.junk

theorem out_A12 (c : Dev nD) (a0 : Memref sig .tc .vmem S4608x5120 .bf16) (h0 : a0.IsWhole) (a1 : Memref sig .tc .vmem S1x5120 .f32) (h1 : a1.IsWhole) (a2 : Memref sig .tc .vmem S5120x3464 .fp8e4m3) (h2 : a2.IsWhole) (a3 : Memref sig .tc .vmem S1x3464 .f32) (h3 : a3.IsWhole) (a4 : Memref sig .tc .vmem S4608x64 .f32) (h4 : a4.IsWhole) (a5 : Memref sig .tc .vmem S4608x64 .f32) (h5 : a5.IsWhole) (a6 : Memref sig .tc .vmem S1x12 .f32) (h6 : a6.IsWhole) (a7 : Memref sig .tc .vmem S1x1 .f32) (h7 : a7.IsWhole) (a8 : Memref sig .tc .vmem S1x1 .f32) (h8 : a8.IsWhole) (a9 : Memref sig .tc .vmem S4608x5120 .fp8e4m3) (h9 : a9.IsWhole) (a10 : Memref sig .tc .vmem S18x2x128 .f32) (h10 : a10.IsWhole) (a11 : Memref sig .tc .vmem S5x4608x128 .bf16) (h11 : a11.IsWhole) (a12 : Memref sig .tc .vmem S4608x128 .fp8e4m3) (h12 : a12.IsWhole) (a13 : Memref sig .tc .vmem S4608x128 .fp8e4m3) (h13 : a13.IsWhole) (a14 : Memref sig .tc .vmem S4608x1024 .f32) (h14 : a14.IsWhole) (a15 : Memref sig .tc .vmem S4608x1536 .f32) (h15 : a15.IsWhole) (a16 : Memref sig .tc .vmem S4608x128 .f32) (h16 : a16.IsWhole)
    (x0 : Vec Ideal S4608x5120 .bf16) (x1 : Vec Ideal S1x5120 .f32) (x2 : Vec Ideal S5120x3464 .fp8e4m3) (x3 : Vec Ideal S1x3464 .f32) (x4 : Vec Ideal S4608x64 .f32) (x5 : Vec Ideal S4608x64 .f32) (x6 : Vec Ideal S1x12 .f32) (x7 : Vec Ideal S1x1 .f32) (x8 : Vec Ideal S1x1 .f32) :
    out0_A_12 (F := Ideal) c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 = keys (prodRows (whole x0 x1 x2 x3)) (muls x6) (row64 x4) (row64 x5) (one x7) := by
  unfold out0_A_12
  exact out_a12 c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 VO0_12 VO0_12.junk

theorem out_A13 (c : Dev nD) (a0 : Memref sig .tc .vmem S4608x5120 .bf16) (h0 : a0.IsWhole) (a1 : Memref sig .tc .vmem S1x5120 .f32) (h1 : a1.IsWhole) (a2 : Memref sig .tc .vmem S5120x3464 .fp8e4m3) (h2 : a2.IsWhole) (a3 : Memref sig .tc .vmem S1x3464 .f32) (h3 : a3.IsWhole) (a4 : Memref sig .tc .vmem S4608x64 .f32) (h4 : a4.IsWhole) (a5 : Memref sig .tc .vmem S4608x64 .f32) (h5 : a5.IsWhole) (a6 : Memref sig .tc .vmem S1x12 .f32) (h6 : a6.IsWhole) (a7 : Memref sig .tc .vmem S1x1 .f32) (h7 : a7.IsWhole) (a8 : Memref sig .tc .vmem S1x1 .f32) (h8 : a8.IsWhole) (a9 : Memref sig .tc .vmem S4608x5120 .fp8e4m3) (h9 : a9.IsWhole) (a10 : Memref sig .tc .vmem S18x2x128 .f32) (h10 : a10.IsWhole) (a11 : Memref sig .tc .vmem S5x4608x128 .bf16) (h11 : a11.IsWhole) (a12 : Memref sig .tc .vmem S4608x128 .fp8e4m3) (h12 : a12.IsWhole) (a13 : Memref sig .tc .vmem S4608x128 .fp8e4m3) (h13 : a13.IsWhole) (a14 : Memref sig .tc .vmem S4608x1024 .f32) (h14 : a14.IsWhole) (a15 : Memref sig .tc .vmem S4608x1536 .f32) (h15 : a15.IsWhole) (a16 : Memref sig .tc .vmem S4608x128 .f32) (h16 : a16.IsWhole)
    (x0 : Vec Ideal S4608x5120 .bf16) (x1 : Vec Ideal S1x5120 .f32) (x2 : Vec Ideal S5120x3464 .fp8e4m3) (x3 : Vec Ideal S1x3464 .f32) (x4 : Vec Ideal S4608x64 .f32) (x5 : Vec Ideal S4608x64 .f32) (x6 : Vec Ideal S1x12 .f32) (x7 : Vec Ideal S1x1 .f32) (x8 : Vec Ideal S1x1 .f32) :
    out0_A_13 (F := Ideal) c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 = values (prodRows (whole x0 x1 x2 x3)) (muls x6) (one x8) := by
  unfold out0_A_13
  exact out_a13 c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 VO0_13 VO0_13.junk

theorem out_A14 (c : Dev nD) (a0 : Memref sig .tc .vmem S4608x5120 .bf16) (h0 : a0.IsWhole) (a1 : Memref sig .tc .vmem S1x5120 .f32) (h1 : a1.IsWhole) (a2 : Memref sig .tc .vmem S5120x3464 .fp8e4m3) (h2 : a2.IsWhole) (a3 : Memref sig .tc .vmem S1x3464 .f32) (h3 : a3.IsWhole) (a4 : Memref sig .tc .vmem S4608x64 .f32) (h4 : a4.IsWhole) (a5 : Memref sig .tc .vmem S4608x64 .f32) (h5 : a5.IsWhole) (a6 : Memref sig .tc .vmem S1x12 .f32) (h6 : a6.IsWhole) (a7 : Memref sig .tc .vmem S1x1 .f32) (h7 : a7.IsWhole) (a8 : Memref sig .tc .vmem S1x1 .f32) (h8 : a8.IsWhole) (a9 : Memref sig .tc .vmem S4608x5120 .fp8e4m3) (h9 : a9.IsWhole) (a10 : Memref sig .tc .vmem S18x2x128 .f32) (h10 : a10.IsWhole) (a11 : Memref sig .tc .vmem S5x4608x128 .bf16) (h11 : a11.IsWhole) (a12 : Memref sig .tc .vmem S4608x128 .fp8e4m3) (h12 : a12.IsWhole) (a13 : Memref sig .tc .vmem S4608x128 .fp8e4m3) (h13 : a13.IsWhole) (a14 : Memref sig .tc .vmem S4608x1024 .f32) (h14 : a14.IsWhole) (a15 : Memref sig .tc .vmem S4608x1536 .f32) (h15 : a15.IsWhole) (a16 : Memref sig .tc .vmem S4608x128 .f32) (h16 : a16.IsWhole)
    (x0 : Vec Ideal S4608x5120 .bf16) (x1 : Vec Ideal S1x5120 .f32) (x2 : Vec Ideal S5120x3464 .fp8e4m3) (x3 : Vec Ideal S1x3464 .f32) (x4 : Vec Ideal S4608x64 .f32) (x5 : Vec Ideal S4608x64 .f32) (x6 : Vec Ideal S1x12 .f32) (x7 : Vec Ideal S1x1 .f32) (x8 : Vec Ideal S1x1 .f32) :
    out0_A_14 (F := Ideal) c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 = gates (prodRows (whole x0 x1 x2 x3)) (muls x6) := by
  unfold out0_A_14
  exact out_a14 c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 VO0_14 VO0_14.junk

theorem out_A15 (c : Dev nD) (a0 : Memref sig .tc .vmem S4608x5120 .bf16) (h0 : a0.IsWhole) (a1 : Memref sig .tc .vmem S1x5120 .f32) (h1 : a1.IsWhole) (a2 : Memref sig .tc .vmem S5120x3464 .fp8e4m3) (h2 : a2.IsWhole) (a3 : Memref sig .tc .vmem S1x3464 .f32) (h3 : a3.IsWhole) (a4 : Memref sig .tc .vmem S4608x64 .f32) (h4 : a4.IsWhole) (a5 : Memref sig .tc .vmem S4608x64 .f32) (h5 : a5.IsWhole) (a6 : Memref sig .tc .vmem S1x12 .f32) (h6 : a6.IsWhole) (a7 : Memref sig .tc .vmem S1x1 .f32) (h7 : a7.IsWhole) (a8 : Memref sig .tc .vmem S1x1 .f32) (h8 : a8.IsWhole) (a9 : Memref sig .tc .vmem S4608x5120 .fp8e4m3) (h9 : a9.IsWhole) (a10 : Memref sig .tc .vmem S18x2x128 .f32) (h10 : a10.IsWhole) (a11 : Memref sig .tc .vmem S5x4608x128 .bf16) (h11 : a11.IsWhole) (a12 : Memref sig .tc .vmem S4608x128 .fp8e4m3) (h12 : a12.IsWhole) (a13 : Memref sig .tc .vmem S4608x128 .fp8e4m3) (h13 : a13.IsWhole) (a14 : Memref sig .tc .vmem S4608x1024 .f32) (h14 : a14.IsWhole) (a15 : Memref sig .tc .vmem S4608x1536 .f32) (h15 : a15.IsWhole) (a16 : Memref sig .tc .vmem S4608x128 .f32) (h16 : a16.IsWhole)
    (x0 : Vec Ideal S4608x5120 .bf16) (x1 : Vec Ideal S1x5120 .f32) (x2 : Vec Ideal S5120x3464 .fp8e4m3) (x3 : Vec Ideal S1x3464 .f32) (x4 : Vec Ideal S4608x64 .f32) (x5 : Vec Ideal S4608x64 .f32) (x6 : Vec Ideal S1x12 .f32) (x7 : Vec Ideal S1x1 .f32) (x8 : Vec Ideal S1x1 .f32) :
    out0_A_15 (F := Ideal) c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 = convs (prodRows (whole x0 x1 x2 x3)) (muls x6) := by
  unfold out0_A_15
  exact out_a15 c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 VO0_15 VO0_15.junk

theorem out_A16 (c : Dev nD) (a0 : Memref sig .tc .vmem S4608x5120 .bf16) (h0 : a0.IsWhole) (a1 : Memref sig .tc .vmem S1x5120 .f32) (h1 : a1.IsWhole) (a2 : Memref sig .tc .vmem S5120x3464 .fp8e4m3) (h2 : a2.IsWhole) (a3 : Memref sig .tc .vmem S1x3464 .f32) (h3 : a3.IsWhole) (a4 : Memref sig .tc .vmem S4608x64 .f32) (h4 : a4.IsWhole) (a5 : Memref sig .tc .vmem S4608x64 .f32) (h5 : a5.IsWhole) (a6 : Memref sig .tc .vmem S1x12 .f32) (h6 : a6.IsWhole) (a7 : Memref sig .tc .vmem S1x1 .f32) (h7 : a7.IsWhole) (a8 : Memref sig .tc .vmem S1x1 .f32) (h8 : a8.IsWhole) (a9 : Memref sig .tc .vmem S4608x5120 .fp8e4m3) (h9 : a9.IsWhole) (a10 : Memref sig .tc .vmem S18x2x128 .f32) (h10 : a10.IsWhole) (a11 : Memref sig .tc .vmem S5x4608x128 .bf16) (h11 : a11.IsWhole) (a12 : Memref sig .tc .vmem S4608x128 .fp8e4m3) (h12 : a12.IsWhole) (a13 : Memref sig .tc .vmem S4608x128 .fp8e4m3) (h13 : a13.IsWhole) (a14 : Memref sig .tc .vmem S4608x1024 .f32) (h14 : a14.IsWhole) (a15 : Memref sig .tc .vmem S4608x1536 .f32) (h15 : a15.IsWhole) (a16 : Memref sig .tc .vmem S4608x128 .f32) (h16 : a16.IsWhole)
    (x0 : Vec Ideal S4608x5120 .bf16) (x1 : Vec Ideal S1x5120 .f32) (x2 : Vec Ideal S5120x3464 .fp8e4m3) (x3 : Vec Ideal S1x3464 .f32) (x4 : Vec Ideal S4608x64 .f32) (x5 : Vec Ideal S4608x64 .f32) (x6 : Vec Ideal S1x12 .f32) (x7 : Vec Ideal S1x1 .f32) (x8 : Vec Ideal S1x1 .f32) :
    out0_A_16 (F := Ideal) c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 = steps (prodRows (whole x0 x1 x2 x3)) (muls x6) := by
  unfold out0_A_16
  exact out_a16 c a0 h0 a1 h1 a2 h2 a3 h3 a4 h4 a5 h5 a6 h6 a7 h7 a8 h8 a9 h9 a10 h10 a11 h11 a12 h12 a13 h13 a14 h14 a15 h15 a16 h16 x0 x1 x2 x3 x4 x5 x6 x7 x8 VO0_16 VO0_16.junk

variable (m : (ℓ : Loc nD τ sig) → Buf (Elt Ideal) ℓ)

/-! ## The blocks it reads -/

/-- Every window of the one point is its whole array. -/
theorem idx_facts : ∀ (t : Fin cfg0.N) (a : Fin 2), win0_0.index t a = 0 ∧ win0_1.index t a = 0 ∧ win0_2.index t a = 0 ∧ win0_3.index t a = 0 ∧ win0_4.index t a = 0 ∧ win0_5.index t a = 0 ∧ win0_6.index t a = 0 ∧ win0_7.index t a = 0 ∧ win0_8.index t a = 0 ∧ win0_9.index t a = 0 ∧ win0_12.index t a = 0 ∧ win0_13.index t a = 0 ∧ win0_14.index t a = 0 ∧ win0_15.index t a = 0 ∧ win0_16.index t a = 0 :=
  (by decide +kernel : ∀ (t : Fin grid0.N) (a : Fin 2), win0_0.index t a = 0 ∧ win0_1.index t a = 0 ∧ win0_2.index t a = 0 ∧ win0_3.index t a = 0 ∧ win0_4.index t a = 0 ∧ win0_5.index t a = 0 ∧ win0_6.index t a = 0 ∧ win0_7.index t a = 0 ∧ win0_8.index t a = 0 ∧ win0_9.index t a = 0 ∧ win0_12.index t a = 0 ∧ win0_13.index t a = 0 ∧ win0_14.index t a = 0 ∧ win0_15.index t a = 0 ∧ win0_16.index t a = 0)
theorem idx_facts3 : ∀ (t : Fin cfg0.N) (a : Fin 3), win0_10.index t a = 0 ∧ win0_11.index t a = 0 :=
  (by decide +kernel : ∀ (t : Fin grid0.N) (a : Fin 3), win0_10.index t a = 0 ∧ win0_11.index t a = 0)

/-- The rows the norm's weights, the column scales and the multipliers are passed as, and the two scales, read at an index. -/
theorem cast_row (x : Vec Ideal S5120 .f32) : wts (shapeCast S1x5120 x shapeCasts_S5120_S1x5120) = fun j => x (ix1 j) := by
  funext j
  unfold wts
  pointwise
theorem cast_cols (x : Vec Ideal S3464 .f32) : colScales (shapeCast S1x3464 x shapeCasts_S3464_S1x3464) = fun j => x (ix1 j) := by
  funext j
  unfold colScales
  pointwise
theorem cast_muls (x : Vec Ideal S12 .f32) : muls (shapeCast S1x12 x shapeCasts_S12_S1x12) = fun j => x (ix1 j) := by
  funext j
  unfold muls
  pointwise
theorem cast_one (x : Vec Ideal S1 .f32) : one (shapeCast S1x1 x shapeCasts_S1_S1x1) = x (ix1 0) := by
  pointwise

theorem blk0 (c : Dev nD) (t : Fin cfg0.N) : iblk m c 0 t = (m (c.tc.loc main_arg0) : Vec Ideal S4608x5120 .bf16) := by
  unfold iblk
  entry_read
  have hz' : (fun a => win0_0.index t a * main_arg0.ty.shape.size a) = fun _ => 0 := funext fun a => by rw [(idx_facts t a).1]; simp
  exact Memref.read_access_unit_zero (Elt Ideal) main_arg0 hz' (fun a => by rw [congrFun hz' a]; simp) _

theorem blk1 (c : Dev nD) (t : Fin cfg0.N) : iblk m c 1 t = shapeCast S1x5120 (m (c.tc.loc main_arg1) : Vec Ideal S5120 .f32) shapeCasts_S5120_S1x5120 := by
  unfold iblk
  entry_read
  have hz' : (fun a => win0_1.index t a * main_v0.ty.shape.size a) = fun _ => 0 := funext fun a => by rw [(idx_facts t a).2.1]; simp
  exact Memref.read_access_unit_zero (Elt Ideal) main_v0 hz' (fun a => by rw [congrFun hz' a]; simp) _

theorem blk2 (c : Dev nD) (t : Fin cfg0.N) : iblk m c 2 t = (m (c.tc.loc main_arg2) : Vec Ideal S5120x3464 .fp8e4m3) := by
  unfold iblk
  entry_read
  have hz' : (fun a => win0_2.index t a * main_arg2.ty.shape.size a) = fun _ => 0 := funext fun a => by rw [(idx_facts t a).2.2.1]; simp
  exact Memref.read_access_unit_zero (Elt Ideal) main_arg2 hz' (fun a => by rw [congrFun hz' a]; simp) _

theorem blk3 (c : Dev nD) (t : Fin cfg0.N) : iblk m c 3 t = shapeCast S1x3464 (m (c.tc.loc main_arg3) : Vec Ideal S3464 .f32) shapeCasts_S3464_S1x3464 := by
  unfold iblk
  entry_read
  have hz' : (fun a => win0_3.index t a * main_v1.ty.shape.size a) = fun _ => 0 := funext fun a => by rw [(idx_facts t a).2.2.2.1]; simp
  exact Memref.read_access_unit_zero (Elt Ideal) main_v1 hz' (fun a => by rw [congrFun hz' a]; simp) _

theorem blk4 (c : Dev nD) (t : Fin cfg0.N) : iblk m c 4 t = (m (c.tc.loc main_arg4) : Vec Ideal S4608x64 .f32) := by
  unfold iblk
  entry_read
  have hz' : (fun a => win0_4.index t a * main_arg4.ty.shape.size a) = fun _ => 0 := funext fun a => by rw [(idx_facts t a).2.2.2.2.1]; simp
  exact Memref.read_access_unit_zero (Elt Ideal) main_arg4 hz' (fun a => by rw [congrFun hz' a]; simp) _

theorem blk5 (c : Dev nD) (t : Fin cfg0.N) : iblk m c 5 t = (m (c.tc.loc main_arg5) : Vec Ideal S4608x64 .f32) := by
  unfold iblk
  entry_read
  have hz' : (fun a => win0_5.index t a * main_arg5.ty.shape.size a) = fun _ => 0 := funext fun a => by rw [(idx_facts t a).2.2.2.2.2.1]; simp
  exact Memref.read_access_unit_zero (Elt Ideal) main_arg5 hz' (fun a => by rw [congrFun hz' a]; simp) _

theorem blk6 (c : Dev nD) (t : Fin cfg0.N) : iblk m c 6 t = shapeCast S1x12 (m (c.tc.loc main_arg6) : Vec Ideal S12 .f32) shapeCasts_S12_S1x12 := by
  unfold iblk
  entry_read
  have hz' : (fun a => win0_6.index t a * main_v2.ty.shape.size a) = fun _ => 0 := funext fun a => by rw [(idx_facts t a).2.2.2.2.2.2.1]; simp
  exact Memref.read_access_unit_zero (Elt Ideal) main_v2 hz' (fun a => by rw [congrFun hz' a]; simp) _

theorem blk7 (c : Dev nD) (t : Fin cfg0.N) : iblk m c 7 t = shapeCast S1x1 (m (c.tc.loc main_arg7) : Vec Ideal S1 .f32) shapeCasts_S1_S1x1 := by
  unfold iblk
  entry_read
  have hz' : (fun a => win0_7.index t a * main_v3.ty.shape.size a) = fun _ => 0 := funext fun a => by rw [(idx_facts t a).2.2.2.2.2.2.2.1]; simp
  exact Memref.read_access_unit_zero (Elt Ideal) main_v3 hz' (fun a => by rw [congrFun hz' a]; simp) _

theorem blk8 (c : Dev nD) (t : Fin cfg0.N) : iblk m c 8 t = shapeCast S1x1 (m (c.tc.loc main_arg8) : Vec Ideal S1 .f32) shapeCasts_S1_S1x1 := by
  unfold iblk
  entry_read
  have hz' : (fun a => win0_8.index t a * main_v4.ty.shape.size a) = fun _ => 0 := funext fun a => by rw [(idx_facts t a).2.2.2.2.2.2.2.2.1]; simp
  exact Memref.read_access_unit_zero (Elt Ideal) main_v4 hz' (fun a => by rw [congrFun hz' a]; simp) _

/-! ## The results -/

/-- The rows of the input, the norm's weights and the product, -/
abbrev inRow (c : Dev nD) : Fin 4608 → Fin 5120 → EReal := fun r j => (m (c.tc.loc main_arg0) : Vec Ideal S4608x5120 .bf16) (ix2 r j)
abbrev gain (c : Dev nD) : Fin 5120 → EReal := fun j => (m (c.tc.loc main_arg1) : Vec Ideal S5120 .f32) (ix1 j)
abbrev prodRow (c : Dev nD) : Fin 4608 → Fin 3464 → EReal := fun r =>
  proj (inRow m c r) (gain m c) (m (c.tc.loc main_arg2)) fun j => (m (c.tc.loc main_arg3) : Vec Ideal S3464 .f32) (ix1 j)
/-- the multipliers, the rows of cosines and sines, the keys' and the values' scale, -/
abbrev mul (c : Dev nD) : Fin 12 → EReal := fun a => (m (c.tc.loc main_arg6) : Vec Ideal S12 .f32) (ix1 a)
abbrev cosRow (c : Dev nD) : Fin 4608 → Fin 64 → EReal := fun r e => (m (c.tc.loc main_arg4) : Vec Ideal S4608x64 .f32) (ix2 r e)
abbrev sinRow (c : Dev nD) : Fin 4608 → Fin 64 → EReal := fun r e => (m (c.tc.loc main_arg5) : Vec Ideal S4608x64 .f32) (ix2 r e)
abbrev ksc (c : Dev nD) : EReal := (m (c.tc.loc main_arg7) : Vec Ideal S1 .f32) (ix1 0)
abbrev vsc (c : Dev nD) : EReal := (m (c.tc.loc main_arg8) : Vec Ideal S1 .f32) (ix1 0)
/-- and the arrays the reference leaves, as the plain formulas of the arguments. -/
abbrev result0 (c : Dev nD) : Buf (Elt Ideal) ((c : Thread nD τ).loc main_v5_0) := normCodes (inRow m c) (gain m c)
abbrev result1 (c : Dev nD) : Buf (Elt Ideal) ((c : Thread nD τ).loc main_v5_1) := normScales (inRow m c) (gain m c)
abbrev result2 (c : Dev nD) : Buf (Elt Ideal) ((c : Thread nD τ).loc main_v5_2) := queries (prodRow m c) (mul m c) (cosRow m c) (sinRow m c)
abbrev result3 (c : Dev nD) : Buf (Elt Ideal) ((c : Thread nD τ).loc main_v5_3) := keys (prodRow m c) (mul m c) (cosRow m c) (sinRow m c) (ksc m c)
abbrev result4 (c : Dev nD) : Buf (Elt Ideal) ((c : Thread nD τ).loc main_v5_4) := values (prodRow m c) (mul m c) (vsc m c)
abbrev result5 (c : Dev nD) : Buf (Elt Ideal) ((c : Thread nD τ).loc main_v5_5) := gates (prodRow m c) (mul m c)
abbrev result6 (c : Dev nD) : Buf (Elt Ideal) ((c : Thread nD τ).loc main_v5_6) := convs (prodRow m c) (mul m c)
abbrev result7 (c : Dev nD) : Buf (Elt Ideal) ((c : Thread nD τ).loc main_v5_7) := steps (prodRow m c) (mul m c)

/-- The blocks the body reads hold those rows, weights, product, multipliers and scales. -/
theorem row_eq (c : Dev nD) (t : Fin cfg0.N) : rowOf (iblk m c 0 t) = inRow m c := by
  rw [blk0]
  rfl
theorem wts_eq (c : Dev nD) (t : Fin cfg0.N) : wts (iblk m c 1 t) = gain m c := by
  rw [blk1, cast_row]
theorem prod_eq (c : Dev nD) (t : Fin cfg0.N) :
    prodRows (whole (iblk m c 0 t) (iblk m c 1 t) (iblk m c 2 t) (iblk m c 3 t)) = prodRow m c := by
  rw [whole_rows, row_eq, wts_eq, blk2, blk3, cast_cols]
theorem cos_eq (c : Dev nD) (t : Fin cfg0.N) : row64 (iblk m c 4 t) = cosRow m c := by
  rw [blk4]
  rfl
theorem sin_eq (c : Dev nD) (t : Fin cfg0.N) : row64 (iblk m c 5 t) = sinRow m c := by
  rw [blk5]
  rfl
theorem muls_eq (c : Dev nD) (t : Fin cfg0.N) : muls (iblk m c 6 t) = mul m c := by
  rw [blk6, cast_muls]
theorem ksc_eq (c : Dev nD) (t : Fin cfg0.N) : one (iblk m c 7 t) = ksc m c := by
  rw [blk7]
  exact cast_one _
theorem vsc_eq (c : Dev nD) (t : Fin cfg0.N) : one (iblk m c 8 t) = vsc m c := by
  rw [blk8]
  exact cast_one _

/-- The codes and the scales of the norm's rows. -/
theorem codes_eq (c : Dev nD) (t : Fin cfg0.N) :
    (fun y => rowCode (rowOf (iblk m c 0 t) (y 0)) (wts (iblk m c 1 t)) (y 1) : Vec Ideal S4608x5120 .fp8e4m3) = result0 m c := by
  rw [row_eq, wts_eq]
  rfl
theorem scales_eq (c : Dev nD) (t : Fin cfg0.N) :
    (fun y => k0_pay6 (F := Ideal) (iblk m c 0 t) (iblk m c 1 t) y : Vec Ideal S18x2x128 .f32) = result1 m c := by
  funext y
  refine (scales_apply (iblk m c 0 t) (iblk m c 1 t) y).trans ?_
  rw [row_eq, wts_eq]
  rfl

theorem flushed_eq9 (c : Dev nD) (t : Fin cfg0.N) (_ : (cfg0.win 9).flush t = true) :
    (dats m 0 c).flushed 9 t = ((cfg0.win 9).blk t).view.read (Elt Ideal) (result0 m c) := by
  rw [Value.flushed9_A, out_A9, codes_eq]
  have hz' : (fun a => win0_9.index t a * main_v5_0.ty.shape.size a) = fun _ => 0 := funext fun a => by rw [(idx_facts t a).2.2.2.2.2.2.2.2.2.1]; simp
  exact (Memref.read_access_unit_zero (Elt Ideal) main_v5_0 hz' (fun a => by rw [congrFun hz' a]; simp) (result0 m c)).symm

theorem cover9 (i : S4608x5120.Idx) : ∃ t : Fin cfg0.N, (cfg0.win 9).flush t = true ∧ i ∈ ((cfg0.win 9).blk t).view.set := by
  have h0 : (i 0 : Nat) < 4608 := (i 0).isLt
  have h1 : (i 1 : Nat) < 5120 := (i 1).isLt
  have hN : cfg0.N = 1 := N_0
  have t : Fin cfg0.N := ⟨0, by omega⟩
  refine ⟨t, flush0_9 t, ?_⟩
  show i ∈ ((View.whole main_v5_0).slice (win0_9.rect t)).set
  rw [View.set_slice_whole, Rect.mem_set_unit]
  intro a
  have e := (idx_facts t a).2.2.2.2.2.2.2.2.2.1
  match a with
  | ⟨0, _⟩ => show win0_9.index t 0 * 4608 ≤ (i 0 : Nat) ∧ (i 0 : Nat) < win0_9.index t 0 * 4608 + 4608; rw [show win0_9.index t 0 = 0 from e]; omega
  | ⟨1, _⟩ => show win0_9.index t 1 * 5120 ≤ (i 1 : Nat) ∧ (i 1 : Nat) < win0_9.index t 1 * 5120 + 5120; rw [show win0_9.index t 1 = 0 from e]; omega

/-- So this result array of the reference ends holding its formula. -/
theorem final9 (c : Dev nD) : (dats m 0 c).arrAt 9 cfg0.N = result0 m c :=
  (dats m 0 c).arrAt_eq_of_cover 9 (result0 m c) (flushed_eq9 m c) cover9

theorem flushed_eq10 (c : Dev nD) (t : Fin cfg0.N) (_ : (cfg0.win 10).flush t = true) :
    (dats m 0 c).flushed 10 t = ((cfg0.win 10).blk t).view.read (Elt Ideal) (result1 m c) := by
  rw [Value.flushed10_A, out_A10, scales_eq]
  have hz' : (fun a => win0_10.index t a * main_v5_1.ty.shape.size a) = fun _ => 0 := funext fun a => by rw [(idx_facts3 t a).1]; simp
  exact (Memref.read_access_unit_zero (Elt Ideal) main_v5_1 hz' (fun a => by rw [congrFun hz' a]; simp) (result1 m c)).symm

theorem cover10 (i : S18x2x128.Idx) : ∃ t : Fin cfg0.N, (cfg0.win 10).flush t = true ∧ i ∈ ((cfg0.win 10).blk t).view.set := by
  have h0 : (i 0 : Nat) < 18 := (i 0).isLt
  have h1 : (i 1 : Nat) < 2 := (i 1).isLt
  have h2 : (i 2 : Nat) < 128 := (i 2).isLt
  have hN : cfg0.N = 1 := N_0
  have t : Fin cfg0.N := ⟨0, by omega⟩
  refine ⟨t, flush0_10 t, ?_⟩
  show i ∈ ((View.whole main_v5_1).slice (win0_10.rect t)).set
  rw [View.set_slice_whole, Rect.mem_set_unit]
  intro a
  have e := (idx_facts3 t a).1
  match a with
  | ⟨0, _⟩ => show win0_10.index t 0 * 18 ≤ (i 0 : Nat) ∧ (i 0 : Nat) < win0_10.index t 0 * 18 + 18; rw [show win0_10.index t 0 = 0 from e]; omega
  | ⟨1, _⟩ => show win0_10.index t 1 * 2 ≤ (i 1 : Nat) ∧ (i 1 : Nat) < win0_10.index t 1 * 2 + 2; rw [show win0_10.index t 1 = 0 from e]; omega
  | ⟨2, _⟩ => show win0_10.index t 2 * 128 ≤ (i 2 : Nat) ∧ (i 2 : Nat) < win0_10.index t 2 * 128 + 128; rw [show win0_10.index t 2 = 0 from e]; omega

/-- So this result array of the reference ends holding its formula. -/
theorem final10 (c : Dev nD) : (dats m 0 c).arrAt 10 cfg0.N = result1 m c :=
  (dats m 0 c).arrAt_eq_of_cover 10 (result1 m c) (flushed_eq10 m c) cover10

theorem flushed_eq11 (c : Dev nD) (t : Fin cfg0.N) (_ : (cfg0.win 11).flush t = true) :
    (dats m 0 c).flushed 11 t = ((cfg0.win 11).blk t).view.read (Elt Ideal) (result2 m c) := by
  rw [Value.flushed11_A, out_A11, prod_eq, muls_eq, cos_eq, sin_eq]
  have hz' : (fun a => win0_11.index t a * main_v5_2.ty.shape.size a) = fun _ => 0 := funext fun a => by rw [(idx_facts3 t a).2]; simp
  exact (Memref.read_access_unit_zero (Elt Ideal) main_v5_2 hz' (fun a => by rw [congrFun hz' a]; simp) (result2 m c)).symm

theorem cover11 (i : S5x4608x128.Idx) : ∃ t : Fin cfg0.N, (cfg0.win 11).flush t = true ∧ i ∈ ((cfg0.win 11).blk t).view.set := by
  have h0 : (i 0 : Nat) < 5 := (i 0).isLt
  have h1 : (i 1 : Nat) < 4608 := (i 1).isLt
  have h2 : (i 2 : Nat) < 128 := (i 2).isLt
  have hN : cfg0.N = 1 := N_0
  have t : Fin cfg0.N := ⟨0, by omega⟩
  refine ⟨t, flush0_11 t, ?_⟩
  show i ∈ ((View.whole main_v5_2).slice (win0_11.rect t)).set
  rw [View.set_slice_whole, Rect.mem_set_unit]
  intro a
  have e := (idx_facts3 t a).2
  match a with
  | ⟨0, _⟩ => show win0_11.index t 0 * 5 ≤ (i 0 : Nat) ∧ (i 0 : Nat) < win0_11.index t 0 * 5 + 5; rw [show win0_11.index t 0 = 0 from e]; omega
  | ⟨1, _⟩ => show win0_11.index t 1 * 4608 ≤ (i 1 : Nat) ∧ (i 1 : Nat) < win0_11.index t 1 * 4608 + 4608; rw [show win0_11.index t 1 = 0 from e]; omega
  | ⟨2, _⟩ => show win0_11.index t 2 * 128 ≤ (i 2 : Nat) ∧ (i 2 : Nat) < win0_11.index t 2 * 128 + 128; rw [show win0_11.index t 2 = 0 from e]; omega

/-- So this result array of the reference ends holding its formula. -/
theorem final11 (c : Dev nD) : (dats m 0 c).arrAt 11 cfg0.N = result2 m c :=
  (dats m 0 c).arrAt_eq_of_cover 11 (result2 m c) (flushed_eq11 m c) cover11

theorem flushed_eq12 (c : Dev nD) (t : Fin cfg0.N) (_ : (cfg0.win 12).flush t = true) :
    (dats m 0 c).flushed 12 t = ((cfg0.win 12).blk t).view.read (Elt Ideal) (result3 m c) := by
  rw [Value.flushed12_A, out_A12, prod_eq, muls_eq, cos_eq, sin_eq, ksc_eq]
  have hz' : (fun a => win0_12.index t a * main_v5_3.ty.shape.size a) = fun _ => 0 := funext fun a => by rw [(idx_facts t a).2.2.2.2.2.2.2.2.2.2.1]; simp
  exact (Memref.read_access_unit_zero (Elt Ideal) main_v5_3 hz' (fun a => by rw [congrFun hz' a]; simp) (result3 m c)).symm

theorem cover12 (i : S4608x128.Idx) : ∃ t : Fin cfg0.N, (cfg0.win 12).flush t = true ∧ i ∈ ((cfg0.win 12).blk t).view.set := by
  have h0 : (i 0 : Nat) < 4608 := (i 0).isLt
  have h1 : (i 1 : Nat) < 128 := (i 1).isLt
  have hN : cfg0.N = 1 := N_0
  have t : Fin cfg0.N := ⟨0, by omega⟩
  refine ⟨t, flush0_12 t, ?_⟩
  show i ∈ ((View.whole main_v5_3).slice (win0_12.rect t)).set
  rw [View.set_slice_whole, Rect.mem_set_unit]
  intro a
  have e := (idx_facts t a).2.2.2.2.2.2.2.2.2.2.1
  match a with
  | ⟨0, _⟩ => show win0_12.index t 0 * 4608 ≤ (i 0 : Nat) ∧ (i 0 : Nat) < win0_12.index t 0 * 4608 + 4608; rw [show win0_12.index t 0 = 0 from e]; omega
  | ⟨1, _⟩ => show win0_12.index t 1 * 128 ≤ (i 1 : Nat) ∧ (i 1 : Nat) < win0_12.index t 1 * 128 + 128; rw [show win0_12.index t 1 = 0 from e]; omega

/-- So this result array of the reference ends holding its formula. -/
theorem final12 (c : Dev nD) : (dats m 0 c).arrAt 12 cfg0.N = result3 m c :=
  (dats m 0 c).arrAt_eq_of_cover 12 (result3 m c) (flushed_eq12 m c) cover12

theorem flushed_eq13 (c : Dev nD) (t : Fin cfg0.N) (_ : (cfg0.win 13).flush t = true) :
    (dats m 0 c).flushed 13 t = ((cfg0.win 13).blk t).view.read (Elt Ideal) (result4 m c) := by
  rw [Value.flushed13_A, out_A13, prod_eq, muls_eq, vsc_eq]
  have hz' : (fun a => win0_13.index t a * main_v5_4.ty.shape.size a) = fun _ => 0 := funext fun a => by rw [(idx_facts t a).2.2.2.2.2.2.2.2.2.2.2.1]; simp
  exact (Memref.read_access_unit_zero (Elt Ideal) main_v5_4 hz' (fun a => by rw [congrFun hz' a]; simp) (result4 m c)).symm

theorem cover13 (i : S4608x128.Idx) : ∃ t : Fin cfg0.N, (cfg0.win 13).flush t = true ∧ i ∈ ((cfg0.win 13).blk t).view.set := by
  have h0 : (i 0 : Nat) < 4608 := (i 0).isLt
  have h1 : (i 1 : Nat) < 128 := (i 1).isLt
  have hN : cfg0.N = 1 := N_0
  have t : Fin cfg0.N := ⟨0, by omega⟩
  refine ⟨t, flush0_13 t, ?_⟩
  show i ∈ ((View.whole main_v5_4).slice (win0_13.rect t)).set
  rw [View.set_slice_whole, Rect.mem_set_unit]
  intro a
  have e := (idx_facts t a).2.2.2.2.2.2.2.2.2.2.2.1
  match a with
  | ⟨0, _⟩ => show win0_13.index t 0 * 4608 ≤ (i 0 : Nat) ∧ (i 0 : Nat) < win0_13.index t 0 * 4608 + 4608; rw [show win0_13.index t 0 = 0 from e]; omega
  | ⟨1, _⟩ => show win0_13.index t 1 * 128 ≤ (i 1 : Nat) ∧ (i 1 : Nat) < win0_13.index t 1 * 128 + 128; rw [show win0_13.index t 1 = 0 from e]; omega

/-- So this result array of the reference ends holding its formula. -/
theorem final13 (c : Dev nD) : (dats m 0 c).arrAt 13 cfg0.N = result4 m c :=
  (dats m 0 c).arrAt_eq_of_cover 13 (result4 m c) (flushed_eq13 m c) cover13

theorem flushed_eq14 (c : Dev nD) (t : Fin cfg0.N) (_ : (cfg0.win 14).flush t = true) :
    (dats m 0 c).flushed 14 t = ((cfg0.win 14).blk t).view.read (Elt Ideal) (result5 m c) := by
  rw [Value.flushed14_A, out_A14, prod_eq, muls_eq]
  have hz' : (fun a => win0_14.index t a * main_v5_5.ty.shape.size a) = fun _ => 0 := funext fun a => by rw [(idx_facts t a).2.2.2.2.2.2.2.2.2.2.2.2.1]; simp
  exact (Memref.read_access_unit_zero (Elt Ideal) main_v5_5 hz' (fun a => by rw [congrFun hz' a]; simp) (result5 m c)).symm

theorem cover14 (i : S4608x1024.Idx) : ∃ t : Fin cfg0.N, (cfg0.win 14).flush t = true ∧ i ∈ ((cfg0.win 14).blk t).view.set := by
  have h0 : (i 0 : Nat) < 4608 := (i 0).isLt
  have h1 : (i 1 : Nat) < 1024 := (i 1).isLt
  have hN : cfg0.N = 1 := N_0
  have t : Fin cfg0.N := ⟨0, by omega⟩
  refine ⟨t, flush0_14 t, ?_⟩
  show i ∈ ((View.whole main_v5_5).slice (win0_14.rect t)).set
  rw [View.set_slice_whole, Rect.mem_set_unit]
  intro a
  have e := (idx_facts t a).2.2.2.2.2.2.2.2.2.2.2.2.1
  match a with
  | ⟨0, _⟩ => show win0_14.index t 0 * 4608 ≤ (i 0 : Nat) ∧ (i 0 : Nat) < win0_14.index t 0 * 4608 + 4608; rw [show win0_14.index t 0 = 0 from e]; omega
  | ⟨1, _⟩ => show win0_14.index t 1 * 1024 ≤ (i 1 : Nat) ∧ (i 1 : Nat) < win0_14.index t 1 * 1024 + 1024; rw [show win0_14.index t 1 = 0 from e]; omega

/-- So this result array of the reference ends holding its formula. -/
theorem final14 (c : Dev nD) : (dats m 0 c).arrAt 14 cfg0.N = result5 m c :=
  (dats m 0 c).arrAt_eq_of_cover 14 (result5 m c) (flushed_eq14 m c) cover14

theorem flushed_eq15 (c : Dev nD) (t : Fin cfg0.N) (_ : (cfg0.win 15).flush t = true) :
    (dats m 0 c).flushed 15 t = ((cfg0.win 15).blk t).view.read (Elt Ideal) (result6 m c) := by
  rw [Value.flushed15_A, out_A15, prod_eq, muls_eq]
  have hz' : (fun a => win0_15.index t a * main_v5_6.ty.shape.size a) = fun _ => 0 := funext fun a => by rw [(idx_facts t a).2.2.2.2.2.2.2.2.2.2.2.2.2.1]; simp
  exact (Memref.read_access_unit_zero (Elt Ideal) main_v5_6 hz' (fun a => by rw [congrFun hz' a]; simp) (result6 m c)).symm

theorem cover15 (i : S4608x1536.Idx) : ∃ t : Fin cfg0.N, (cfg0.win 15).flush t = true ∧ i ∈ ((cfg0.win 15).blk t).view.set := by
  have h0 : (i 0 : Nat) < 4608 := (i 0).isLt
  have h1 : (i 1 : Nat) < 1536 := (i 1).isLt
  have hN : cfg0.N = 1 := N_0
  have t : Fin cfg0.N := ⟨0, by omega⟩
  refine ⟨t, flush0_15 t, ?_⟩
  show i ∈ ((View.whole main_v5_6).slice (win0_15.rect t)).set
  rw [View.set_slice_whole, Rect.mem_set_unit]
  intro a
  have e := (idx_facts t a).2.2.2.2.2.2.2.2.2.2.2.2.2.1
  match a with
  | ⟨0, _⟩ => show win0_15.index t 0 * 4608 ≤ (i 0 : Nat) ∧ (i 0 : Nat) < win0_15.index t 0 * 4608 + 4608; rw [show win0_15.index t 0 = 0 from e]; omega
  | ⟨1, _⟩ => show win0_15.index t 1 * 1536 ≤ (i 1 : Nat) ∧ (i 1 : Nat) < win0_15.index t 1 * 1536 + 1536; rw [show win0_15.index t 1 = 0 from e]; omega

/-- So this result array of the reference ends holding its formula. -/
theorem final15 (c : Dev nD) : (dats m 0 c).arrAt 15 cfg0.N = result6 m c :=
  (dats m 0 c).arrAt_eq_of_cover 15 (result6 m c) (flushed_eq15 m c) cover15

theorem flushed_eq16 (c : Dev nD) (t : Fin cfg0.N) (_ : (cfg0.win 16).flush t = true) :
    (dats m 0 c).flushed 16 t = ((cfg0.win 16).blk t).view.read (Elt Ideal) (result7 m c) := by
  rw [Value.flushed16_A, out_A16, prod_eq, muls_eq]
  have hz' : (fun a => win0_16.index t a * main_v5_7.ty.shape.size a) = fun _ => 0 := funext fun a => by rw [(idx_facts t a).2.2.2.2.2.2.2.2.2.2.2.2.2.2]; simp
  exact (Memref.read_access_unit_zero (Elt Ideal) main_v5_7 hz' (fun a => by rw [congrFun hz' a]; simp) (result7 m c)).symm

theorem cover16 (i : S4608x128.Idx) : ∃ t : Fin cfg0.N, (cfg0.win 16).flush t = true ∧ i ∈ ((cfg0.win 16).blk t).view.set := by
  have h0 : (i 0 : Nat) < 4608 := (i 0).isLt
  have h1 : (i 1 : Nat) < 128 := (i 1).isLt
  have hN : cfg0.N = 1 := N_0
  have t : Fin cfg0.N := ⟨0, by omega⟩
  refine ⟨t, flush0_16 t, ?_⟩
  show i ∈ ((View.whole main_v5_7).slice (win0_16.rect t)).set
  rw [View.set_slice_whole, Rect.mem_set_unit]
  intro a
  have e := (idx_facts t a).2.2.2.2.2.2.2.2.2.2.2.2.2.2
  match a with
  | ⟨0, _⟩ => show win0_16.index t 0 * 4608 ≤ (i 0 : Nat) ∧ (i 0 : Nat) < win0_16.index t 0 * 4608 + 4608; rw [show win0_16.index t 0 = 0 from e]; omega
  | ⟨1, _⟩ => show win0_16.index t 1 * 128 ≤ (i 1 : Nat) ∧ (i 1 : Nat) < win0_16.index t 1 * 128 + 128; rw [show win0_16.index t 1 = 0 from e]; omega

/-- So this result array of the reference ends holding its formula. -/
theorem final16 (c : Dev nD) : (dats m 0 c).arrAt 16 cfg0.N = result7 m c :=
  (dats m 0 c).arrAt_eq_of_cover 16 (result7 m c) (flushed_eq16 m c) cover16

end Cert.InProjRefIdeal.Res

end
-- ==== Proof.InProjClaims.lean ====
/-
  The claims of the input projection.
-/
module

public import proofs.«01_k».proof.Defs
public import proofs.«01_k».proof.Proof.Gen.InProj.Frame
public import proofs.«01_k».proof.Proof.InProjKernel
public import proofs.«01_k».proof.Proof.InProjReference

@[expose] public section

noncomputable section

namespace Cert.Proof.InProjClaims

open Idealize.ShloMosaic Idealize.ShloMosaic.TcCoe Idealize.SL Idealize.SL.Sem

/-- The kernel terminates, leaves every semaphore at zero and its arguments as they were; so do its idealization and the
    reference's. -/
theorem frame_p : Cert.quiescent_InProj := fun m ρ _ => Cert.InProj.Gen.frame m ρ
theorem frame_pi : Cert.quiescent_InProjIdeal := fun m ρ _ => Cert.InProjIdeal.Gen.frame m ρ
theorem frame_ri : Cert.quiescent_InProjRefIdeal := fun m ρ _ => Cert.InProjRefIdeal.Gen.frame m ρ

/-- The idealization rewrote nothing. -/
theorem preserves : Cert.preserves_InProj_InProjIdeal := trivial

/-- Over the reals the kernel and the reference end with the same eight arrays, the formulas of `Cert.Proof.InProjSpec` of the
    arguments. -/
theorem algebraic : Cert.algebraic_InProjIdeal_InProjRefIdeal := by
  intro m ρ m' ρ' _ hag
  have e_inRow : ∀ c, Cert.InProjRefIdeal.Res.inRow m' c = Cert.InProjIdeal.Res.inRow m c := by
    intro c
    obtain ⟨h0, -, -, -, -, -, -, -, -⟩ := hag c
    unfold Cert.InProjRefIdeal.Res.inRow
    rw [h0]
  have e_gain : ∀ c, Cert.InProjRefIdeal.Res.gain m' c = Cert.InProjIdeal.Res.gain m c := by
    intro c
    obtain ⟨-, h1, -, -, -, -, -, -, -⟩ := hag c
    unfold Cert.InProjRefIdeal.Res.gain
    rw [h1]
  have e_prodRow : ∀ c, Cert.InProjRefIdeal.Res.prodRow m' c = Cert.InProjIdeal.Res.prodRow m c := by
    intro c
    obtain ⟨h0, h1, h2, h3, -, -, -, -, -⟩ := hag c
    unfold Cert.InProjRefIdeal.Res.prodRow
    unfold Cert.InProjRefIdeal.Res.inRow Cert.InProjRefIdeal.Res.gain
    rw [h0, h1, h2, h3]
  have e_cosRow : ∀ c, Cert.InProjRefIdeal.Res.cosRow m' c = Cert.InProjIdeal.Res.cosRow m c := by
    intro c
    obtain ⟨-, -, -, -, h4, -, -, -, -⟩ := hag c
    unfold Cert.InProjRefIdeal.Res.cosRow
    rw [h4]
  have e_sinRow : ∀ c, Cert.InProjRefIdeal.Res.sinRow m' c = Cert.InProjIdeal.Res.sinRow m c := by
    intro c
    obtain ⟨-, -, -, -, -, h5, -, -, -⟩ := hag c
    unfold Cert.InProjRefIdeal.Res.sinRow
    rw [h5]
  have e_mul : ∀ c, Cert.InProjRefIdeal.Res.mul m' c = Cert.InProjIdeal.Res.mul m c := by
    intro c
    obtain ⟨-, -, -, -, -, -, h6, -, -⟩ := hag c
    unfold Cert.InProjRefIdeal.Res.mul
    rw [h6]
  have e_ksc : ∀ c, Cert.InProjRefIdeal.Res.ksc m' c = Cert.InProjIdeal.Res.ksc m c := by
    intro c
    obtain ⟨-, -, -, -, -, -, -, h7, -⟩ := hag c
    unfold Cert.InProjRefIdeal.Res.ksc
    rw [h7]
  have e_vsc : ∀ c, Cert.InProjRefIdeal.Res.vsc m' c = Cert.InProjIdeal.Res.vsc m c := by
    intro c
    obtain ⟨-, -, -, -, -, -, -, -, h8⟩ := hag c
    unfold Cert.InProjRefIdeal.Res.vsc
    rw [h8]
  refine ⟨fun c => Cert.InProjIdeal.Res.result0 m c, fun c => Cert.InProjIdeal.Res.result1 m c, fun c => Cert.InProjIdeal.Res.result2 m c, fun c => Cert.InProjIdeal.Res.result3 m c, fun c => Cert.InProjIdeal.Res.result4 m c, fun c => Cert.InProjIdeal.Res.result5 m c, fun c => Cert.InProjIdeal.Res.result6 m c, fun c => Cert.InProjIdeal.Res.result7 m c,
    (θ_run Cert.InProjIdeal.defs _ _).mono
      (fun _ h c => ⟨(h c).1.trans (Cert.InProjIdeal.Res.final8 m c),
        (h c).2.1.trans (Cert.InProjIdeal.Res.final9 m c),
        (h c).2.2.1.trans (Cert.InProjIdeal.Res.final10 m c),
        (h c).2.2.2.1.trans (Cert.InProjIdeal.Res.final11 m c),
        (h c).2.2.2.2.1.trans (Cert.InProjIdeal.Res.final12 m c),
        (h c).2.2.2.2.2.1.trans (Cert.InProjIdeal.Res.final13 m c),
        (h c).2.2.2.2.2.2.1.trans (Cert.InProjIdeal.Res.final14 m c),
        (h c).2.2.2.2.2.2.2.1.trans (Cert.InProjIdeal.Res.final15 m c),
        (h c).2.2.2.2.2.2.2.2⟩)
      (Cert.InProjIdeal.Value.run_blocks m ρ),
    (θ_run Cert.InProjRefIdeal.defs _ _).mono
      (fun _ h c => ⟨(h c).1.trans ((Cert.InProjRefIdeal.Res.final9 m' c).trans ?_),
        (h c).2.1.trans ((Cert.InProjRefIdeal.Res.final10 m' c).trans ?_),
        (h c).2.2.1.trans ((Cert.InProjRefIdeal.Res.final11 m' c).trans ?_),
        (h c).2.2.2.1.trans ((Cert.InProjRefIdeal.Res.final12 m' c).trans ?_),
        (h c).2.2.2.2.1.trans ((Cert.InProjRefIdeal.Res.final13 m' c).trans ?_),
        (h c).2.2.2.2.2.1.trans ((Cert.InProjRefIdeal.Res.final14 m' c).trans ?_),
        (h c).2.2.2.2.2.2.1.trans ((Cert.InProjRefIdeal.Res.final15 m' c).trans ?_),
        (h c).2.2.2.2.2.2.2.1.trans ((Cert.InProjRefIdeal.Res.final16 m' c).trans ?_),
        (h c).2.2.2.2.2.2.2.2⟩)
      (Cert.InProjRefIdeal.Value.run_blocks m' ρ')⟩
  · unfold Cert.InProjRefIdeal.Res.result0
    rw [e_inRow c, e_gain c]
  · unfold Cert.InProjRefIdeal.Res.result1
    rw [e_inRow c, e_gain c]
  · unfold Cert.InProjRefIdeal.Res.result2
    rw [e_prodRow c, e_mul c, e_cosRow c, e_sinRow c]
  · unfold Cert.InProjRefIdeal.Res.result3
    rw [e_prodRow c, e_mul c, e_cosRow c, e_sinRow c, e_ksc c]
  · unfold Cert.InProjRefIdeal.Res.result4
    rw [e_prodRow c, e_mul c, e_vsc c]
  · unfold Cert.InProjRefIdeal.Res.result5
    rw [e_prodRow c, e_mul c]
  · unfold Cert.InProjRefIdeal.Res.result6
    rw [e_prodRow c, e_mul c]
  · unfold Cert.InProjRefIdeal.Res.result7
    rw [e_prodRow c, e_mul c]

end Cert.Proof.InProjClaims

end
-- ==== Proof.lean ====
/-
  The proof of everything that is claimed of the down projection, of the quantised gate and up projections, of the output
  projections with the second norm and of the input projection with the first.
-/
module

public import proofs.«01_k».proof.Defs
public import proofs.«01_k».proof.Proof.DownClaims
public import proofs.«01_k».proof.Proof.GateUpClaims
public import proofs.«01_k».proof.Proof.OutProjClaims
public import proofs.«01_k».proof.Proof.InProjClaims

@[expose] public section

noncomputable section

namespace Cert.Proof

open Idealize.ShloMosaic Idealize.SL.Sem

/-- Everything that is claimed: the witnesses of the programs' stated facts, then the claims in order. -/
theorem claim : Cert.Claim := ⟨Cert.Down.Gen.facts, Cert.DownIdeal.Gen.facts, Cert.DownRefIdeal.Gen.facts,
  Cert.GateUp.Gen.facts, Cert.GateUpIdeal.Gen.facts, Cert.GateUpRefIdeal.Gen.facts,
  Cert.OutProj.Gen.facts, Cert.OutProjIdeal.Gen.facts, Cert.OutProjRefIdeal.Gen.facts,
  Cert.InProj.Gen.facts, Cert.InProjIdeal.Gen.facts, Cert.InProjRefIdeal.Gen.facts,
  DownClaims.frame_p, DownClaims.frame_pi, DownClaims.frame_ri,
  GateUpClaims.frame_p, GateUpClaims.frame_pi, GateUpClaims.frame_ri,
  OutProjClaims.frame_p, OutProjClaims.frame_pi, OutProjClaims.frame_ri,
  InProjClaims.frame_p, InProjClaims.frame_pi, InProjClaims.frame_ri,
  DownClaims.preserves, DownClaims.algebraic, GateUpClaims.preserves, GateUpClaims.algebraic,
  OutProjClaims.preserves, OutProjClaims.algebraic,
  InProjClaims.preserves, InProjClaims.algebraic⟩

end Cert.Proof

end
